-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1ReferenceIdeal (m : (ℓ : Loc Cert.Ffn1ReferenceIdeal.nD Cert.Ffn1ReferenceIdeal.τ Cert.Ffn1ReferenceIdeal.sig) → Buf (Elt Ideal) ℓ) : Prop :=
  True

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecReferenceIdeal (m : (ℓ : Loc Cert.RecReferenceIdeal.nD Cert.RecReferenceIdeal.τ Cert.RecReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_KV (m : (ℓ : Loc Cert.KV.nD Cert.KV.τ Cert.KV.sig) → Buf (Elt Bits) ℓ) : Prop :=
  True

def Pre_KVIdeal (m : (ℓ : Loc Cert.KVIdeal.nD Cert.KVIdeal.τ Cert.KVIdeal.sig) → Buf (Elt Ideal) ℓ) : Prop :=
  True

def Pre_KVReferenceIdeal (m : (ℓ : Loc Cert.KVReferenceIdeal.nD Cert.KVReferenceIdeal.τ Cert.KVReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1ReferenceIdeal [hFfn1ReferenceIdeal : Cert.Ffn1ReferenceIdeal.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1)
      ∧ r.2.mem ((c.tc : Thread Cert.Ffn1ReferenceIdeal.nD Cert.Ffn1ReferenceIdeal.τ).loc Cert.Ffn1ReferenceIdeal.main_arg2) = m ((c.tc : Thread Cert.Ffn1ReferenceIdeal.nD Cert.Ffn1ReferenceIdeal.τ).loc Cert.Ffn1ReferenceIdeal.main_arg2)
      ∧ r.2.mem ((c.tc : Thread Cert.Ffn1ReferenceIdeal.nD Cert.Ffn1ReferenceIdeal.τ).loc Cert.Ffn1ReferenceIdeal.main_arg3) = m ((c.tc : Thread Cert.Ffn1ReferenceIdeal.nD Cert.Ffn1ReferenceIdeal.τ).loc Cert.Ffn1ReferenceIdeal.main_arg3)
      ∧ r.2.mem ((c.tc : Thread Cert.Ffn1ReferenceIdeal.nD Cert.Ffn1ReferenceIdeal.τ).loc Cert.Ffn1ReferenceIdeal.main_arg4) = m ((c.tc : Thread Cert.Ffn1ReferenceIdeal.nD Cert.Ffn1ReferenceIdeal.τ).loc Cert.Ffn1ReferenceIdeal.main_arg4)
      ∧ r.2.mem ((c.tc : Thread Cert.Ffn1ReferenceIdeal.nD Cert.Ffn1ReferenceIdeal.τ).loc Cert.Ffn1ReferenceIdeal.main_arg5) = m ((c.tc : Thread Cert.Ffn1ReferenceIdeal.nD Cert.Ffn1ReferenceIdeal.τ).loc Cert.Ffn1ReferenceIdeal.main_arg5))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1))
      ∧ r.2.sem = fun _ => 0)

def quiescent_RecReferenceIdeal [hRecReferenceIdeal : Cert.RecReferenceIdeal.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_KV [hKV : Cert.KV.Facts] : Prop :=
  ∀ (m : (ℓ : Loc Cert.KV.nD Cert.KV.τ Cert.KV.sig) → Buf (Elt Bits) ℓ) (g : Dev Cert.KV.nD → PrngReg), Pre_KV m →
    θ_run (Cert.KV.defs (F := Bits)) (onTc (τ := Cert.KV.τ) (Cert.KV.main (F := Bits))) ⟨m, fun _ => 0, g⟩ (fun r => (∀ c : Dev Cert.KV.nD,
      r.2.mem ((c.tc : Thread Cert.KV.nD Cert.KV.τ).loc Cert.KV.main_arg0) = m ((c.tc : Thread Cert.KV.nD Cert.KV.τ).loc Cert.KV.main_arg0)
      ∧ r.2.mem ((c.tc : Thread Cert.KV.nD Cert.KV.τ).loc Cert.KV.main_arg1) = m ((c.tc : Thread Cert.KV.nD Cert.KV.τ).loc Cert.KV.main_arg1))
      ∧ r.2.sem = fun _ => 0)

def quiescent_KVIdeal [hKVIdeal : Cert.KVIdeal.Facts] : Prop :=
  ∀ (m : (ℓ : Loc Cert.KVIdeal.nD Cert.KVIdeal.τ Cert.KVIdeal.sig) → Buf (Elt Ideal) ℓ) (g : Dev Cert.KVIdeal.nD → PrngReg), Pre_KVIdeal m →
    θ_run (Cert.KVIdeal.defs (F := Ideal)) (onTc (τ := Cert.KVIdeal.τ) (Cert.KVIdeal.main (F := Ideal))) ⟨m, fun _ => 0, g⟩ (fun r => (∀ c : Dev Cert.KVIdeal.nD,
      r.2.mem ((c.tc : Thread Cert.KVIdeal.nD Cert.KVIdeal.τ).loc Cert.KVIdeal.main_arg0) = m ((c.tc : Thread Cert.KVIdeal.nD Cert.KVIdeal.τ).loc Cert.KVIdeal.main_arg0)
      ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ r.2.sem = fun _ => 0)

def quiescent_KVReferenceIdeal [hKVReferenceIdeal : Cert.KVReferenceIdeal.Facts] : Prop :=
  ∀ (m : (ℓ : Loc Cert.KVReferenceIdeal.nD Cert.KVReferenceIdeal.τ Cert.KVReferenceIdeal.sig) → Buf (Elt Ideal) ℓ) (g : Dev Cert.KVReferenceIdeal.nD → PrngReg), Pre_KVReferenceIdeal m →
    θ_run (Cert.KVReferenceIdeal.defs (F := Ideal)) (onTc (τ := Cert.KVReferenceIdeal.τ) (Cert.KVReferenceIdeal.main (F := Ideal))) ⟨m, fun _ => 0, g⟩ (fun r => (∀ c : Dev Cert.KVReferenceIdeal.nD,
      r.2.mem ((c.tc : Thread Cert.KVReferenceIdeal.nD Cert.KVReferenceIdeal.τ).loc Cert.KVReferenceIdeal.main_arg0) = m ((c.tc : Thread Cert.KVReferenceIdeal.nD Cert.KVReferenceIdeal.τ).loc Cert.KVReferenceIdeal.main_arg0)
      ∧ r.2.mem ((c.tc : Thread Cert.KVReferenceIdeal.nD Cert.KVReferenceIdeal.τ).loc Cert.KVReferenceIdeal.main_arg1) = m ((c.tc : Thread Cert.KVReferenceIdeal.nD Cert.KVReferenceIdeal.τ).loc Cert.KVReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v88) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Ffn1_Ffn1Ideal : Prop :=
  True

def algebraic_Ffn1Ideal_Ffn1ReferenceIdeal [hFfn1Ideal : Cert.Ffn1Ideal.Facts] [hFfn1ReferenceIdeal : Cert.Ffn1ReferenceIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1ReferenceIdeal.nD Cert.Ffn1ReferenceIdeal.τ Cert.Ffn1ReferenceIdeal.sig) → Buf (Elt Ideal) ℓ) (g' : Dev Cert.Ffn1ReferenceIdeal.nD → PrngReg), Pre_Ffn1Ideal m →
    (∀ c : Dev Cert.Ffn1Ideal.nD,
      m' ((c.tc : Thread Cert.Ffn1ReferenceIdeal.nD Cert.Ffn1ReferenceIdeal.τ).loc Cert.Ffn1ReferenceIdeal.main_arg0) = m ((c.tc : Thread Cert.Ffn1Ideal.nD Cert.Ffn1Ideal.τ).loc Cert.Ffn1Ideal.main_arg0)
      ∧ m' ((c.tc : Thread Cert.Ffn1ReferenceIdeal.nD Cert.Ffn1ReferenceIdeal.τ).loc Cert.Ffn1ReferenceIdeal.main_arg1) = m ((c.tc : Thread Cert.Ffn1Ideal.nD Cert.Ffn1Ideal.τ).loc Cert.Ffn1Ideal.main_arg1)
      ∧ m' ((c.tc : Thread Cert.Ffn1ReferenceIdeal.nD Cert.Ffn1ReferenceIdeal.τ).loc Cert.Ffn1ReferenceIdeal.main_arg2) = m ((c.tc : Thread Cert.Ffn1Ideal.nD Cert.Ffn1Ideal.τ).loc Cert.Ffn1Ideal.main_arg2)
      ∧ m' ((c.tc : Thread Cert.Ffn1ReferenceIdeal.nD Cert.Ffn1ReferenceIdeal.τ).loc Cert.Ffn1ReferenceIdeal.main_arg3) = m ((c.tc : Thread Cert.Ffn1Ideal.nD Cert.Ffn1Ideal.τ).loc Cert.Ffn1Ideal.main_arg3)
      ∧ m' ((c.tc : Thread Cert.Ffn1ReferenceIdeal.nD Cert.Ffn1ReferenceIdeal.τ).loc Cert.Ffn1ReferenceIdeal.main_arg4) = m ((c.tc : Thread Cert.Ffn1Ideal.nD Cert.Ffn1Ideal.τ).loc Cert.Ffn1Ideal.main_arg4)
      ∧ m' ((c.tc : Thread Cert.Ffn1ReferenceIdeal.nD Cert.Ffn1ReferenceIdeal.τ).loc Cert.Ffn1ReferenceIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v2_0)) (v1 : (c : Dev Cert.Ffn1Ideal.nD) → Buf (Elt Ideal) ((c.tc : Thread Cert.Ffn1Ideal.nD Cert.Ffn1Ideal.τ).loc Cert.Ffn1Ideal.main_v2_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v2_0) = v0 c
          ∧ r.2.mem ((c.tc : Thread Cert.Ffn1Ideal.nD Cert.Ffn1Ideal.τ).loc Cert.Ffn1Ideal.main_v2_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1ReferenceIdeal.defs (F := Ideal)) (onTc (τ := Cert.Ffn1ReferenceIdeal.τ) (Cert.Ffn1ReferenceIdeal.main (F := Ideal))) ⟨m', fun _ => 0, g'⟩ (fun r => ∀ c : Dev Cert.Ffn1ReferenceIdeal.nD,
          r.2.mem ((c.tc : Thread Cert.Ffn1ReferenceIdeal.nD Cert.Ffn1ReferenceIdeal.τ).loc Cert.Ffn1ReferenceIdeal.main_v140) = v0 c
          ∧ r.2.mem ((c.tc : Thread Cert.Ffn1ReferenceIdeal.nD Cert.Ffn1ReferenceIdeal.τ).loc Cert.Ffn1ReferenceIdeal.main_v144) = v1 c
          ∧ r.2.mem ((c.tc : Thread Cert.Ffn1ReferenceIdeal.nD Cert.Ffn1ReferenceIdeal.τ).loc Cert.Ffn1ReferenceIdeal.main_arg0) = m' ((c.tc : Thread Cert.Ffn1ReferenceIdeal.nD Cert.Ffn1ReferenceIdeal.τ).loc Cert.Ffn1ReferenceIdeal.main_arg0)
          ∧ r.2.mem ((c.tc : Thread Cert.Ffn1ReferenceIdeal.nD Cert.Ffn1ReferenceIdeal.τ).loc Cert.Ffn1ReferenceIdeal.main_arg1) = m' ((c.tc : Thread Cert.Ffn1ReferenceIdeal.nD Cert.Ffn1ReferenceIdeal.τ).loc Cert.Ffn1ReferenceIdeal.main_arg1)
          ∧ r.2.mem ((c.tc : Thread Cert.Ffn1ReferenceIdeal.nD Cert.Ffn1ReferenceIdeal.τ).loc Cert.Ffn1ReferenceIdeal.main_arg2) = m' ((c.tc : Thread Cert.Ffn1ReferenceIdeal.nD Cert.Ffn1ReferenceIdeal.τ).loc Cert.Ffn1ReferenceIdeal.main_arg2)
          ∧ r.2.mem ((c.tc : Thread Cert.Ffn1ReferenceIdeal.nD Cert.Ffn1ReferenceIdeal.τ).loc Cert.Ffn1ReferenceIdeal.main_arg3) = m' ((c.tc : Thread Cert.Ffn1ReferenceIdeal.nD Cert.Ffn1ReferenceIdeal.τ).loc Cert.Ffn1ReferenceIdeal.main_arg3)
          ∧ r.2.mem ((c.tc : Thread Cert.Ffn1ReferenceIdeal.nD Cert.Ffn1ReferenceIdeal.τ).loc Cert.Ffn1ReferenceIdeal.main_arg4) = m' ((c.tc : Thread Cert.Ffn1ReferenceIdeal.nD Cert.Ffn1ReferenceIdeal.τ).loc Cert.Ffn1ReferenceIdeal.main_arg4)
          ∧ r.2.mem ((c.tc : Thread Cert.Ffn1ReferenceIdeal.nD Cert.Ffn1ReferenceIdeal.τ).loc Cert.Ffn1ReferenceIdeal.main_arg5) = m' ((c.tc : Thread Cert.Ffn1ReferenceIdeal.nD Cert.Ffn1ReferenceIdeal.τ).loc Cert.Ffn1ReferenceIdeal.main_arg5))

def preserves_Rec_RecIdeal : Prop :=
  True

def algebraic_RecIdeal_RecReferenceIdeal [hRecIdeal : Cert.RecIdeal.Facts] [hRecReferenceIdeal : Cert.RecReferenceIdeal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecReferenceIdeal.nD Cert.RecReferenceIdeal.τ Cert.RecReferenceIdeal.sig) → Buf (Elt Ideal) ℓ) (g' : Dev Cert.RecReferenceIdeal.nD → PrngReg), Pre_RecIdeal m →
    (∀ c : Dev Cert.RecIdeal.nD,
      m' ((c.tc : Thread Cert.RecReferenceIdeal.nD Cert.RecReferenceIdeal.τ).loc Cert.RecReferenceIdeal.main_arg0) = m ((c.tc : Thread Cert.RecIdeal.nD Cert.RecIdeal.τ).loc Cert.RecIdeal.main_arg0)
      ∧ m' ((c.tc : Thread Cert.RecReferenceIdeal.nD Cert.RecReferenceIdeal.τ).loc Cert.RecReferenceIdeal.main_arg1) = m ((c.tc : Thread Cert.RecIdeal.nD Cert.RecIdeal.τ).loc Cert.RecIdeal.main_arg1)) →
    ∃ (v0 : (c : Dev Cert.RecIdeal.nD) → Buf (Elt Ideal) ((c.tc : Thread Cert.RecIdeal.nD Cert.RecIdeal.τ).loc Cert.RecIdeal.main_v2)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v2) = v0 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1))
      ∧ θ_run (Cert.RecReferenceIdeal.defs (F := Ideal)) (onTc (τ := Cert.RecReferenceIdeal.τ) (Cert.RecReferenceIdeal.main (F := Ideal))) ⟨m', fun _ => 0, g'⟩ (fun r => ∀ c : Dev Cert.RecReferenceIdeal.nD,
          r.2.mem ((c.tc : Thread Cert.RecReferenceIdeal.nD Cert.RecReferenceIdeal.τ).loc Cert.RecReferenceIdeal.main_v12) = v0 c
          ∧ r.2.mem ((c.tc : Thread Cert.RecReferenceIdeal.nD Cert.RecReferenceIdeal.τ).loc Cert.RecReferenceIdeal.main_arg0) = m' ((c.tc : Thread Cert.RecReferenceIdeal.nD Cert.RecReferenceIdeal.τ).loc Cert.RecReferenceIdeal.main_arg0)
          ∧ r.2.mem ((c.tc : Thread Cert.RecReferenceIdeal.nD Cert.RecReferenceIdeal.τ).loc Cert.RecReferenceIdeal.main_arg1) = m' ((c.tc : Thread Cert.RecReferenceIdeal.nD Cert.RecReferenceIdeal.τ).loc Cert.RecReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v17) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_v27) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_KV_KVIdeal : Prop :=
  True

def algebraic_KVIdeal_KVReferenceIdeal [hKVIdeal : Cert.KVIdeal.Facts] [hKVReferenceIdeal : Cert.KVReferenceIdeal.Facts] : Prop :=
  ∀ (m : (ℓ : Loc Cert.KVIdeal.nD Cert.KVIdeal.τ Cert.KVIdeal.sig) → Buf (Elt Ideal) ℓ) (g : Dev Cert.KVIdeal.nD → PrngReg)
    (m' : (ℓ : Loc Cert.KVReferenceIdeal.nD Cert.KVReferenceIdeal.τ Cert.KVReferenceIdeal.sig) → Buf (Elt Ideal) ℓ) (g' : Dev Cert.KVReferenceIdeal.nD → PrngReg), Pre_KVIdeal m →
    (∀ c : Dev Cert.KVIdeal.nD,
      m' ((c.tc : Thread Cert.KVReferenceIdeal.nD Cert.KVReferenceIdeal.τ).loc Cert.KVReferenceIdeal.main_arg0) = m ((c.tc : Thread Cert.KVIdeal.nD Cert.KVIdeal.τ).loc Cert.KVIdeal.main_arg0)
      ∧ m' ((c.tc : Thread Cert.KVReferenceIdeal.nD Cert.KVReferenceIdeal.τ).loc Cert.KVReferenceIdeal.main_arg1) = m ((c.tc : Thread Cert.KVIdeal.nD Cert.KVIdeal.τ).loc Cert.KVIdeal.main_arg1)) →
    ∃ (v0 : (c : Dev Cert.KVIdeal.nD) → Buf (Elt Ideal) ((c.tc : Thread Cert.KVIdeal.nD Cert.KVIdeal.τ).loc Cert.KVIdeal.main_v2_0)) (v1 : (c : Dev Cert.KVIdeal.nD) → Buf (Elt Ideal) ((c.tc : Thread Cert.KVIdeal.nD Cert.KVIdeal.τ).loc Cert.KVIdeal.main_v2_1)),
      θ_run (Cert.KVIdeal.defs (F := Ideal)) (onTc (τ := Cert.KVIdeal.τ) (Cert.KVIdeal.main (F := Ideal))) ⟨m, fun _ => 0, g⟩ (fun r => ∀ c : Dev Cert.KVIdeal.nD,
          r.2.mem ((c.tc : Thread Cert.KVIdeal.nD Cert.KVIdeal.τ).loc Cert.KVIdeal.main_v2_0) = v0 c
          ∧ r.2.mem ((c.tc : Thread Cert.KVIdeal.nD Cert.KVIdeal.τ).loc Cert.KVIdeal.main_v2_1) = v1 c
          ∧ r.2.mem ((c.tc : Thread Cert.KVIdeal.nD Cert.KVIdeal.τ).loc Cert.KVIdeal.main_arg0) = m ((c.tc : Thread Cert.KVIdeal.nD Cert.KVIdeal.τ).loc Cert.KVIdeal.main_arg0)
          ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ θ_run (Cert.KVReferenceIdeal.defs (F := Ideal)) (onTc (τ := Cert.KVReferenceIdeal.τ) (Cert.KVReferenceIdeal.main (F := Ideal))) ⟨m', fun _ => 0, g'⟩ (fun r => ∀ c : Dev Cert.KVReferenceIdeal.nD,
          r.2.mem ((c.tc : Thread Cert.KVReferenceIdeal.nD Cert.KVReferenceIdeal.τ).loc Cert.KVReferenceIdeal.main_v11) = v0 c
          ∧ r.2.mem ((c.tc : Thread Cert.KVReferenceIdeal.nD Cert.KVReferenceIdeal.τ).loc Cert.KVReferenceIdeal.main_v13) = v1 c
          ∧ r.2.mem ((c.tc : Thread Cert.KVReferenceIdeal.nD Cert.KVReferenceIdeal.τ).loc Cert.KVReferenceIdeal.main_arg0) = m' ((c.tc : Thread Cert.KVReferenceIdeal.nD Cert.KVReferenceIdeal.τ).loc Cert.KVReferenceIdeal.main_arg0)
          ∧ r.2.mem ((c.tc : Thread Cert.KVReferenceIdeal.nD Cert.KVReferenceIdeal.τ).loc Cert.KVReferenceIdeal.main_arg1) = m' ((c.tc : Thread Cert.KVReferenceIdeal.nD Cert.KVReferenceIdeal.τ).loc Cert.KVReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfn1 : Cert.Ffn1.Facts) (hFfn1Ideal : Cert.Ffn1Ideal.Facts) (hFfn1ReferenceIdeal : Cert.Ffn1ReferenceIdeal.Facts) (hRec : Cert.Rec.Facts) (hRecIdeal : Cert.RecIdeal.Facts) (hRecReferenceIdeal : Cert.RecReferenceIdeal.Facts) (hGates : Cert.Gates.Facts) (hGatesIdeal : Cert.GatesIdeal.Facts) (hGatesReferenceIdeal : Cert.GatesReferenceIdeal.Facts) (hNorm : Cert.Norm.Facts) (hNormIdeal : Cert.NormIdeal.Facts) (hNormReferenceIdeal : Cert.NormReferenceIdeal.Facts) (hKV : Cert.KV.Facts) (hKVIdeal : Cert.KVIdeal.Facts) (hKVReferenceIdeal : Cert.KVReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ffn1 (hFfn1 := hFfn1)
    ∧ quiescent_Ffn1Ideal (hFfn1Ideal := hFfn1Ideal)
    ∧ quiescent_Ffn1ReferenceIdeal (hFfn1ReferenceIdeal := hFfn1ReferenceIdeal)
    ∧ quiescent_Rec (hRec := hRec)
    ∧ quiescent_RecIdeal (hRecIdeal := hRecIdeal)
    ∧ quiescent_RecReferenceIdeal (hRecReferenceIdeal := hRecReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_KV (hKV := hKV)
    ∧ quiescent_KVIdeal (hKVIdeal := hKVIdeal)
    ∧ quiescent_KVReferenceIdeal (hKVReferenceIdeal := hKVReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Ffn1_Ffn1Ideal
    ∧ algebraic_Ffn1Ideal_Ffn1ReferenceIdeal (hFfn1Ideal := hFfn1Ideal) (hFfn1ReferenceIdeal := hFfn1ReferenceIdeal)
    ∧ preserves_Rec_RecIdeal
    ∧ algebraic_RecIdeal_RecReferenceIdeal (hRecIdeal := hRecIdeal) (hRecReferenceIdeal := hRecReferenceIdeal)
    ∧ preserves_Gates_GatesIdeal
    ∧ algebraic_GatesIdeal_GatesReferenceIdeal (hGatesIdeal := hGatesIdeal) (hGatesReferenceIdeal := hGatesReferenceIdeal)
    ∧ preserves_Norm_NormIdeal
    ∧ algebraic_NormIdeal_NormReferenceIdeal (hNormIdeal := hNormIdeal) (hNormReferenceIdeal := hNormReferenceIdeal)
    ∧ preserves_KV_KVIdeal
    ∧ algebraic_KVIdeal_KVReferenceIdeal (hKVIdeal := hKVIdeal) (hKVReferenceIdeal := hKVReferenceIdeal)
-- ==== Pre_finite.lean ====
abbrev S24576x4096 : Shape := ⟨2, ![24576, 4096]⟩
abbrev S4x2x512 : Shape := ⟨3, ![4, 2, 512]⟩
abbrev S4x128 : Shape := ⟨2, ![4, 128]⟩
abbrev S_ : Shape := ⟨0, ![]⟩

class Facts : Prop where
  bitsLt_bf16_f32 : FTy.bits .bf16 < FTy.bits .f32
  bcast_S_S24576x4096 : S_.BroadcastsInDim S24576x4096 (![] : Fin 0 → Fin S24576x4096.rank)
  reducesTo_S24576x4096_S_d0_1 : S24576x4096.ReducesTo [0, 1] S_
  h_S_ : 0 < S_.numel
  bcast_S_S4x2x512 : S_.BroadcastsInDim S4x2x512 (![] : Fin 0 → Fin S4x2x512.rank)
  reducesTo_S4x2x512_S_d0_1_2 : S4x2x512.ReducesTo [0, 1, 2] S_

variable [Facts]

def fn {F : FTy → Type} [FloatOps F] (main_arg0 : FVec F S24576x4096 .bf16) (main_arg1 : FVec F S4x2x512 .f32) (main_arg2 : FVec F S4x128 .f32) : IVec S_ 1 :=
  let main_v0 : FVec F S24576x4096 .f32 := (extf .f32 · bitsLt_bf16_f32) main_arg0
  let main_v1 : FVec F S24576x4096 .f32 := Host.absf main_v0
  let main_cst : FVec F S_ .f32 := constant S_ .f32 0x7F800000#32
  let main_v2 : FVec F S24576x4096 .f32 := broadcastInDim S24576x4096 ![] bcast_S_S24576x4096 main_cst
  let main_v3 : IVec S24576x4096 1 := cmpf .olt main_v1 main_v2
  let main_c : IVec S_ 1 := constantI S_ 1 1#1
  let main_v4 : IVec S_ 1 := (fun x v => Host.reduce IntOp.andi x v reducesTo_S24576x4096_S_d0_1 h_S_) main_v3 main_c
  let main_v5 : FVec F S4x2x512 .f32 := Host.absf main_arg1
  let main_cst_0 : FVec F S_ .f32 := constant S_ .f32 0x7F800000#32
  let main_v6 : FVec F S4x2x512 .f32 := broadcastInDim S4x2x512 ![] bcast_S_S4x2x512 main_cst_0
  let main_v7 : IVec S4x2x512 1 := cmpf .olt main_v5 main_v6
  let main_c_1 : IVec S_ 1 := constantI S_ 1 1#1
  let main_v8 : IVec S_ 1 := (fun x v => Host.reduce IntOp.andi x v reducesTo_S4x2x512_S_d0_1_2 h_S_) main_v7 main_c_1
  let main_v9 : IVec S_ 1 := andi main_v4 main_v8
  main_v9
-- ==== Kernel.lean ====
abbrev S24576x4096 : Shape := ⟨2, ![24576, 4096]⟩
abbrev S4x2x512 : Shape := ⟨3, ![4, 2, 512]⟩
abbrev S4x128 : Shape := ⟨2, ![4, 128]⟩
abbrev S8x512 : Shape := ⟨2, ![8, 512]⟩
abbrev S1x128 : Shape := ⟨2, ![1, 128]⟩
abbrev S128 : Shape := ⟨1, ![128]⟩
abbrev S8192x512 : Shape := ⟨2, ![8192, 512]⟩
abbrev S32x2x4x128x128 : Shape := ⟨5, ![32, 2, 4, 128, 128]⟩
abbrev S256x512 : Shape := ⟨2, ![256, 512]⟩
abbrev S1x2x4x128x128 : Shape := ⟨5, ![1, 2, 4, 128, 128]⟩
abbrev S8x128x128 : Shape := ⟨3, ![8, 128, 128]⟩
abbrev S2x128x128 : Shape := ⟨3, ![2, 128, 128]⟩
abbrev S128x128 : Shape := ⟨2, ![128, 128]⟩
abbrev S1x128x128 : Shape := ⟨3, ![1, 128, 128]⟩
abbrev S1x512 : Shape := ⟨2, ![1, 512]⟩
abbrev S128x1 : Shape := ⟨2, ![128, 1]⟩
abbrev S16x8x128 : Shape := ⟨3, ![16, 8, 128]⟩
abbrev S16x1x128 : Shape := ⟨3, ![16, 1, 128]⟩
abbrev S8x16x128 : Shape := ⟨3, ![8, 16, 128]⟩
abbrev S8x1x128 : Shape := ⟨3, ![8, 1, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩
abbrev S1x1x128 : Shape := ⟨3, ![1, 1, 128]⟩
abbrev S1x1x1x128x128 : Shape := ⟨5, ![1, 1, 1, 128, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 21
  | .smem => 0
  | _ => 0

abbrev bufTy : (tb : Table) → Fin (tcTables nBuf tb) → BufTy
  | .hbm, ⟨0, _⟩ => ⟨S24576x4096, .bf16⟩
  | .hbm, ⟨1, _⟩ => ⟨S4x2x512, .f32⟩
  | .hbm, ⟨2, _⟩ => ⟨S4x128, .f32⟩
  | .hbm, ⟨3, _⟩ => ⟨S8x512, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S8192x512, .bf16⟩
  | .hbm, ⟨8, _⟩ => ⟨S32x2x4x128x128, .f32⟩
  | .local _ .vmem, ⟨0, _⟩ => ⟨S8x512, .f32⟩
  | .local _ .vmem, ⟨1, _⟩ => ⟨S1x128, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x2x4x128x128, .f32⟩
  | .local _ .vmem, ⟨15, _⟩ => ⟨S1x2x4x128x128, .f32⟩
  | .local _ .vmem, ⟨16, _⟩ => ⟨S256x512, .f32⟩
  | .local _ .vmem, ⟨17, _⟩ => ⟨S256x512, .f32⟩
  | .local _ .vmem, ⟨18, _⟩ => ⟨S8x128x128, .f32⟩
  | .local _ .vmem, ⟨19, _⟩ => ⟨S2x128x128, .bf16⟩
  | .local _ .vmem, ⟨20, _⟩ => ⟨S2x128x128, .i32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_52 : BitVec 32 := 0#32
  let c2_i32 : BitVec 32 := 2#32
  let v140 : BitVec 32 := Scalar.addi c0_i32_52 c2_i32
  let c1_i32 : BitVec 32 := 1#32
  ⟨c0_i32_52, v140, c1_i32⟩
def k0_mult1 (k0_t1 : Fin k0_t1_loop.trips) : BitVec 32 :=
  let c0_i32_52 : BitVec 32 := 0#32
  let c1_i32 : BitVec 32 := 1#32
  let arg16 : BitVec 32 := Scf.iv c0_i32_52 c1_i32 k0_t1
  let c128_i32 : BitVec 32 := 128#32
  let v309 : BitVec 32 := Scalar.muli arg16 c128_i32
  v309
def k0_off1 (k0_t1 : Fin k0_t1_loop.trips) : Fin 2 → Nat :=
  let c0_i32_52 : BitVec 32 := 0#32
  let c1_i32 : BitVec 32 := 1#32
  let arg16 : BitVec 32 := Scf.iv c0_i32_52 c1_i32 k0_t1
  let c128_i32 : BitVec 32 := 128#32
  let v309 : BitVec 32 := Scalar.muli arg16 c128_i32
  let v310 : BitVec 32 := v309
  let v311 : Index := Scalar.indexCast v310
  let c0_179 : Index := 0#32
  ![v311.toNat, 0]
def k0_mult2 (k0_t1 : Fin k0_t1_loop.trips) : BitVec 32 :=
  let c1_i32_229 : BitVec 32 := 1#32
  let c0_i32_52 : BitVec 32 := 0#32
  let c1_i32 : BitVec 32 := 1#32
  let arg16 : BitVec 32 := Scf.iv c0_i32_52 c1_i32 k0_t1
  let v539 : BitVec 32 := Scalar.subi c1_i32_229 arg16
  let c128_i32_230 : BitVec 32 := 128#32
  let v540 : BitVec 32 := Scalar.muli v539 c128_i32_230
  v540
def k0_off2 (k0_t1 : Fin k0_t1_loop.trips) : Fin 2 → Nat :=
  let c1_i32_229 : BitVec 32 := 1#32
  let c0_i32_52 : BitVec 32 := 0#32
  let c1_i32 : BitVec 32 := 1#32
  let arg16 : BitVec 32 := Scf.iv c0_i32_52 c1_i32 k0_t1
  let v539 : BitVec 32 := Scalar.subi c1_i32_229 arg16
  let c128_i32_230 : BitVec 32 := 128#32
  let v540 : BitVec 32 := Scalar.muli v539 c128_i32_230
  let v541 : BitVec 32 := v540
  let v542 : Index := Scalar.indexCast v541
  let c0_231 : Index := 0#32
  ![v542.toNat, 0]
def k0_mult3 (k0_t1 : Fin k0_t1_loop.trips) : BitVec 32 :=
  let c0_i32_52 : BitVec 32 := 0#32
  let c1_i32 : BitVec 32 := 1#32
  let arg16 : BitVec 32 := Scf.iv c0_i32_52 c1_i32 k0_t1
  let c128_i32_286 : BitVec 32 := 128#32
  let v770 : BitVec 32 := Scalar.muli arg16 c128_i32_286
  v770
def k0_off3 (k0_t1 : Fin k0_t1_loop.trips) : Fin 2 → Nat :=
  let c0_i32_52 : BitVec 32 := 0#32
  let c1_i32 : BitVec 32 := 1#32
  let arg16 : BitVec 32 := Scf.iv c0_i32_52 c1_i32 k0_t1
  let c128_i32_286 : BitVec 32 := 128#32
  let v770 : BitVec 32 := Scalar.muli arg16 c128_i32_286
  let v771 : BitVec 32 := v770
  let v772 : Index := Scalar.indexCast v771
  let c128_287 : Index := 128#32
  ![v772.toNat, 128]
def k0_mult4 (k0_t1 : Fin k0_t1_loop.trips) : BitVec 32 :=
  let c1_i32_342 : BitVec 32 := 1#32
  let c0_i32_52 : BitVec 32 := 0#32
  let c1_i32 : BitVec 32 := 1#32
  let arg16 : BitVec 32 := Scf.iv c0_i32_52 c1_i32 k0_t1
  let v1000 : BitVec 32 := Scalar.subi c1_i32_342 arg16
  let c128_i32_343 : BitVec 32 := 128#32
  let v1001 : BitVec 32 := Scalar.muli v1000 c128_i32_343
  v1001
def k0_off4 (k0_t1 : Fin k0_t1_loop.trips) : Fin 2 → Nat :=
  let c1_i32_342 : BitVec 32 := 1#32
  let c0_i32_52 : BitVec 32 := 0#32
  let c1_i32 : BitVec 32 := 1#32
  let arg16 : BitVec 32 := Scf.iv c0_i32_52 c1_i32 k0_t1
  let v1000 : BitVec 32 := Scalar.subi c1_i32_342 arg16
  let c128_i32_343 : BitVec 32 := 128#32
  let v1001 : BitVec 32 := Scalar.muli v1000 c128_i32_343
  let v1002 : BitVec 32 := v1001
  let v1003 : Index := Scalar.indexCast v1002
  let c128_344 : Index := 128#32
  ![v1003.toNat, 128]
def k0_mult5 (k0_t1 : Fin k0_t1_loop.trips) : BitVec 32 :=
  let c0_i32_52 : BitVec 32 := 0#32
  let c1_i32 : BitVec 32 := 1#32
  let arg16 : BitVec 32 := Scf.iv c0_i32_52 c1_i32 k0_t1
  let c128_i32_399 : BitVec 32 := 128#32
  let v1231 : BitVec 32 := Scalar.muli arg16 c128_i32_399
  v1231
def k0_off5 (k0_t1 : Fin k0_t1_loop.trips) : Fin 2 → Nat :=
  let c0_i32_52 : BitVec 32 := 0#32
  let c1_i32 : BitVec 32 := 1#32
  let arg16 : BitVec 32 := Scf.iv c0_i32_52 c1_i32 k0_t1
  let c128_i32_399 : BitVec 32 := 128#32
  let v1231 : BitVec 32 := Scalar.muli arg16 c128_i32_399
  let v1232 : BitVec 32 := v1231
  let v1233 : Index := Scalar.indexCast v1232
  let c256_400 : Index := 256#32
  ![v1233.toNat, 256]
def k0_mult6 (k0_t1 : Fin k0_t1_loop.trips) : BitVec 32 :=
  let c1_i32_455 : BitVec 32 := 1#32
  let c0_i32_52 : BitVec 32 := 0#32
  let c1_i32 : BitVec 32 := 1#32
  let arg16 : BitVec 32 := Scf.iv c0_i32_52 c1_i32 k0_t1
  let v1461 : BitVec 32 := Scalar.subi c1_i32_455 arg16
  let c128_i32_456 : BitVec 32 := 128#32
  let v1462 : BitVec 32 := Scalar.muli v1461 c128_i32_456
  v1462
def k0_off6 (k0_t1 : Fin k0_t1_loop.trips) : Fin 2 → Nat :=
  let c1_i32_455 : BitVec 32 := 1#32
  let c0_i32_52 : BitVec 32 := 0#32
  let c1_i32 : BitVec 32 := 1#32
  let arg16 : BitVec 32 := Scf.iv c0_i32_52 c1_i32 k0_t1
  let v1461 : BitVec 32 := Scalar.subi c1_i32_455 arg16
  let c128_i32_456 : BitVec 32 := 128#32
  let v1462 : BitVec 32 := Scalar.muli v1461 c128_i32_456
  let v1463 : BitVec 32 := v1462
  let v1464 : Index := Scalar.indexCast v1463
  let c256_457 : Index := 256#32
  ![v1464.toNat, 256]
def k0_mult7 (k0_t1 : Fin k0_t1_loop.trips) : BitVec 32 :=
  let c0_i32_52 : BitVec 32 := 0#32
  let c1_i32 : BitVec 32 := 1#32
  let arg16 : BitVec 32 := Scf.iv c0_i32_52 c1_i32 k0_t1
  let c128_i32_512 : BitVec 32 := 128#32
  let v1692 : BitVec 32 := Scalar.muli arg16 c128_i32_512
  v1692
def k0_off7 (k0_t1 : Fin k0_t1_loop.trips) : Fin 2 → Nat :=
  let c0_i32_52 : BitVec 32 := 0#32
  let c1_i32 : BitVec 32 := 1#32
  let arg16 : BitVec 32 := Scf.iv c0_i32_52 c1_i32 k0_t1
  let c128_i32_512 : BitVec 32 := 128#32
  let v1692 : BitVec 32 := Scalar.muli arg16 c128_i32_512
  let v1693 : BitVec 32 := v1692
  let v1694 : Index := Scalar.indexCast v1693
  let c384_513 : Index := 384#32
  ![v1694.toNat, 384]
def k0_mult8 (k0_t1 : Fin k0_t1_loop.trips) : BitVec 32 :=
  let c1_i32_568 : BitVec 32 := 1#32
  let c0_i32_52 : BitVec 32 := 0#32
  let c1_i32 : BitVec 32 := 1#32
  let arg16 : BitVec 32 := Scf.iv c0_i32_52 c1_i32 k0_t1
  let v1922 : BitVec 32 := Scalar.subi c1_i32_568 arg16
  let c128_i32_569 : BitVec 32 := 128#32
  let v1923 : BitVec 32 := Scalar.muli v1922 c128_i32_569
  v1923
def k0_off8 (k0_t1 : Fin k0_t1_loop.trips) : Fin 2 → Nat :=
  let c1_i32_568 : BitVec 32 := 1#32
  let c0_i32_52 : BitVec 32 := 0#32
  let c1_i32 : BitVec 32 := 1#32
  let arg16 : BitVec 32 := Scf.iv c0_i32_52 c1_i32 k0_t1
  let v1922 : BitVec 32 := Scalar.subi c1_i32_568 arg16
  let c128_i32_569 : BitVec 32 := 128#32
  let v1923 : BitVec 32 := Scalar.muli v1922 c128_i32_569
  let v1924 : BitVec 32 := v1923
  let v1925 : Index := Scalar.indexCast v1924
  let c384_570 : Index := 384#32
  ![v1925.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.addi c3_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.addi c5_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.addi c6_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let v1 : BitVec 32 := Scalar.addi c7_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S24576x4096 : Shape := ⟨2, ![24576, 4096]⟩
abbrev S4x2x512 : Shape := ⟨3, ![4, 2, 512]⟩
abbrev S4x128 : Shape := ⟨2, ![4, 128]⟩
abbrev S_ : Shape := ⟨0, ![]⟩
abbrev S2x512 : Shape := ⟨2, ![2, 512]⟩
abbrev S1x2x512 : Shape := ⟨3, ![1, 2, 512]⟩
abbrev S4x2x4x128 : Shape := ⟨4, ![4, 2, 4, 128]⟩
abbrev S1x2x4x128 : Shape := ⟨4, ![1, 2, 4, 128]⟩
abbrev S2x4x128 : Shape := ⟨3, ![2, 4, 128]⟩
abbrev S8192x512 : Shape := ⟨2, ![8192, 512]⟩
abbrev S32x256x512 : Shape := ⟨3, ![32, 256, 512]⟩
abbrev S32x256x4x128 : Shape := ⟨4, ![32, 256, 4, 128]⟩
abbrev S1x4x128 : Shape := ⟨3, ![1, 4, 128]⟩
abbrev S1x1x4x128 : Shape := ⟨4, ![1, 1, 4, 128]⟩
abbrev S64x256x4x128 : Shape := ⟨4, ![64, 256, 4, 128]⟩
abbrev S64x4x128x128 : Shape := ⟨4, ![64, 4, 128, 128]⟩
abbrev S32x32 : Shape := ⟨2, ![32, 32]⟩
abbrev S32x32x1 : Shape := ⟨3, ![32, 32, 1]⟩
abbrev S64x8x32x4x128 : Shape := ⟨5, ![64, 8, 32, 4, 128]⟩
abbrev S8x64x4x32x128 : Shape := ⟨5, ![8, 64, 4, 32, 128]⟩
abbrev S1x64x4x32x128 : Shape := ⟨5, ![1, 64, 4, 32, 128]⟩
abbrev S64x4x32x128 : Shape := ⟨4, ![64, 4, 32, 128]⟩
abbrev S64x4x32x1x128 : Shape := ⟨5, ![64, 4, 32, 1, 128]⟩
abbrev S64x4x1x32x128 : Shape := ⟨5, ![64, 4, 1, 32, 128]⟩
abbrev S64x4x32x32x128 : Shape := ⟨5, ![64, 4, 32, 32, 128]⟩
abbrev S64x4x32x32 : Shape := ⟨4, ![64, 4, 32, 32]⟩
abbrev S64x4x1x128 : Shape := ⟨4, ![64, 4, 1, 128]⟩
abbrev S64x4x128 : Shape := ⟨3, ![64, 4, 128]⟩
abbrev S64x4x128x1 : Shape := ⟨4, ![64, 4, 128, 1]⟩
abbrev S32x4x128x128 : Shape := ⟨4, ![32, 4, 128, 128]⟩
abbrev S1x128 : Shape := ⟨2, ![1, 128]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S32x1x4x128x128 : Shape := ⟨5, ![32, 1, 4, 128, 128]⟩
abbrev S32x2x4x128x128 : Shape := ⟨5, ![32, 2, 4, 128, 128]⟩

abbrev nBuf : Space → Nat
  | .hbm => 352
  | .vmem => 0
  | .smem => 0
  | _ => 0

abbrev hbmTy0_0 (i : Nat) : BufTy := match i % 128 with
  | 0 => ⟨S24576x4096, .bf16⟩
  | 1 => ⟨S4x2x512, .f32⟩
  | 2 => ⟨S4x128, .f32⟩
  | 3 => ⟨S_, .f32⟩
  | 4 => ⟨S2x512, .f32⟩
  | 5 => ⟨S_, .f32⟩
  | 6 => ⟨S2x512, .f32⟩
  | 7 => ⟨S2x512, .f32⟩
  | 8 => ⟨S1x2x512, .f32⟩
  | 9 => ⟨S4x2x512, .f32⟩
  | 10 => ⟨S4x2x512, .f32⟩
  | 11 => ⟨S4x2x512, .f32⟩
  | 12 => ⟨S_, .f32⟩
  | 13 => ⟨S2x512, .f32⟩
  | 14 => ⟨S1x2x512, .f32⟩
  | 15 => ⟨S4x2x512, .f32⟩
  | 16 => ⟨S4x2x512, .f32⟩
  | 17 => ⟨S_, .f32⟩
  | 18 => ⟨S_, .f32⟩
  | 19 => ⟨S4x2x512, .f32⟩
  | 20 => ⟨S1x2x512, .f32⟩
  | 21 => ⟨S4x2x512, .f32⟩
  | 22 => ⟨S4x2x512, .f32⟩
  | 23 => ⟨S_, .f32⟩
  | 24 => ⟨S4x2x512, .f32⟩
  | 25 => ⟨S4x2x512, .f32⟩
  | 26 => ⟨S4x2x4x128, .f32⟩
  | 27 => ⟨S1x2x4x128, .f32⟩
  | 28 => ⟨S2x4x128, .f32⟩
  | 29 => ⟨S8192x512, .bf16⟩
  | 30 => ⟨S32x256x512, .bf16⟩
  | 31 => ⟨S32x256x512, .f32⟩
  | 32 => ⟨S32x256x512, .f32⟩
  | 33 => ⟨S32x256x512, .f32⟩
  | 34 => ⟨S_, .f32⟩
  | 35 => ⟨S32x256x512, .f32⟩
  | 36 => ⟨S32x256x512, .f32⟩
  | 37 => ⟨S_, .f32⟩
  | 38 => ⟨S32x256x512, .f32⟩
  | 39 => ⟨S32x256x512, .f32⟩
  | 40 => ⟨S32x256x512, .f32⟩
  | 41 => ⟨S32x256x4x128, .f32⟩
  | 42 => ⟨S8192x512, .bf16⟩
  | 43 => ⟨S32x256x512, .bf16⟩
  | 44 => ⟨S32x256x512, .f32⟩
  | 45 => ⟨S32x256x4x128, .f32⟩
  | 46 => ⟨S8192x512, .bf16⟩
  | 47 => ⟨S32x256x512, .bf16⟩
  | 48 => ⟨S1x4x128, .f32⟩
  | 49 => ⟨S4x128, .f32⟩
  | 50 => ⟨S32x256x512, .f32⟩
  | 51 => ⟨S32x256x4x128, .f32⟩
  | 52 => ⟨S_, .f32⟩
  | 53 => ⟨S4x128, .f32⟩
  | 54 => ⟨S4x128, .f32⟩
  | 55 => ⟨S4x128, .f32⟩
  | 56 => ⟨S32x256x4x128, .f32⟩
  | 57 => ⟨S_, .f32⟩
  | 58 => ⟨S32x256x4x128, .f32⟩
  | 59 => ⟨S32x256x4x128, .f32⟩
  | 60 => ⟨S32x256x4x128, .f32⟩
  | 61 => ⟨S32x256x4x128, .f32⟩
  | 62 => ⟨S32x256x4x128, .i1⟩
  | 63 => ⟨S32x256x4x128, .f32⟩
  | 64 => ⟨S32x256x4x128, .f32⟩
  | 65 => ⟨S32x256x4x128, .f32⟩
  | 66 => ⟨S32x256x4x128, .f32⟩
  | 67 => ⟨S32x256x4x128, .f32⟩
  | 68 => ⟨S32x256x4x128, .f32⟩
  | 69 => ⟨S32x256x4x128, .f32⟩
  | 70 => ⟨S32x256x4x128, .f32⟩
  | 71 => ⟨S32x256x4x128, .f32⟩
  | 72 => ⟨S32x256x4x128, .f32⟩
  | 73 => ⟨S32x256x4x128, .f32⟩
  | 74 => ⟨S_, .f32⟩
  | 75 => ⟨S32x256x4x128, .f32⟩
  | 76 => ⟨S32x256x4x128, .f32⟩
  | 77 => ⟨S32x256x4x128, .f32⟩
  | 78 => ⟨S32x256x4x128, .f32⟩
  | 79 => ⟨S32x256x4x128, .i1⟩
  | 80 => ⟨S32x256x4x128, .f32⟩
  | 81 => ⟨S32x256x4x128, .f32⟩
  | 82 => ⟨S32x256x4x128, .f32⟩
  | 83 => ⟨S32x256x4x128, .f32⟩
  | 84 => ⟨S32x256x4x128, .f32⟩
  | 85 => ⟨S32x256x4x128, .f32⟩
  | 86 => ⟨S32x256x4x128, .f32⟩
  | 87 => ⟨S32x256x4x128, .f32⟩
  | 88 => ⟨S32x256x4x128, .f32⟩
  | 89 => ⟨S1x1x4x128, .f32⟩
  | 90 => ⟨S32x256x4x128, .f32⟩
  | 91 => ⟨S32x256x4x128, .f32⟩
  | 92 => ⟨S32x256x4x128, .f32⟩
  | 93 => ⟨S32x256x4x128, .f32⟩
  | 94 => ⟨S32x256x4x128, .i1⟩
  | 95 => ⟨S32x256x4x128, .f32⟩
  | 96 => ⟨S32x256x4x128, .f32⟩
  | 97 => ⟨S32x256x4x128, .f32⟩
  | 98 => ⟨S32x256x4x128, .f32⟩
  | 99 => ⟨S32x256x4x128, .f32⟩
  | 100 => ⟨S32x256x4x128, .f32⟩
  | 101 => ⟨S32x256x4x128, .f32⟩
  | 102 => ⟨S_, .f32⟩
  | 103 => ⟨S4x128, .f32⟩
  | 104 => ⟨S4x128, .f32⟩
  | 105 => ⟨S32x256x4x128, .f32⟩
  | 106 => ⟨S32x256x4x128, .f32⟩
  | 107 => ⟨S32x256x4x128, .f32⟩
  | 108 => ⟨S_, .f32⟩
  | 109 => ⟨S32x256x4x128, .f32⟩
  | 110 => ⟨S32x256x4x128, .f32⟩
  | 111 => ⟨S_, .f32⟩
  | 112 => ⟨S32x256x4x128, .f32⟩
  | 113 => ⟨S32x256x4x128, .f32⟩
  | 114 => ⟨S1x1x4x128, .f32⟩
  | 115 => ⟨S32x256x4x128, .f32⟩
  | 116 => ⟨S32x256x4x128, .f32⟩
  | 117 => ⟨S8192x512, .bf16⟩
  | 118 => ⟨S32x256x512, .bf16⟩
  | 119 => ⟨S1x4x128, .f32⟩
  | 120 => ⟨S4x128, .f32⟩
  | 121 => ⟨S32x256x512, .f32⟩
  | 122 => ⟨S32x256x4x128, .f32⟩
  | 123 => ⟨S_, .f32⟩
  | 124 => ⟨S4x128, .f32⟩
  | 125 => ⟨S4x128, .f32⟩
  | 126 => ⟨S4x128, .f32⟩
  | 127 => ⟨S32x256x4x128, .f32⟩
  | _ => ⟨S24576x4096, .bf16⟩

abbrev hbmTy0_1 (i : Nat) : BufTy := match i % 128 with
  | 0 => ⟨S_, .f32⟩
  | 1 => ⟨S32x256x4x128, .f32⟩
  | 2 => ⟨S32x256x4x128, .f32⟩
  | 3 => ⟨S32x256x4x128, .f32⟩
  | 4 => ⟨S32x256x4x128, .f32⟩
  | 5 => ⟨S32x256x4x128, .i1⟩
  | 6 => ⟨S32x256x4x128, .f32⟩
  | 7 => ⟨S32x256x4x128, .f32⟩
  | 8 => ⟨S32x256x4x128, .f32⟩
  | 9 => ⟨S32x256x4x128, .f32⟩
  | 10 => ⟨S32x256x4x128, .f32⟩
  | 11 => ⟨S32x256x4x128, .f32⟩
  | 12 => ⟨S32x256x4x128, .f32⟩
  | 13 => ⟨S32x256x4x128, .f32⟩
  | 14 => ⟨S32x256x4x128, .f32⟩
  | 15 => ⟨S32x256x4x128, .f32⟩
  | 16 => ⟨S32x256x4x128, .f32⟩
  | 17 => ⟨S_, .f32⟩
  | 18 => ⟨S32x256x4x128, .f32⟩
  | 19 => ⟨S32x256x4x128, .f32⟩
  | 20 => ⟨S32x256x4x128, .f32⟩
  | 21 => ⟨S32x256x4x128, .f32⟩
  | 22 => ⟨S32x256x4x128, .i1⟩
  | 23 => ⟨S32x256x4x128, .f32⟩
  | 24 => ⟨S32x256x4x128, .f32⟩
  | 25 => ⟨S32x256x4x128, .f32⟩
  | 26 => ⟨S32x256x4x128, .f32⟩
  | 27 => ⟨S32x256x4x128, .f32⟩
  | 28 => ⟨S32x256x4x128, .f32⟩
  | 29 => ⟨S32x256x4x128, .f32⟩
  | 30 => ⟨S32x256x4x128, .f32⟩
  | 31 => ⟨S32x256x4x128, .f32⟩
  | 32 => ⟨S1x1x4x128, .f32⟩
  | 33 => ⟨S32x256x4x128, .f32⟩
  | 34 => ⟨S32x256x4x128, .f32⟩
  | 35 => ⟨S32x256x4x128, .f32⟩
  | 36 => ⟨S32x256x4x128, .f32⟩
  | 37 => ⟨S32x256x4x128, .i1⟩
  | 38 => ⟨S32x256x4x128, .f32⟩
  | 39 => ⟨S32x256x4x128, .f32⟩
  | 40 => ⟨S32x256x4x128, .f32⟩
  | 41 => ⟨S32x256x4x128, .f32⟩
  | 42 => ⟨S32x256x4x128, .f32⟩
  | 43 => ⟨S32x256x4x128, .f32⟩
  | 44 => ⟨S32x256x4x128, .f32⟩
  | 45 => ⟨S_, .f32⟩
  | 46 => ⟨S4x128, .f32⟩
  | 47 => ⟨S4x128, .f32⟩
  | 48 => ⟨S32x256x4x128, .f32⟩
  | 49 => ⟨S32x256x4x128, .f32⟩
  | 50 => ⟨S32x256x4x128, .f32⟩
  | 51 => ⟨S_, .f32⟩
  | 52 => ⟨S32x256x4x128, .f32⟩
  | 53 => ⟨S32x256x4x128, .f32⟩
  | 54 => ⟨S_, .f32⟩
  | 55 => ⟨S32x256x4x128, .f32⟩
  | 56 => ⟨S32x256x4x128, .f32⟩
  | 57 => ⟨S1x1x4x128, .f32⟩
  | 58 => ⟨S32x256x4x128, .f32⟩
  | 59 => ⟨S32x256x4x128, .f32⟩
  | 60 => ⟨S32x256x4x128, .f32⟩
  | 61 => ⟨S64x256x4x128, .f32⟩
  | 62 => ⟨S32x256x4x128, .f32⟩
  | 63 => ⟨S64x256x4x128, .f32⟩
  | 64 => ⟨S32x256x4x128, .f32⟩
  | 65 => ⟨S64x256x4x128, .f32⟩
  | 66 => ⟨S32x256x4x128, .f32⟩
  | 67 => ⟨S64x256x4x128, .f32⟩
  | 68 => ⟨S_, .f32⟩
  | 69 => ⟨S64x4x128x128, .f32⟩
  | 70 => ⟨S_, .i1⟩
  | 71 => ⟨S32x32, .i1⟩
  | 72 => ⟨S32x32, .i32⟩
  | 73 => ⟨S_, .i32⟩
  | 74 => ⟨S32x32, .i32⟩
  | 75 => ⟨S32x32, .i32⟩
  | 76 => ⟨S32x32, .i32⟩
  | 77 => ⟨S32x32, .i1⟩
  | 78 => ⟨S_, .i1⟩
  | 79 => ⟨S32x32, .i1⟩
  | 80 => ⟨S32x32, .i1⟩
  | 81 => ⟨S32x32x1, .i1⟩
  | 82 => ⟨S64x8x32x4x128, .f32⟩
  | 83 => ⟨S8x64x4x32x128, .f32⟩
  | 84 => ⟨S64x8x32x4x128, .f32⟩
  | 85 => ⟨S8x64x4x32x128, .f32⟩
  | 86 => ⟨S64x8x32x4x128, .f32⟩
  | 87 => ⟨S8x64x4x32x128, .f32⟩
  | 88 => ⟨S64x8x32x4x128, .f32⟩
  | 89 => ⟨S8x64x4x32x128, .f32⟩
  | 90 => ⟨S_, .f32⟩
  | 91 => ⟨S8x64x4x32x128, .f32⟩
  | 92 => ⟨S_, .i32⟩
  | 93 => ⟨S8x64x4x32x128, .f32⟩
  | 94 => ⟨S8x64x4x32x128, .f32⟩
  | 95 => ⟨S8x64x4x32x128, .f32⟩
  | 96 => ⟨S8x64x4x32x128, .f32⟩
  | 97 => ⟨S32x32x1, .i1⟩
  | 98 => ⟨S_, .i32⟩
  | 99 => ⟨S64x4x128x128, .f32⟩
  | 100 => ⟨S8x64x4x32x128, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x64x4x32x128, .f32⟩
  | 108 => ⟨S64x4x32x128, .f32⟩
  | 109 => ⟨S_, .i32⟩
  | 110 => ⟨S_, .i32⟩
  | 111 => ⟨S_, .i32⟩
  | 112 => ⟨S_, .i32⟩
  | 113 => ⟨S1x64x4x32x128, .f32⟩
  | 114 => ⟨S64x4x32x128, .f32⟩
  | 115 => ⟨S_, .i32⟩
  | 116 => ⟨S_, .i32⟩
  | 117 => ⟨S_, .i32⟩
  | 118 => ⟨S_, .i32⟩
  | 119 => ⟨S1x64x4x32x128, .f32⟩
  | 120 => ⟨S64x4x32x128, .f32⟩
  | 121 => ⟨S_, .i32⟩
  | 122 => ⟨S_, .i32⟩
  | 123 => ⟨S_, .i32⟩
  | 124 => ⟨S_, .i32⟩
  | 125 => ⟨S1x64x4x32x128, .f32⟩
  | 126 => ⟨S64x4x32x128, .f32⟩
  | 127 => ⟨S_, .f32⟩
  | _ => ⟨S24576x4096, .bf16⟩

abbrev hbmTy0_2 (i : Nat) : BufTy := match i % 128 with
  | 0 => ⟨S_, .f32⟩
  | 1 => ⟨S64x4x32x128, .f32⟩
  | 2 => ⟨S64x4x32x128, .f32⟩
  | 3 => ⟨S64x4x32x128, .f32⟩
  | 4 => ⟨S64x4x32x128, .f32⟩
  | 5 => ⟨S64x4x32x1x128, .f32⟩
  | 6 => ⟨S64x4x1x32x128, .f32⟩
  | 7 => ⟨S64x4x32x32x128, .f32⟩
  | 8 => ⟨S64x4x32x32x128, .f32⟩
  | 9 => ⟨S64x4x32x32x128, .f32⟩
  | 10 => ⟨S_, .f32⟩
  | 11 => ⟨S_, .f32⟩
  | 12 => ⟨S64x4x32x32x128, .i1⟩
  | 13 => ⟨S64x4x32x32x128, .f32⟩
  | 14 => ⟨S64x4x32x32x128, .f32⟩
  | 15 => ⟨S64x4x32x32x128, .f32⟩
  | 16 => ⟨S_, .f32⟩
  | 17 => ⟨S_, .f32⟩
  | 18 => ⟨S64x4x32x32x128, .i1⟩
  | 19 => ⟨S64x4x32x32x128, .f32⟩
  | 20 => ⟨S64x4x32x32x128, .f32⟩
  | 21 => ⟨S64x4x32x1x128, .f32⟩
  | 22 => ⟨S64x4x1x32x128, .f32⟩
  | 23 => ⟨S64x4x32x32x128, .f32⟩
  | 24 => ⟨S64x4x32x32x128, .f32⟩
  | 25 => ⟨S64x4x32x32x128, .f32⟩
  | 26 => ⟨S64x4x32x32x128, .f32⟩
  | 27 => ⟨S_, .f32⟩
  | 28 => ⟨S64x4x32x32, .f32⟩
  | 29 => ⟨S64x4x32x128, .f32⟩
  | 30 => ⟨S64x4x1x128, .f32⟩
  | 31 => ⟨S64x4x128, .f32⟩
  | 32 => ⟨S64x4x128, .f32⟩
  | 33 => ⟨S64x4x128x1, .f32⟩
  | 34 => ⟨S64x4x128x128, .f32⟩
  | 35 => ⟨S64x4x128x128, .f32⟩
  | 36 => ⟨S64x4x32x128, .f32⟩
  | 37 => ⟨S64x4x32x128, .f32⟩
  | 38 => ⟨S64x4x32x128, .f32⟩
  | 39 => ⟨S64x4x32x128, .f32⟩
  | 40 => ⟨S64x4x128x128, .f32⟩
  | 41 => ⟨S64x4x128x128, .f32⟩
  | 42 => ⟨S64x4x32x128, .f32⟩
  | 43 => ⟨S1x64x4x32x128, .f32⟩
  | 44 => ⟨S_, .i32⟩
  | 45 => ⟨S_, .i32⟩
  | 46 => ⟨S_, .i32⟩
  | 47 => ⟨S_, .i32⟩
  | 48 => ⟨S8x64x4x32x128, .f32⟩
  | 49 => ⟨S_, .i32⟩
  | 50 => ⟨S_, .i32⟩
  | 51 => ⟨S64x8x32x4x128, .f32⟩
  | 52 => ⟨S64x256x4x128, .f32⟩
  | 53 => ⟨S32x256x4x128, .f32⟩
  | 54 => ⟨S32x256x4x128, .f32⟩
  | 55 => ⟨S32x4x128x128, .f32⟩
  | 56 => ⟨S32x4x128x128, .f32⟩
  | 57 => ⟨S32x256x4x128, .f32⟩
  | 58 => ⟨S32x256x4x128, .f32⟩
  | 59 => ⟨S1x128, .f32⟩
  | 60 => ⟨S128, .f32⟩
  | 61 => ⟨S32x256x4x128, .f32⟩
  | 62 => ⟨S_, .f32⟩
  | 63 => ⟨S32x256x4, .f32⟩
  | 64 => ⟨S32x256x4x1, .f32⟩
  | 65 => ⟨S_, .f32⟩
  | 66 => ⟨S32x256x4x1, .f32⟩
  | 67 => ⟨S32x256x4x1, .f32⟩
  | 68 => ⟨S_, .f32⟩
  | 69 => ⟨S32x256x4x1, .f32⟩
  | 70 => ⟨S32x256x4x1, .f32⟩
  | 71 => ⟨S32x256x4x1, .f32⟩
  | 72 => ⟨S32x256x4x128, .f32⟩
  | 73 => ⟨S32x256x4x128, .f32⟩
  | 74 => ⟨S1x1x1x128, .f32⟩
  | 75 => ⟨S32x256x4x128, .f32⟩
  | 76 => ⟨S32x256x4x128, .f32⟩
  | 77 => ⟨S8192x512, .bf16⟩
  | 78 => ⟨S32x256x512, .bf16⟩
  | 79 => ⟨S32x256x512, .f32⟩
  | 80 => ⟨S32x256x512, .f32⟩
  | 81 => ⟨S32x256x512, .f32⟩
  | 82 => ⟨S_, .f32⟩
  | 83 => ⟨S32x256x512, .f32⟩
  | 84 => ⟨S32x256x512, .f32⟩
  | 85 => ⟨S_, .f32⟩
  | 86 => ⟨S32x256x512, .f32⟩
  | 87 => ⟨S32x256x512, .f32⟩
  | 88 => ⟨S32x256x512, .f32⟩
  | 89 => ⟨S32x256x4x128, .f32⟩
  | 90 => ⟨S32x256x4x128, .f32⟩
  | 91 => ⟨S8192x512, .f32⟩
  | 92 => ⟨S8192x512, .bf16⟩
  | 93 => ⟨S32x1x4x128x128, .f32⟩
  | 94 => ⟨S32x1x4x128x128, .f32⟩
  | 95 => ⟨S32x2x4x128x128, .f32⟩
  | _ => ⟨S24576x4096, .bf16⟩

abbrev hbmTy (i : Nat) : BufTy := match i / 128 with
  | 0 => hbmTy0_0 i
  | 1 => hbmTy0_1 i
  | 2 => hbmTy0_2 i
  | _ => ⟨S24576x4096, .bf16⟩

abbrev bufTy : (tb : Table) → Fin (tcTables nBuf tb) → BufTy
  | .hbm, ⟨i, _⟩ => hbmTy i
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call2_v0 : Ref sig .tc := ⟨.hbm, 56, rfl⟩
abbrev main_call2_call0_cst : Ref sig .tc := ⟨.hbm, 57, rfl⟩
abbrev main_call2_call0_v0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7 : Ref sig .tc := ⟨.hbm, 65, rfl⟩
abbrev main_call2_call0_v8 : Ref sig .tc := ⟨.hbm, 66, rfl⟩
abbrev main_call2_call0_v9 : Ref sig .tc := ⟨.hbm, 67, rfl⟩
abbrev main_call2_call0_v10 : Ref sig .tc := ⟨.hbm, 68, rfl⟩
abbrev main_call2_call0_v11 : Ref sig .tc := ⟨.hbm, 69, rfl⟩
abbrev main_call2_v1 : Ref sig .tc := ⟨.hbm, 70, rfl⟩
abbrev main_v38 : Ref sig .tc := ⟨.hbm, 71, rfl⟩
abbrev main_v39 : Ref sig .tc := ⟨.hbm, 72, rfl⟩
abbrev main_call3_v0 : Ref sig .tc := ⟨.hbm, 73, rfl⟩
abbrev main_call3_call0_cst : Ref sig .tc := ⟨.hbm, 74, rfl⟩
abbrev main_call3_call0_v0 : Ref sig .tc := ⟨.hbm, 75, rfl⟩
abbrev main_call3_call0_v1 : Ref sig .tc := ⟨.hbm, 76, rfl⟩
abbrev main_call3_call0_v2 : Ref sig .tc := ⟨.hbm, 77, rfl⟩
abbrev main_call3_call0_v3 : Ref sig .tc := ⟨.hbm, 78, rfl⟩
abbrev main_call3_call0_v4 : Ref sig .tc := ⟨.hbm, 79, rfl⟩
abbrev main_call3_call0_v5 : Ref sig .tc := ⟨.hbm, 80, rfl⟩
abbrev main_call3_call0_v6 : Ref sig .tc := ⟨.hbm, 81, rfl⟩
abbrev main_call3_call0_v7 : Ref sig .tc := ⟨.hbm, 82, rfl⟩
abbrev main_call3_call0_v8 : Ref sig .tc := ⟨.hbm, 83, rfl⟩
abbrev main_call3_call0_v9 : Ref sig .tc := ⟨.hbm, 84, rfl⟩
abbrev main_call3_call0_v10 : Ref sig .tc := ⟨.hbm, 85, rfl⟩
abbrev main_call3_call0_v11 : Ref sig .tc := ⟨.hbm, 86, rfl⟩
abbrev main_call3_v1 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_4 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_5 : Ref sig .tc := ⟨.hbm, 108, rfl⟩
abbrev main_v59 : Ref sig .tc := ⟨.hbm, 109, rfl⟩
abbrev main_v60 : Ref sig .tc := ⟨.hbm, 110, rfl⟩
abbrev main_cst_6 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_7 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call4_v0 : Ref sig .tc := ⟨.hbm, 127, rfl⟩
abbrev main_call4_call0_cst : Ref sig .tc := ⟨.hbm, 128, rfl⟩
abbrev main_call4_call0_v0 : Ref sig .tc := ⟨.hbm, 129, rfl⟩
abbrev main_call4_call0_v1 : Ref sig .tc := ⟨.hbm, 130, rfl⟩
abbrev main_call4_call0_v2 : Ref sig .tc := ⟨.hbm, 131, rfl⟩
abbrev main_call4_call0_v3 : Ref sig .tc := ⟨.hbm, 132, rfl⟩
abbrev main_call4_call0_v4 : Ref sig .tc := ⟨.hbm, 133, rfl⟩
abbrev main_call4_call0_v5 : Ref sig .tc := ⟨.hbm, 134, rfl⟩
abbrev main_call4_call0_v6 : Ref sig .tc := ⟨.hbm, 135, rfl⟩
abbrev main_call4_call0_v7 : Ref sig .tc := ⟨.hbm, 136, rfl⟩
abbrev main_call4_call0_v8 : Ref sig .tc := ⟨.hbm, 137, rfl⟩
abbrev main_call4_call0_v9 : Ref sig .tc := ⟨.hbm, 138, rfl⟩
abbrev main_call4_call0_v10 : Ref sig .tc := ⟨.hbm, 139, rfl⟩
abbrev main_call4_call0_v11 : Ref sig .tc := ⟨.hbm, 140, rfl⟩
abbrev main_call4_v1 : Ref sig .tc := ⟨.hbm, 141, rfl⟩
abbrev main_v75 : Ref sig .tc := ⟨.hbm, 142, rfl⟩
abbrev main_v76 : Ref sig .tc := ⟨.hbm, 143, rfl⟩
abbrev main_call5_v0 : Ref sig .tc := ⟨.hbm, 144, rfl⟩
abbrev main_call5_call0_cst : Ref sig .tc := ⟨.hbm, 145, rfl⟩
abbrev main_call5_call0_v0 : Ref sig .tc := ⟨.hbm, 146, rfl⟩
abbrev main_call5_call0_v1 : Ref sig .tc := ⟨.hbm, 147, rfl⟩
abbrev main_call5_call0_v2 : Ref sig .tc := ⟨.hbm, 148, rfl⟩
abbrev main_call5_call0_v3 : Ref sig .tc := ⟨.hbm, 149, rfl⟩
abbrev main_call5_call0_v4 : Ref sig .tc := ⟨.hbm, 150, rfl⟩
abbrev main_call5_call0_v5 : Ref sig .tc := ⟨.hbm, 151, rfl⟩
abbrev main_call5_call0_v6 : Ref sig .tc := ⟨.hbm, 152, rfl⟩
abbrev main_call5_call0_v7 : Ref sig .tc := ⟨.hbm, 153, rfl⟩
abbrev main_call5_call0_v8 : Ref sig .tc := ⟨.hbm, 154, rfl⟩
abbrev main_call5_call0_v9 : Ref sig .tc := ⟨.hbm, 155, rfl⟩
abbrev main_call5_call0_v10 : Ref sig .tc := ⟨.hbm, 156, rfl⟩
abbrev main_call5_call0_v11 : Ref sig .tc := ⟨.hbm, 157, rfl⟩
abbrev main_call5_v1 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_8 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_cst_9 : Ref sig .tc := ⟨.hbm, 179, rfl⟩
abbrev main_v96 : Ref sig .tc := ⟨.hbm, 180, rfl⟩
abbrev main_v97 : Ref sig .tc := ⟨.hbm, 181, rfl⟩
abbrev main_cst_10 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_cst_11 : Ref sig .tc := ⟨.hbm, 196, rfl⟩
abbrev main_v111 : Ref sig .tc := ⟨.hbm, 197, rfl⟩
abbrev main_c : Ref sig .tc := ⟨.hbm, 198, rfl⟩
abbrev main_v112 : Ref sig .tc := ⟨.hbm, 199, rfl⟩
abbrev main_call6_v0 : Ref sig .tc := ⟨.hbm, 200, rfl⟩
abbrev main_call6_c : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_c_0 : Ref sig .tc := ⟨.hbm, 206, rfl⟩
abbrev main_call6_v5 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_cst_12 : Ref sig .tc := ⟨.hbm, 218, rfl⟩
abbrev main_v123 : Ref sig .tc := ⟨.hbm, 219, rfl⟩
abbrev main_c_13 : Ref sig .tc := ⟨.hbm, 220, rfl⟩
abbrev main_v124_0 : Ref sig .tc := ⟨.hbm, 221, rfl⟩
abbrev main_v124_1 : Ref sig .tc := ⟨.hbm, 222, rfl⟩
abbrev main_v124_2 : Ref sig .tc := ⟨.hbm, 223, rfl⟩
abbrev main_v124_3 : Ref sig .tc := ⟨.hbm, 224, rfl⟩
abbrev main_v124_4 : Ref sig .tc := ⟨.hbm, 225, rfl⟩
abbrev main_v124_5 : Ref sig .tc := ⟨.hbm, 226, rfl⟩
abbrev main_v124_6 : Ref sig .tc := ⟨.hbm, 227, rfl⟩
abbrev main_v124_7 : Ref sig .tc := ⟨.hbm, 228, rfl⟩
abbrev main_while0c_c_24 : Ref sig .tc := ⟨.hbm, 229, rfl⟩
abbrev main_while0c_v159 : Ref sig .tc := ⟨.hbm, 230, rfl⟩
abbrev main_while0b_call7_c : Ref sig .tc := ⟨.hbm, 231, rfl⟩
abbrev main_while0b_call7_c_0 : Ref sig .tc := ⟨.hbm, 232, rfl⟩
abbrev main_while0b_call7_c_1 : Ref sig .tc := ⟨.hbm, 233, rfl⟩
abbrev main_while0b_call7_c_2 : Ref sig .tc := ⟨.hbm, 234, rfl⟩
abbrev main_while0b_call7_v0 : Ref sig .tc := ⟨.hbm, 235, rfl⟩
abbrev main_while0b_v159 : Ref sig .tc := ⟨.hbm, 236, rfl⟩
abbrev main_while0b_call8_c : Ref sig .tc := ⟨.hbm, 237, rfl⟩
abbrev main_while0b_call8_c_0 : Ref sig .tc := ⟨.hbm, 238, rfl⟩
abbrev main_while0b_call8_c_1 : Ref sig .tc := ⟨.hbm, 239, rfl⟩
abbrev main_while0b_call8_c_2 : Ref sig .tc := ⟨.hbm, 240, rfl⟩
abbrev main_while0b_call8_v0 : Ref sig .tc := ⟨.hbm, 241, rfl⟩
abbrev main_while0b_v160 : Ref sig .tc := ⟨.hbm, 242, rfl⟩
abbrev main_while0b_call9_c : Ref sig .tc := ⟨.hbm, 243, rfl⟩
abbrev main_while0b_call9_c_0 : Ref sig .tc := ⟨.hbm, 244, rfl⟩
abbrev main_while0b_call9_c_1 : Ref sig .tc := ⟨.hbm, 245, rfl⟩
abbrev main_while0b_call9_c_2 : Ref sig .tc := ⟨.hbm, 246, rfl⟩
abbrev main_while0b_call9_v0 : Ref sig .tc := ⟨.hbm, 247, rfl⟩
abbrev main_while0b_v161 : Ref sig .tc := ⟨.hbm, 248, rfl⟩
abbrev main_while0b_call10_c : Ref sig .tc := ⟨.hbm, 249, rfl⟩
abbrev main_while0b_call10_c_0 : Ref sig .tc := ⟨.hbm, 250, rfl⟩
abbrev main_while0b_call10_c_1 : Ref sig .tc := ⟨.hbm, 251, rfl⟩
abbrev main_while0b_call10_c_2 : Ref sig .tc := ⟨.hbm, 252, rfl⟩
abbrev main_while0b_call10_v0 : Ref sig .tc := ⟨.hbm, 253, rfl⟩
abbrev main_while0b_v162 : Ref sig .tc := ⟨.hbm, 254, rfl⟩
abbrev main_while0b_call11_call0_cst : Ref sig .tc := ⟨.hbm, 255, rfl⟩
abbrev main_while0b_call11_call0_v0 : Ref sig .tc := ⟨.hbm, 256, rfl⟩
abbrev main_while0b_v163 : Ref sig .tc := ⟨.hbm, 257, rfl⟩
abbrev main_while0b_v164 : Ref sig .tc := ⟨.hbm, 258, rfl⟩
abbrev main_while0b_v165 : Ref sig .tc := ⟨.hbm, 259, rfl⟩
abbrev main_while0b_v166 : Ref sig .tc := ⟨.hbm, 260, rfl⟩
abbrev main_while0b_v167 : Ref sig .tc := ⟨.hbm, 261, rfl⟩
abbrev main_while0b_v168 : Ref sig .tc := ⟨.hbm, 262, rfl⟩
abbrev main_while0b_v169 : Ref sig .tc := ⟨.hbm, 263, rfl⟩
abbrev main_while0b_v170 : Ref sig .tc := ⟨.hbm, 264, rfl⟩
abbrev main_while0b_v171 : Ref sig .tc := ⟨.hbm, 265, rfl⟩
abbrev main_while0b_cst_24 : Ref sig .tc := ⟨.hbm, 266, rfl⟩
abbrev main_while0b_call12_v0 : Ref sig .tc := ⟨.hbm, 267, rfl⟩
abbrev main_while0b_call12_v1 : Ref sig .tc := ⟨.hbm, 268, rfl⟩
abbrev main_while0b_call12_v2 : Ref sig .tc := ⟨.hbm, 269, rfl⟩
abbrev main_while0b_v172 : Ref sig .tc := ⟨.hbm, 270, rfl⟩
abbrev main_while0b_v173 : Ref sig .tc := ⟨.hbm, 271, rfl⟩
abbrev main_while0b_cst_25 : Ref sig .tc := ⟨.hbm, 272, rfl⟩
abbrev main_while0b_call13_v0 : Ref sig .tc := ⟨.hbm, 273, rfl⟩
abbrev main_while0b_call13_v1 : Ref sig .tc := ⟨.hbm, 274, rfl⟩
abbrev main_while0b_call13_v2 : Ref sig .tc := ⟨.hbm, 275, rfl⟩
abbrev main_while0b_v174 : Ref sig .tc := ⟨.hbm, 276, rfl⟩
abbrev main_while0b_v175 : Ref sig .tc := ⟨.hbm, 277, rfl⟩
abbrev main_while0b_v176 : Ref sig .tc := ⟨.hbm, 278, rfl⟩
abbrev main_while0b_v177 : Ref sig .tc := ⟨.hbm, 279, rfl⟩
abbrev main_while0b_v178 : Ref sig .tc := ⟨.hbm, 280, rfl⟩
abbrev main_while0b_v179 : Ref sig .tc := ⟨.hbm, 281, rfl⟩
abbrev main_while0b_v180 : Ref sig .tc := ⟨.hbm, 282, rfl⟩
abbrev main_while0b_cst_26 : Ref sig .tc := ⟨.hbm, 283, rfl⟩
abbrev main_while0b_v181 : Ref sig .tc := ⟨.hbm, 284, rfl⟩
abbrev main_while0b_v182 : Ref sig .tc := ⟨.hbm, 285, rfl⟩
abbrev main_while0b_v183 : Ref sig .tc := ⟨.hbm, 286, rfl⟩
abbrev main_while0b_v184 : Ref sig .tc := ⟨.hbm, 287, rfl⟩
abbrev main_while0b_v185 : Ref sig .tc := ⟨.hbm, 288, rfl⟩
abbrev main_while0b_v186 : Ref sig .tc := ⟨.hbm, 289, rfl⟩
abbrev main_while0b_v187 : Ref sig .tc := ⟨.hbm, 290, rfl⟩
abbrev main_while0b_v188 : Ref sig .tc := ⟨.hbm, 291, rfl⟩
abbrev main_while0b_v189 : Ref sig .tc := ⟨.hbm, 292, rfl⟩
abbrev main_while0b_v190 : Ref sig .tc := ⟨.hbm, 293, rfl⟩
abbrev main_while0b_v191 : Ref sig .tc := ⟨.hbm, 294, rfl⟩
abbrev main_while0b_v192 : Ref sig .tc := ⟨.hbm, 295, rfl⟩
abbrev main_while0b_v193 : Ref sig .tc := ⟨.hbm, 296, rfl⟩
abbrev main_while0b_v194 : Ref sig .tc := ⟨.hbm, 297, rfl⟩
abbrev main_while0b_v195 : Ref sig .tc := ⟨.hbm, 298, rfl⟩
abbrev main_while0b_call14_v0 : Ref sig .tc := ⟨.hbm, 299, rfl⟩
abbrev main_while0b_call14_c : Ref sig .tc := ⟨.hbm, 300, rfl⟩
abbrev main_while0b_call14_c_0 : Ref sig .tc := ⟨.hbm, 301, rfl⟩
abbrev main_while0b_call14_c_1 : Ref sig .tc := ⟨.hbm, 302, rfl⟩
abbrev main_while0b_call14_c_2 : Ref sig .tc := ⟨.hbm, 303, rfl⟩
abbrev main_while0b_v196 : Ref sig .tc := ⟨.hbm, 304, rfl⟩
abbrev main_while0b_c_27 : Ref sig .tc := ⟨.hbm, 305, rfl⟩
abbrev main_while0b_v197 : Ref sig .tc := ⟨.hbm, 306, rfl⟩
abbrev main_v125 : Ref sig .tc := ⟨.hbm, 307, rfl⟩
abbrev main_v126 : Ref sig .tc := ⟨.hbm, 308, rfl⟩
abbrev main_v127 : Ref sig .tc := ⟨.hbm, 309, rfl⟩
abbrev main_v128 : Ref sig .tc := ⟨.hbm, 310, rfl⟩
abbrev main_v129 : Ref sig .tc := ⟨.hbm, 311, rfl⟩
abbrev main_v130 : Ref sig .tc := ⟨.hbm, 312, rfl⟩
abbrev main_v131 : Ref sig .tc := ⟨.hbm, 313, rfl⟩
abbrev main_v132 : Ref sig .tc := ⟨.hbm, 314, rfl⟩
abbrev main_v133 : Ref sig .tc := ⟨.hbm, 315, rfl⟩
abbrev main_v134 : Ref sig .tc := ⟨.hbm, 316, rfl⟩
abbrev main_v135 : Ref sig .tc := ⟨.hbm, 317, rfl⟩
abbrev main_cst_14 : Ref sig .tc := ⟨.hbm, 318, rfl⟩
abbrev main_v136 : Ref sig .tc := ⟨.hbm, 319, rfl⟩
abbrev main_v137 : Ref sig .tc := ⟨.hbm, 320, rfl⟩
abbrev main_cst_15 : Ref sig .tc := ⟨.hbm, 321, rfl⟩
abbrev main_v138 : Ref sig .tc := ⟨.hbm, 322, rfl⟩
abbrev main_v139 : Ref sig .tc := ⟨.hbm, 323, rfl⟩
abbrev main_cst_16 : Ref sig .tc := ⟨.hbm, 324, rfl⟩
abbrev main_v140 : Ref sig .tc := ⟨.hbm, 325, rfl⟩
abbrev main_v141 : Ref sig .tc := ⟨.hbm, 326, rfl⟩
abbrev main_v142 : Ref sig .tc := ⟨.hbm, 327, rfl⟩
abbrev main_v143 : Ref sig .tc := ⟨.hbm, 328, rfl⟩
abbrev main_v144 : Ref sig .tc := ⟨.hbm, 329, rfl⟩
abbrev main_v145 : Ref sig .tc := ⟨.hbm, 330, rfl⟩
abbrev main_v146 : Ref sig .tc := ⟨.hbm, 331, rfl⟩
abbrev main_v147 : Ref sig .tc := ⟨.hbm, 332, rfl⟩
abbrev main_v148 : Ref sig .tc := ⟨.hbm, 333, rfl⟩
abbrev main_v149 : Ref sig .tc := ⟨.hbm, 334, rfl⟩
abbrev main_v150 : Ref sig .tc := ⟨.hbm, 335, rfl⟩
abbrev main_call15_v0 : Ref sig .tc := ⟨.hbm, 336, rfl⟩
abbrev main_call15_v1 : Ref sig .tc := ⟨.hbm, 337, rfl⟩
abbrev main_call15_cst : Ref sig .tc := ⟨.hbm, 338, rfl⟩
abbrev main_call15_v2 : Ref sig .tc := ⟨.hbm, 339, rfl⟩
abbrev main_call15_v3 : Ref sig .tc := ⟨.hbm, 340, rfl⟩
abbrev main_call15_cst_0 : Ref sig .tc := ⟨.hbm, 341, rfl⟩
abbrev main_call15_v4 : Ref sig .tc := ⟨.hbm, 342, rfl⟩
abbrev main_call15_v5 : Ref sig .tc := ⟨.hbm, 343, rfl⟩
abbrev main_v151 : Ref sig .tc := ⟨.hbm, 344, rfl⟩
abbrev main_v152 : Ref sig .tc := ⟨.hbm, 345, rfl⟩
abbrev main_v153 : Ref sig .tc := ⟨.hbm, 346, rfl⟩
abbrev main_v154 : Ref sig .tc := ⟨.hbm, 347, rfl⟩
abbrev main_v155 : Ref sig .tc := ⟨.hbm, 348, rfl⟩
abbrev main_v156 : Ref sig .tc := ⟨.hbm, 349, rfl⟩
abbrev main_v157 : Ref sig .tc := ⟨.hbm, 350, rfl⟩
abbrev main_v158 : Ref sig .tc := ⟨.hbm, 351, rfl⟩

abbrev nD : Nat := 1
abbrev τ : Topo := Topo.v7x

variable {F : FTy → Type} [FloatOps F]

abbrev main_while0_count : Scf.Loop 32 := ⟨0#32, 8#32, 1#32⟩
-- ==== Ffn.lean ====
abbrev S24576x2048 : Shape := ⟨2, ![24576, 2048]⟩
abbrev S16x9x2048 : Shape := ⟨3, ![16, 9, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S1x9x2048 : Shape := ⟨3, ![1, 9, 2048]⟩
abbrev S2048x512 : Shape := ⟨2, ![2048, 512]⟩
abbrev S9x2048 : Shape := ⟨2, ![9, 2048]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 8
  | .vmem => 14
  | .smem => 0
  | _ => 0

abbrev bufTy : (tb : Table) → Fin (tcTables nBuf tb) → BufTy
  | .hbm, ⟨0, _⟩ => ⟨S24576x2048, .f32⟩
  | .hbm, ⟨1, _⟩ => ⟨S16x9x2048, .f32⟩
  | .hbm, ⟨2, _⟩ => ⟨S1x2048, .f32⟩
  | .hbm, ⟨3, _⟩ => ⟨S2048x11264, .f32⟩
  | .hbm, ⟨4, _⟩ => ⟨S5632x2048, .f32⟩
  | .hbm, ⟨5, _⟩ => ⟨S2048x11264, .bf16⟩
  | .hbm, ⟨6, _⟩ => ⟨S5632x2048, .bf16⟩
  | .hbm, ⟨7, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![48, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S24576x2048 : Shape := ⟨2, ![24576, 2048]⟩
abbrev S16x9x2048 : Shape := ⟨3, ![16, 9, 2048]⟩
abbrev S1x2048 : Shape := ⟨2, ![1, 2048]⟩
abbrev S2048x11264 : Shape := ⟨2, ![2048, 11264]⟩
abbrev S5632x2048 : Shape := ⟨2, ![5632, 2048]⟩
abbrev S8192x2048 : Shape := ⟨2, ![8192, 2048]⟩
abbrev S1x8192x2048 : Shape := ⟨3, ![1, 8192, 2048]⟩
abbrev S1x9x2048 : Shape := ⟨3, ![1, 9, 2048]⟩
abbrev S1x1x2048 : Shape := ⟨3, ![1, 1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x8192x11264 : Shape := ⟨3, ![1, 8192, 11264]⟩
abbrev S1x8192x5632 : Shape := ⟨3, ![1, 8192, 5632]⟩
abbrev S16384x2048 : Shape := ⟨2, ![16384, 2048]⟩
abbrev S8x2048x2048 : Shape := ⟨3, ![8, 2048, 2048]⟩
abbrev S8x9x2048 : Shape := ⟨3, ![8, 9, 2048]⟩
abbrev S8x1x2048 : Shape := ⟨3, ![8, 1, 2048]⟩
abbrev S8x2048 : Shape := ⟨2, ![8, 2048]⟩
abbrev S8x2048x1 : Shape := ⟨3, ![8, 2048, 1]⟩
abbrev S8x2048x11264 : Shape := ⟨3, ![8, 2048, 11264]⟩
abbrev S8x2048x5632 : Shape := ⟨3, ![8, 2048, 5632]⟩

abbrev nBuf : Space → Nat
  | .hbm => 120
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S16x9x2048, .f32⟩
  | .hbm, ⟨2, _⟩ => ⟨S1x2048, .f32⟩
  | .hbm, ⟨3, _⟩ => ⟨S2048x11264, .f32⟩
  | .hbm, ⟨4, _⟩ => ⟨S5632x2048, .f32⟩
  | .hbm, ⟨5, _⟩ => ⟨S8192x2048, .f32⟩
  | .hbm, ⟨6, _⟩ => ⟨S1x8192x2048, .f32⟩
  | .hbm, ⟨7, _⟩ => ⟨S1x9x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S1x1x2048, .f32⟩
  | .hbm, ⟨12, _⟩ => ⟨S1x2048, .f32⟩
  | .hbm, ⟨13, _⟩ => ⟨S1x1x2048, .f32⟩
  | .hbm, ⟨14, _⟩ => ⟨S1x1x2048, .f32⟩
  | .hbm, ⟨15, _⟩ => ⟨S1x2048, .f32⟩
  | .hbm, ⟨16, _⟩ => ⟨S1x1x2048, .f32⟩
  | .hbm, ⟨17, _⟩ => ⟨S2048, .f32⟩
  | .hbm, ⟨18, _⟩ => ⟨S1x8192x2048, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1, .f32⟩
  | .hbm, ⟨29, _⟩ => ⟨S1x8192x2048, .f32⟩
  | .hbm, ⟨30, _⟩ => ⟨S1x8192x2048, .f32⟩
  | .hbm, ⟨31, _⟩ => ⟨S1x1x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x1x2048, .f32⟩
  | .hbm, ⟨36, _⟩ => ⟨S1x1x2048, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S1x8192x2048, .f32⟩
  | .hbm, ⟨41, _⟩ => ⟨S_, .f32⟩
  | .hbm, ⟨42, _⟩ => ⟨S1x1x2048, .f32⟩
  | .hbm, ⟨43, _⟩ => ⟨S1x1x2048, .f32⟩
  | .hbm, ⟨44, _⟩ => ⟨S1x8192x11264, .f32⟩
  | .hbm, ⟨45, _⟩ => ⟨S1x8192x5632, .f32⟩
  | .hbm, ⟨46, _⟩ => ⟨S1x8192x5632, .f32⟩
  | .hbm, ⟨47, _⟩ => ⟨S1x8192x5632, .f32⟩
  | .hbm, ⟨48, _⟩ => ⟨S1x8192x5632, .f32⟩
  | .hbm, ⟨49, _⟩ => ⟨S_, .f32⟩
  | .hbm, ⟨50, _⟩ => ⟨S1x8192x5632, .f32⟩
  | .hbm, ⟨51, _⟩ => ⟨S1x8192x5632, .f32⟩
  | .hbm, ⟨52, _⟩ => ⟨S_, .f32⟩
  | .hbm, ⟨53, _⟩ => ⟨S1x8192x5632, .f32⟩
  | .hbm, ⟨54, _⟩ => ⟨S1x8192x5632, .f32⟩
  | .hbm, ⟨55, _⟩ => ⟨S1x8192x5632, .f32⟩
  | .hbm, ⟨56, _⟩ => ⟨S1x8192x5632, .f32⟩
  | .hbm, ⟨57, _⟩ => ⟨S1x8192x2048, .f32⟩
  | .hbm, ⟨58, _⟩ => ⟨S1x8192x2048, .f32⟩
  | .hbm, ⟨59, _⟩ => ⟨S1x8192x2048, .f32⟩
  | .hbm, ⟨60, _⟩ => ⟨S1x8192x2048, .f32⟩
  | .hbm, ⟨61, _⟩ => ⟨S16384x2048, .f32⟩
  | .hbm, ⟨62, _⟩ => ⟨S8x2048x2048, .f32⟩
  | .hbm, ⟨63, _⟩ => ⟨S8x9x2048, .f32⟩
  | .hbm, ⟨64, _⟩ => ⟨S8x1x2048, .f32⟩
  | .hbm, ⟨65, _⟩ => ⟨S8x2048, .f32⟩
  | .hbm, ⟨66, _⟩ => ⟨S8x1x2048, .f32⟩
  | .hbm, ⟨67, _⟩ => ⟨S8x1x2048, .f32⟩
  | .hbm, ⟨68, _⟩ => ⟨S8x2048, .f32⟩
  | .hbm, ⟨69, _⟩ => ⟨S8x1x2048, .f32⟩
  | .hbm, ⟨70, _⟩ => ⟨S8x1x2048, .f32⟩
  | .hbm, ⟨71, _⟩ => ⟨S8x2048, .f32⟩
  | .hbm, ⟨72, _⟩ => ⟨S8x1x2048, .f32⟩
  | .hbm, ⟨73, _⟩ => ⟨S2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S1x1x2048, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x1x2048, .f32⟩
  | .hbm, ⟨92, _⟩ => ⟨S8x1x2048, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x1x2048, .f32⟩
  | .hbm, ⟨99, _⟩ => ⟨S8x1x2048, .f32⟩
  | .hbm, ⟨100, _⟩ => ⟨S8x2048x11264, .f32⟩
  | .hbm, ⟨101, _⟩ => ⟨S8x2048x5632, .f32⟩
  | .hbm, ⟨102, _⟩ => ⟨S8x2048x5632, .f32⟩
  | .hbm, ⟨103, _⟩ => ⟨S8x2048x5632, .f32⟩
  | .hbm, ⟨104, _⟩ => ⟨S8x2048x5632, .f32⟩
  | .hbm, ⟨105, _⟩ => ⟨S_, .f32⟩
  | .hbm, ⟨106, _⟩ => ⟨S8x2048x5632, .f32⟩
  | .hbm, ⟨107, _⟩ => ⟨S8x2048x5632, .f32⟩
  | .hbm, ⟨108, _⟩ => ⟨S_, .f32⟩
  | .hbm, ⟨109, _⟩ => ⟨S8x2048x5632, .f32⟩
  | .hbm, ⟨110, _⟩ => ⟨S8x2048x5632, .f32⟩
  | .hbm, ⟨111, _⟩ => ⟨S8x2048x5632, .f32⟩
  | .hbm, ⟨112, _⟩ => ⟨S8x2048x5632, .f32⟩
  | .hbm, ⟨113, _⟩ => ⟨S8x2048x2048, .f32⟩
  | .hbm, ⟨114, _⟩ => ⟨S8x2048x2048, .f32⟩
  | .hbm, ⟨115, _⟩ => ⟨S8x2048x2048, .f32⟩
  | .hbm, ⟨116, _⟩ => ⟨S8x2048x2048, .f32⟩
  | .hbm, ⟨117, _⟩ => ⟨S8192x2048, .f32⟩
  | .hbm, ⟨118, _⟩ => ⟨S16384x2048, .f32⟩
  | .hbm, ⟨119, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Ffn1.lean ====
abbrev S24576x2048 : Shape := ⟨2, ![24576, 2048]⟩
abbrev S16x9x2048 : Shape := ⟨3, ![16, 9, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S1x9x2048 : Shape := ⟨3, ![1, 9, 2048]⟩
abbrev S2048x512 : Shape := ⟨2, ![2048, 512]⟩
abbrev S9x2048 : Shape := ⟨2, ![9, 2048]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 10
  | .vmem => 17
  | .smem => 0
  | _ => 0

abbrev bufTy : (tb : Table) → Fin (tcTables nBuf tb) → BufTy
  | .hbm, ⟨0, _⟩ => ⟨S24576x2048, .f32⟩
  | .hbm, ⟨1, _⟩ => ⟨S16x9x2048, .f32⟩
  | .hbm, ⟨2, _⟩ => ⟨S1x2048, .f32⟩
  | .hbm, ⟨3, _⟩ => ⟨S1x2048, .f32⟩
  | .hbm, ⟨4, _⟩ => ⟨S2048x11264, .f32⟩
  | .hbm, ⟨5, _⟩ => ⟨S5632x2048, .f32⟩
  | .hbm, ⟨6, _⟩ => ⟨S2048x11264, .bf16⟩
  | .hbm, ⟨7, _⟩ => ⟨S5632x2048, .bf16⟩
  | .hbm, ⟨8, _⟩ => ⟨S24576x2048, .f32⟩
  | .hbm, ⟨9, _⟩ => ⟨S24576x2048, .bf16⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![48, 11], ![false, false]⟩

def k0_cond2 (i : grid0.Coords) : BitVec 1 :=
  let arg1 : BitVec 32 := BitVec.ofNat 32 (i 1).val
  let c10_i32 : BitVec 32 := 10#32
  let v47 : BitVec 1 := Scalar.cmpi .eq arg1 c10_i32
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Ffn1ReferenceIdeal.lean ====
abbrev S24576x2048 : Shape := ⟨2, ![24576, 2048]⟩
abbrev S16x9x2048 : Shape := ⟨3, ![16, 9, 2048]⟩
abbrev S1x2048 : Shape := ⟨2, ![1, 2048]⟩
abbrev S2048x11264 : Shape := ⟨2, ![2048, 11264]⟩
abbrev S5632x2048 : Shape := ⟨2, ![5632, 2048]⟩
abbrev S8192x2048 : Shape := ⟨2, ![8192, 2048]⟩
abbrev S1x8192x2048 : Shape := ⟨3, ![1, 8192, 2048]⟩
abbrev S1x9x2048 : Shape := ⟨3, ![1, 9, 2048]⟩
abbrev S1x1x2048 : Shape := ⟨3, ![1, 1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x8192x11264 : Shape := ⟨3, ![1, 8192, 11264]⟩
abbrev S1x8192x5632 : Shape := ⟨3, ![1, 8192, 5632]⟩
abbrev S16384x2048 : Shape := ⟨2, ![16384, 2048]⟩
abbrev S8x2048x2048 : Shape := ⟨3, ![8, 2048, 2048]⟩
abbrev S8x9x2048 : Shape := ⟨3, ![8, 9, 2048]⟩
abbrev S8x1x2048 : Shape := ⟨3, ![8, 1, 2048]⟩
abbrev S8x2048 : Shape := ⟨2, ![8, 2048]⟩
abbrev S8x2048x1 : Shape := ⟨3, ![8, 2048, 1]⟩
abbrev S8x2048x11264 : Shape := ⟨3, ![8, 2048, 11264]⟩
abbrev S8x2048x5632 : Shape := ⟨3, ![8, 2048, 5632]⟩

abbrev nBuf : Space → Nat
  | .hbm => 185
  | .vmem => 0
  | .smem => 0
  | _ => 0

abbrev hbmTy0_0 (i : Nat) : BufTy := match i % 128 with
  | 0 => ⟨S24576x2048, .f32⟩
  | 1 => ⟨S16x9x2048, .f32⟩
  | 2 => ⟨S1x2048, .f32⟩
  | 3 => ⟨S1x2048, .f32⟩
  | 4 => ⟨S2048x11264, .f32⟩
  | 5 => ⟨S5632x2048, .f32⟩
  | 6 => ⟨S8192x2048, .f32⟩
  | 7 => ⟨S1x8192x2048, .f32⟩
  | 8 => ⟨S1x9x2048, .f32⟩
  | 9 => ⟨S1x1x2048, .f32⟩
  | 10 => ⟨S1x2048, .f32⟩
  | 11 => ⟨S1x1x2048, .f32⟩
  | 12 => ⟨S1x1x2048, .f32⟩
  | 13 => ⟨S1x2048, .f32⟩
  | 14 => ⟨S1x1x2048, .f32⟩
  | 15 => ⟨S1x1x2048, .f32⟩
  | 16 => ⟨S1x2048, .f32⟩
  | 17 => ⟨S1x1x2048, .f32⟩
  | 18 => ⟨S1x1x2048, .f32⟩
  | 19 => ⟨S1x2048, .f32⟩
  | 20 => ⟨S1x1x2048, .f32⟩
  | 21 => ⟨S1x1x2048, .f32⟩
  | 22 => ⟨S1x2048, .f32⟩
  | 23 => ⟨S1x1x2048, .f32⟩
  | 24 => ⟨S2048, .f32⟩
  | 25 => ⟨S1x8192x2048, .f32⟩
  | 26 => ⟨S_, .f32⟩
  | 27 => ⟨S1x8192, .f32⟩
  | 28 => ⟨S1x8192x1, .f32⟩
  | 29 => ⟨S_, .f32⟩
  | 30 => ⟨S1x8192x1, .f32⟩
  | 31 => ⟨S1x8192x1, .f32⟩
  | 32 => ⟨S_, .f32⟩
  | 33 => ⟨S1x8192x1, .f32⟩
  | 34 => ⟨S1x8192x1, .f32⟩
  | 35 => ⟨S1x8192x1, .f32⟩
  | 36 => ⟨S1x8192x2048, .f32⟩
  | 37 => ⟨S1x8192x2048, .f32⟩
  | 38 => ⟨S1x1x2048, .f32⟩
  | 39 => ⟨S1x8192x2048, .f32⟩
  | 40 => ⟨S1x8192x2048, .f32⟩
  | 41 => ⟨S_, .f32⟩
  | 42 => ⟨S1x1x2048, .f32⟩
  | 43 => ⟨S1x1x2048, .f32⟩
  | 44 => ⟨S1x8192x2048, .f32⟩
  | 45 => ⟨S1x8192x2048, .f32⟩
  | 46 => ⟨S1x8192x2048, .f32⟩
  | 47 => ⟨S1x8192x2048, .f32⟩
  | 48 => ⟨S_, .f32⟩
  | 49 => ⟨S1x1x2048, .f32⟩
  | 50 => ⟨S1x1x2048, .f32⟩
  | 51 => ⟨S1x8192x11264, .f32⟩
  | 52 => ⟨S1x8192x5632, .f32⟩
  | 53 => ⟨S1x8192x5632, .f32⟩
  | 54 => ⟨S1x8192x5632, .f32⟩
  | 55 => ⟨S1x8192x5632, .f32⟩
  | 56 => ⟨S_, .f32⟩
  | 57 => ⟨S1x8192x5632, .f32⟩
  | 58 => ⟨S1x8192x5632, .f32⟩
  | 59 => ⟨S_, .f32⟩
  | 60 => ⟨S1x8192x5632, .f32⟩
  | 61 => ⟨S1x8192x5632, .f32⟩
  | 62 => ⟨S1x8192x5632, .f32⟩
  | 63 => ⟨S1x8192x5632, .f32⟩
  | 64 => ⟨S1x8192x2048, .f32⟩
  | 65 => ⟨S1x8192x2048, .f32⟩
  | 66 => ⟨S1x8192x2048, .f32⟩
  | 67 => ⟨S1x8192x2048, .f32⟩
  | 68 => ⟨S2048, .f32⟩
  | 69 => ⟨S1x8192x2048, .f32⟩
  | 70 => ⟨S_, .f32⟩
  | 71 => ⟨S1x8192, .f32⟩
  | 72 => ⟨S1x8192x1, .f32⟩
  | 73 => ⟨S_, .f32⟩
  | 74 => ⟨S1x8192x1, .f32⟩
  | 75 => ⟨S1x8192x1, .f32⟩
  | 76 => ⟨S_, .f32⟩
  | 77 => ⟨S1x8192x1, .f32⟩
  | 78 => ⟨S1x8192x1, .f32⟩
  | 79 => ⟨S1x8192x1, .f32⟩
  | 80 => ⟨S1x8192x2048, .f32⟩
  | 81 => ⟨S1x8192x2048, .f32⟩
  | 82 => ⟨S1x1x2048, .f32⟩
  | 83 => ⟨S1x8192x2048, .f32⟩
  | 84 => ⟨S1x8192x2048, .f32⟩
  | 85 => ⟨S_, .f32⟩
  | 86 => ⟨S1x1x2048, .f32⟩
  | 87 => ⟨S1x1x2048, .f32⟩
  | 88 => ⟨S1x8192x2048, .f32⟩
  | 89 => ⟨S1x8192x2048, .f32⟩
  | 90 => ⟨S1x8192x2048, .f32⟩
  | 91 => ⟨S1x8192x2048, .f32⟩
  | 92 => ⟨S16384x2048, .f32⟩
  | 93 => ⟨S8x2048x2048, .f32⟩
  | 94 => ⟨S8x9x2048, .f32⟩
  | 95 => ⟨S8x1x2048, .f32⟩
  | 96 => ⟨S8x2048, .f32⟩
  | 97 => ⟨S8x1x2048, .f32⟩
  | 98 => ⟨S8x1x2048, .f32⟩
  | 99 => ⟨S8x2048, .f32⟩
  | 100 => ⟨S8x1x2048, .f32⟩
  | 101 => ⟨S8x1x2048, .f32⟩
  | 102 => ⟨S8x2048, .f32⟩
  | 103 => ⟨S8x1x2048, .f32⟩
  | 104 => ⟨S8x1x2048, .f32⟩
  | 105 => ⟨S8x2048, .f32⟩
  | 106 => ⟨S8x1x2048, .f32⟩
  | 107 => ⟨S8x1x2048, .f32⟩
  | 108 => ⟨S8x2048, .f32⟩
  | 109 => ⟨S8x1x2048, .f32⟩
  | 110 => ⟨S2048, .f32⟩
  | 111 => ⟨S8x2048x2048, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x1, .f32⟩
  | 122 => ⟨S8x2048x2048, .f32⟩
  | 123 => ⟨S8x2048x2048, .f32⟩
  | 124 => ⟨S1x1x2048, .f32⟩
  | 125 => ⟨S8x2048x2048, .f32⟩
  | 126 => ⟨S8x2048x2048, .f32⟩
  | 127 => ⟨S_, .f32⟩
  | _ => ⟨S24576x2048, .f32⟩

abbrev hbmTy0_1 (i : Nat) : BufTy := match i % 128 with
  | 0 => ⟨S8x1x2048, .f32⟩
  | 1 => ⟨S8x1x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S8x1x2048, .f32⟩
  | 8 => ⟨S8x1x2048, .f32⟩
  | 9 => ⟨S8x2048x11264, .f32⟩
  | 10 => ⟨S8x2048x5632, .f32⟩
  | 11 => ⟨S8x2048x5632, .f32⟩
  | 12 => ⟨S8x2048x5632, .f32⟩
  | 13 => ⟨S8x2048x5632, .f32⟩
  | 14 => ⟨S_, .f32⟩
  | 15 => ⟨S8x2048x5632, .f32⟩
  | 16 => ⟨S8x2048x5632, .f32⟩
  | 17 => ⟨S_, .f32⟩
  | 18 => ⟨S8x2048x5632, .f32⟩
  | 19 => ⟨S8x2048x5632, .f32⟩
  | 20 => ⟨S8x2048x5632, .f32⟩
  | 21 => ⟨S8x2048x5632, .f32⟩
  | 22 => ⟨S8x2048x2048, .f32⟩
  | 23 => ⟨S8x2048x2048, .f32⟩
  | 24 => ⟨S8x2048x2048, .f32⟩
  | 25 => ⟨S8x2048x2048, .f32⟩
  | 26 => ⟨S2048, .f32⟩
  | 27 => ⟨S8x2048x2048, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .f32⟩
  | 35 => ⟨S8x2048x1, .f32⟩
  | 36 => ⟨S8x2048x1, .f32⟩
  | 37 => ⟨S8x2048x1, .f32⟩
  | 38 => ⟨S8x2048x2048, .f32⟩
  | 39 => ⟨S8x2048x2048, .f32⟩
  | 40 => ⟨S1x1x2048, .f32⟩
  | 41 => ⟨S8x2048x2048, .f32⟩
  | 42 => ⟨S8x2048x2048, .f32⟩
  | 43 => ⟨S_, .f32⟩
  | 44 => ⟨S8x1x2048, .f32⟩
  | 45 => ⟨S8x1x2048, .f32⟩
  | 46 => ⟨S8x2048x2048, .f32⟩
  | 47 => ⟨S8x2048x2048, .f32⟩
  | 48 => ⟨S8x2048x2048, .f32⟩
  | 49 => ⟨S8x2048x2048, .f32⟩
  | 50 => ⟨S8192x2048, .f32⟩
  | 51 => ⟨S16384x2048, .f32⟩
  | 52 => ⟨S24576x2048, .f32⟩
  | 53 => ⟨S8192x2048, .f32⟩
  | 54 => ⟨S16384x2048, .f32⟩
  | 55 => ⟨S24576x2048, .f32⟩
  | 56 => ⟨S24576x2048, .bf16⟩
  | _ => ⟨S24576x2048, .f32⟩

abbrev hbmTy (i : Nat) : BufTy := match i / 128 with
  | 0 => hbmTy0_0 i
  | 1 => hbmTy0_1 i
  | _ => ⟨S24576x2048, .f32⟩

abbrev bufTy : (tb : Table) → Fin (tcTables nBuf tb) → BufTy
  | .hbm, ⟨i, _⟩ => hbmTy i
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_8 : Ref sig .tc := ⟨.hbm, 112, rfl⟩
abbrev main_v89 : Ref sig .tc := ⟨.hbm, 113, rfl⟩
abbrev main_v90 : Ref sig .tc := ⟨.hbm, 114, rfl⟩
abbrev main_cst_9 : Ref sig .tc := ⟨.hbm, 115, rfl⟩
abbrev main_v91 : Ref sig .tc := ⟨.hbm, 116, rfl⟩
abbrev main_v92 : Ref sig .tc := ⟨.hbm, 117, rfl⟩
abbrev main_cst_10 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_11 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_12 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_13 : Ref sig .tc := ⟨.hbm, 156, rfl⟩
abbrev main_v120 : Ref sig .tc := ⟨.hbm, 157, rfl⟩
abbrev main_v121 : Ref sig .tc := ⟨.hbm, 158, rfl⟩
abbrev main_cst_14 : Ref sig .tc := ⟨.hbm, 159, rfl⟩
abbrev main_v122 : Ref sig .tc := ⟨.hbm, 160, rfl⟩
abbrev main_v123 : Ref sig .tc := ⟨.hbm, 161, rfl⟩
abbrev main_cst_15 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_16 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== Rec.lean ====
abbrev S24576x2048 : Shape := ⟨2, ![24576, 2048]⟩
abbrev S2048x14848 : Shape := ⟨2, ![2048, 14848]⟩
abbrev S2048x4096 : Shape := ⟨2, ![2048, 4096]⟩
abbrev S24576x4096 : Shape := ⟨2, ![24576, 4096]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S2048x4096, .f32⟩
  | .hbm, ⟨3, _⟩ => ⟨S2048x4096, .bf16⟩
  | .hbm, ⟨4, _⟩ => ⟨S24576x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecReferenceIdeal.lean ====
abbrev S24576x2048 : Shape := ⟨2, ![24576, 2048]⟩
abbrev S2048x14848 : Shape := ⟨2, ![2048, 14848]⟩
abbrev S24576x14848 : Shape := ⟨2, ![24576, 14848]⟩
abbrev S24576x512 : Shape := ⟨2, ![24576, 512]⟩
abbrev S24576x256 : Shape := ⟨2, ![24576, 256]⟩
abbrev S24576x1536 : Shape := ⟨2, ![24576, 1536]⟩
abbrev S24576x2560 : Shape := ⟨2, ![24576, 2560]⟩
abbrev S24576x8192 : Shape := ⟨2, ![24576, 8192]⟩
abbrev S24576x4096 : Shape := ⟨2, ![24576, 4096]⟩

abbrev nBuf : Space → Nat
  | .hbm => 15
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S24576x2048, .f32⟩
  | .hbm, ⟨3, _⟩ => ⟨S24576x14848, .f32⟩
  | .hbm, ⟨4, _⟩ => ⟨S24576x512, .f32⟩
  | .hbm, ⟨5, _⟩ => ⟨S24576x256, .f32⟩
  | .hbm, ⟨6, _⟩ => ⟨S24576x256, .f32⟩
  | .hbm, ⟨7, _⟩ => ⟨S24576x512, .f32⟩
  | .hbm, ⟨8, _⟩ => ⟨S24576x512, .f32⟩
  | .hbm, ⟨9, _⟩ => ⟨S24576x512, .f32⟩
  | .hbm, ⟨10, _⟩ => ⟨S24576x1536, .f32⟩
  | .hbm, ⟨11, _⟩ => ⟨S24576x2560, .f32⟩
  | .hbm, ⟨12, _⟩ => ⟨S24576x8192, .f32⟩
  | .hbm, ⟨13, _⟩ => ⟨S24576x4096, .f32⟩
  | .hbm, ⟨14, _⟩ => ⟨S24576x4096, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Gates.lean ====
abbrev S24576x2048 : Shape := ⟨2, ![24576, 2048]⟩
abbrev S2048x14848 : Shape := ⟨2, ![2048, 14848]⟩
abbrev S2048x8192 : Shape := ⟨2, ![2048, 8192]⟩
abbrev S24576x8192 : Shape := ⟨2, ![24576, 8192]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S2048x8192, .f32⟩
  | .hbm, ⟨3, _⟩ => ⟨S2048x8192, .bf16⟩
  | .hbm, ⟨4, _⟩ => ⟨S24576x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S24576x2048 : Shape := ⟨2, ![24576, 2048]⟩
abbrev S2048x14848 : Shape := ⟨2, ![2048, 14848]⟩
abbrev S24576x14848 : Shape := ⟨2, ![24576, 14848]⟩
abbrev S24576x512 : Shape := ⟨2, ![24576, 512]⟩
abbrev S24576x256 : Shape := ⟨2, ![24576, 256]⟩
abbrev S24576x1536 : Shape := ⟨2, ![24576, 1536]⟩
abbrev S24576x2560 : Shape := ⟨2, ![24576, 2560]⟩
abbrev S24576x8192 : Shape := ⟨2, ![24576, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S24576x2048, .f32⟩
  | .hbm, ⟨3, _⟩ => ⟨S24576x14848, .f32⟩
  | .hbm, ⟨4, _⟩ => ⟨S24576x512, .f32⟩
  | .hbm, ⟨5, _⟩ => ⟨S24576x256, .f32⟩
  | .hbm, ⟨6, _⟩ => ⟨S24576x256, .f32⟩
  | .hbm, ⟨7, _⟩ => ⟨S24576x512, .f32⟩
  | .hbm, ⟨8, _⟩ => ⟨S24576x512, .f32⟩
  | .hbm, ⟨9, _⟩ => ⟨S24576x512, .f32⟩
  | .hbm, ⟨10, _⟩ => ⟨S24576x1536, .f32⟩
  | .hbm, ⟨11, _⟩ => ⟨S24576x2560, .f32⟩
  | .hbm, ⟨12, _⟩ => ⟨S24576x8192, .f32⟩
  | .hbm, ⟨13, _⟩ => ⟨S24576x8192, .f32⟩
  | .hbm, ⟨14, _⟩ => ⟨S24576x8192, .f32⟩
  | .hbm, ⟨15, _⟩ => ⟨S_, .f32⟩
  | .hbm, ⟨16, _⟩ => ⟨S24576x8192, .f32⟩
  | .hbm, ⟨17, _⟩ => ⟨S24576x8192, .f32⟩
  | .hbm, ⟨18, _⟩ => ⟨S_, .f32⟩
  | .hbm, ⟨19, _⟩ => ⟨S24576x8192, .f32⟩
  | .hbm, ⟨20, _⟩ => ⟨S24576x8192, .f32⟩
  | .hbm, ⟨21, _⟩ => ⟨S24576x8192, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Norm.lean ====
abbrev S24576x2048 : Shape := ⟨2, ![24576, 2048]⟩
abbrev S2048 : Shape := ⟨1, ![2048]⟩
abbrev S1x2048 : Shape := ⟨2, ![1, 2048]⟩
abbrev S8192x2048 : Shape := ⟨2, ![8192, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S24576x2048 : Shape := ⟨2, ![24576, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S16384x2048 : Shape := ⟨2, ![16384, 2048]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== KV.lean ====
abbrev S24576x2048 : Shape := ⟨2, ![24576, 2048]⟩
abbrev S2048x14848 : Shape := ⟨2, ![2048, 14848]⟩
abbrev S2048x2560 : Shape := ⟨2, ![2048, 2560]⟩
abbrev S24576x2560 : Shape := ⟨2, ![24576, 2560]⟩
abbrev S8192x1536 : Shape := ⟨2, ![8192, 1536]⟩
abbrev S2048x2048 : Shape := ⟨2, ![2048, 2048]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S2048x2560, .f32⟩
  | .hbm, ⟨3, _⟩ => ⟨S2048x2560, .bf16⟩
  | .hbm, ⟨4, _⟩ => ⟨S24576x2560, .f32⟩
  | .hbm, ⟨5, _⟩ => ⟨S8192x1536, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 5], ![false, false]⟩

def k0_cond1 (i : grid0.Coords) : BitVec 1 :=
  let arg0 : BitVec 32 := BitVec.ofNat 32 (i 0).val
  let c4_i32_5 : BitVec 32 := 4#32
  let v10 : BitVec 1 := Scalar.cmpi .slt arg0 c4_i32_5
  let arg1 : BitVec 32 := BitVec.ofNat 32 (i 1).val
  let c1_i32 : BitVec 32 := 1#32
  let v5 : BitVec 1 := Scalar.cmpi .eq arg1 c1_i32
  let c3_i32 : BitVec 32 := 3#32
  let v6 : BitVec 1 := Scalar.cmpi .eq arg1 c3_i32
  let v8 : BitVec 1 := Scalar.ori v5 v6
  let c4_i32 : BitVec 32 := 4#32
  let v7 : BitVec 1 := Scalar.cmpi .eq arg1 c4_i32
  let v9 : BitVec 1 := Scalar.ori v8 v7
  let v11 : BitVec 1 := Scalar.andi v10 v9
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c3_i32_0 : BitVec 32 := 3#32
  let v2 : BitVec 1 := Scalar.cmpi .sge arg1 c3_i32_0
  let v3 : BitVec 32 := Scalar.extui v2
  let c4_i32_1 : BitVec 32 := 4#32
  let v4 : BitVec 1 := Scalar.cmpi .sge arg1 c4_i32_1
  let v5 : BitVec 32 := Scalar.extui v4
  let c0_i32 : BitVec 32 := 0#32
  let v6 : BitVec 32 := Scalar.addi c0_i32 v3
  let v7 : BitVec 32 := Scalar.addi v6 v5
  let c2_i32 : BitVec 32 := 2#32
  let v8 : BitVec 32 := Scalar.select v1 v7 c2_i32
  let c0_i32_2 : BitVec 32 := 0#32
  ![v0.toNat, v8.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KVReferenceIdeal.lean ====
abbrev S24576x2048 : Shape := ⟨2, ![24576, 2048]⟩
abbrev S2048x14848 : Shape := ⟨2, ![2048, 14848]⟩
abbrev S24576x14848 : Shape := ⟨2, ![24576, 14848]⟩
abbrev S24576x512 : Shape := ⟨2, ![24576, 512]⟩
abbrev S24576x256 : Shape := ⟨2, ![24576, 256]⟩
abbrev S24576x1536 : Shape := ⟨2, ![24576, 1536]⟩
abbrev S24576x2560 : Shape := ⟨2, ![24576, 2560]⟩
abbrev S24576x8192 : Shape := ⟨2, ![24576, 8192]⟩
abbrev S8192x1536 : Shape := ⟨2, ![8192, 1536]⟩

abbrev nBuf : Space → Nat
  | .hbm => 16
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x14848, .f32⟩
  | .hbm, ⟨2, _⟩ => ⟨S24576x2048, .f32⟩
  | .hbm, ⟨3, _⟩ => ⟨S24576x14848, .f32⟩
  | .hbm, ⟨4, _⟩ => ⟨S24576x512, .f32⟩
  | .hbm, ⟨5, _⟩ => ⟨S24576x256, .f32⟩
  | .hbm, ⟨6, _⟩ => ⟨S24576x256, .f32⟩
  | .hbm, ⟨7, _⟩ => ⟨S24576x512, .f32⟩
  | .hbm, ⟨8, _⟩ => ⟨S24576x512, .f32⟩
  | .hbm, ⟨9, _⟩ => ⟨S24576x512, .f32⟩
  | .hbm, ⟨10, _⟩ => ⟨S24576x1536, .f32⟩
  | .hbm, ⟨11, _⟩ => ⟨S24576x2560, .f32⟩
  | .hbm, ⟨12, _⟩ => ⟨S24576x8192, .f32⟩
  | .hbm, ⟨13, _⟩ => ⟨S24576x2560, .f32⟩
  | .hbm, ⟨14, _⟩ => ⟨S24576x1536, .f32⟩
  | .hbm, ⟨15, _⟩ => ⟨S8192x1536, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Proof.Chunk.lean ====
/- One chunk of 128 rows of the recurrence, for one head and one direction, as functions of the
   chunk's blocks of q, the gate and v, of the state the chunk finds, of the 0/1 matrix `tri` and
   the matrix of levels `lvl`. The kernel computes the same text eight times in each trip of its
   loop (four heads, two directions); here it is written once. -/
module

public import proofs.«01_k».proof.Proof.Gen.KernelIdeal.Loops

@[expose] public section

noncomputable section

namespace Cert.KernelIdeal.Chunk
open Idealize.ShloMosaic Idealize.ShloMosaic.TcCoe
open Cert.KernelIdeal Cert.KernelIdeal.Gen

variable {F : FTy → Type} [FloatOps F] [Named F]

/-- A splat of a literal. -/
abbrev lit (s : Shape) (w : BitVec 32) : FVec F s .f32 := broadcast s (Scalar.ofBits .f32 w : F .f32)

/-- `x · (tanh(x/2)/2 + 1/2)`, the kernel's `x · sigmoid x`. -/
def swish (x : Vec F S128x128 .bf16) : FVec F S128x128 .f32 :=
  mulf (extf .f32 x bitsLt_bf16_f32)
    (addf (mulf (lit S128x128 0x3F000000#32) (tanh (mulf (lit S128x128 0x3F000000#32) (extf .f32 x bitsLt_bf16_f32))))
      (lit S128x128 0x3F000000#32))

/-- `exp(-|z|)`. -/
def gateE (z : Vec F S128x128 .bf16) : FVec F S128x128 .f32 :=
  exp (subf (lit S128x128 0x00000000#32) (absf (extf .f32 z bitsLt_bf16_f32)))

/-- `1/(1 + exp(-|z|))`. -/
def gateR (z : Vec F S128x128 .bf16) : FVec F S128x128 .f32 :=
  divf (lit S128x128 0x3F800000#32) (addf (lit S128x128 0x3F800000#32) (gateE z))

/-- `z ≥ 0`. -/
def gateC (z : Vec F S128x128 .bf16) : IVec S128x128 1 :=
  cmpf .oge (extf .f32 z bitsLt_bf16_f32) (lit S128x128 0x00000000#32)

/-- `sigmoid z`, without an overflow. -/
def gatePos (z : Vec F S128x128 .bf16) : FVec F S128x128 .f32 :=
  select (gateC z) (gateR z) (mulf (gateE z) (gateR z))

/-- `sigmoid (-z)`, without an overflow. -/
def gateNeg (z : Vec F S128x128 .bf16) : FVec F S128x128 .f32 :=
  select (gateC z) (mulf (gateE z) (gateR z)) (gateR z)

/-- The base-two logarithm of the forget gate. -/
def gateG (lb : FVec F S1x128 .f32) (z : Vec F S128x128 .bf16) : FVec F S128x128 .f32 :=
  mulf (log (addf (gatePos z)
      (mulf (broadcastTo S128x128 (maximumf lb (lit S1x128 0x0DA24260#32)) broadcasts_S1x128_S128x128) (gateNeg z))))
    (broadcast S128x128 (Named.named κ "log2e" 0x3FB8AA3B#32 : F .f32))

/-- The key `(1 - lower bound) · sigmoid(-z)`. -/
def gateK (lb : FVec F S1x128 .f32) (z : Vec F S128x128 .bf16) : FVec F S128x128 .f32 :=
  mulf (broadcastTo S128x128 (subf (lit S1x128 0x3F800000#32) lb) broadcasts_S1x128_S128x128) (gateNeg z)

/-- The value's block, through f32. -/
def val (v : Vec F S128x128 .bf16) : FVec F S128x128 .bf16 :=
  truncf .bf16 (extf .f32 v bitsLt_bf16_f32) bitsLt_bf16_f32

/-- The sums of `g` over the rows `tri` selects, in two products. -/
def csum (tri : Vec F S1x128x128 .bf16) (g : FVec F S128x128 .f32) : FVec F S128x128 .f32 :=
  addf (matmul dot_S128x128_S128x128_S128x128_1_0_0_1_n_n none
      (shapeCast S128x128 tri shapeCasts_S1x128x128_S128x128 : FVec F S128x128 .bf16)
      (truncf .bf16 g bitsLt_bf16_f32) (constant S128x128 .f32 0x00000000#32))
    (matmul dot_S128x128_S128x128_S128x128_1_0_0_1_n_n none
      (shapeCast S128x128 tri shapeCasts_S1x128x128_S128x128 : FVec F S128x128 .bf16)
      (truncf .bf16 (subf g (extf .f32 (truncf .bf16 g bitsLt_bf16_f32) bitsLt_bf16_f32)) bitsLt_bf16_f32)
      (constant S128x128 .f32 0x00000000#32))

/-- The row that holds the whole sum: the last row going forwards, the first going backwards. -/
def totRow : Bool → FVec F S128x128 .f32 → FVec F S1x128 .f32
  | false, b => extractStridedSlice S1x128 ![127, 0] b slices_S128x128_o127_0_S1x128
  | true, b => extractStridedSlice S1x128 ![0, 0] b slices_S128x128_o0_0_S1x128

/-- The state after the chunk, from the state before it (transposed: value by key). -/
def stNew (d : Bool) (lb : FVec F S1x128 .f32) (z v : Vec F S128x128 .bf16) (st : Vec F S1x128x128 .f32)
    (tri : Vec F S1x128x128 .bf16) : FVec F S1x128x128 .f32 :=
  let b := csum tri (gateG lb z)
  shapeCast S1x128x128
    (addf (mulf (shapeCast S128x128 st shapeCasts_S1x128x128_S128x128 : FVec F S128x128 .f32)
        (broadcastTo S128x128 (exp2 (totRow d b)) broadcasts_S1x128_S128x128))
      (matmul dot_S128x128_S128x128_S128x128_0_0_1_1_n_n none (val v)
        (truncf .bf16 (mulf (gateK lb z) (exp2 (subf (broadcastTo S128x128 (totRow d b) broadcasts_S1x128_S128x128) b)))
          bitsLt_bf16_f32)
        (constant S128x128 .f32 0x00000000#32)))
    shapeCasts_S128x128_S1x128x128

/-- The products of queries and keys at one level, both scaled to the level's middle row. -/
def pairs (s3 : Shape) (h : S128x128.ShapeCasts s3) (h' : s3.ShapeCasts S128x128)
    (b q k : FVec F S128x128 .f32) (mid : FVec F s3 .f32) : FVec F S128x128 .f32 :=
  let e : FVec F s3 .f32 := exp2 (subf (lit s3 0x00000000#32) (absf (subf (shapeCast s3 b h) mid)))
  matmul dot_S128x128_S128x128_S128x128_1_1_0_0_n_n none
    (truncf .bf16 (shapeCast S128x128 (mulf (shapeCast s3 q h) e) h' : FVec F S128x128 .f32) bitsLt_bf16_f32)
    (truncf .bf16 (shapeCast S128x128 (mulf (shapeCast s3 k h) e) h' : FVec F S128x128 .f32) bitsLt_bf16_f32)
    (constant S128x128 .f32 0x00000000#32)

/-- Where the level is `n` take `a`, elsewhere keep `r`. -/
def pick (lvl : Vec F S1x128x128 .i32) (n : BitVec 32) (a r : FVec F S128x128 .f32) : FVec F S128x128 .f32 :=
  select (cmpi .eq (shapeCast S128x128 lvl shapeCasts_S1x128x128_S128x128 : IVec S128x128 32) (broadcast S128x128 n)) a r

/-- The middle rows of level 2 (blocks of four, two to a group of eight rows). -/
def mid2 (lo hi : FVec F S16x1x128 .f32) : FVec F S16x8x128 .f32 :=
  select (cmpi .sge (iota .tc S16x8x128 32 [1] iota_S16x8x128_d1_w32) (broadcast S16x8x128 4#32))
    (broadcastTo S16x8x128 (shapeCast S16x1x128 hi shapeCasts_S16x1x128_S16x1x128) broadcasts_S16x1x128_S16x8x128)
    (broadcastTo S16x8x128 (shapeCast S16x1x128 lo shapeCasts_S16x1x128_S16x1x128) broadcasts_S16x1x128_S16x8x128)

def midA : Bool → FVec F S128x128 .f32 → FVec F S16x8x128 .f32
  | false, b => mid2 (extractStridedSlice S16x1x128 ![0, 1, 0] (shapeCast S16x8x128 b shapeCasts_S128x128_S16x8x128 : FVec F S16x8x128 .f32) slices_S16x8x128_o0_1_0_S16x1x128)
      (extractStridedSlice S16x1x128 ![0, 5, 0] (shapeCast S16x8x128 b shapeCasts_S128x128_S16x8x128 : FVec F S16x8x128 .f32) slices_S16x8x128_o0_5_0_S16x1x128)
  | true, b => mid2 (extractStridedSlice S16x1x128 ![0, 2, 0] (shapeCast S16x8x128 b shapeCasts_S128x128_S16x8x128 : FVec F S16x8x128 .f32) slices_S16x8x128_o0_2_0_S16x1x128)
      (extractStridedSlice S16x1x128 ![0, 6, 0] (shapeCast S16x8x128 b shapeCasts_S128x128_S16x8x128 : FVec F S16x8x128 .f32) slices_S16x8x128_o0_6_0_S16x1x128)

def midB : Bool → FVec F S128x128 .f32 → FVec F S16x8x128 .f32
  | false, b => broadcastTo S16x8x128 (extractStridedSlice S16x1x128 ![0, 3, 0] (shapeCast S16x8x128 b shapeCasts_S128x128_S16x8x128 : FVec F S16x8x128 .f32) slices_S16x8x128_o0_3_0_S16x1x128) broadcasts_S16x1x128_S16x8x128
  | true, b => broadcastTo S16x8x128 (extractStridedSlice S16x1x128 ![0, 4, 0] (shapeCast S16x8x128 b shapeCasts_S128x128_S16x8x128 : FVec F S16x8x128 .f32) slices_S16x8x128_o0_4_0_S16x1x128) broadcasts_S16x1x128_S16x8x128

def midC : Bool → FVec F S128x128 .f32 → FVec F S8x16x128 .f32
  | false, b => broadcastTo S8x16x128 (extractStridedSlice S8x1x128 ![0, 7, 0] (shapeCast S8x16x128 b shapeCasts_S128x128_S8x16x128 : FVec F S8x16x128 .f32) slices_S8x16x128_o0_7_0_S8x1x128) broadcasts_S8x1x128_S8x16x128
  | true, b => broadcastTo S8x16x128 (extractStridedSlice S8x1x128 ![0, 8, 0] (shapeCast S8x16x128 b shapeCasts_S128x128_S8x16x128 : FVec F S8x16x128 .f32) slices_S8x16x128_o0_8_0_S8x1x128) broadcasts_S8x1x128_S8x16x128

def midD : Bool → FVec F S128x128 .f32 → FVec F S4x32x128 .f32
  | false, b => broadcastTo S4x32x128 (extractStridedSlice S4x1x128 ![0, 15, 0] (shapeCast S4x32x128 b shapeCasts_S128x128_S4x32x128 : FVec F S4x32x128 .f32) slices_S4x32x128_o0_15_0_S4x1x128) broadcasts_S4x1x128_S4x32x128
  | true, b => broadcastTo S4x32x128 (extractStridedSlice S4x1x128 ![0, 16, 0] (shapeCast S4x32x128 b shapeCasts_S128x128_S4x32x128 : FVec F S4x32x128 .f32) slices_S4x32x128_o0_16_0_S4x1x128) broadcasts_S4x1x128_S4x32x128

def midE : Bool → FVec F S128x128 .f32 → FVec F S2x64x128 .f32
  | false, b => broadcastTo S2x64x128 (extractStridedSlice S2x1x128 ![0, 31, 0] (shapeCast S2x64x128 b shapeCasts_S128x128_S2x64x128 : FVec F S2x64x128 .f32) slices_S2x64x128_o0_31_0_S2x1x128) broadcasts_S2x1x128_S2x64x128
  | true, b => broadcastTo S2x64x128 (extractStridedSlice S2x1x128 ![0, 32, 0] (shapeCast S2x64x128 b shapeCasts_S128x128_S2x64x128 : FVec F S2x64x128 .f32) slices_S2x64x128_o0_32_0_S2x1x128) broadcasts_S2x1x128_S2x64x128

def midF : Bool → FVec F S128x128 .f32 → FVec F S1x128x128 .f32
  | false, b => broadcastTo S1x128x128 (extractStridedSlice S1x1x128 ![0, 63, 0] (shapeCast S1x128x128 b shapeCasts_S128x128_S1x128x128 : FVec F S1x128x128 .f32) slices_S1x128x128_o0_63_0_S1x1x128) broadcasts_S1x1x128_S1x128x128
  | true, b => broadcastTo S1x128x128 (extractStridedSlice S1x1x128 ![0, 64, 0] (shapeCast S1x128x128 b shapeCasts_S128x128_S1x128x128 : FVec F S1x128x128 .f32) slices_S1x128x128_o0_64_0_S1x1x128) broadcasts_S1x1x128_S1x128x128

/-- The chunk's matrix of query-key products, level by level. -/
def attn (d : Bool) (g b q k : FVec F S128x128 .f32) (lvl : Vec F S1x128x128 .i32) : FVec F S128x128 .f32 :=
  pick lvl 7#32 (pairs S1x128x128 shapeCasts_S128x128_S1x128x128 shapeCasts_S1x128x128_S128x128 b q k (midF d b)) <|
  pick lvl 6#32 (pairs S2x64x128 shapeCasts_S128x128_S2x64x128 shapeCasts_S2x64x128_S128x128 b q k (midE d b)) <|
  pick lvl 5#32 (pairs S4x32x128 shapeCasts_S128x128_S4x32x128 shapeCasts_S4x32x128_S128x128 b q k (midD d b)) <|
  pick lvl 4#32 (pairs S8x16x128 shapeCasts_S128x128_S8x16x128 shapeCasts_S8x16x128_S128x128 b q k (midC d b)) <|
  pick lvl 3#32 (pairs S16x8x128 shapeCasts_S128x128_S16x8x128 shapeCasts_S16x8x128_S128x128 b q k (midB d b)) <|
  pick lvl 2#32 (pairs S16x8x128 shapeCasts_S128x128_S16x8x128 shapeCasts_S16x8x128_S128x128 b q k (midA d b)) <|
  pick lvl 1#32 (matmul dot_S128x128_S128x128_S128x128_1_1_0_0_n_n none
      (truncf .bf16 (mulf q (exp2 g)) bitsLt_bf16_f32) (truncf .bf16 k bitsLt_bf16_f32)
      (constant S128x128 .f32 0x00000000#32)) <|
  pick lvl 0#32 (broadcastTo S128x128
      (shapeCast S128x1 (shapeCast S128x1
        (multiReduction .add [1] S128 (mulf q k) 0x00000000#32 reduces_S128x128_S128 (.inl rfl) rfl : FVec F S128 .f32)
        shapeCasts_S128_S128x1 : FVec F S128x1 .f32) shapeCasts_S128x1_S128x1 : FVec F S128x1 .f32)
      broadcasts_S128x1_S128x128)
    (lit S128x128 0x00000000#32)

/-- The chunk's rows of the output. -/
def oNew (d : Bool) (lb : FVec F S1x128 .f32) (q z v : Vec F S128x128 .bf16) (st : Vec F S1x128x128 .f32)
    (tri : Vec F S1x128x128 .bf16) (lvl : Vec F S1x128x128 .i32) : FVec F S128x128 .f32 :=
  let g := gateG lb z
  let b := csum tri g
  let qq := swish q
  shapeCast S128x128
    (addf (matmul dot_S128x128_S128x128_S128x128_1_1_0_0_n_n none
        (truncf .bf16 (mulf qq (exp2 b)) bitsLt_bf16_f32)
        (truncf .bf16 (shapeCast S128x128 st shapeCasts_S1x128x128_S128x128 : FVec F S128x128 .f32) bitsLt_bf16_f32)
        (constant S128x128 .f32 0x00000000#32))
      (matmul dot_S128x128_S128x128_S128x128_1_0_0_1_n_n none
        (truncf .bf16 (attn d g b qq (gateK lb z) lvl) bitsLt_bf16_f32) (val v)
        (constant S128x128 .f32 0x00000000#32)))
    shapeCasts_S128x128_S128x128

end Cert.KernelIdeal.Chunk
-- ==== Proof.Trip.lean ====
/- What one trip of the kernel's loop stores: the sixteen blocks it writes are one chunk of the
   recurrence, for each of four heads and two directions. -/
module

public import proofs.«01_k».proof.Proof.Chunk

@[expose] public section

set_option maxRecDepth 16384
set_option maxHeartbeats 4000000

noncomputable section

namespace Cert.KernelIdeal.Chunk
open Idealize.ShloMosaic Idealize.ShloMosaic.TcCoe
open Cert.KernelIdeal Cert.KernelIdeal.Gen

variable {F : FTy → Type} [FloatOps F] [Named F]
variable (arg4 arg5 arg6 arg7 : Memref sig .tc .vmem S256x512 .bf16)
  (arg13 : Memref sig .tc .vmem S8x128x128 .f32) (arg14 : Memref sig .tc .vmem S2x128x128 .bf16)
  (arg15 : Memref sig .tc .vmem S2x128x128 .i32)
  (lb : FVec F S1x128 .f32) (lbs : FVec F S1x512 .f32)
  (X4 : BufTy.Contents (Elt F) arg4.view.ty) (X5 : BufTy.Contents (Elt F) arg5.view.ty)
  (X6 : BufTy.Contents (Elt F) arg6.view.ty) (X7 : BufTy.Contents (Elt F) arg7.view.ty)
  (X14 : BufTy.Contents (Elt F) arg14.view.ty) (X15 : BufTy.Contents (Elt F) arg15.view.ty)
  (k : Fin k0_t1_loop.trips) (f13 : BufTy.Contents (Elt F) arg13.view.ty)

/-- A block of 128 rows and 128 columns of a 256 by 512 buffer. -/
abbrev blk (a : Memref sig .tc .vmem S256x512 .bf16) (X : BufTy.Contents (Elt F) a.view.ty) (off : Fin 2 → ℕ)
    (h : ∀ x, off x + S128x128.size x ≤ S256x512.size x) : Vec F S128x128 .bf16 :=
  View.readAt (Elt F) a.view (Rect.unit (s := S256x512) off S128x128.size h).toLoadRect X

/-- One of the eight states. -/
abbrev slot (c : ℕ) (h : ∀ x, (![c, 0, 0] : Fin 3 → ℕ) x + S1x128x128.size x ≤ S8x128x128.size x) : Vec F S1x128x128 .f32 :=
  View.readAt (Elt F) arg13.view (Rect.unit (s := S8x128x128) ![c, 0, 0] S1x128x128.size h).toLoadRect f13

/-- One of the two 0/1 matrices. -/
abbrev triOf (c : ℕ) (h : ∀ x, (![c, 0, 0] : Fin 3 → ℕ) x + S1x128x128.size x ≤ S2x128x128.size x) : Vec F S1x128x128 .bf16 :=
  View.readAt (Elt F) arg14.view (Rect.unit (s := S2x128x128) ![c, 0, 0] S1x128x128.size h).toLoadRect X14

/-- One of the two matrices of levels. -/
abbrev lvlOf (c : ℕ) (h : ∀ x, (![c, 0, 0] : Fin 3 → ℕ) x + S1x128x128.size x ≤ S2x128x128.size x) : Vec F S1x128x128 .i32 :=
  View.readAt (Elt F) arg15.view (Rect.unit (s := S2x128x128) ![c, 0, 0] S1x128x128.size h).toLoadRect X15

theorem st0 : trip_k0_t1.sl.v534 arg5 arg7 arg13 arg14 lb X5 X7 X14 k f13
    = stNew false lb (blk arg5 X5 (k0_off1 k) (k0_off1_inb k)) (blk arg7 X7 (k0_off1 k) (k0_off1_inb k))
        (slot arg13 f13 0 inb_S8x128x128_S1x128x128_0_0_0) (triOf arg14 X14 0 inb_S2x128x128_S1x128x128_0_0_0) := rfl

theorem o0 : trip_k0_t1.sl.v538 arg4 arg5 arg7 arg13 arg14 arg15 lb X4 X5 X7 X14 X15 k f13
    = oNew false lb (blk arg4 X4 (k0_off1 k) (k0_off1_inb k)) (blk arg5 X5 (k0_off1 k) (k0_off1_inb k)) (blk arg7 X7 (k0_off1 k) (k0_off1_inb k))
        (slot arg13 f13 0 inb_S8x128x128_S1x128x128_0_0_0) (triOf arg14 X14 0 inb_S2x128x128_S1x128x128_0_0_0)
        (lvlOf arg15 X15 0 inb_S2x128x128_S1x128x128_0_0_0) := rfl

theorem st1 : trip_k0_t1.sl.v765 arg6 arg7 arg13 arg14 lb X6 X7 X14 k f13
    = stNew true lb (blk arg6 X6 (k0_off2 k) (k0_off2_inb k)) (blk arg7 X7 (k0_off2 k) (k0_off2_inb k))
        (slot arg13 f13 1 inb_S8x128x128_S1x128x128_1_0_0) (triOf arg14 X14 1 inb_S2x128x128_S1x128x128_1_0_0) := rfl

theorem o1 : trip_k0_t1.sl.v769 arg4 arg6 arg7 arg13 arg14 arg15 lb X4 X6 X7 X14 X15 k f13
    = oNew true lb (blk arg4 X4 (k0_off2 k) (k0_off2_inb k)) (blk arg6 X6 (k0_off2 k) (k0_off2_inb k)) (blk arg7 X7 (k0_off2 k) (k0_off2_inb k))
        (slot arg13 f13 1 inb_S8x128x128_S1x128x128_1_0_0) (triOf arg14 X14 1 inb_S2x128x128_S1x128x128_1_0_0)
        (lvlOf arg15 X15 1 inb_S2x128x128_S1x128x128_1_0_0) := rfl

theorem st2 : trip_k0_t1.sl.v995 arg5 arg7 arg13 arg14 lb X5 X7 X14 k f13
    = stNew false lb (blk arg5 X5 (k0_off3 k) (k0_off3_inb k)) (blk arg7 X7 (k0_off3 k) (k0_off3_inb k))
        (slot arg13 f13 2 inb_S8x128x128_S1x128x128_2_0_0) (triOf arg14 X14 0 inb_S2x128x128_S1x128x128_0_0_0) := rfl

theorem o2 : trip_k0_t1.sl.v999 arg4 arg5 arg7 arg13 arg14 arg15 lb X4 X5 X7 X14 X15 k f13
    = oNew false lb (blk arg4 X4 (k0_off3 k) (k0_off3_inb k)) (blk arg5 X5 (k0_off3 k) (k0_off3_inb k)) (blk arg7 X7 (k0_off3 k) (k0_off3_inb k))
        (slot arg13 f13 2 inb_S8x128x128_S1x128x128_2_0_0) (triOf arg14 X14 0 inb_S2x128x128_S1x128x128_0_0_0)
        (lvlOf arg15 X15 0 inb_S2x128x128_S1x128x128_0_0_0) := rfl

theorem st3 : k0_pay119 (trip_k0_t1.sl.v1075 arg6 arg7 arg13 arg14 lbs X6 X7 X14 k f13)
    = stNew true (extractStridedSlice S1x128 ![0, 128] lbs slices_S1x512_o0_128_S1x128) (blk arg6 X6 (k0_off4 k) (k0_off4_inb k)) (blk arg7 X7 (k0_off4 k) (k0_off4_inb k))
        (slot arg13 f13 3 inb_S8x128x128_S1x128x128_3_0_0) (triOf arg14 X14 1 inb_S2x128x128_S1x128x128_1_0_0) := rfl

theorem o3 : k0_pay120 (trip_k0_t1.sl.r_26 arg7 X7 k) (trip_k0_t1.sl.r_27 arg4 arg6 arg13 arg14 lbs X4 X6 X14 k f13)
      (trip_k0_t1.sl.v1220 arg4 arg6 arg14 arg15 lbs X4 X6 X14 X15 k)
    = oNew true (extractStridedSlice S1x128 ![0, 128] lbs slices_S1x512_o0_128_S1x128) (blk arg4 X4 (k0_off4 k) (k0_off4_inb k)) (blk arg6 X6 (k0_off4 k) (k0_off4_inb k)) (blk arg7 X7 (k0_off4 k) (k0_off4_inb k))
        (slot arg13 f13 3 inb_S8x128x128_S1x128x128_3_0_0) (triOf arg14 X14 1 inb_S2x128x128_S1x128x128_1_0_0)
        (lvlOf arg15 X15 1 inb_S2x128x128_S1x128x128_1_0_0) := rfl

theorem st4 : trip_k0_t1.sl.v1456 arg5 arg7 arg13 arg14 lb X5 X7 X14 k f13
    = stNew false lb (blk arg5 X5 (k0_off5 k) (k0_off5_inb k)) (blk arg7 X7 (k0_off5 k) (k0_off5_inb k))
        (slot arg13 f13 4 inb_S8x128x128_S1x128x128_4_0_0) (triOf arg14 X14 0 inb_S2x128x128_S1x128x128_0_0_0) := rfl

theorem o4 : k0_pay148 (trip_k0_t1.sl.v1453 arg4 arg5 arg7 arg13 arg14 arg15 lb X4 X5 X7 X14 X15 k f13)
    = oNew false lb (blk arg4 X4 (k0_off5 k) (k0_off5_inb k)) (blk arg5 X5 (k0_off5 k) (k0_off5_inb k)) (blk arg7 X7 (k0_off5 k) (k0_off5_inb k))
        (slot arg13 f13 4 inb_S8x128x128_S1x128x128_4_0_0) (triOf arg14 X14 0 inb_S2x128x128_S1x128x128_0_0_0)
        (lvlOf arg15 X15 0 inb_S2x128x128_S1x128x128_0_0_0) := rfl

theorem st5 : trip_k0_t1.sl.v1687 arg6 arg7 arg13 arg14 lbs X6 X7 X14 k f13
    = stNew true (extractStridedSlice S1x128 ![0, 256] lbs slices_S1x512_o0_256_S1x128) (blk arg6 X6 (k0_off6 k) (k0_off6_inb k)) (blk arg7 X7 (k0_off6 k) (k0_off6_inb k))
        (slot arg13 f13 5 inb_S8x128x128_S1x128x128_5_0_0) (triOf arg14 X14 1 inb_S2x128x128_S1x128x128_1_0_0) := rfl

theorem o5 : trip_k0_t1.sl.v1691 arg4 arg6 arg7 arg13 arg14 arg15 lbs X4 X6 X7 X14 X15 k f13
    = oNew true (extractStridedSlice S1x128 ![0, 256] lbs slices_S1x512_o0_256_S1x128) (blk arg4 X4 (k0_off6 k) (k0_off6_inb k)) (blk arg6 X6 (k0_off6 k) (k0_off6_inb k)) (blk arg7 X7 (k0_off6 k) (k0_off6_inb k))
        (slot arg13 f13 5 inb_S8x128x128_S1x128x128_5_0_0) (triOf arg14 X14 1 inb_S2x128x128_S1x128x128_1_0_0)
        (lvlOf arg15 X15 1 inb_S2x128x128_S1x128x128_1_0_0) := rfl

theorem st6 : trip_k0_t1.sl.v1917 arg5 arg7 arg13 arg14 lb X5 X7 X14 k f13
    = stNew false lb (blk arg5 X5 (k0_off7 k) (k0_off7_inb k)) (blk arg7 X7 (k0_off7 k) (k0_off7_inb k))
        (slot arg13 f13 6 inb_S8x128x128_S1x128x128_6_0_0) (triOf arg14 X14 0 inb_S2x128x128_S1x128x128_0_0_0) := rfl

theorem o6 : trip_k0_t1.sl.v1921 arg4 arg5 arg7 arg13 arg14 arg15 lb X4 X5 X7 X14 X15 k f13
    = oNew false lb (blk arg4 X4 (k0_off7 k) (k0_off7_inb k)) (blk arg5 X5 (k0_off7 k) (k0_off7_inb k)) (blk arg7 X7 (k0_off7 k) (k0_off7_inb k))
        (slot arg13 f13 6 inb_S8x128x128_S1x128x128_6_0_0) (triOf arg14 X14 0 inb_S2x128x128_S1x128x128_0_0_0)
        (lvlOf arg15 X15 0 inb_S2x128x128_S1x128x128_0_0_0) := rfl

theorem st7 : k0_pay275 (trip_k0_t1.sl.v1997 arg6 arg7 arg13 arg14 lbs X6 X7 X14 k f13)
    = stNew true (extractStridedSlice S1x128 ![0, 384] lbs slices_S1x512_o0_384_S1x128) (blk arg6 X6 (k0_off8 k) (k0_off8_inb k)) (blk arg7 X7 (k0_off8 k) (k0_off8_inb k))
        (slot arg13 f13 7 inb_S8x128x128_S1x128x128_7_0_0) (triOf arg14 X14 1 inb_S2x128x128_S1x128x128_1_0_0) := rfl

theorem o7 : k0_pay276 (trip_k0_t1.sl.r_48 arg4 arg6 arg7 arg13 arg14 arg15 lbs X4 X6 X7 X14 X15 k f13)
    = oNew true (extractStridedSlice S1x128 ![0, 384] lbs slices_S1x512_o0_384_S1x128) (blk arg4 X4 (k0_off8 k) (k0_off8_inb k)) (blk arg6 X6 (k0_off8 k) (k0_off8_inb k)) (blk arg7 X7 (k0_off8 k) (k0_off8_inb k))
        (slot arg13 f13 7 inb_S8x128x128_S1x128x128_7_0_0) (triOf arg14 X14 1 inb_S2x128x128_S1x128x128_1_0_0)
        (lvlOf arg15 X15 1 inb_S2x128x128_S1x128x128_1_0_0) := rfl

end Cert.KernelIdeal.Chunk
-- ==== Proof.LoopVal.lean ====
/- What the kernel's loop leaves: after its two trips the eight states and the two output buffers
   are those of the recurrence taken chunk by chunk, as functions of the blocks alone. -/
module

public import proofs.«01_k».proof.Proof.Trip
public import Idealize.ShloMosaic.Lib.Pointwise
public import Idealize.ShloMosaic.Lib.Pipeline.ValueKit.Tiles

@[expose] public section

set_option maxRecDepth 16384
set_option maxHeartbeats 4000000

noncomputable section

namespace Cert.KernelIdeal.Chunk
open Idealize.ShloMosaic Idealize.ShloMosaic.TcCoe
open Cert.KernelIdeal Cert.KernelIdeal.Gen

variable {F : FTy → Type} [FloatOps F] [Named F]

/-- The lower bounds of one head. -/
def lbh (L : FVec F S1x512 .f32) (h : Fin 4) : FVec F S1x128 .f32 :=
  fun i => L (ix2 (n0 := 1) (n1 := 512) 0 ⟨128 * h.val + (i 1).val, by have : (i 1).val < 128 := (i 1).isLt; omega⟩)

/-- The block of 128 rows and one head. -/
def blkV (X : Vec F S256x512 .bf16) (r : Fin 2) (h : Fin 4) : Vec F S128x128 .bf16 :=
  fun i => X (ix2 (n0 := 256) (n1 := 512) ⟨128 * r.val + (i 0).val, by have : (i 0).val < 128 := (i 0).isLt; omega⟩
    ⟨128 * h.val + (i 1).val, by have : (i 1).val < 128 := (i 1).isLt; omega⟩)

/-- One matrix of a stack. -/
def sub3 {α : Type} {n : ℕ} (X : (⟨3, ![n, 128, 128]⟩ : Shape).Idx → α) (c : Fin n) : S1x128x128.Idx → α :=
  fun i => X (ix3 c (i 1) (i 2))

/-- Which block of rows trip `k` handles. -/
def rb (d : Bool) (k : Fin 2) : Fin 2 := if d then ⟨1 - k.val, by omega⟩ else k

/-- The direction as an index. -/
def dIx (d : Bool) : Fin 2 := if d then 1 else 0

/-- The place of a head and a direction in the stack of states. -/
def cIx (d : Bool) (h : Fin 4) : Fin 8 := ⟨2 * h.val + (dIx d).val, by have := (dIx d).isLt; omega⟩

/-- The head a place of the stack belongs to. -/
def hOf (c : Fin 8) : Fin 4 := ⟨c.val / 2, by omega⟩

/-- The direction a place of the stack belongs to. -/
def dOf (c : Fin 8) : Bool := c.val % 2 == 1

theorem lbh_eq (L : FVec F S1x512 .f32) (h : Fin 4) (off : Fin 2 → ℕ) (hs : S1x512.Slices off S1x128)
    (ho : off = ![0, 128 * h.val]) : extractStridedSlice S1x128 off L hs = lbh L h := by
  subst ho
  funext i
  refine congrArg L (funext fun a => Fin.ext ?_)
  match a with
  | ⟨0, _⟩ => have : (i 0).val < 1 := (i 0).isLt; show 0 + (i 0).val = 0; omega
  | ⟨1, _⟩ => rfl

theorem blk_eq (a : Memref sig .tc .vmem S256x512 .bf16) (X : BufTy.Contents (Elt F) a.view.ty) (r : Fin 2) (hd : Fin 4)
    (off : Fin 2 → ℕ) (h : ∀ x, off x + S128x128.size x ≤ S256x512.size x) (ho : off = ![128 * r.val, 128 * hd.val]) :
    blk a X off h = blkV (a.view.read (Elt F) X) r hd := by
  subst ho
  funext i
  refine View.ld_unit_apply_of _ _ _ _ _ _ fun x => ?_
  match x with
  | ⟨0, _⟩ => rfl
  | ⟨1, _⟩ => rfl

theorem ld3_eq {n : ℕ} {α : EltTy} (X : Vec F ⟨3, ![n, 128, 128]⟩ α) (c : Fin n)
    (h : ∀ x, (![c.val, 0, 0] : Fin 3 → ℕ) x + S1x128x128.size x ≤ (⟨3, ![n, 128, 128]⟩ : Shape).size x) :
    View.ld X (Rect.unit (s := ⟨3, ![n, 128, 128]⟩) ![c.val, 0, 0] S1x128x128.size h) = sub3 X c := by
  funext i
  refine View.ld_unit_apply_of _ _ _ _ _ _ fun x => ?_
  match x with
  | ⟨0, _⟩ => have : (i 0).val < 1 := (i 0).isLt; show c.val = c.val + (i 0).val; omega
  | ⟨1, _⟩ => show (i 1).val = 0 + (i 1).val; omega
  | ⟨2, _⟩ => show (i 2).val = 0 + (i 2).val; omega

/-- One trip on the stack of states. -/
def stepS (L0 L1 : FVec F S1x512 .f32) (x3 x4 x5 : Vec F S256x512 .bf16) (tri : Vec F S2x128x128 .bf16) (k : Fin 2)
    (st : Vec F S8x128x128 .f32) : Vec F S8x128x128 .f32 := fun y =>
  stNew (dOf (y 0)) (lbh (if dOf (y 0) then L1 else L0) (hOf (y 0)))
    (blkV (if dOf (y 0) then x4 else x3) (rb (dOf (y 0)) k) (hOf (y 0)))
    (blkV x5 (rb (dOf (y 0)) k) (hOf (y 0))) (sub3 st (y 0)) (sub3 tri (dIx (dOf (y 0))))
    (ix3 (n0 := 1) (n1 := 128) (n2 := 128) 0 (y 1) (y 2))

/-- The block of output rows trip `k` writes, for one head and direction. -/
def outB (d : Bool) (L : FVec F S1x512 .f32) (x2 z x5 : Vec F S256x512 .bf16) (tri : Vec F S2x128x128 .bf16)
    (lvl : Vec F S2x128x128 .i32) (k : Fin 2) (h : Fin 4) (st : Vec F S8x128x128 .f32) : FVec F S128x128 .f32 :=
  oNew d (lbh L h) (blkV x2 (rb d k) h) (blkV z (rb d k) h) (blkV x5 (rb d k) h) (sub3 st (cIx d h)) (sub3 tri (dIx d))
    (sub3 lvl (dIx d))

/-- The rows of one direction's output buffer after both trips; `S k` is the stack of states trip `k` finds. -/
def oFull (d : Bool) (L : FVec F S1x512 .f32) (x2 z x5 : Vec F S256x512 .bf16) (tri : Vec F S2x128x128 .bf16)
    (lvl : Vec F S2x128x128 .i32) (S : Fin 2 → Vec F S8x128x128 .f32) : FVec F S256x512 .f32 := fun y =>
  have h0 : (y 0).val < 256 := (y 0).isLt
  have h1 : (y 1).val < 512 := (y 1).isLt
  outB d L x2 z x5 tri lvl (rb d ⟨(y 0).val / 128, by omega⟩) ⟨(y 1).val / 128, by omega⟩ (S (rb d ⟨(y 0).val / 128, by omega⟩))
    (ix2 (n0 := 128) (n1 := 128) ⟨(y 0).val % 128, by omega⟩ ⟨(y 1).val % 128, by omega⟩)

theorem rb_rb (d : Bool) (k : Fin 2) : rb d (rb d k) = k := by revert d k; decide

/-- One stored block agrees with the whole buffer. -/
theorem piece_o (d : Bool) (L : FVec F S1x512 .f32) (x2 z x5 : Vec F S256x512 .bf16) (tri : Vec F S2x128x128 .bf16)
    (lvl : Vec F S2x128x128 .i32) (S : Fin 2 → Vec F S8x128x128 .f32) (k : Fin 2) (hd : Fin 4) (off : Fin 2 → ℕ)
    (h : ∀ x, off x + S128x128.size x ≤ S256x512.size x) (ho : off = ![128 * (rb d k).val, 128 * hd.val])
    (w : FVec F S128x128 .f32) (hw : w = outB d L x2 z x5 tri lvl k hd (S k)) (x : S128x128.Idx) :
    w x = oFull d L x2 z x5 tri lvl S ((Rect.unit (s := S256x512) off S128x128.size h).emb x) := by
  subst ho
  have a0 : (x 0).val < 128 := (x 0).isLt
  have a1 : (x 1).val < 128 := (x 1).isLt
  have e : (Rect.unit (s := S256x512) ![128 * (rb d k).val, 128 * hd.val] S128x128.size h).emb x
      = ix2 (n0 := 256) (n1 := 512) ⟨128 * (rb d k).val + (x 0).val, by omega⟩ ⟨128 * hd.val + (x 1).val, by omega⟩ := by
    funext a
    refine Fin.ext ((Rect.idx_unit_val _ _ _ _ _).trans ?_)
    match a with
    | ⟨0, _⟩ => rfl
    | ⟨1, _⟩ => rfl
  rw [e, hw]
  unfold oFull
  have er : (⟨(128 * (rb d k).val + (x 0).val) / 128, by omega⟩ : Fin 2) = rb d k := Fin.ext (by show _ / 128 = _; omega)
  have eh : (⟨(128 * hd.val + (x 1).val) / 128, by omega⟩ : Fin 4) = hd := Fin.ext (by show _ / 128 = _; omega)
  show _ = outB d L x2 z x5 tri lvl (rb d ⟨(128 * (rb d k).val + (x 0).val) / 128, _⟩) ⟨(128 * hd.val + (x 1).val) / 128, _⟩
    (S (rb d ⟨(128 * (rb d k).val + (x 0).val) / 128, _⟩)) _
  rw [er, eh, rb_rb]
  refine congrArg _ ?_
  funext a
  match a with
  | ⟨0, _⟩ => exact Fin.ext (by show (x 0).val = (128 * (rb d k).val + (x 0).val) % 128; omega)
  | ⟨1, _⟩ => exact Fin.ext (by show (x 1).val = (128 * hd.val + (x 1).val) % 128; omega)

/-- Where a block's rows and head are `y`'s, the block holds `y`. -/
theorem piece_mem (r : Fin 2) (hd : Fin 4) (off : Fin 2 → ℕ) (h : ∀ x, off x + S128x128.size x ≤ S256x512.size x)
    (ho : off = ![128 * r.val, 128 * hd.val]) (y : S256x512.Idx) (h0 : (y 0).val / 128 = r.val) (h1 : (y 1).val / 128 = hd.val) :
    y ∈ (Rect.unit (s := S256x512) off S128x128.size h).set := by
  subst ho
  refine Rect.mem_set_unit.2 fun a => ?_
  match a with
  | ⟨0, _⟩ => exact ⟨by show 128 * r.val ≤ (y 0).val; omega, by show (y 0).val < 128 * r.val + 128; omega⟩
  | ⟨1, _⟩ => exact ⟨by show 128 * hd.val ≤ (y 1).val; omega, by show (y 1).val < 128 * hd.val + 128; omega⟩

section
variable (𝒱 : Variants) (c : Dev nD) (bd : Option 𝒱.V) (i : grid0.Coords) (arg2 : Memref sig .tc .vmem S8x512 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x2x4x128x128 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S8x128x128 .f32) (harg13 : arg13.IsWhole) (arg14 : Memref sig .tc .vmem S2x128x128 .bf16) (harg14 : arg14.IsWhole) (arg15 : Memref sig .tc .vmem S2x128x128 .i32) (harg15 : arg15.IsWhole)
  (L0 L1 : FVec F S1x512 .f32) (v51 v56 v61 v66 v120 : FVec F S1x128 .f32) (cst_39 : F .f32)
  (h51 : v51 = lbh L0 0) (h56 : v56 = lbh L0 1) (h61 : v61 = lbh L0 2) (h66 : v66 = lbh L0 3) (h120 : v120 = lbh L1 0)
  (X4 : BufTy.Contents (Elt F) arg4.view.ty) (X5 : BufTy.Contents (Elt F) arg5.view.ty) (X6 : BufTy.Contents (Elt F) arg6.view.ty) (X7 : BufTy.Contents (Elt F) arg7.view.ty) (X14 : BufTy.Contents (Elt F) arg14.view.ty) (X15 : BufTy.Contents (Elt F) arg15.view.ty)
  (k : Fin 2) (f11 : BufTy.Contents (Elt F) arg11.view.ty) (f12 : BufTy.Contents (Elt F) arg12.view.ty) (f13 : BufTy.Contents (Elt F) arg13.view.ty)

theorem off_eq : k0_off1 k = ![128 * k.val, 128 * 0] ∧ k0_off3 k = ![128 * k.val, 128 * 1] ∧ k0_off5 k = ![128 * k.val, 128 * 2]
    ∧ k0_off7 k = ![128 * k.val, 128 * 3] ∧ k0_off2 k = ![128 * (1 - k.val), 128 * 0] ∧ k0_off4 k = ![128 * (1 - k.val), 128 * 1]
    ∧ k0_off6 k = ![128 * (1 - k.val), 128 * 2] ∧ k0_off8 k = ![128 * (1 - k.val), 128 * 3] := by
  have h : k = 0 ∨ k = 1 := by revert k; decide
  rcases h with rfl | rfl
  · exact ⟨by decide, by decide, by decide, by decide, by decide, by decide, by decide, by decide⟩
  · exact ⟨by decide, by decide, by decide, by decide, by decide, by decide, by decide, by decide⟩

include h51 h56 h61 h66 h120 in
/-- The states after a trip. -/
theorem trip13 : arg13.view.read (Elt F) (arg13.view.writes (Elt F) f13
      (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 k f11 f12 f13).2.2)
    = stepS L0 L1 (arg5.view.read (Elt F) X5) (arg6.view.read (Elt F) X6) (arg7.view.read (Elt F) X7) (arg14.view.read (Elt F) X14) k
        (arg13.view.read (Elt F) f13) := by
  obtain ⟨e1, e3, e5, e7, e2, e4, e6, e8⟩ := off_eq k
  funext y
  unfold tripL_k0_t1 trip_k0_t1
  dsimp only
  refine View.read_writes_apply_of_pieces arg13.view f13 _ _ ?_ y ?_
  · have key : ∀ (s : Fin 8) (h : ∀ x, (![s.val, 0, 0] : Fin 3 → ℕ) x + S1x128x128.size x ≤ S8x128x128.size x)
        (w : FVec F S1x128x128 .f32)
        (hw : w = stNew (dOf s) (lbh (if dOf s then L1 else L0) (hOf s))
          (blkV (if dOf s then arg6.view.read (Elt F) X6 else arg5.view.read (Elt F) X5) (rb (dOf s) k) (hOf s))
          (blkV (arg7.view.read (Elt F) X7) (rb (dOf s) k) (hOf s)) (sub3 (arg13.view.read (Elt F) f13) s)
          (sub3 (arg14.view.read (Elt F) X14) (dIx (dOf s)))) (x : S1x128x128.Idx),
        w x = stepS L0 L1 (arg5.view.read (Elt F) X5) (arg6.view.read (Elt F) X6) (arg7.view.read (Elt F) X7)
          (arg14.view.read (Elt F) X14) k (arg13.view.read (Elt F) f13)
          ((Rect.unit (s := S8x128x128) ![s.val, 0, 0] S1x128x128.size h).emb x) := by
      intro s h w hw x
      have e : (Rect.unit (s := S8x128x128) ![s.val, 0, 0] S1x128x128.size h).emb x = ix3 (n0 := 8) s (x 1) (x 2) := by
        funext a
        refine Fin.ext ((Rect.idx_unit_val _ _ _ _ _).trans ?_)
        match a with
        | ⟨0, _⟩ => have : (x 0).val < 1 := (x 0).isLt; show s.val + (x 0).val = s.val; omega
        | ⟨1, _⟩ => show 0 + (x 1).val = (x 1).val; omega
        | ⟨2, _⟩ => show 0 + (x 2).val = (x 2).val; omega
      rw [e, hw]
      refine congrArg _ ?_
      funext a
      match a with
      | ⟨0, _⟩ => exact Fin.ext (by have : (x 0).val < 1 := (x 0).isLt; show (x 0).val = 0; omega)
      | ⟨1, _⟩ => rfl
      | ⟨2, _⟩ => rfl
    intro p hp
    simp only [List.mem_cons, List.not_mem_nil, or_false] at hp
    rcases hp with rfl | rfl | rfl | rfl | rfl | rfl | rfl | rfl
    · refine key 7 inb_S8x128x128_S1x128x128_7_0_0 _ ?_
      refine (st7 ..).trans ?_
      rw [blk_eq _ _ (rb true k) 3 _ _ e8, blk_eq _ _ (rb true k) 3 _ _ e8, lbh_eq L1 3 ![0, 384] _ rfl]
      exact congrArg₂ _ (ld3_eq (arg13.view.read (Elt F) f13) 7 _) (ld3_eq (arg14.view.read (Elt F) X14) 1 _)
    · refine key 6 inb_S8x128x128_S1x128x128_6_0_0 _ ?_
      refine (st6 ..).trans ?_
      rw [blk_eq _ _ (rb false k) 3 _ _ e7, blk_eq _ _ (rb false k) 3 _ _ e7, h66]
      exact congrArg₂ _ (ld3_eq (arg13.view.read (Elt F) f13) 6 _) (ld3_eq (arg14.view.read (Elt F) X14) 0 _)
    · refine key 5 inb_S8x128x128_S1x128x128_5_0_0 _ ?_
      refine (st5 ..).trans ?_
      rw [blk_eq _ _ (rb true k) 2 _ _ e6, blk_eq _ _ (rb true k) 2 _ _ e6, lbh_eq L1 2 ![0, 256] _ rfl]
      exact congrArg₂ _ (ld3_eq (arg13.view.read (Elt F) f13) 5 _) (ld3_eq (arg14.view.read (Elt F) X14) 1 _)
    · refine key 4 inb_S8x128x128_S1x128x128_4_0_0 _ ?_
      refine (st4 ..).trans ?_
      rw [blk_eq _ _ (rb false k) 2 _ _ e5, blk_eq _ _ (rb false k) 2 _ _ e5, h61]
      exact congrArg₂ _ (ld3_eq (arg13.view.read (Elt F) f13) 4 _) (ld3_eq (arg14.view.read (Elt F) X14) 0 _)
    · refine key 3 inb_S8x128x128_S1x128x128_3_0_0 _ ?_
      refine (st3 ..).trans ?_
      rw [blk_eq _ _ (rb true k) 1 _ _ e4, blk_eq _ _ (rb true k) 1 _ _ e4, lbh_eq L1 1 ![0, 128] _ rfl]
      exact congrArg₂ _ (ld3_eq (arg13.view.read (Elt F) f13) 3 _) (ld3_eq (arg14.view.read (Elt F) X14) 1 _)
    · refine key 2 inb_S8x128x128_S1x128x128_2_0_0 _ ?_
      refine (st2 ..).trans ?_
      rw [blk_eq _ _ (rb false k) 1 _ _ e3, blk_eq _ _ (rb false k) 1 _ _ e3, h56]
      exact congrArg₂ _ (ld3_eq (arg13.view.read (Elt F) f13) 2 _) (ld3_eq (arg14.view.read (Elt F) X14) 0 _)
    · refine key 1 inb_S8x128x128_S1x128x128_1_0_0 _ ?_
      refine (st1 ..).trans ?_
      rw [blk_eq _ _ (rb true k) 0 _ _ e2, blk_eq _ _ (rb true k) 0 _ _ e2, h120]
      exact congrArg₂ _ (ld3_eq (arg13.view.read (Elt F) f13) 1 _) (ld3_eq (arg14.view.read (Elt F) X14) 1 _)
    · refine key 0 inb_S8x128x128_S1x128x128_0_0_0 _ ?_
      refine (st0 ..).trans ?_
      rw [blk_eq _ _ (rb false k) 0 _ _ e1, blk_eq _ _ (rb false k) 0 _ _ e1, h51]
      exact congrArg₂ _ (ld3_eq (arg13.view.read (Elt F) f13) 0 _) (ld3_eq (arg14.view.read (Elt F) X14) 0 _)
  · have key : ∀ (s : Fin 8) (h : ∀ x, (![s.val, 0, 0] : Fin 3 → ℕ) x + S1x128x128.size x ≤ S8x128x128.size x),
        (y 0).val = s.val → y ∈ (Rect.unit (s := S8x128x128) ![s.val, 0, 0] S1x128x128.size h).set := by
      intro s h hs
      refine Rect.mem_set_unit.2 fun a => ?_
      match a with
      | ⟨0, _⟩ => exact ⟨hs.ge, by show (y 0).val < s.val + 1; omega⟩
      | ⟨1, _⟩ => exact ⟨Nat.zero_le _, by have : (y 1).val < 128 := (y 1).isLt; show (y 1).val < 0 + 128; omega⟩
      | ⟨2, _⟩ => exact ⟨Nat.zero_le _, by have : (y 2).val < 128 := (y 2).isLt; show (y 2).val < 0 + 128; omega⟩
    simp only [List.mem_cons, List.not_mem_nil, or_false, exists_eq_or_imp, exists_eq_left]
    have h8 : (y 0).val < 8 := (y 0).isLt
    have hc : (y 0).val = 7 ∨ (y 0).val = 6 ∨ (y 0).val = 5 ∨ (y 0).val = 4 ∨ (y 0).val = 3 ∨ (y 0).val = 2 ∨ (y 0).val = 1 ∨ (y 0).val = 0 := by omega
    exact hc.imp (key 7 _) (Or.imp (key 6 _) (Or.imp (key 5 _) (Or.imp (key 4 _) (Or.imp (key 3 _) (Or.imp (key 2 _) (Or.imp (key 1 _) (key 0 _)))))))

include h51 h56 h61 h66 in
/-- The output blocks a trip stores, direction 0. -/
theorem trip11 (S : Fin 2 → Vec F S8x128x128 .f32) (hS : S k = arg13.view.read (Elt F) f13) :
    ∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 k f11 f12 f13).1,
      ∀ x, p.2 x = oFull false L0 (arg4.view.read (Elt F) X4) (arg5.view.read (Elt F) X5) (arg7.view.read (Elt F) X7)
          (arg14.view.read (Elt F) X14) (arg15.view.read (Elt F) X15) S (p.1.emb x) := by
  obtain ⟨e1, e3, e5, e7, e2, e4, e6, e8⟩ := off_eq k
  unfold tripL_k0_t1 trip_k0_t1
  dsimp only
  intro p hp x
  simp only [List.mem_cons, List.not_mem_nil, or_false] at hp
  rcases hp with rfl | rfl | rfl | rfl
  · refine piece_o false L0 _ _ _ _ _ S k 3 _ (k0_off7_inb k) e7 _ ?_ x
    refine (o6 ..).trans ?_
    rw [blk_eq _ _ (rb false k) 3 _ _ e7, blk_eq _ _ (rb false k) 3 _ _ e7, blk_eq _ _ (rb false k) 3 _ _ e7, h66, hS]
    exact congr (congrArg₂ _ (ld3_eq (arg13.view.read (Elt F) f13) 6 _) (ld3_eq (arg14.view.read (Elt F) X14) 0 _))
      (ld3_eq (arg15.view.read (Elt F) X15) 0 _)
  · refine piece_o false L0 _ _ _ _ _ S k 2 _ (k0_off5_inb k) e5 _ ?_ x
    refine (o4 ..).trans ?_
    rw [blk_eq _ _ (rb false k) 2 _ _ e5, blk_eq _ _ (rb false k) 2 _ _ e5, blk_eq _ _ (rb false k) 2 _ _ e5, h61, hS]
    exact congr (congrArg₂ _ (ld3_eq (arg13.view.read (Elt F) f13) 4 _) (ld3_eq (arg14.view.read (Elt F) X14) 0 _))
      (ld3_eq (arg15.view.read (Elt F) X15) 0 _)
  · refine piece_o false L0 _ _ _ _ _ S k 1 _ (k0_off3_inb k) e3 _ ?_ x
    refine (o2 ..).trans ?_
    rw [blk_eq _ _ (rb false k) 1 _ _ e3, blk_eq _ _ (rb false k) 1 _ _ e3, blk_eq _ _ (rb false k) 1 _ _ e3, h56, hS]
    exact congr (congrArg₂ _ (ld3_eq (arg13.view.read (Elt F) f13) 2 _) (ld3_eq (arg14.view.read (Elt F) X14) 0 _))
      (ld3_eq (arg15.view.read (Elt F) X15) 0 _)
  · refine piece_o false L0 _ _ _ _ _ S k 0 _ (k0_off1_inb k) e1 _ ?_ x
    refine (o0 ..).trans ?_
    rw [blk_eq _ _ (rb false k) 0 _ _ e1, blk_eq _ _ (rb false k) 0 _ _ e1, blk_eq _ _ (rb false k) 0 _ _ e1, h51, hS]
    exact congr (congrArg₂ _ (ld3_eq (arg13.view.read (Elt F) f13) 0 _) (ld3_eq (arg14.view.read (Elt F) X14) 0 _))
      (ld3_eq (arg15.view.read (Elt F) X15) 0 _)

/-- They hold the trip's rows, direction 0. -/
theorem trip11_mem (y : S256x512.Idx) (h0 : (y 0).val / 128 = (rb false k).val) :
    ∃ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 k f11 f12 f13).1, y ∈ p.1.set := by
  obtain ⟨e1, e3, e5, e7, e2, e4, e6, e8⟩ := off_eq k
  unfold tripL_k0_t1 trip_k0_t1
  dsimp only
  simp only [List.mem_cons, List.not_mem_nil, or_false, exists_eq_or_imp, exists_eq_left]
  have h8 : (y 1).val < 512 := (y 1).isLt
  have hc : (y 1).val / 128 = 3 ∨ (y 1).val / 128 = 2 ∨ (y 1).val / 128 = 1 ∨ (y 1).val / 128 = 0 := by omega
  exact hc.imp (piece_mem (rb false k) 3 _ _ e7 y h0) (Or.imp (piece_mem (rb false k) 2 _ _ e5 y h0) (Or.imp (piece_mem (rb false k) 1 _ _ e3 y h0) (piece_mem (rb false k) 0 _ _ e1 y h0)))

include h120 in
/-- The output blocks a trip stores, direction 1. -/
theorem trip12 (S : Fin 2 → Vec F S8x128x128 .f32) (hS : S k = arg13.view.read (Elt F) f13) :
    ∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 k f11 f12 f13).2.1,
      ∀ x, p.2 x = oFull true L1 (arg4.view.read (Elt F) X4) (arg6.view.read (Elt F) X6) (arg7.view.read (Elt F) X7)
          (arg14.view.read (Elt F) X14) (arg15.view.read (Elt F) X15) S (p.1.emb x) := by
  obtain ⟨e1, e3, e5, e7, e2, e4, e6, e8⟩ := off_eq k
  unfold tripL_k0_t1 trip_k0_t1
  dsimp only
  intro p hp x
  simp only [List.mem_cons, List.not_mem_nil, or_false] at hp
  rcases hp with rfl | rfl | rfl | rfl
  · refine piece_o true L1 _ _ _ _ _ S k 3 _ (k0_off8_inb k) e8 _ ?_ x
    refine (o7 ..).trans ?_
    rw [blk_eq _ _ (rb true k) 3 _ _ e8, blk_eq _ _ (rb true k) 3 _ _ e8, blk_eq _ _ (rb true k) 3 _ _ e8, lbh_eq L1 3 ![0, 384] _ rfl, hS]
    exact congr (congrArg₂ _ (ld3_eq (arg13.view.read (Elt F) f13) 7 _) (ld3_eq (arg14.view.read (Elt F) X14) 1 _))
      (ld3_eq (arg15.view.read (Elt F) X15) 1 _)
  · refine piece_o true L1 _ _ _ _ _ S k 2 _ (k0_off6_inb k) e6 _ ?_ x
    refine (o5 ..).trans ?_
    rw [blk_eq _ _ (rb true k) 2 _ _ e6, blk_eq _ _ (rb true k) 2 _ _ e6, blk_eq _ _ (rb true k) 2 _ _ e6, lbh_eq L1 2 ![0, 256] _ rfl, hS]
    exact congr (congrArg₂ _ (ld3_eq (arg13.view.read (Elt F) f13) 5 _) (ld3_eq (arg14.view.read (Elt F) X14) 1 _))
      (ld3_eq (arg15.view.read (Elt F) X15) 1 _)
  · refine piece_o true L1 _ _ _ _ _ S k 1 _ (k0_off4_inb k) e4 _ ?_ x
    refine (o3 ..).trans ?_
    rw [blk_eq _ _ (rb true k) 1 _ _ e4, blk_eq _ _ (rb true k) 1 _ _ e4, blk_eq _ _ (rb true k) 1 _ _ e4, lbh_eq L1 1 ![0, 128] _ rfl, hS]
    exact congr (congrArg₂ _ (ld3_eq (arg13.view.read (Elt F) f13) 3 _) (ld3_eq (arg14.view.read (Elt F) X14) 1 _))
      (ld3_eq (arg15.view.read (Elt F) X15) 1 _)
  · refine piece_o true L1 _ _ _ _ _ S k 0 _ (k0_off2_inb k) e2 _ ?_ x
    refine (o1 ..).trans ?_
    rw [blk_eq _ _ (rb true k) 0 _ _ e2, blk_eq _ _ (rb true k) 0 _ _ e2, blk_eq _ _ (rb true k) 0 _ _ e2, h120, hS]
    exact congr (congrArg₂ _ (ld3_eq (arg13.view.read (Elt F) f13) 1 _) (ld3_eq (arg14.view.read (Elt F) X14) 1 _))
      (ld3_eq (arg15.view.read (Elt F) X15) 1 _)

/-- They hold the trip's rows, direction 1. -/
theorem trip12_mem (y : S256x512.Idx) (h0 : (y 0).val / 128 = (rb true k).val) :
    ∃ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 k f11 f12 f13).2.1, y ∈ p.1.set := by
  obtain ⟨e1, e3, e5, e7, e2, e4, e6, e8⟩ := off_eq k
  unfold tripL_k0_t1 trip_k0_t1
  dsimp only
  simp only [List.mem_cons, List.not_mem_nil, or_false, exists_eq_or_imp, exists_eq_left]
  have h8 : (y 1).val < 512 := (y 1).isLt
  have hc : (y 1).val / 128 = 3 ∨ (y 1).val / 128 = 2 ∨ (y 1).val / 128 = 1 ∨ (y 1).val / 128 = 0 := by omega
  exact hc.imp (piece_mem (rb true k) 3 _ _ e8 y h0) (Or.imp (piece_mem (rb true k) 2 _ _ e6 y h0) (Or.imp (piece_mem (rb true k) 1 _ _ e4 y h0) (piece_mem (rb true k) 0 _ _ e2 y h0)))

/-- The pieces of both trips, the second at the contents the first leaves. -/
theorem pb2 : ∃ T0 T1, T0 = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 (0 : Fin 2) f11 f12 f13)
    ∧ T1 = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 (1 : Fin 2) (arg11.view.writes (Elt F) f11 T0.1) (arg12.view.writes (Elt F) f12 T0.2.1) (arg13.view.writes (Elt F) f13 T0.2.2))
    ∧ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 2 = (T1.1 ++ T0.1, T1.2.1 ++ T0.2.1, T1.2.2 ++ T0.2.2) := by
  refine ⟨_, _, rfl, rfl, ?_⟩
  have e0 : pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 1 = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 (0 : Fin 2) f11 f12 f13) :=
    (pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 (0 : Fin 2)).trans (by
      refine Prod.ext (List.append_nil _) (Prod.ext (List.append_nil _) (List.append_nil _)))
  have e1 := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 (1 : Fin 2)
  have e2 : ((1 : Fin 2) : ℕ) = 1 := rfl
  rw [e2, e0] at e1
  exact e1

include h51 h56 h61 h66 h120 in
/-- The states after both trips. -/
theorem loop13 : arg13.view.read (Elt F) (arg13.view.writes (Elt F) f13
      (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 2).2.2)
    = stepS L0 L1 (arg5.view.read (Elt F) X5) (arg6.view.read (Elt F) X6) (arg7.view.read (Elt F) X7) (arg14.view.read (Elt F) X14) 1
        (stepS L0 L1 (arg5.view.read (Elt F) X5) (arg6.view.read (Elt F) X6) (arg7.view.read (Elt F) X7) (arg14.view.read (Elt F) X14) 0
          (arg13.view.read (Elt F) f13)) := by
  obtain ⟨T0, T1, h0, h1, hp⟩ := pb2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 f11 f12 f13
  rw [hp]
  dsimp only
  rw [View.writes_append, h1, trip13 (L0 := L0) (h51 := h51) (h56 := h56) (h61 := h61) (h66 := h66) (h120 := h120), h0,
    trip13 (L0 := L0) (h51 := h51) (h56 := h56) (h61 := h61) (h66 := h66) (h120 := h120)]

include h51 h56 h61 h66 h120 in
/-- Direction 0's output buffer after both trips. -/
theorem loop11 : arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 2).1)
    = oFull false L0 (arg4.view.read (Elt F) X4) (arg5.view.read (Elt F) X5) (arg7.view.read (Elt F) X7)
        (arg14.view.read (Elt F) X14) (arg15.view.read (Elt F) X15)
        (fun k => if k = 0 then arg13.view.read (Elt F) f13 else stepS L0 L1 (arg5.view.read (Elt F) X5) (arg6.view.read (Elt F) X6) (arg7.view.read (Elt F) X7) (arg14.view.read (Elt F) X14) 0 (arg13.view.read (Elt F) f13)) := by
  funext y
  have h256 : (y 0).val < 256 := (y 0).isLt
  obtain ⟨T0, T1, h0, h1, hp⟩ := pb2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 f11 f12 f13
  rw [hp]
  dsimp only
  refine View.read_writes_apply_of_pieces arg11.view f11 _ _ ?_ y ?_
  · intro p hp x
    rcases List.mem_append.1 hp with hp | hp
    · rw [h1] at hp
      refine trip11 𝒱 c bd i arg2 harg2 arg3 harg3 arg4 harg4 arg5 harg5 arg6 harg6 arg7 harg7 arg8 harg8 arg9 harg9 arg10 harg10 arg11 harg11 arg12 harg12 arg13 harg13 arg14 harg14 arg15 harg15 L0 L1 v51 v56 v61 v66 v120 cst_39 h51 h56 h61 h66 X4 X5 X6 X7 X14 X15 1 _ _ _ _ ?_ p hp x
      rw [h0, trip13 (L0 := L0) (h51 := h51) (h56 := h56) (h61 := h61) (h66 := h66) (h120 := h120)]
      rfl
    · rw [h0] at hp
      exact trip11 𝒱 c bd i arg2 harg2 arg3 harg3 arg4 harg4 arg5 harg5 arg6 harg6 arg7 harg7 arg8 harg8 arg9 harg9 arg10 harg10 arg11 harg11 arg12 harg12 arg13 harg13 arg14 harg14 arg15 harg15 L0 L1 v51 v56 v61 v66 v120 cst_39 h51 h56 h61 h66 X4 X5 X6 X7 X14 X15 0 _ _ _ _ rfl p hp x
  · by_cases hy : (y 0).val / 128 = (rb false 1).val
    · obtain ⟨p, hp, hm⟩ := trip11_mem (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 1 (arg11.view.writes (Elt F) f11 T0.1) (arg12.view.writes (Elt F) f12 T0.2.1) (arg13.view.writes (Elt F) f13 T0.2.2) y hy
      exact ⟨p, List.mem_append_left _ (h1 ▸ hp), hm⟩
    · obtain ⟨p, hp, hm⟩ := trip11_mem (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 0 f11 f12 f13 y (by
        have : (rb false 1).val = 1 := by decide
        have : (rb false 0).val = 0 := by decide
        omega)
      exact ⟨p, List.mem_append_right _ (h0 ▸ hp), hm⟩

include h51 h56 h61 h66 h120 in
/-- Direction 1's output buffer after both trips. -/
theorem loop12 : arg12.view.read (Elt F) (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 2).2.1)
    = oFull true L1 (arg4.view.read (Elt F) X4) (arg6.view.read (Elt F) X6) (arg7.view.read (Elt F) X7)
        (arg14.view.read (Elt F) X14) (arg15.view.read (Elt F) X15)
        (fun k => if k = 0 then arg13.view.read (Elt F) f13 else stepS L0 L1 (arg5.view.read (Elt F) X5) (arg6.view.read (Elt F) X6) (arg7.view.read (Elt F) X7) (arg14.view.read (Elt F) X14) 0 (arg13.view.read (Elt F) f13)) := by
  funext y
  have h256 : (y 0).val < 256 := (y 0).isLt
  obtain ⟨T0, T1, h0, h1, hp⟩ := pb2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 f11 f12 f13
  rw [hp]
  dsimp only
  refine View.read_writes_apply_of_pieces arg12.view f12 _ _ ?_ y ?_
  · intro p hp x
    rcases List.mem_append.1 hp with hp | hp
    · rw [h1] at hp
      refine trip12 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 h120 X4 X5 X6 X7 X14 X15 1 _ _ _ _ ?_ p hp x
      rw [h0, trip13 (L0 := L0) (h51 := h51) (h56 := h56) (h61 := h61) (h66 := h66) (h120 := h120)]
      rfl
    · rw [h0] at hp
      exact trip12 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 h120 X4 X5 X6 X7 X14 X15 0 _ _ _ _ rfl p hp x
  · by_cases hy : (y 0).val / 128 = (rb true 1).val
    · obtain ⟨p, hp, hm⟩ := trip12_mem (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 1 (arg11.view.writes (Elt F) f11 T0.1) (arg12.view.writes (Elt F) f12 T0.2.1) (arg13.view.writes (Elt F) f13 T0.2.2) y hy
      exact ⟨p, List.mem_append_left _ (h1 ▸ hp), hm⟩
    · obtain ⟨p, hp, hm⟩ := trip12_mem (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 L1 v51 v56 v61 v66 v120 cst_39 X4 X5 X6 X7 X14 X15 0 f11 f12 f13 y (by
        have : (rb true 1).val = 0 := by decide
        have : (rb true 0).val = 1 := by decide
        omega)
      exact ⟨p, List.mem_append_right _ (h0 ▸ hp), hm⟩

end
end Cert.KernelIdeal.Chunk
-- ==== Proof.Body.lean ====
/- What the kernel body leaves in its two outputs, as functions of the seven blocks it reads. -/
module

public import proofs.«01_k».proof.Proof.LoopVal
public import Idealize.ShloMosaic.Lib.Pointwise

@[expose] public section

set_option maxRecDepth 16384
set_option maxHeartbeats 4000000

noncomputable section

namespace Cert.KernelIdeal.Chunk
open Idealize.ShloMosaic Idealize.ShloMosaic.TcCoe
open Cert.KernelIdeal Cert.KernelIdeal.Gen

variable {F : FTy → Type} [FloatOps F] [Named F]

/-- The softmax over the four layers' rows, summed over the layers after the first up to this one. -/
def lbsOf (r0 r1 r2 r3 : FVec F S1x512 .f32) : FVec F S1x512 .f32 :=
  let mx := maximumf (maximumf (maximumf r0 r1) r2) r3
  let e0 := exp (subf r0 mx)
  let e1 := exp (subf r1 mx)
  let e2 := exp (subf r2 mx)
  let e3 := exp (subf r3 mx)
  maximumf (divf (addf (addf (addf (lit S1x512 0x00000000#32) e1) e2) e3) (addf (addf (addf e0 e1) e2) e3))
    (lit S1x512 0x00000000#32)

/-- The forward direction's lower bounds. -/
def lbF (x : Vec F S8x512 .f32) : FVec F S1x512 .f32 :=
  let v : FVec F S8x512 .f32 := shapeCast S8x512 x shapeCasts_S8x512_S8x512
  lbsOf (extractStridedSlice S1x512 ![0, 0] v slices_S8x512_o0_0_S1x512) (extractStridedSlice S1x512 ![2, 0] v slices_S8x512_o2_0_S1x512)
    (extractStridedSlice S1x512 ![4, 0] v slices_S8x512_o4_0_S1x512) (extractStridedSlice S1x512 ![6, 0] v slices_S8x512_o6_0_S1x512)

/-- The backward direction's lower bounds. -/
def lbB (x : Vec F S8x512 .f32) : FVec F S1x512 .f32 :=
  let v : FVec F S8x512 .f32 := shapeCast S8x512 x shapeCasts_S8x512_S8x512
  lbsOf (extractStridedSlice S1x512 ![1, 0] v slices_S8x512_o1_0_S1x512) (extractStridedSlice S1x512 ![3, 0] v slices_S8x512_o3_0_S1x512)
    (extractStridedSlice S1x512 ![5, 0] v slices_S8x512_o5_0_S1x512) (extractStridedSlice S1x512 ![7, 0] v slices_S8x512_o7_0_S1x512)

/-- Row and column numbers. -/
abbrev rowI : IVec S128x128 32 := iota .tc S128x128 32 [0] iota_S128x128_d0_w32
abbrev colI : IVec S128x128 32 := iota .tc S128x128 32 [1] iota_S128x128_d1_w32

/-- A 0/1 matrix of a condition. -/
def triOfC (p : IVec S128x128 1) : FVec F S1x128x128 .bf16 :=
  shapeCast S1x128x128 (truncf .bf16 (select p (lit S128x128 0x3F800000#32) (lit S128x128 0x00000000#32)) bitsLt_bf16_f32 : FVec F S128x128 .bf16)
    shapeCasts_S128x128_S1x128x128

/-- The bit length of row xor column where the condition holds, -1 elsewhere. -/
def lvlOfC (p : IVec S128x128 1) : IVec S1x128x128 32 :=
  shapeCast S1x128x128 (select p (select (cmpi .eq (xori rowI colI) (broadcast S128x128 0#32)) (broadcast S128x128 0#32)
      (subi (broadcast S128x128 32#32) (ctlz (xori rowI colI)))) (broadcast S128x128 4294967295#32) : IVec S128x128 32)
    shapeCasts_S128x128_S1x128x128

/-- Column not after row. -/
abbrev leC : IVec S128x128 1 := cmpi .sle colI rowI
/-- Column not before row. -/
abbrev geC : IVec S128x128 1 := cmpi .sge colI rowI

/-- Both directions' 0/1 matrices. -/
def triV : Vec F S2x128x128 .bf16 := fun y =>
  (if (y 0).val = 0 then triOfC leC else triOfC geC) (ix3 (n0 := 1) (n1 := 128) (n2 := 128) 0 (y 1) (y 2))

/-- Both directions' levels. -/
def lvlV : Vec F S2x128x128 .i32 := fun y =>
  (if (y 0).val = 0 then lvlOfC leC else lvlOfC geC) (ix3 (n0 := 1) (n1 := 128) (n2 := 128) 0 (y 1) (y 2))

/-- The states before the first trip. -/
def st0V : Vec F S8x128x128 .f32 := fun _ => Scalar.ofBits .f32 0x00000000#32

/-- A state written out: transposed to key by value. -/
def stT (st : Vec F S1x128x128 .f32) : FVec F S1x1x1x128x128 .f32 :=
  shapeCast S1x1x1x128x128 (transpose S128x128 [1, 0] (shapeCast S128x128 st shapeCasts_S1x128x128_S128x128 : FVec F S128x128 .f32)
    transposes_S128x128_p1_0_S128x128 : FVec F S128x128 .f32) shapeCasts_S128x128_S1x1x1x128x128

theorem stT_apply (st : Vec F S1x128x128 .f32) (x : S1x1x1x128x128.Idx) :
    stT st x = st (ix3 (n0 := 1) (n1 := 128) (n2 := 128) 0 (x 4) (x 3)) := by
  idx_vars x
  pointwise [stT]

/-- One head's rows of the layer's output: both directions added, normalised, gated. -/
def normOut (a1 a2 : Vec F S256x128 .f32) (g : Vec F S256x128 .bf16) (nw : Vec F S1x128 .f32) : FVec F S256x128 .bf16 :=
  let a := addf a1 a2
  let gg : FVec F S256x128 .f32 := extf .f32 g bitsLt_bf16_f32
  truncf .bf16 (mulf (mulf (mulf a (broadcastTo S256x128 (rsqrt (addf (divf
      (shapeCast S256x1 (multiReduction .add [1] S256 (mulf a a) 0x00000000#32 reduces_S256x128_S256 (.inl rfl) rfl : FVec F S256 .f32) shapeCasts_S256_S256x1 : FVec F S256x1 .f32)
      (lit S256x1 0x43000000#32)) (lit S256x1 0x358637BD#32))) broadcasts_S256x1_S256x128))
      (broadcastTo S256x128 (shapeCast S1x128 nw shapeCasts_S1x128_S1x128 : FVec F S1x128 .f32) broadcasts_S1x128_S256x128))
    (mulf gg (addf (mulf (lit S256x128 0x3F000000#32) (tanh (mulf (lit S256x128 0x3F000000#32) gg))) (lit S256x128 0x3F000000#32))))
    bitsLt_bf16_f32

/-- One head's 128 columns. -/
def colH {α : Type} (X : S256x512.Idx → α) (h : Fin 4) : S256x128.Idx → α :=
  fun i => X (ix2 (n0 := 256) (n1 := 512) (i 0) ⟨128 * h.val + (i 1).val, by have : (i 1).val < 128 := (i 1).isLt; omega⟩)

/-- The states the two trips find. -/
def stAt (x0 : Vec F S8x512 .f32) (x3 x4 x5 : Vec F S256x512 .bf16) : Fin 2 → Vec F S8x128x128 .f32 :=
  fun k => if k = 0 then st0V else stepS (lbF x0) (lbB x0) x3 x4 x5 triV 0 st0V

/-- One direction's rows before they are added. -/
def dirOut (d : Bool) (x0 : Vec F S8x512 .f32) (x2 x3 x4 x5 : Vec F S256x512 .bf16) : FVec F S256x512 .f32 :=
  oFull d (if d then lbB x0 else lbF x0) x2 (if d then x4 else x3) x5 triV lvlV (stAt x0 x3 x4 x5)

/-- The first output block. -/
def outO (x0 : Vec F S8x512 .f32) (x1 : Vec F S1x128 .f32) (x2 x3 x4 x5 x6 : Vec F S256x512 .bf16) : Vec F S256x512 .bf16 := fun y =>
  have h1 : (y 1).val < 512 := (y 1).isLt
  normOut (colH (dirOut false x0 x2 x3 x4 x5) ⟨(y 1).val / 128, by omega⟩) (colH (dirOut true x0 x2 x3 x4 x5) ⟨(y 1).val / 128, by omega⟩)
    (colH x6 ⟨(y 1).val / 128, by omega⟩) x1 (ix2 (n0 := 256) (n1 := 128) (y 0) ⟨(y 1).val % 128, by omega⟩)

/-- The states after both trips. -/
def stEnd (x0 : Vec F S8x512 .f32) (x3 x4 x5 : Vec F S256x512 .bf16) : Vec F S8x128x128 .f32 :=
  stepS (lbF x0) (lbB x0) x3 x4 x5 triV 1 (stepS (lbF x0) (lbB x0) x3 x4 x5 triV 0 st0V)

/-- The second output block. -/
def outS (x0 : Vec F S8x512 .f32) (x3 x4 x5 : Vec F S256x512 .bf16) : Vec F S1x2x4x128x128 .f32 := fun y =>
  stEnd x0 x3 x4 x5 (ix3 (n0 := 8) (n1 := 128) (n2 := 128) ⟨2 * (y 2).val + (y 1).val, by
    have : (y 1).val < 2 := (y 1).isLt
    have : (y 2).val < 4 := (y 2).isLt
    omega⟩ (y 4) (y 3))

/-- Stores of whole matrices of a stack at its places, read back. -/
theorem stack_emb {n : ℕ} (s : Fin n) (h : ∀ x, (![s.val, 0, 0] : Fin 3 → ℕ) x + S1x128x128.size x ≤ (⟨3, ![n, 128, 128]⟩ : Shape).size x)
    (x : S1x128x128.Idx) : (Rect.unit (s := ⟨3, ![n, 128, 128]⟩) ![s.val, 0, 0] S1x128x128.size h).emb x = ix3 (n0 := n) s (x 1) (x 2) := by
  funext a
  refine Fin.ext ((Rect.idx_unit_val _ _ _ _ _).trans ?_)
  match a with
  | ⟨0, _⟩ => have : (x 0).val < 1 := (x 0).isLt; show s.val + (x 0).val = s.val; omega
  | ⟨1, _⟩ => show 0 + (x 1).val = (x 1).val; omega
  | ⟨2, _⟩ => show 0 + (x 2).val = (x 2).val; omega

theorem stack_mem {n : ℕ} (s : Fin n) (h : ∀ x, (![s.val, 0, 0] : Fin 3 → ℕ) x + S1x128x128.size x ≤ (⟨3, ![n, 128, 128]⟩ : Shape).size x)
    (y : (⟨3, ![n, 128, 128]⟩ : Shape).Idx) (hs : (y 0).val = s.val) :
    y ∈ (Rect.unit (s := ⟨3, ![n, 128, 128]⟩) ![s.val, 0, 0] S1x128x128.size h).set := by
  refine Rect.mem_set_unit.2 fun a => ?_
  match a with
  | ⟨0, _⟩ => exact ⟨hs.ge, by show (y 0).val < s.val + 1; omega⟩
  | ⟨1, _⟩ => exact ⟨Nat.zero_le _, by have : (y 1).val < 128 := (y 1).isLt; show (y 1).val < 0 + 128; omega⟩
  | ⟨2, _⟩ => exact ⟨Nat.zero_le _, by have : (y 2).val < 128 := (y 2).isLt; show (y 2).val < 0 + 128; omega⟩

theorem ix3_eta (x : S1x128x128.Idx) : ix3 (n0 := 1) (n1 := 128) (n2 := 128) 0 (x 1) (x 2) = x := by
  funext a
  match a with
  | ⟨0, _⟩ => exact Fin.ext (by have : (x 0).val < 1 := (x 0).isLt; show 0 = (x 0).val; omega)
  | ⟨1, _⟩ => rfl
  | ⟨2, _⟩ => rfl

section
variable (𝒱 : Variants) (c : Dev nD) (bd : Option 𝒱.V) (i : grid0.Coords) (arg2 : Memref sig .tc .vmem S8x512 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x2x4x128x128 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S8x128x128 .f32) (harg13 : arg13.IsWhole) (arg14 : Memref sig .tc .vmem S2x128x128 .bf16) (harg14 : arg14.IsWhole) (arg15 : Memref sig .tc .vmem S2x128x128 .i32) (harg15 : arg15.IsWhole)
  (L0 L1 : FVec F S1x512 .f32) (v51 v56 v61 v66 v120 : FVec F S1x128 .f32) (cst_39 : F .f32)
  (h51 : v51 = lbh L0 0) (h56 : v56 = lbh L0 1) (h61 : v61 = lbh L0 2) (h66 : v66 = lbh L0 3) (h120 : v120 = lbh L1 0)
  (X4 : BufTy.Contents (Elt F) arg4.view.ty) (X5 : BufTy.Contents (Elt F) arg5.view.ty) (X6 : BufTy.Contents (Elt F) arg6.view.ty) (X7 : BufTy.Contents (Elt F) arg7.view.ty) (X14 : BufTy.Contents (Elt F) arg14.view.ty) (X15 : BufTy.Contents (Elt F) arg15.view.ty)
  (f11 : BufTy.Contents (Elt F) arg11.view.ty) (f12 : BufTy.Contents (Elt F) arg12.view.ty) (f13 : BufTy.Contents (Elt F) arg13.view.ty)
  (n : ℕ) (hn : n = 2)
  (x0 : Vec F S8x512 .f32) (x1 : Vec F S1x128 .f32) (x2 x3 x4 x5 x6 : Vec F S256x512 .bf16)

/-- The 0/1 matrices the body stores, read back. -/
theorem tri_read (f : BufTy.Contents (Elt F) arg14.view.ty) : arg14.view.read (Elt F) (arg14.view.writes (Elt F) f
      [⟨Rect.unit (s := S2x128x128) ![1, 0, 0] S1x128x128.size inb_S2x128x128_S1x128x128_1_0_0, triOfC geC⟩,
       ⟨Rect.unit (s := S2x128x128) ![0, 0, 0] S1x128x128.size inb_S2x128x128_S1x128x128_0_0_0, triOfC leC⟩]) = triV := by
  funext y
  refine View.read_writes_apply_of_pieces arg14.view f _ _ ?_ y ?_
  · intro p hp x
    simp only [List.mem_cons, List.not_mem_nil, or_false] at hp
    rcases hp with rfl | rfl
    · exact ((congrArg (triOfC geC) (ix3_eta x)).symm : _).trans (congrArg triV (stack_emb (n := 2) 1 inb_S2x128x128_S1x128x128_1_0_0 x)).symm
    · exact ((congrArg (triOfC leC) (ix3_eta x)).symm : _).trans (congrArg triV (stack_emb (n := 2) 0 inb_S2x128x128_S1x128x128_0_0_0 x)).symm
  · simp only [List.mem_cons, List.not_mem_nil, or_false, exists_eq_or_imp, exists_eq_left]
    have h8 : (y 0).val < 2 := (y 0).isLt
    have hc : (y 0).val = 1 ∨ (y 0).val = 0 := by omega
    exact hc.imp (stack_mem (n := 2) 1 inb_S2x128x128_S1x128x128_1_0_0 y) (stack_mem (n := 2) 0 inb_S2x128x128_S1x128x128_0_0_0 y)

/-- The levels the body stores, read back. -/
theorem lvl_read (f : BufTy.Contents (Elt F) arg15.view.ty) : arg15.view.read (Elt F) (arg15.view.writes (Elt F) f
      [⟨Rect.unit (s := S2x128x128) ![1, 0, 0] S1x128x128.size inb_S2x128x128_S1x128x128_1_0_0, lvlOfC geC⟩,
       ⟨Rect.unit (s := S2x128x128) ![0, 0, 0] S1x128x128.size inb_S2x128x128_S1x128x128_0_0_0, lvlOfC leC⟩]) = lvlV (F := F) := by
  funext y
  refine View.read_writes_apply_of_pieces arg15.view f _ _ ?_ y ?_
  · intro p hp x
    simp only [List.mem_cons, List.not_mem_nil, or_false] at hp
    rcases hp with rfl | rfl
    · exact ((congrArg (lvlOfC geC) (ix3_eta x)).symm : _).trans (congrArg (lvlV (F := F)) (stack_emb (n := 2) 1 inb_S2x128x128_S1x128x128_1_0_0 x)).symm
    · exact ((congrArg (lvlOfC leC) (ix3_eta x)).symm : _).trans (congrArg (lvlV (F := F)) (stack_emb (n := 2) 0 inb_S2x128x128_S1x128x128_0_0_0 x)).symm
  · simp only [List.mem_cons, List.not_mem_nil, or_false, exists_eq_or_imp, exists_eq_left]
    have h8 : (y 0).val < 2 := (y 0).isLt
    have hc : (y 0).val = 1 ∨ (y 0).val = 0 := by omega
    exact hc.imp (stack_mem (n := 2) 1 inb_S2x128x128_S1x128x128_1_0_0 y) (stack_mem (n := 2) 0 inb_S2x128x128_S1x128x128_0_0_0 y)

/-- The zeros the body stores, read back. -/
theorem st0_read (f : BufTy.Contents (Elt F) arg13.view.ty) (w0 w1 w2 w3 w4 w5 w6 w7 : FVec F S1x128x128 .f32)
    (h : ∀ x, w0 x = Scalar.ofBits .f32 0x00000000#32 ∧ w1 x = Scalar.ofBits .f32 0x00000000#32 ∧ w2 x = Scalar.ofBits .f32 0x00000000#32
      ∧ w3 x = Scalar.ofBits .f32 0x00000000#32 ∧ w4 x = Scalar.ofBits .f32 0x00000000#32 ∧ w5 x = Scalar.ofBits .f32 0x00000000#32
      ∧ w6 x = Scalar.ofBits .f32 0x00000000#32 ∧ w7 x = Scalar.ofBits .f32 0x00000000#32) :
    arg13.view.read (Elt F) (arg13.view.writes (Elt F) f
      [⟨Rect.unit (s := S8x128x128) ![7, 0, 0] S1x128x128.size inb_S8x128x128_S1x128x128_7_0_0, w7⟩,
       ⟨Rect.unit (s := S8x128x128) ![5, 0, 0] S1x128x128.size inb_S8x128x128_S1x128x128_5_0_0, w5⟩,
       ⟨Rect.unit (s := S8x128x128) ![3, 0, 0] S1x128x128.size inb_S8x128x128_S1x128x128_3_0_0, w3⟩,
       ⟨Rect.unit (s := S8x128x128) ![1, 0, 0] S1x128x128.size inb_S8x128x128_S1x128x128_1_0_0, w1⟩,
       ⟨Rect.unit (s := S8x128x128) ![6, 0, 0] S1x128x128.size inb_S8x128x128_S1x128x128_6_0_0, w6⟩,
       ⟨Rect.unit (s := S8x128x128) ![4, 0, 0] S1x128x128.size inb_S8x128x128_S1x128x128_4_0_0, w4⟩,
       ⟨Rect.unit (s := S8x128x128) ![2, 0, 0] S1x128x128.size inb_S8x128x128_S1x128x128_2_0_0, w2⟩,
       ⟨Rect.unit (s := S8x128x128) ![0, 0, 0] S1x128x128.size inb_S8x128x128_S1x128x128_0_0_0, w0⟩]) = st0V := by
  funext y
  refine View.read_writes_apply_of_pieces arg13.view f _ _ ?_ y ?_
  · intro p hp x
    simp only [List.mem_cons, List.not_mem_nil, or_false] at hp
    rcases hp with rfl | rfl | rfl | rfl | rfl | rfl | rfl | rfl
    · exact (h x).2.2.2.2.2.2.2
    · exact (h x).2.2.2.2.2.1
    · exact (h x).2.2.2.1
    · exact (h x).2.1
    · exact (h x).2.2.2.2.2.2.1
    · exact (h x).2.2.2.2.1
    · exact (h x).2.2.1
    · exact (h x).1
  · simp only [List.mem_cons, List.not_mem_nil, or_false, exists_eq_or_imp, exists_eq_left]
    have h8 : (y 0).val < 8 := (y 0).isLt
    have hc : (y 0).val = 7 ∨ (y 0).val = 5 ∨ (y 0).val = 3 ∨ (y 0).val = 1 ∨ (y 0).val = 6 ∨ (y 0).val = 4 ∨ (y 0).val = 2 ∨ (y 0).val = 0 := by omega
    exact hc.imp (stack_mem (n := 8) 7 inb_S8x128x128_S1x128x128_7_0_0 y) (Or.imp (stack_mem (n := 8) 5 inb_S8x128x128_S1x128x128_5_0_0 y)
      (Or.imp (stack_mem (n := 8) 3 inb_S8x128x128_S1x128x128_3_0_0 y) (Or.imp (stack_mem (n := 8) 1 inb_S8x128x128_S1x128x128_1_0_0 y)
      (Or.imp (stack_mem (n := 8) 6 inb_S8x128x128_S1x128x128_6_0_0 y) (Or.imp (stack_mem (n := 8) 4 inb_S8x128x128_S1x128x128_4_0_0 y)
      (Or.imp (stack_mem (n := 8) 2 inb_S8x128x128_S1x128x128_2_0_0 y) (stack_mem (n := 8) 0 inb_S8x128x128_S1x128x128_0_0_0 y)))))))

theorem colH_eq {e : EltTy} (X : Vec F S256x512 e) (h : Fin 4) (hb : ∀ x, (![0, 128 * h.val] : Fin 2 → ℕ) x + S256x128.size x ≤ S256x512.size x) :
    View.ld X (Rect.unit (s := S256x512) ![0, 128 * h.val] S256x128.size hb) = colH X h := by
  funext i
  refine View.ld_unit_apply_of _ _ _ _ _ _ fun x => ?_
  match x with
  | ⟨0, _⟩ => show (i 0).val = 0 + (i 0).val; omega
  | ⟨1, _⟩ => rfl

variable (h4 : arg4.view.read (Elt F) X4 = x2) (h5 : arg5.view.read (Elt F) X5 = x3) (h6 : arg6.view.read (Elt F) X6 = x4)
  (h7 : arg7.view.read (Elt F) X7 = x5) (h14 : arg14.view.read (Elt F) X14 = triV) (h15 : arg15.view.read (Elt F) X15 = lvlV)
  (h13 : arg13.view.read (Elt F) f13 = st0V) (hL0 : L0 = lbF x0) (hL1 : L1 = lbB x0)

include hn h51 h56 h61 h66 h120 h4 h5 h6 h7 h14 h15 h13 hL0 hL1 in
/-- The first output's block from the four pieces the body stores. -/
theorem out9 (f9 : BufTy.Contents (Elt F) arg9.view.ty) (w0 w1 w2 w3 : FVec F S256x128 .bf16)
    (hw0 : w0 = normOut (View.readAt (Elt F) arg11.view (Rect.unit (s := S256x512) ![0, 0] S256x128.size inb_S256x512_S256x128_0_0).toLoadRect (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).1)) (View.readAt (Elt F) arg12.view (Rect.unit (s := S256x512) ![0, 0] S256x128.size inb_S256x512_S256x128_0_0).toLoadRect (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.1))
      (View.readAt (Elt F) arg8.view (Rect.unit (s := S256x512) ![0, 0] S256x128.size inb_S256x512_S256x128_0_0).toLoadRect (harg8.unread x6))
      (View.readAt (Elt F) arg3.view (Rect.unit (s := S1x128) ![0, 0] S1x128.size inb_S1x128_S1x128_0_0).toLoadRect (harg3.unread x1)))
    (hw1 : w1 = normOut (View.readAt (Elt F) arg11.view (Rect.unit (s := S256x512) ![0, 128] S256x128.size inb_S256x512_S256x128_0_128).toLoadRect (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).1)) (View.readAt (Elt F) arg12.view (Rect.unit (s := S256x512) ![0, 128] S256x128.size inb_S256x512_S256x128_0_128).toLoadRect (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.1))
      (View.readAt (Elt F) arg8.view (Rect.unit (s := S256x512) ![0, 128] S256x128.size inb_S256x512_S256x128_0_128).toLoadRect (harg8.unread x6))
      (View.readAt (Elt F) arg3.view (Rect.unit (s := S1x128) ![0, 0] S1x128.size inb_S1x128_S1x128_0_0).toLoadRect (harg3.unread x1)))
    (hw2 : w2 = normOut (View.readAt (Elt F) arg11.view (Rect.unit (s := S256x512) ![0, 256] S256x128.size inb_S256x512_S256x128_0_256).toLoadRect (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).1)) (View.readAt (Elt F) arg12.view (Rect.unit (s := S256x512) ![0, 256] S256x128.size inb_S256x512_S256x128_0_256).toLoadRect (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.1))
      (View.readAt (Elt F) arg8.view (Rect.unit (s := S256x512) ![0, 256] S256x128.size inb_S256x512_S256x128_0_256).toLoadRect (harg8.unread x6))
      (View.readAt (Elt F) arg3.view (Rect.unit (s := S1x128) ![0, 0] S1x128.size inb_S1x128_S1x128_0_0).toLoadRect (harg3.unread x1)))
    (hw3 : w3 = normOut (View.readAt (Elt F) arg11.view (Rect.unit (s := S256x512) ![0, 384] S256x128.size inb_S256x512_S256x128_0_384).toLoadRect (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).1)) (View.readAt (Elt F) arg12.view (Rect.unit (s := S256x512) ![0, 384] S256x128.size inb_S256x512_S256x128_0_384).toLoadRect (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.1))
      (View.readAt (Elt F) arg8.view (Rect.unit (s := S256x512) ![0, 384] S256x128.size inb_S256x512_S256x128_0_384).toLoadRect (harg8.unread x6))
      (View.readAt (Elt F) arg3.view (Rect.unit (s := S1x128) ![0, 0] S1x128.size inb_S1x128_S1x128_0_0).toLoadRect (harg3.unread x1))) :
    arg9.view.read (Elt F) (arg9.view.writes (Elt F) f9
      [⟨Rect.unit (s := S256x512) ![0, 384] S256x128.size inb_S256x512_S256x128_0_384, w3⟩,
       ⟨Rect.unit (s := S256x512) ![0, 256] S256x128.size inb_S256x512_S256x128_0_256, w2⟩,
       ⟨Rect.unit (s := S256x512) ![0, 128] S256x128.size inb_S256x512_S256x128_0_128, w1⟩,
       ⟨Rect.unit (s := S256x512) ![0, 0] S256x128.size inb_S256x512_S256x128_0_0, w0⟩]) = outO x0 x1 x2 x3 x4 x5 x6 := by
  subst hn hL0 hL1
  have eA := loop11 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (lbF x0) (lbB x0) v51 v56 v61 v66 v120 cst_39 h51 h56 h61 h66 h120 X4 X5 X6 X7 X14 X15 f11 f12 f13
  have eB := loop12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (lbF x0) (lbB x0) v51 v56 v61 v66 v120 cst_39 h51 h56 h61 h66 h120 X4 X5 X6 X7 X14 X15 f11 f12 f13
  rw [h4, h5, h6, h7, h14, h15, h13] at eA eB
  have eA' : _ = dirOut false x0 x2 x3 x4 x5 := eA
  have eB' : _ = dirOut true x0 x2 x3 x4 x5 := eB
  have e1 : View.ld x1 (Rect.unit (s := S1x128) ![0, 0] S1x128.size inb_S1x128_S1x128_0_0) = x1 :=
    View.ld_unit_zero (by funext a; match a with | ⟨0, _⟩ => rfl | ⟨1, _⟩ => rfl) _ _
  simp only [View.readAt_eq_ld, eA', eB', harg8.read_unread, harg3.read_unread, e1] at hw0 hw1 hw2 hw3
  have key : ∀ (h : Fin 4) (hb : ∀ x, (![0, 128 * h.val] : Fin 2 → ℕ) x + S256x128.size x ≤ S256x512.size x) (w : FVec F S256x128 .bf16)
      (hw : w = normOut (View.ld (dirOut false x0 x2 x3 x4 x5) (Rect.unit (s := S256x512) ![0, 128 * h.val] S256x128.size hb))
        (View.ld (dirOut true x0 x2 x3 x4 x5) (Rect.unit (s := S256x512) ![0, 128 * h.val] S256x128.size hb))
        (View.ld x6 (Rect.unit (s := S256x512) ![0, 128 * h.val] S256x128.size hb)) x1) (x : S256x128.Idx),
      w x = outO x0 x1 x2 x3 x4 x5 x6 ((Rect.unit (s := S256x512) ![0, 128 * h.val] S256x128.size hb).emb x) := by
    intro h hb w hw x
    have a1 : (x 1).val < 128 := (x 1).isLt
    have e : (Rect.unit (s := S256x512) ![0, 128 * h.val] S256x128.size hb).emb x
        = ix2 (n0 := 256) (n1 := 512) (x 0) ⟨128 * h.val + (x 1).val, by omega⟩ := by
      funext a
      refine Fin.ext ((Rect.idx_unit_val _ _ _ _ _).trans ?_)
      match a with
      | ⟨0, _⟩ => show 0 + (x 0).val = (x 0).val; omega
      | ⟨1, _⟩ => rfl
    rw [e, hw, colH_eq, colH_eq, colH_eq]
    have eh : (⟨(128 * h.val + (x 1).val) / 128, by omega⟩ : Fin 4) = h := Fin.ext (by show _ / 128 = _; omega)
    show _ = normOut (colH _ ⟨(128 * h.val + (x 1).val) / 128, _⟩) (colH _ ⟨(128 * h.val + (x 1).val) / 128, _⟩)
      (colH _ ⟨(128 * h.val + (x 1).val) / 128, _⟩) _ _
    rw [eh]
    refine congrArg _ ?_
    funext a
    match a with
    | ⟨0, _⟩ => rfl
    | ⟨1, _⟩ => exact Fin.ext (by show (x 1).val = (128 * h.val + (x 1).val) % 128; omega)
  have mem : ∀ (y : S256x512.Idx) (h : Fin 4) (hb : ∀ x, (![0, 128 * h.val] : Fin 2 → ℕ) x + S256x128.size x ≤ S256x512.size x),
      (y 1).val / 128 = h.val → y ∈ (Rect.unit (s := S256x512) ![0, 128 * h.val] S256x128.size hb).set := by
    intro y h hb h1
    refine Rect.mem_set_unit.2 fun a => ?_
    match a with
    | ⟨0, _⟩ => exact ⟨Nat.zero_le _, by have : (y 0).val < 256 := (y 0).isLt; show (y 0).val < 0 + 256; omega⟩
    | ⟨1, _⟩ => exact ⟨by show 128 * h.val ≤ (y 1).val; omega, by show (y 1).val < 128 * h.val + 128; omega⟩
  funext y
  refine View.read_writes_apply_of_pieces arg9.view f9 _ _ ?_ y ?_
  · intro p hp x
    simp only [List.mem_cons, List.not_mem_nil, or_false] at hp
    rcases hp with rfl | rfl | rfl | rfl
    · exact key 3 inb_S256x512_S256x128_0_384 _ hw3 x
    · exact key 2 inb_S256x512_S256x128_0_256 _ hw2 x
    · exact key 1 inb_S256x512_S256x128_0_128 _ hw1 x
    · exact key 0 inb_S256x512_S256x128_0_0 _ hw0 x
  · simp only [List.mem_cons, List.not_mem_nil, or_false, exists_eq_or_imp, exists_eq_left]
    have h8 : (y 1).val < 512 := (y 1).isLt
    have hc : (y 1).val / 128 = 3 ∨ (y 1).val / 128 = 2 ∨ (y 1).val / 128 = 1 ∨ (y 1).val / 128 = 0 := by omega
    exact hc.imp (mem y 3 inb_S256x512_S256x128_0_384) (Or.imp (mem y 2 inb_S256x512_S256x128_0_256)
      (Or.imp (mem y 1 inb_S256x512_S256x128_0_128) (mem y 0 inb_S256x512_S256x128_0_0)))

include hn h51 h56 h61 h66 h120 h5 h6 h7 h14 h13 hL0 hL1 in
/-- The second output's block from the eight pieces the body stores. -/
theorem out10 (f10 : BufTy.Contents (Elt F) arg10.view.ty) (HS : List (View.Piece (Elt F) S8x128x128 .f32))
    (hf13 : f13 = arg13.view.writes (Elt F) arg13.view.junk HS)
    (w0 w1 w2 w3 w4 w5 w6 w7 : FVec F S1x1x1x128x128 .f32)
    (hw0 : w0 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![0, 0, 0] S1x128x128.size inb_S8x128x128_S1x128x128_0_0_0).toLoadRect))
    (hw1 : w1 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![1, 0, 0] S1x128x128.size inb_S8x128x128_S1x128x128_1_0_0).toLoadRect))
    (hw2 : w2 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![2, 0, 0] S1x128x128.size inb_S8x128x128_S1x128x128_2_0_0).toLoadRect))
    (hw3 : w3 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![3, 0, 0] S1x128x128.size inb_S8x128x128_S1x128x128_3_0_0).toLoadRect))
    (hw4 : w4 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![4, 0, 0] S1x128x128.size inb_S8x128x128_S1x128x128_4_0_0).toLoadRect))
    (hw5 : w5 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![5, 0, 0] S1x128x128.size inb_S8x128x128_S1x128x128_5_0_0).toLoadRect))
    (hw6 : w6 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![6, 0, 0] S1x128x128.size inb_S8x128x128_S1x128x128_6_0_0).toLoadRect))
    (hw7 : w7 = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 L1 v120 cst_39 X4 X5 X6 X7 X14 X15 f11 f12 f13 n).2.2 ++ HS) (Rect.unit (s := S8x128x128) ![7, 0, 0] S1x128x128.size inb_S8x128x128_S1x128x128_7_0_0).toLoadRect)) :
    arg10.view.read (Elt F) (arg10.view.writes (Elt F) f10
      [⟨Rect.unit (s := S1x2x4x128x128) ![0, 1, 3, 0, 0] S1x1x1x128x128.size inb_S1x2x4x128x128_S1x1x1x128x128_0_1_3_0_0, w7⟩,
       ⟨Rect.unit (s := S1x2x4x128x128) ![0, 0, 3, 0, 0] S1x1x1x128x128.size inb_S1x2x4x128x128_S1x1x1x128x128_0_0_3_0_0, w6⟩,
       ⟨Rect.unit (s := S1x2x4x128x128) ![0, 1, 2, 0, 0] S1x1x1x128x128.size inb_S1x2x4x128x128_S1x1x1x128x128_0_1_2_0_0, w5⟩,
       ⟨Rect.unit (s := S1x2x4x128x128) ![0, 0, 2, 0, 0] S1x1x1x128x128.size inb_S1x2x4x128x128_S1x1x1x128x128_0_0_2_0_0, w4⟩,
       ⟨Rect.unit (s := S1x2x4x128x128) ![0, 1, 1, 0, 0] S1x1x1x128x128.size inb_S1x2x4x128x128_S1x1x1x128x128_0_1_1_0_0, w3⟩,
       ⟨Rect.unit (s := S1x2x4x128x128) ![0, 0, 1, 0, 0] S1x1x1x128x128.size inb_S1x2x4x128x128_S1x1x1x128x128_0_0_1_0_0, w2⟩,
       ⟨Rect.unit (s := S1x2x4x128x128) ![0, 1, 0, 0, 0] S1x1x1x128x128.size inb_S1x2x4x128x128_S1x1x1x128x128_0_1_0_0_0, w1⟩,
       ⟨Rect.unit (s := S1x2x4x128x128) ![0, 0, 0, 0, 0] S1x1x1x128x128.size inb_S1x2x4x128x128_S1x1x1x128x128_0_0_0_0_0, w0⟩]) = outS x0 x3 x4 x5 := by
  subst hn hL0 hL1
  have eS := loop13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 (lbF x0) (lbB x0) v51 v56 v61 v66 v120 cst_39 h51 h56 h61 h66 h120 X4 X5 X6 X7 X14 X15 f11 f12 f13
  rw [h5, h6, h7, h14, h13] at eS
  have eS' : _ = stEnd x0 x3 x4 x5 := eS
  have key : ∀ (d : Fin 2) (h : Fin 4) (hb : ∀ x, (![0, d.val, h.val, 0, 0] : Fin 5 → ℕ) x + S1x1x1x128x128.size x ≤ S1x2x4x128x128.size x)
      (s : Fin 8) (hs : s.val = 2 * h.val + d.val) (hb' : ∀ x, (![s.val, 0, 0] : Fin 3 → ℕ) x + S1x128x128.size x ≤ S8x128x128.size x)
      (w : FVec F S1x1x1x128x128 .f32)
      (hw : w = stT (arg13.view.readCov ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v51 v56 v61 v66 (lbB x0) v120 cst_39 X4 X5 X6 X7 X14 X15 f11 f12 f13 2).2.2 ++ HS)
        (Rect.unit (s := S8x128x128) ![s.val, 0, 0] S1x128x128.size hb').toLoadRect)) (x : S1x1x1x128x128.Idx),
      w x = outS x0 x3 x4 x5 ((Rect.unit (s := S1x2x4x128x128) ![0, d.val, h.val, 0, 0] S1x1x1x128x128.size hb).emb x) := by
    intro d h hb s hs hb' w hw x
    have e : (Rect.unit (s := S1x2x4x128x128) ![0, d.val, h.val, 0, 0] S1x1x1x128x128.size hb).emb x
        = ix5 (n0 := 1) (n1 := 2) (n2 := 4) (n3 := 128) (n4 := 128) 0 d h (x 3) (x 4) := by
      have a0 : (x 0).val < 1 := (x 0).isLt
      have a1 : (x 1).val < 1 := (x 1).isLt
      have a2 : (x 2).val < 1 := (x 2).isLt
      funext a
      refine Fin.ext ((Rect.idx_unit_val _ _ _ _ _).trans ?_)
      match a with
      | ⟨0, _⟩ => show 0 + (x 0).val = 0; omega
      | ⟨1, _⟩ => show d.val + (x 1).val = d.val; omega
      | ⟨2, _⟩ => show h.val + (x 2).val = h.val; omega
      | ⟨3, _⟩ => show 0 + (x 3).val = (x 3).val; omega
      | ⟨4, _⟩ => show 0 + (x 4).val = (x 4).val; omega
    rw [e, hw, stT_apply, View.readCov, View.readAt_eq_ld, View.writes_append, ← hf13, eS']
    refine (View.ld_unit_apply_of _ _ _ _ _ (ix3 (n0 := 8) (n1 := 128) (n2 := 128) s (x 4) (x 3)) fun a => ?_).trans ?_
    · match a with
      | ⟨0, _⟩ => rfl
      | ⟨1, _⟩ => show (x 4).val = 0 + (x 4).val; omega
      | ⟨2, _⟩ => show (x 3).val = 0 + (x 3).val; omega
    · exact congrArg (fun t => stEnd x0 x3 x4 x5 (ix3 (n0 := 8) (n1 := 128) (n2 := 128) t (x 4) (x 3))) (Fin.ext hs)
  have mem : ∀ (y : S1x2x4x128x128.Idx) (d : Fin 2) (h : Fin 4) (hb : ∀ x, (![0, d.val, h.val, 0, 0] : Fin 5 → ℕ) x + S1x1x1x128x128.size x ≤ S1x2x4x128x128.size x),
      2 * (y 2).val + (y 1).val = 2 * h.val + d.val → y ∈ (Rect.unit (s := S1x2x4x128x128) ![0, d.val, h.val, 0, 0] S1x1x1x128x128.size hb).set := by
    intro y d h hb h1
    have hy1 : (y 1).val < 2 := (y 1).isLt
    refine Rect.mem_set_unit.2 fun a => ?_
    match a with
    | ⟨0, _⟩ => exact ⟨Nat.zero_le _, by have : (y 0).val < 1 := (y 0).isLt; show (y 0).val < 0 + 1; omega⟩
    | ⟨1, _⟩ => exact ⟨by show d.val ≤ (y 1).val; omega, by show (y 1).val < d.val + 1; omega⟩
    | ⟨2, _⟩ => exact ⟨by show h.val ≤ (y 2).val; omega, by show (y 2).val < h.val + 1; omega⟩
    | ⟨3, _⟩ => exact ⟨Nat.zero_le _, by have : (y 3).val < 128 := (y 3).isLt; show (y 3).val < 0 + 128; omega⟩
    | ⟨4, _⟩ => exact ⟨Nat.zero_le _, by have : (y 4).val < 128 := (y 4).isLt; show (y 4).val < 0 + 128; omega⟩
  funext y
  refine View.read_writes_apply_of_pieces arg10.view f10 _ _ ?_ y ?_
  · intro p hp x
    simp only [List.mem_cons, List.not_mem_nil, or_false] at hp
    rcases hp with rfl | rfl | rfl | rfl | rfl | rfl | rfl | rfl
    · exact key 1 3 inb_S1x2x4x128x128_S1x1x1x128x128_0_1_3_0_0 7 rfl inb_S8x128x128_S1x128x128_7_0_0 _ hw7 x
    · exact key 0 3 inb_S1x2x4x128x128_S1x1x1x128x128_0_0_3_0_0 6 rfl inb_S8x128x128_S1x128x128_6_0_0 _ hw6 x
    · exact key 1 2 inb_S1x2x4x128x128_S1x1x1x128x128_0_1_2_0_0 5 rfl inb_S8x128x128_S1x128x128_5_0_0 _ hw5 x
    · exact key 0 2 inb_S1x2x4x128x128_S1x1x1x128x128_0_0_2_0_0 4 rfl inb_S8x128x128_S1x128x128_4_0_0 _ hw4 x
    · exact key 1 1 inb_S1x2x4x128x128_S1x1x1x128x128_0_1_1_0_0 3 rfl inb_S8x128x128_S1x128x128_3_0_0 _ hw3 x
    · exact key 0 1 inb_S1x2x4x128x128_S1x1x1x128x128_0_0_1_0_0 2 rfl inb_S8x128x128_S1x128x128_2_0_0 _ hw2 x
    · exact key 1 0 inb_S1x2x4x128x128_S1x1x1x128x128_0_1_0_0_0 1 rfl inb_S8x128x128_S1x128x128_1_0_0 _ hw1 x
    · exact key 0 0 inb_S1x2x4x128x128_S1x1x1x128x128_0_0_0_0_0 0 rfl inb_S8x128x128_S1x128x128_0_0_0 _ hw0 x
  · simp only [List.mem_cons, List.not_mem_nil, or_false, exists_eq_or_imp, exists_eq_left]
    have hy1 : (y 1).val < 2 := (y 1).isLt
    have hy2 : (y 2).val < 4 := (y 2).isLt
    have hc : 2 * (y 2).val + (y 1).val = 7 ∨ 2 * (y 2).val + (y 1).val = 6 ∨ 2 * (y 2).val + (y 1).val = 5 ∨ 2 * (y 2).val + (y 1).val = 4 ∨ 2 * (y 2).val + (y 1).val = 3 ∨ 2 * (y 2).val + (y 1).val = 2 ∨ 2 * (y 2).val + (y 1).val = 1 ∨ 2 * (y 2).val + (y 1).val = 0 := by omega
    exact hc.imp (mem y 1 3 inb_S1x2x4x128x128_S1x1x1x128x128_0_1_3_0_0) (Or.imp (mem y 0 3 inb_S1x2x4x128x128_S1x1x1x128x128_0_0_3_0_0) (Or.imp (mem y 1 2 inb_S1x2x4x128x128_S1x1x1x128x128_0_1_2_0_0) (Or.imp (mem y 0 2 inb_S1x2x4x128x128_S1x1x1x128x128_0_0_2_0_0) (Or.imp (mem y 1 1 inb_S1x2x4x128x128_S1x1x1x128x128_0_1_1_0_0) (Or.imp (mem y 0 1 inb_S1x2x4x128x128_S1x1x1x128x128_0_0_1_0_0) (Or.imp (mem y 1 0 inb_S1x2x4x128x128_S1x1x1x128x128_0_1_0_0_0) (mem y 0 0 inb_S1x2x4x128x128_S1x1x1x128x128_0_0_0_0_0)))))))

end
end Cert.KernelIdeal.Chunk
-- ==== Proof.Run.lean ====
/- The kernel body run on whole staging buffers, its outputs named. -/
module

public import proofs.«01_k».proof.Proof.Gen.KernelIdeal.Frame
public import proofs.«01_k».proof.Proof.Gen.KernelIdeal.Loops
public import proofs.«01_k».proof.Proof.Body

@[expose] public section

-- membership in a rectangle of production extents (`View.cover_of_tiled`): the elaborator's structural look
-- recurses once per coordinate of the long axes
set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 400000 in
/-- The body run: the inputs' blocks stay, the outputs end at `outO` and `outS` of them, the scratch at anything. -/
theorem body_run (c : Dev nD) (i : grid0.Coords) (arg2 : Memref sig .tc .vmem S8x512 .f32) (harg2 : arg2.IsWhole) (arg3 : Memref sig .tc .vmem S1x128 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x2x4x128x128 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S8x128x128 .f32) (harg13 : arg13.IsWhole) (arg14 : Memref sig .tc .vmem S2x128x128 .bf16) (harg14 : arg14.IsWhole) (arg15 : Memref sig .tc .vmem S2x128x128 .i32) (harg15 : arg15.IsWhole)
    (x0 : Vec F S8x512 .f32) (x1 : Vec F S1x128 .f32) (x2 : Vec F S256x512 .bf16) (x3 : Vec F S256x512 .bf16) (x4 : Vec F S256x512 .bf16) (x5 : Vec F S256x512 .bf16) (x6 : Vec F S256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (Chunk.outO x0 x1 x2 x3 x4 x5 x6) ∗ owns (c : Thread nD τ) arg10 fullShare (Chunk.outS x0 x3 x4 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_hgrn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_hgrn_eq_skeleton]; unfold cc0_hgrn_skel
    simp only [k0_part48_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    have ez : (View.readAt (Elt F) arg2.view (Rect.unit (s := S8x512) ![0, 0] S8x512.size inb_S8x512_S8x512_0_0).toLoadRect (harg2.unread x0)) = x0 := by
      rw [View.readAt_eq_ld, harg2.read_unread]
      exact View.ld_unit_zero (by decide) _ _
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine Eq.trans (b := (Chunk.outO (View.readAt (Elt F) arg2.view (Rect.unit (s := S8x512) ![0, 0] S8x512.size inb_S8x512_S8x512_0_0).toLoadRect (harg2.unread x0)) x1 x2 x3 x4 x5 x6)) ?goal (congrArg (fun z => Chunk.outO z x1 x2 x3 x4 x5 x6) ez)
      case goal =>
       refine Chunk.out9 Variants.none c none i arg2 harg2 arg3 harg3 arg4 harg4 arg5 harg5 arg6 harg6 arg7 harg7 arg8 harg8 arg9 harg9 arg10 harg10 arg11 harg11 arg12 harg12 arg13 harg13 arg14 harg14 arg15 harg15 (Chunk.lbF (View.readAt (Elt F) arg2.view (Rect.unit (s := S8x512) ![0, 0] S8x512.size inb_S8x512_S8x512_0_0).toLoadRect (harg2.unread x0))) (body_run.sl.v119 c arg2 harg2 x0)
        (body_run.sl.v51 c arg2 harg2 x0) (body_run.sl.v56 c arg2 harg2 x0) (body_run.sl.v61 c arg2 harg2 x0) (body_run.sl.v66 c arg2 harg2 x0) (body_run.sl.v120 c arg2 harg2 x0) _ ?h51 ?h56 ?h61 ?h66 ?h120 _ _ _ _ _ _ _ _ _ _ ?hn (View.readAt (Elt F) arg2.view (Rect.unit (s := S8x512) ![0, 0] S8x512.size inb_S8x512_S8x512_0_0).toLoadRect (harg2.unread x0)) x1 x2 x3 x4 x5 x6
        (harg4.read_unread x2) (harg5.read_unread x3) (harg6.read_unread x4) (harg7.read_unread x5) ?h14 ?h15 ?h13 rfl ?hL1 _ _ _ _ _ rfl rfl rfl rfl
       case h51 => exact (Chunk.lbh_eq _ 0 ![0, 0] _ rfl)
       case h56 => exact (Chunk.lbh_eq _ 1 ![0, 128] _ rfl)
       case h61 => exact (Chunk.lbh_eq _ 2 ![0, 256] _ rfl)
       case h66 => exact (Chunk.lbh_eq _ 3 ![0, 384] _ rfl)
       case h120 => exact (Chunk.lbh_eq _ 0 ![0, 0] _ rfl)
       case hn => decide
       case hL1 => rfl
       case h14 => exact Chunk.tri_read arg14 _
       case h13 => exact Chunk.st0_read arg13 _ _ _ _ _ _ _ _ _ fun x => ⟨rfl, rfl, rfl, rfl, rfl, rfl, rfl, rfl⟩
       case h15 => exact Chunk.lvl_read arg15 _

    isplitl [H8]
    · iexists _; isplitr; swap; · iexact H8
      ipureintro
      refine Eq.trans (b := (Chunk.outS (View.readAt (Elt F) arg2.view (Rect.unit (s := S8x512) ![0, 0] S8x512.size inb_S8x512_S8x512_0_0).toLoadRect (harg2.unread x0)) x3 x4 x5)) ?goal (congrArg (fun z => Chunk.outS z x3 x4 x5) ez)
      case goal =>
       refine Chunk.out10 Variants.none c none i arg2 harg2 arg3 harg3 arg4 harg4 arg5 harg5 arg6 harg6 arg7 harg7 arg8 harg8 arg9 harg9 arg10 harg10 arg11 harg11 arg12 harg12 arg13 harg13 arg14 harg14 arg15 harg15 (Chunk.lbF (View.readAt (Elt F) arg2.view (Rect.unit (s := S8x512) ![0, 0] S8x512.size inb_S8x512_S8x512_0_0).toLoadRect (harg2.unread x0))) (body_run.sl.v119 c arg2 harg2 x0)
        (body_run.sl.v51 c arg2 harg2 x0) (body_run.sl.v56 c arg2 harg2 x0) (body_run.sl.v61 c arg2 harg2 x0) (body_run.sl.v66 c arg2 harg2 x0) (body_run.sl.v120 c arg2 harg2 x0) _ ?h51 ?h56 ?h61 ?h66 ?h120 _ _ _ _ _ _ _ _ _ _ ?hn (View.readAt (Elt F) arg2.view (Rect.unit (s := S8x512) ![0, 0] S8x512.size inb_S8x512_S8x512_0_0).toLoadRect (harg2.unread x0)) x3 x4 x5
        (harg5.read_unread x3) (harg6.read_unread x4) (harg7.read_unread x5) ?h14 ?h13 rfl ?hL1 _ _ ?hf13 _ _ _ _ _ _ _ _ rfl rfl rfl rfl rfl rfl rfl rfl
       case h51 => exact (Chunk.lbh_eq _ 0 ![0, 0] _ rfl)
       case h56 => exact (Chunk.lbh_eq _ 1 ![0, 128] _ rfl)
       case h61 => exact (Chunk.lbh_eq _ 2 ![0, 256] _ rfl)
       case h66 => exact (Chunk.lbh_eq _ 3 ![0, 384] _ rfl)
       case h120 => exact (Chunk.lbh_eq _ 0 ![0, 0] _ rfl)
       case hn => decide
       case hL1 => rfl
       case h14 => exact Chunk.tri_read arg14 _
       case h13 => exact Chunk.st0_read arg13 _ _ _ _ _ _ _ _ _ fun x => ⟨rfl, rfl, rfl, rfl, rfl, rfl, rfl, rfl⟩
       case hf13 => rfl

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Hand

end
-- ==== Proof.Launch.lean ====
/- The launch of the kernel with its two outputs named. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging buffer at a point, and that it is whole. -/
abbrev ms0_0 (t : Fin cfg0.N) : Memref sig .tc .vmem S8x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x4x128x128 .f32 := win0_8.stage (cfg0.slots t 8)
abbrev hs0_8 (t : Fin cfg0.N) : (ms0_8 t).IsWhole := hstage0_8 ((cfg0.slots t 8).cast nbuf0_8)
/-- The scratch buffers. -/
abbrev scM0_0 : Memref sig .tc .vmem S256x512 .f32 := Memref.whole cc0_scratch0
abbrev scM0_1 : Memref sig .tc .vmem S256x512 .f32 := Memref.whole cc0_scratch1
abbrev scM0_2 : Memref sig .tc .vmem S8x128x128 .f32 := Memref.whole cc0_scratch2
abbrev scM0_3 : Memref sig .tc .vmem S2x128x128 .bf16 := Memref.whole cc0_scratch3
abbrev scM0_4 : Memref sig .tc .vmem S2x128x128 .i32 := Memref.whole cc0_scratch4

/-- The invariant, with the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The two output blocks at a point. -/
def outO' (c : Dev nD) (t : Fin cfg0.N) : Vec F S256x512 .bf16 :=
  Chunk.outO (iblk m c 0 t) (iblk m c 1 t) (iblk m c 2 t) (iblk m c 3 t) (iblk m c 4 t) (iblk m c 5 t) (iblk m c 6 t)
def outS' (c : Dev nD) (t : Fin cfg0.N) : Vec F S1x2x4x128x128 .f32 :=
  Chunk.outS (iblk m c 0 t) (iblk m c 3 t) (iblk m c 4 t) (iblk m c 5 t)

/-- The proof data of the pipeline: inputs at their blocks, the outputs at the body's results of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outO' m c t
    | ⟨8, _⟩ => outS' m c t
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outO' m c t := by dsimp only [dats]
theorem after0_8 (c : Dev nD) (t : Fin cfg0.N) : (dats m 0 c).after 8 t = outS' m c t := by dsimp only [dats]

/-- Each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs hold their blocks, so `body_run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array the pipeline stages ends as the proof data says, and every semaphore at zero. -/
theorem run_all : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand

end
-- ==== Proof.Value.lean ====
/- What the kernel leaves in its two result arrays, as functions of its arguments. -/
module

public import proofs.«01_k».proof.Proof.Launch
public import Idealize.ShloMosaic.Lib.Pipeline.Value
public import Idealize.ShloMosaic.Lib.StableHlo.RunRead
public import Idealize.ShloMosaic.Lib.Pointwise

@[expose] public section

set_option maxRecDepth 16384

noncomputable section

namespace Cert.KernelIdeal.Hand
open Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F] [Named F]

/-- One sequence's rows and one group of 512 columns. -/
def part {α : Type} (X : S24576x4096.Idx → α) (b : Fin 32) (n : Fin 8) : S256x512.Idx → α := fun y =>
  X (ix2 (n0 := 24576) (n1 := 4096) ⟨256 * b.val + (y 0).val, by have : (y 0).val < 256 := (y 0).isLt; omega⟩
    ⟨512 * n.val + (y 1).val, by have : (y 1).val < 512 := (y 1).isLt; omega⟩)

/-- The lower bounds' table as the kernel takes it. -/
def lbT (a1 : Vec F S4x2x512 .f32) : Vec F S8x512 .f32 := shapeCast S8x512 a1 shapeCasts_S4x2x512_S8x512

/-- The layer's norm weights as the kernel takes them. -/
def nwT (a2 : Vec F S4x128 .f32) : Vec F S1x128 .f32 :=
  shapeCast S1x128 (shapeCast S128 (extractStridedSlice S1x128 ![3, 0] a2 slices_S4x128_S1x128_3_0 : FVec F S1x128 .f32) shapeCasts_S1x128_S128 : FVec F S128 .f32)
    shapeCasts_S128_S1x128

/-- The first result. -/
def resO (a0 : Vec F S24576x4096 .bf16) (a1 : Vec F S4x2x512 .f32) (a2 : Vec F S4x128 .f32) : Vec F S8192x512 .bf16 := fun i =>
  have h0 : (i 0).val < 8192 := (i 0).isLt
  have b : Fin 32 := ⟨(i 0).val / 256, by omega⟩
  Chunk.outO (lbT a1) (nwT a2) (part a0 ⟨(i 0).val / 256, by omega⟩ 3) (part a0 ⟨(i 0).val / 256, by omega⟩ 4) (part a0 ⟨(i 0).val / 256, by omega⟩ 5)
    (part a0 ⟨(i 0).val / 256, by omega⟩ 6) (part a0 ⟨(i 0).val / 256, by omega⟩ 7)
    (ix2 (n0 := 256) (n1 := 512) ⟨(i 0).val % 256, by omega⟩ (i 1))

/-- The second result. -/
def resS (a0 : Vec F S24576x4096 .bf16) (a1 : Vec F S4x2x512 .f32) : Vec F S32x2x4x128x128 .f32 := fun i =>
  Chunk.outS (lbT a1) (part a0 (i 0) 4) (part a0 (i 0) 5) (part a0 (i 0) 6)
    (ix5 (n0 := 1) (n1 := 2) (n2 := 4) (n3 := 128) (n4 := 128) 0 (i 1) (i 2) (i 3) (i 4))

variable (m : (ℓ : Loc nD τ sig) → Buf (Elt F) ℓ) (ρ : Dev nD → PrngReg)

theorem V_v0 (c : Dev nD) : V m c main_v0 = lbT (m ((c : Thread nD τ).loc main_arg1)) := by
  unfold V hostOps0; after_reads_simp; rfl

theorem V_v3 (c : Dev nD) : V m c main_v3 = nwT (m ((c : Thread nD τ).loc main_arg2)) := by
  unfold V hostOps0; after_reads_simp; rfl

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![t.val, 3] := by decide +kernel
theorem idx0_3 : ∀ t : Fin grid0.N, win0_3.index t = ![t.val, 4] := by decide +kernel
theorem idx0_4 : ∀ t : Fin grid0.N, win0_4.index t = ![t.val, 5] := by decide +kernel
theorem idx0_5 : ∀ t : Fin grid0.N, win0_5.index t = ![t.val, 6] := by decide +kernel
theorem idx0_6 : ∀ t : Fin grid0.N, win0_6.index t = ![t.val, 7] := by decide +kernel
theorem idx0_7 : ∀ t : Fin grid0.N, win0_7.index t = ![t.val, 0] := by decide +kernel
theorem idx0_8 : ∀ t : Fin grid0.N, win0_8.index t = ![t.val, 0, 0, 0, 0] := by decide +kernel

theorem N_eq : cfg0.N = 32 := by decide

/-- The sequence a point works on. -/
def seqOf (t : Fin cfg0.N) : Fin 32 := t.cast N_eq

theorem iblk_0 (c : Dev nD) (t : Fin cfg0.N) : (iblk m c 0 t : Vec F S8x512 .f32) = lbT (m ((c : Thread nD τ).loc main_arg1)) := by
  refine Eq.trans ?_ (V_v0 m c)
  funext y
  refine congrArg (V m c main_v0) (funext fun a => Fin.ext ?_)
  refine (Window.rect_emb_val_of_index_zero win0_0 t a ?_ y)
  rw [idx0_0]; match a with | ⟨0, _⟩ => rfl | ⟨1, _⟩ => rfl

theorem iblk_1 (c : Dev nD) (t : Fin cfg0.N) : (iblk m c 1 t : Vec F S1x128 .f32) = nwT (m ((c : Thread nD τ).loc main_arg2)) := by
  refine Eq.trans ?_ (V_v3 m c)
  funext y
  refine congrArg (V m c main_v3) (funext fun a => Fin.ext ?_)
  refine (Window.rect_emb_val_of_index_zero win0_1 t a ?_ y)
  rw [idx0_1]; match a with | ⟨0, _⟩ => rfl | ⟨1, _⟩ => rfl

theorem iblk_2 (c : Dev nD) (t : Fin cfg0.N) : (iblk m c 2 t : Vec F S256x512 .bf16) = part (m ((c : Thread nD τ).loc main_arg0)) (seqOf t) 3 := by
  funext y
  show V m c main_arg0 (((cfg0.win 2).blk t).view.emb y) = _
  rw [V_main_arg0]
  unfold part
  refine congrArg (m ((c : Thread nD τ).loc main_arg0)) (funext fun a => Fin.ext ?_)
  refine (Window.rect_emb_val win0_2 t y a).trans ?_
  rw [idx0_2]
  match a with
  | ⟨0, _⟩ => show t.val * 256 + (y 0).val = 256 * t.val + (y 0).val; omega
  | ⟨1, _⟩ => show 3 * 512 + (y 1).val = 512 * 3 + (y 1).val; omega

theorem iblk_3 (c : Dev nD) (t : Fin cfg0.N) : (iblk m c 3 t : Vec F S256x512 .bf16) = part (m ((c : Thread nD τ).loc main_arg0)) (seqOf t) 4 := by
  funext y
  show V m c main_arg0 (((cfg0.win 3).blk t).view.emb y) = _
  rw [V_main_arg0]
  unfold part
  refine congrArg (m ((c : Thread nD τ).loc main_arg0)) (funext fun a => Fin.ext ?_)
  refine (Window.rect_emb_val win0_3 t y a).trans ?_
  rw [idx0_3]
  match a with
  | ⟨0, _⟩ => show t.val * 256 + (y 0).val = 256 * t.val + (y 0).val; omega
  | ⟨1, _⟩ => show 4 * 512 + (y 1).val = 512 * 4 + (y 1).val; omega

theorem iblk_4 (c : Dev nD) (t : Fin cfg0.N) : (iblk m c 4 t : Vec F S256x512 .bf16) = part (m ((c : Thread nD τ).loc main_arg0)) (seqOf t) 5 := by
  funext y
  show V m c main_arg0 (((cfg0.win 4).blk t).view.emb y) = _
  rw [V_main_arg0]
  unfold part
  refine congrArg (m ((c : Thread nD τ).loc main_arg0)) (funext fun a => Fin.ext ?_)
  refine (Window.rect_emb_val win0_4 t y a).trans ?_
  rw [idx0_4]
  match a with
  | ⟨0, _⟩ => show t.val * 256 + (y 0).val = 256 * t.val + (y 0).val; omega
  | ⟨1, _⟩ => show 5 * 512 + (y 1).val = 512 * 5 + (y 1).val; omega

theorem iblk_5 (c : Dev nD) (t : Fin cfg0.N) : (iblk m c 5 t : Vec F S256x512 .bf16) = part (m ((c : Thread nD τ).loc main_arg0)) (seqOf t) 6 := by
  funext y
  show V m c main_arg0 (((cfg0.win 5).blk t).view.emb y) = _
  rw [V_main_arg0]
  unfold part
  refine congrArg (m ((c : Thread nD τ).loc main_arg0)) (funext fun a => Fin.ext ?_)
  refine (Window.rect_emb_val win0_5 t y a).trans ?_
  rw [idx0_5]
  match a with
  | ⟨0, _⟩ => show t.val * 256 + (y 0).val = 256 * t.val + (y 0).val; omega
  | ⟨1, _⟩ => show 6 * 512 + (y 1).val = 512 * 6 + (y 1).val; omega

theorem iblk_6 (c : Dev nD) (t : Fin cfg0.N) : (iblk m c 6 t : Vec F S256x512 .bf16) = part (m ((c : Thread nD τ).loc main_arg0)) (seqOf t) 7 := by
  funext y
  show V m c main_arg0 (((cfg0.win 6).blk t).view.emb y) = _
  rw [V_main_arg0]
  unfold part
  refine congrArg (m ((c : Thread nD τ).loc main_arg0)) (funext fun a => Fin.ext ?_)
  refine (Window.rect_emb_val win0_6 t y a).trans ?_
  rw [idx0_6]
  match a with
  | ⟨0, _⟩ => show t.val * 256 + (y 0).val = 256 * t.val + (y 0).val; omega
  | ⟨1, _⟩ => show 7 * 512 + (y 1).val = 512 * 7 + (y 1).val; omega

theorem outO_eq (c : Dev nD) (t : Fin cfg0.N) : outO' m c t = Chunk.outO (lbT (m ((c : Thread nD τ).loc main_arg1))) (nwT (m ((c : Thread nD τ).loc main_arg2)))
    (part (m ((c : Thread nD τ).loc main_arg0)) (seqOf t) 3) (part (m ((c : Thread nD τ).loc main_arg0)) (seqOf t) 4)
    (part (m ((c : Thread nD τ).loc main_arg0)) (seqOf t) 5) (part (m ((c : Thread nD τ).loc main_arg0)) (seqOf t) 6)
    (part (m ((c : Thread nD τ).loc main_arg0)) (seqOf t) 7) := by
  unfold outO'; rw [iblk_0, iblk_1, iblk_2, iblk_3, iblk_4, iblk_5, iblk_6]

theorem outS_eq (c : Dev nD) (t : Fin cfg0.N) : outS' m c t = Chunk.outS (lbT (m ((c : Thread nD τ).loc main_arg1)))
    (part (m ((c : Thread nD τ).loc main_arg0)) (seqOf t) 4)
    (part (m ((c : Thread nD τ).loc main_arg0)) (seqOf t) 5) (part (m ((c : Thread nD τ).loc main_arg0)) (seqOf t) 6) := by
  unfold outS'; rw [iblk_0, iblk_3, iblk_4, iblk_5]

theorem emb_7 (t : Fin cfg0.N) (y : S256x512.Idx) : ((win0_7.rect t).emb y : S8192x512.Idx)
    = ix2 (n0 := 8192) (n1 := 512) ⟨256 * t.val + (y 0).val, by have : (y 0).val < 256 := (y 0).isLt; have := (seqOf t).isLt; have : (seqOf t).val = t.val := rfl; omega⟩ (y 1) := by
  funext a
  refine Fin.ext ((Window.rect_emb_val win0_7 t y a).trans ?_)
  rw [idx0_7]
  match a with
  | ⟨0, _⟩ => show t.val * 256 + (y 0).val = 256 * t.val + (y 0).val; omega
  | ⟨1, _⟩ => show 0 * 512 + (y 1).val = (y 1).val; omega

theorem emb_8 (t : Fin cfg0.N) (y : S1x2x4x128x128.Idx) : ((win0_8.rect t).emb y : S32x2x4x128x128.Idx)
    = ix5 (n0 := 32) (n1 := 2) (n2 := 4) (n3 := 128) (n4 := 128) (seqOf t) (y 1) (y 2) (y 3) (y 4) := by
  have h0 : (y 0).val < 1 := (y 0).isLt
  funext a
  refine Fin.ext ((Window.rect_emb_val win0_8 t y a).trans ?_)
  rw [idx0_8]
  match a with
  | ⟨0, _⟩ => show t.val * 1 + (y 0).val = t.val; omega
  | ⟨1, _⟩ => show 0 * 2 + (y 1).val = (y 1).val; omega
  | ⟨2, _⟩ => show 0 * 4 + (y 2).val = (y 2).val; omega
  | ⟨3, _⟩ => show 0 * 128 + (y 3).val = (y 3).val; omega
  | ⟨4, _⟩ => show 0 * 128 + (y 4).val = (y 4).val; omega

theorem resO_emb (a0 : Vec F S24576x4096 .bf16) (a1 : Vec F S4x2x512 .f32) (a2 : Vec F S4x128 .f32) (t : Fin cfg0.N) (y : S256x512.Idx) :
    resO a0 a1 a2 ((win0_7.rect t).emb y : S8192x512.Idx)
      = Chunk.outO (lbT a1) (nwT a2) (part a0 (seqOf t) 3) (part a0 (seqOf t) 4) (part a0 (seqOf t) 5) (part a0 (seqOf t) 6) (part a0 (seqOf t) 7) y := by
  have h0 : (y 0).val < 256 := (y 0).isLt
  have h1 : t.val < 32 := (seqOf t).isLt
  rw [emb_7]
  have e1 : (⟨(256 * t.val + (y 0).val) / 256, by omega⟩ : Fin 32) = seqOf t := Fin.ext (by show _ / 256 = t.val; omega)
  have e2 : ix2 (n0 := 256) (n1 := 512) ⟨(256 * t.val + (y 0).val) % 256, by omega⟩ (y 1) = y := by
    funext a
    match a with
    | ⟨0, _⟩ => exact Fin.ext (by show _ % 256 = (y 0).val; omega)
    | ⟨1, _⟩ => rfl
  show Chunk.outO (lbT a1) (nwT a2) (part a0 ⟨(256 * t.val + (y 0).val) / 256, _⟩ 3) (part a0 ⟨(256 * t.val + (y 0).val) / 256, _⟩ 4)
    (part a0 ⟨(256 * t.val + (y 0).val) / 256, _⟩ 5) (part a0 ⟨(256 * t.val + (y 0).val) / 256, _⟩ 6) (part a0 ⟨(256 * t.val + (y 0).val) / 256, _⟩ 7)
    (ix2 (n0 := 256) (n1 := 512) ⟨(256 * t.val + (y 0).val) % 256, _⟩ (y 1)) = _
  rw [e1, e2]

theorem resS_emb (a0 : Vec F S24576x4096 .bf16) (a1 : Vec F S4x2x512 .f32) (t : Fin cfg0.N) (y : S1x2x4x128x128.Idx) :
    resS a0 a1 ((win0_8.rect t).emb y : S32x2x4x128x128.Idx)
      = Chunk.outS (lbT a1) (part a0 (seqOf t) 4) (part a0 (seqOf t) 5) (part a0 (seqOf t) 6) y := by
  rw [emb_8]
  refine congrArg (Chunk.outS (lbT a1) (part a0 (seqOf t) 4) (part a0 (seqOf t) 5) (part a0 (seqOf t) 6)) (funext fun a => ?_)
  match a with
  | ⟨0, _⟩ => exact Fin.ext (by have : (y 0).val < 1 := (y 0).isLt; show 0 = (y 0).val; omega)
  | ⟨1, _⟩ => rfl
  | ⟨2, _⟩ => rfl
  | ⟨3, _⟩ => rfl
  | ⟨4, _⟩ => rfl

theorem cover7 (i : S8192x512.Idx) : ∃ t : Fin cfg0.N, (cfg0.win 7).flush t = true ∧ i ∈ ((cfg0.win 7).blk t).view.set := by
  have h0 : (i 0).val < 8192 := (i 0).isLt
  have ht : (i 0).val / 256 < cfg0.N := by rw [N_eq]; omega
  refine ⟨⟨(i 0).val / 256, ht⟩, flush0_7 _, ?_⟩
  have h := ((cfg0.win 7).blk (⟨(i 0).val / 256, ht⟩ : Fin cfg0.N)).view.emb_mem_set
    (ix2 (n0 := 256) (n1 := 512) ⟨(i 0).val % 256, by omega⟩ (i 1))
  have e := emb_7 (⟨(i 0).val / 256, ht⟩ : Fin cfg0.N) (ix2 (n0 := 256) (n1 := 512) ⟨(i 0).val % 256, by omega⟩ (i 1))
  have e' : ((cfg0.win 7).blk (⟨(i 0).val / 256, ht⟩ : Fin cfg0.N)).view.emb
    (ix2 (n0 := 256) (n1 := 512) ⟨(i 0).val % 256, by omega⟩ (i 1)) = (i : S8192x512.Idx) := by
    refine Eq.trans e ?_
    funext a
    match a with
    | ⟨0, _⟩ => exact Fin.ext (by show 256 * ((i 0).val / 256) + (i 0).val % 256 = (i 0).val; omega)
    | ⟨1, _⟩ => rfl
  rwa [e'] at h

theorem cover8 (i : S32x2x4x128x128.Idx) : ∃ t : Fin cfg0.N, (cfg0.win 8).flush t = true ∧ i ∈ ((cfg0.win 8).blk t).view.set := by
  refine ⟨(i 0).cast N_eq.symm, flush0_8 _, ?_⟩
  have h := ((cfg0.win 8).blk ((i 0).cast N_eq.symm : Fin cfg0.N)).view.emb_mem_set
    (ix5 (n0 := 1) (n1 := 2) (n2 := 4) (n3 := 128) (n4 := 128) 0 (i 1) (i 2) (i 3) (i 4))
  have e' : ((cfg0.win 8).blk ((i 0).cast N_eq.symm : Fin cfg0.N)).view.emb
    (ix5 (n0 := 1) (n1 := 2) (n2 := 4) (n3 := 128) (n4 := 128) 0 (i 1) (i 2) (i 3) (i 4)) = i := by
    refine (emb_8 _ _).trans ?_
    funext a
    match a with
    | ⟨0, _⟩ => rfl
    | ⟨1, _⟩ => rfl
    | ⟨2, _⟩ => rfl
    | ⟨3, _⟩ => rfl
    | ⟨4, _⟩ => rfl
  rwa [e'] at h

theorem arr7 (c : Dev nD) : (dats m 0 c).arrAt 7 cfg0.N
    = resO (m ((c : Thread nD τ).loc main_arg0)) (m ((c : Thread nD τ).loc main_arg1)) (m ((c : Thread nD τ).loc main_arg2)) := by
  refine (dats m 0 c).arrAt_eq_of_cover 7 (resO (m ((c : Thread nD τ).loc main_arg0)) (m ((c : Thread nD τ).loc main_arg1)) (m ((c : Thread nD τ).loc main_arg2))) (fun t _ => ?_) cover7
  · show (cfg0.win 7).cut (grid0.coords t) ((dats m 0 c).after 7 t) = _
    rw [after0_7, outO_eq]
    funext y
    exact (resO_emb _ _ _ t y).symm

theorem arr8 (c : Dev nD) : (dats m 0 c).arrAt 8 cfg0.N
    = resS (m ((c : Thread nD τ).loc main_arg0)) (m ((c : Thread nD τ).loc main_arg1)) := by
  refine (dats m 0 c).arrAt_eq_of_cover 8 (resS (m ((c : Thread nD τ).loc main_arg0)) (m ((c : Thread nD τ).loc main_arg1))) (fun t _ => ?_) cover8
  · show (cfg0.win 8).cut (grid0.coords t) ((dats m 0 c).after 8 t) = _
    rw [after0_8, outS_eq]
    funext y
    exact (resS_emb _ _ t y).symm

/-- The run: the results at `resO` and `resS` of the arguments, the arguments unchanged. -/
theorem run_vals : θ_run defs (onTc (τ := τ) (main (F := F))) ⟨m, fun _ => 0, ρ⟩ (fun r => ∀ c : Dev nD,
      r.2.mem ((c.tc : Thread nD τ).loc main_v4_0) = resO (m ((c : Thread nD τ).loc main_arg0)) (m ((c : Thread nD τ).loc main_arg1)) (m ((c : Thread nD τ).loc main_arg2))
      ∧ r.2.mem ((c.tc : Thread nD τ).loc main_v4_1) = resS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2.1 c).1 7).trans (arr7 m c), ((h.2.1 c).1 8).trans (arr8 m c), h.1.1 c⟩)
    (θ_run_and (frame m ρ) (run_all m ρ))

end Cert.KernelIdeal.Hand
end
-- ==== Proof.Rec.lean ====
/- The recurrence row by row over the reals, and what a chunk of rows computes of it at once. -/
module

public import Idealize.ShloMosaic.Lib.Pointwise

@[expose] public section

noncomputable section

namespace Cert.Hgrn
open Finset

/-- One entry of the state before row `n`: each row lets it decay by `exp (lf n)` and adds `kk n * v n`. -/
def st (lf kk v : ℕ → ℝ) : ℕ → ℝ
  | 0 => 0
  | n + 1 => Real.exp (lf n) * st lf kk v n + kk n * v n

/-- The sum of `m` entries from `a` on. -/
def psum (lf : ℕ → ℝ) (a m : ℕ) : ℝ := ∑ i ∈ range m, lf (a + i)

/-- One entry of row `n` of the output. -/
def out {K : Type} [Fintype K] (q lf kk : ℕ → K → ℝ) (v : ℕ → ℝ) (n : ℕ) : ℝ :=
  ∑ k, q n k * st (fun i => lf i k) (fun i => kk i k) v (n + 1)

theorem psum_succ (lf : ℕ → ℝ) (a m : ℕ) : psum lf a (m + 1) = psum lf a m + lf (a + m) := sum_range_succ _ _

/-- `m` rows at once. -/
theorem st_span (lf kk v : ℕ → ℝ) (a m : ℕ) : st lf kk v (a + m) = Real.exp (psum lf a m) * st lf kk v a
    + ∑ s ∈ range m, kk (a + s) * v (a + s) * Real.exp (psum lf a m - psum lf a (s + 1)) := by
  induction m with
  | zero => simp [psum]
  | succ m ih =>
    have h : ∀ s ∈ range m, kk (a + s) * v (a + s) * Real.exp (psum lf a (m + 1) - psum lf a (s + 1))
        = Real.exp (lf (a + m)) * (kk (a + s) * v (a + s) * Real.exp (psum lf a m - psum lf a (s + 1))) := by
      intro s _
      rw [psum_succ, show psum lf a m + lf (a + m) - psum lf a (s + 1) = lf (a + m) + (psum lf a m - psum lf a (s + 1)) by ring,
        Real.exp_add]
      ring
    rw [sum_range_succ, sum_congr rfl h, ← mul_sum, ← Nat.add_assoc, st, ih, psum_succ, Real.exp_add, sub_self, Real.exp_zero]
    ring

variable {C : ℕ} (e : Fin C ≃ Fin C)

theorem sum_le_eq (f : ℕ → ℝ) (t : Fin C) : ∑ s ∈ range ((e t).val + 1), f s = ∑ s : Fin C, if e s ≤ e t then f (e s) else 0 := by
  rw [e.sum_comp (fun p => if p ≤ e t then f p else 0)]
  refine Eq.trans ?_ (Fin.sum_univ_eq_sum_range (fun p => if p ≤ (e t).val then f p else 0) C).symm
  rw [← sum_filter]
  refine sum_congr ?_ fun _ _ => rfl
  ext p
  have := (e t).isLt
  simp only [mem_range, mem_filter]
  omega

theorem psum_eq (lf : ℕ → ℝ) (a : ℕ) (t : Fin C) :
    psum lf a ((e t).val + 1) = ∑ s : Fin C, if e s ≤ e t then lf (a + (e s).val) else 0 :=
  sum_le_eq e (fun p => lf (a + p)) t

theorem psum_all (lf : ℕ → ℝ) (a : ℕ) : psum lf a C = ∑ s : Fin C, lf (a + (e s).val) := by
  rw [e.sum_comp (fun p : Fin C => lf (a + p.val)), Fin.sum_univ_eq_sum_range (fun p => lf (a + p)) C, psum]

/-- A chunk's state, the chunk's rows numbered through `e`. -/
theorem chunk_st (lf kk v : ℕ → ℝ) (a : ℕ) : st lf kk v (a + C) = Real.exp (psum lf a C) * st lf kk v a
    + ∑ s : Fin C, kk (a + (e s).val) * Real.exp (psum lf a C - psum lf a ((e s).val + 1)) * v (a + (e s).val) := by
  rw [st_span, e.sum_comp (fun p : Fin C => kk (a + p.val) * Real.exp (psum lf a C - psum lf a (p.val + 1)) * v (a + p.val)),
    Fin.sum_univ_eq_sum_range (fun p => kk (a + p) * Real.exp (psum lf a C - psum lf a (p + 1)) * v (a + p)) C]
  exact congrArg _ (sum_congr rfl fun _ _ => by ring)

/-- A chunk's rows of the output. -/
theorem chunk_out {K : Type} [Fintype K] (q lf kk : ℕ → K → ℝ) (v : ℕ → ℝ) (a : ℕ) (t : Fin C) :
    out q lf kk v (a + (e t).val) = ∑ k, q (a + (e t).val) k * Real.exp (psum (fun i => lf i k) a ((e t).val + 1))
        * st (fun i => lf i k) (fun i => kk i k) v a
      + ∑ s : Fin C, (if e s ≤ e t then ∑ k, q (a + (e t).val) k * kk (a + (e s).val) k
          * Real.exp (psum (fun i => lf i k) a ((e t).val + 1) - psum (fun i => lf i k) a ((e s).val + 1)) else 0)
        * v (a + (e s).val) := by
  have h : ∀ k, q (a + (e t).val) k * st (fun i => lf i k) (fun i => kk i k) v (a + (e t).val + 1)
      = q (a + (e t).val) k * Real.exp (psum (fun i => lf i k) a ((e t).val + 1)) * st (fun i => lf i k) (fun i => kk i k) v a
      + ∑ s : Fin C, (if e s ≤ e t then q (a + (e t).val) k * kk (a + (e s).val) k
          * Real.exp (psum (fun i => lf i k) a ((e t).val + 1) - psum (fun i => lf i k) a ((e s).val + 1)) else 0) * v (a + (e s).val) := by
    intro k
    rw [Nat.add_assoc, st_span, sum_le_eq e (fun s => kk (a + s) k * v (a + s)
      * Real.exp (psum (fun i => lf i k) a ((e t).val + 1) - psum (fun i => lf i k) a (s + 1))) t, mul_add, mul_sum]
    refine congrArg₂ _ (by ring) (sum_congr rfl fun s _ => ?_)
    split <;> ring
  unfold out
  rw [sum_congr rfl fun k _ => h k, sum_add_distrib]
  refine congrArg _ ?_
  rw [sum_comm]
  refine sum_congr rfl fun s _ => ?_
  rw [← sum_mul]
  split <;> simp

/-- Sums of reals as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

theorem coe_ite (p : Prop) [Decidable p] (a b : ℝ) : (if p then (a : EReal) else (b : EReal)) = ((if p then a else b : ℝ) : EReal) := by
  split <;> rfl

/-- Scaling through a row in between. -/
theorem exp2_mid (x y m : ℝ) (hx : x ≤ m) (hy : m ≤ y) :
    Real.rpow 2 (0 - |x - m|) * Real.rpow 2 (0 - |y - m|) = Real.rpow 2 (x - y) := by
  rw [abs_of_nonpos (by linarith), abs_of_nonneg (by linarith)]
  refine (Real.rpow_add two_pos _ _).symm.trans (congrArg (Real.rpow 2) ?_)
  ring

theorem exp2_inv_log2 (x : ℝ) : Real.rpow 2 (x * (Real.log 2)⁻¹) = Real.exp x := by
  have h : Real.log 2 ≠ 0 := (Real.log_pos one_lt_two).ne'
  refine (Real.rpow_def_of_pos two_pos _).trans (congrArg Real.exp ?_)
  field_simp

end Cert.Hgrn
-- ==== Proof.Level.lean ====
/- The levels of the pairs of a chunk's rows: which rows lie between them. -/
module

public import proofs.«01_k».proof.Proof.Rec
public import proofs.«01_k».proof.Proof.Body

@[expose] public section

set_option maxRecDepth 16384

noncomputable section

namespace Cert.Hgrn
open Idealize.ShloMosaic Idealize.ShloMosaic.TcCoe
open Cert.KernelIdeal Cert.KernelIdeal.Gen Cert.KernelIdeal.Chunk

/-- The place in time of a chunk's row: the row itself forwards, counted from the end backwards. -/
def dirE (d : Bool) : Fin 128 ≃ Fin 128 := if d then Fin.revPerm else Equiv.refl _

/-- The bit length of `t xor s`. -/
def lvN (t s : ℕ) : ℕ := if t ^^^ s = 0 then 0 else Nat.log2 (t ^^^ s) + 1

/-- The middle row of level `m` for row `t`. -/
def midN (d : Bool) (m : ℕ) (t : ℕ) : ℕ := t / 2 ^ m * 2 ^ m + (if d then 2 ^ (m - 1) else 2 ^ (m - 1) - 1)

/-- A row's place in time, as a number. -/
def eN (d : Bool) (t : ℕ) : ℕ := if d then 127 - t else t

theorem dirE_val (d : Bool) (t : Fin 128) : (dirE d t).val = eN d t.val := by
  cases d
  · rfl
  · show (Fin.rev t).val = 127 - t.val
    rw [Fin.val_rev]; omega

theorem dirE_le (d : Bool) (t s : Fin 128) : dirE d s ≤ dirE d t ↔ eN d s.val ≤ eN d t.val := by
  rw [Fin.le_def, dirE_val, dirE_val]

/-- What a pair's level says of its rows, as a test. -/
def lvTest (d : Bool) (t s : ℕ) : Bool :=
  !decide (eN d s ≤ eN d t) || (decide (lvN t s ≤ 7) && (!decide (lvN t s = 0) || decide (t = s))
    && (!decide (lvN t s = 1) || decide (eN d t = eN d s + 1))
    && (!decide (2 ≤ lvN t s) || (decide (midN d (lvN t s) t < 128) && decide (midN d (lvN t s) s = midN d (lvN t s) t)
      && decide (eN d s ≤ eN d (midN d (lvN t s) t)) && decide (eN d (midN d (lvN t s) t) ≤ eN d t))))

theorem lvTest_all : ∀ d : Bool, ∀ t < 128, ∀ s < 128, lvTest d t s = true := by decide +kernel

/-- What a pair's level says of its rows. -/
theorem lvN_facts (d : Bool) (t s : Fin 128) (h : eN d s.val ≤ eN d t.val) : lvN t.val s.val ≤ 7 ∧ (lvN t.val s.val = 0 → t.val = s.val)
    ∧ (lvN t.val s.val = 1 → eN d t.val = eN d s.val + 1)
    ∧ (2 ≤ lvN t.val s.val → midN d (lvN t.val s.val) t.val < 128 ∧ midN d (lvN t.val s.val) s.val = midN d (lvN t.val s.val) t.val
      ∧ eN d s.val ≤ eN d (midN d (lvN t.val s.val) t.val) ∧ eN d (midN d (lvN t.val s.val) t.val) ≤ eN d t.val) := by
  have hh := lvTest_all d t.val t.isLt s.val s.isLt
  simp only [lvTest, Bool.or_eq_true, Bool.and_eq_true, Bool.not_eq_true', decide_eq_true_eq, decide_eq_false_iff_not, h,
    not_true_eq_false, false_or] at hh
  obtain ⟨⟨⟨h7, h0⟩, h1⟩, h2⟩ := hh
  exact ⟨h7, fun e => h0.resolve_left (not_not.2 e), fun e => h1.resolve_left (not_not.2 e),
    fun e => let ⟨⟨⟨a, b⟩, c⟩, f⟩ := h2.resolve_left (not_not.2 e); ⟨a, b, c, f⟩⟩

/-- The kernel's word for a pair's level. -/
def lvW (d : Bool) (t s : ℕ) : BitVec 32 :=
  Scalar.select (IntOp.cmpi (if d then .sge else .sle) (BitVec.ofNat 32 s) (BitVec.ofNat 32 t))
    (Scalar.select (IntOp.cmpi .eq (IntOp.xori (BitVec.ofNat 32 t) (BitVec.ofNat 32 s)) 0#32) (0#32)
      (IntOp.subi (32#32) (IntOp.ctlz (IntOp.xori (BitVec.ofNat 32 t) (BitVec.ofNat 32 s)))))
    4294967295#32

theorem lvW_eq : ∀ d : Bool, ∀ t < 128, ∀ s < 128, lvW d t s = if eN d s ≤ eN d t then BitVec.ofNat 32 (lvN t s) else 4294967295#32 := by
  decide +kernel

theorem lvl_val (d : Bool) (t s : Fin 128) : (sub3 (lvlV (F := Ideal)) (dIx d) (ix3 (n0 := 1) (n1 := 128) (n2 := 128) 0 t s) : BitVec 32)
    = if eN d s.val ≤ eN d t.val then BitVec.ofNat 32 (lvN t.val s.val) else 4294967295#32 := by
  rw [← lvW_eq d t.val t.isLt s.val s.isLt]
  cases d
  · show (lvlOfC leC (ix3 (n0 := 1) (n1 := 128) (n2 := 128) 0 t s) : BitVec 32) = _
    pointwise [lvlOfC, leC, rowI, colI]
    rfl
  · show (lvlOfC geC (ix3 (n0 := 1) (n1 := 128) (n2 := 128) 0 t s) : BitVec 32) = _
    pointwise [lvlOfC, geC, rowI, colI]
    rfl

theorem le_word : ∀ d : Bool, ∀ t < 128, ∀ s < 128,
    IntOp.cmpi (if d then CmpIPredicate.sge else .sle) (BitVec.ofNat 32 s) (BitVec.ofNat 32 t) = if eN d s ≤ eN d t then 1#1 else 0#1 := by
  decide +kernel

theorem tri_val (d : Bool) (t s : Fin 128) : (sub3 (triV : Vec Ideal _ _) (dIx d) (ix3 (n0 := 1) (n1 := 128) (n2 := 128) 0 t s) : EReal)
    = ((if dirE d s ≤ dirE d t then 1 else 0 : ℝ) : EReal) := by
  have h := le_word d t.val t.isLt s.val s.isLt
  have h' : Scalar.select (if eN d s.val ≤ eN d t.val then 1#1 else 0#1) (1 : EReal) 0 = ((if dirE d s ≤ dirE d t then 1 else 0 : ℝ) : EReal) := by
    simp only [dirE_le]
    split
    · exact (EReal.coe_one).symm
    · exact (EReal.coe_zero).symm
  rw [← h', ← h]
  cases d
  · show (triOfC leC : FVec Ideal _ _) (ix3 (n0 := 1) (n1 := 128) (n2 := 128) 0 t s) = _
    pointwise [triOfC, leC, rowI, colI]
    rfl
  · show (triOfC geC : FVec Ideal _ _) (ix3 (n0 := 1) (n1 := 128) (n2 := 128) 0 t s) = _
    pointwise [triOfC, geC, rowI, colI]

end Cert.Hgrn
-- ==== Proof.Gate.lean ====
/- The gate, the activation and the running sums of a chunk at real inputs. -/
module

public import proofs.«01_k».proof.Proof.Level
public import Idealize.ShloMosaic.Lib.IdealHost

@[expose] public section

set_option maxRecDepth 16384

noncomputable section

namespace Cert.Hgrn
open Idealize.ShloMosaic Idealize.ShloMosaic.TcCoe
open Cert.KernelIdeal Cert.KernelIdeal.Gen Cert.KernelIdeal.Chunk

/-- The logistic function. -/
def sg (x : ℝ) : ℝ := 1 / (1 + Real.exp (-x))

/-- The least lower bound the logarithm sees. -/
def FL : ℝ := (Ideal.ofBits .f32 0x0DA24260#32).toReal

/-- The logarithm of the forget gate. -/
def lfR (l x : ℝ) : ℝ := Real.log (sg x + max l FL * sg (-x))

/-- The key. -/
def kkR (l x : ℝ) : ℝ := (1 - l) * sg (-x)

theorem FL_fact : Ideal.ofBits .f32 0x0DA24260#32 = ((FL : ℝ) : EReal) ∧ 0 < FL ∧ FL ≤ 1 := by
  have h : ∃ r : ℝ, Ideal.ofBits .f32 0x0DA24260#32 = (r : EReal) ∧ 0 < r ∧ r ≤ 1 := by
    simp [Ideal.ofBits, Ideal.ieee, -EReal.coe_mul]
    norm_num
  obtain ⟨r, hr, h0, h1⟩ := h
  have e : FL = r := by rw [FL, hr, EReal.toReal_coe]
  rw [e]
  exact ⟨hr, h0, h1⟩

theorem half_fact : Ideal.ofBits .f32 0x3F000000#32 = ((1 / 2 : ℝ) : EReal) := by
  simp [Ideal.ofBits, Ideal.ieee, -EReal.coe_mul]
  norm_num

theorem absf_coe (r : ℝ) : (FloatOps.absf (F := Ideal) (φ := .f32) (r : EReal) : EReal) = ((|r| : ℝ) : EReal) := by
  show max (r : EReal) (-(r : EReal)) = _
  rw [← EReal.coe_neg, abs_eq_max_neg]
  exact (EReal.coe_strictMono.monotone.map_max).symm

theorem max_coe (a b : ℝ) : max (a : EReal) (b : EReal) = ((max a b : ℝ) : EReal) := (EReal.coe_strictMono.monotone.map_max).symm

theorem exp2_coe' (r : ℝ) : (FloatOps.exp2 (F := Ideal) (φ := .f32) (r : EReal) : EReal) = ((Real.rpow 2 r : ℝ) : EReal) := rfl

theorem div_coe' (a b : ℝ) (hb : b ≠ 0) : Ideal.div (a : EReal) (b : EReal) = ((a / b : ℝ) : EReal) := by
  rw [Ideal.div_coe hb, ← EReal.coe_mul, mul_one_div]

theorem log2e_val : (Named.named (F := Ideal) (φ := .f32) κ "log2e" 0x3FB8AA3B#32 : EReal) = (((Real.log 2)⁻¹ : ℝ) : EReal) :=
  IdealRules.named_const.ideal_named_scalar _ _ _ _ rfl

theorem sg_pos (x : ℝ) : 0 < sg x := by unfold sg; positivity

theorem sg_add (x : ℝ) : sg x + sg (-x) = 1 := by
  have h : Real.exp (- -x) = (Real.exp (-x))⁻¹ := Real.exp_neg _
  have := Real.exp_pos (-x)
  unfold sg
  rw [h]
  field_simp
  ring

theorem sg_neg (x : ℝ) : Real.exp x * (1 / (1 + Real.exp x)) = sg x := by
  have h : Real.exp (-x) = (Real.exp x)⁻¹ := Real.exp_neg _
  have := Real.exp_pos x
  unfold sg
  rw [h]
  field_simp
  ring

theorem gate_pos (l x : ℝ) : 0 < sg x + max l FL * sg (-x) := by
  have := sg_pos x
  have := sg_pos (-x)
  have := FL_fact.2.1
  have : 0 < max l FL := lt_of_lt_of_le this (le_max_right _ _)
  positivity

theorem lfR_nonpos (l x : ℝ) (hl : l ≤ 1) : lfR l x ≤ 0 := by
  refine Real.log_nonpos (gate_pos l x).le ?_
  have := sg_add x
  have := sg_pos (-x)
  have : max l FL ≤ 1 := max_le hl FL_fact.2.2
  nlinarith

theorem tanh_half (x : ℝ) : 1 / 2 * Real.tanh (1 / 2 * x) + 1 / 2 = sg x := by
  have h : Real.exp (-(1 / 2 * x)) = (Real.exp (1 / 2 * x))⁻¹ := Real.exp_neg _
  have h2 : Real.exp (-x) = (Real.exp (1 / 2 * x))⁻¹ * (Real.exp (1 / 2 * x))⁻¹ := by
    rw [← h, ← Real.exp_add]; congr 1; ring
  have := Real.exp_pos (1 / 2 * x)
  unfold sg
  rw [Real.tanh_eq_sinh_div_cosh, Real.sinh_eq, Real.cosh_eq, h, h2]
  field_simp
  ring

variable (z : Vec Ideal S128x128 .bf16) (zr : Fin 128 → Fin 128 → ℝ)
  (hz : ∀ t s, (z (ix2 (n0 := 128) (n1 := 128) t s) : EReal) = ((zr t s : ℝ) : EReal))

theorem exp_sub (r : ℝ) : Ideal.exp (0 - ((r : ℝ) : EReal)) = ((Real.exp (-r) : ℝ) : EReal) := by
  rw [← EReal.coe_zero, ← EReal.coe_sub, Ideal.exp_coe, zero_sub]

theorem recip (e : ℝ) (he : 0 < e) : Ideal.div 1 (1 + ((e : ℝ) : EReal)) = ((1 / (1 + e) : ℝ) : EReal) := by
  rw [← EReal.coe_one, ← EReal.coe_add, div_coe' _ _ (by positivity)]

include hz in
theorem gatePos_val (t s : Fin 128) : (gatePos z (ix2 (n0 := 128) (n1 := 128) t s) : EReal) = ((sg (zr t s) : ℝ) : EReal) := by
  pointwise [gatePos, gateR, gateE, gateC]
  rw [hz, absf_coe, exp_sub, recip _ (Real.exp_pos _), ← EReal.coe_mul]
  split
  · next h => rw [abs_of_nonneg (EReal.coe_nonneg.1 h)]; rfl
  · next h =>
    have h' : zr t s < 0 := not_le.1 fun h' => h (EReal.coe_nonneg.2 h')
    rw [abs_of_neg h', neg_neg, sg_neg]

include hz in
theorem gateNeg_val (t s : Fin 128) : (gateNeg z (ix2 (n0 := 128) (n1 := 128) t s) : EReal) = ((sg (-(zr t s)) : ℝ) : EReal) := by
  pointwise [gateNeg, gateR, gateE, gateC]
  rw [hz, absf_coe, exp_sub, recip _ (Real.exp_pos _), ← EReal.coe_mul]
  split
  · next h => rw [abs_of_nonneg (EReal.coe_nonneg.1 h), sg_neg]
  · next h =>
    have h' : zr t s < 0 := not_le.1 fun h' => h (EReal.coe_nonneg.2 h')
    rw [abs_of_neg h']
    rfl

include hz in
theorem swish_val (t s : Fin 128) : (swish z (ix2 (n0 := 128) (n1 := 128) t s) : EReal) = ((zr t s * sg (zr t s) : ℝ) : EReal) := by
  pointwise [swish]
  rw [hz, half_fact, ← EReal.coe_mul, Ideal.tanh_coe, ← EReal.coe_mul, ← EReal.coe_add, ← EReal.coe_mul, tanh_half]

variable (lb : FVec Ideal S1x128 .f32) (l : Fin 128 → ℝ)
  (hl : ∀ s, (lb (ix2 (n0 := 1) (n1 := 128) 0 s) : EReal) = ((l s : ℝ) : EReal))

include hz hl in
theorem gateG_val (t s : Fin 128) : (gateG lb z (ix2 (n0 := 128) (n1 := 128) t s) : EReal)
    = ((lfR (l s) (zr t s) * (Real.log 2)⁻¹ : ℝ) : EReal) := by
  pointwise [gateG]
  rw [gatePos_val z zr hz, gateNeg_val z zr hz, hl, FL_fact.1, max_coe, ← EReal.coe_mul, ← EReal.coe_add, Ideal.log_coe,
    if_neg (not_le.2 (gate_pos _ _)), log2e_val, ← EReal.coe_mul]
  rfl

include hz hl in
theorem gateK_val (t s : Fin 128) : (gateK lb z (ix2 (n0 := 128) (n1 := 128) t s) : EReal) = ((kkR (l s) (zr t s) : ℝ) : EReal) := by
  pointwise [gateK]
  rw [gateNeg_val z zr hz, hl, ← EReal.coe_one, ← EReal.coe_sub, ← EReal.coe_mul]
  rfl

/-- The running sum of a column of `f` up to row `t` in time. -/
def G (d : Bool) (f : Fin 128 → Fin 128 → ℝ) (t x : Fin 128) : ℝ := ∑ s, if dirE d s ≤ dirE d t then f s x else 0

theorem G_anti (d : Bool) (f : Fin 128 → Fin 128 → ℝ) (hf : ∀ t x, f t x ≤ 0) (t s x : Fin 128) (h : dirE d s ≤ dirE d t) :
    G d f t x ≤ G d f s x := by
  refine Finset.sum_le_sum fun r _ => ?_
  by_cases h1 : dirE d r ≤ dirE d s
  · rw [if_pos h1, if_pos (h1.trans h)]
  · rw [if_neg h1]
    split
    · exact hf r x
    · exact le_rfl

theorem G_succ (d : Bool) (f : Fin 128 → Fin 128 → ℝ) (t s x : Fin 128) (h : (dirE d t).val = (dirE d s).val + 1) :
    G d f t x = G d f s x + f t x := by
  have e : f t x = ∑ r, if r = t then f r x else 0 := by simp
  unfold G
  rw [e, ← Finset.sum_add_distrib]
  refine Finset.sum_congr rfl fun r _ => ?_
  by_cases h1 : dirE d r ≤ dirE d s
  · have : r ≠ t := by rintro rfl; rw [Fin.le_def] at h1; omega
    rw [if_pos h1, if_neg this, if_pos (by rw [Fin.le_def] at h1 ⊢; omega), add_zero]
  · rw [if_neg h1, zero_add]
    by_cases h2 : r = t
    · subst h2; simp
    · have : (dirE d r).val ≠ (dirE d t).val := fun h' => h2 ((dirE d).injective (Fin.ext h'))
      rw [if_neg h2, if_neg (by rw [Fin.le_def] at h1 ⊢; omega)]

variable (g : FVec Ideal S128x128 .f32) (gr : Fin 128 → Fin 128 → ℝ)
  (hg : ∀ t s, (g (ix2 (n0 := 128) (n1 := 128) t s) : EReal) = ((gr t s : ℝ) : EReal))

include hg in
theorem csum_val (d : Bool) (t s : Fin 128) :
    (csum (sub3 (triV : Vec Ideal _ _) (dIx d)) g (ix2 (n0 := 128) (n1 := 128) t s) : EReal) = ((G d gr t s : ℝ) : EReal) := by
  pointwise [csum]
  simp only [tri_val, hg, ← EReal.coe_sub, ← EReal.coe_mul, coe_sum, ← EReal.coe_add]
  refine congrArg _ ?_
  simp [G]

end Cert.Hgrn
-- ==== Proof.ChunkVal.lean ====
/- One chunk at real inputs: its state and its rows are the recurrence's. -/
module

public import proofs.«01_k».proof.Proof.Gate

@[expose] public section

set_option maxRecDepth 16384

noncomputable section

namespace Cert.Hgrn
open Idealize.ShloMosaic Idealize.ShloMosaic.TcCoe
open Cert.KernelIdeal Cert.KernelIdeal.Gen Cert.KernelIdeal.Chunk

/-- Query-key products of two rows scaled to the row `u`. -/
def pairR (b q k : Fin 128 → Fin 128 → ℝ) (u w t s : Fin 128) : ℝ :=
  ∑ x, q t x * Real.rpow 2 (0 - |b t x - b u x|) * (k s x * Real.rpow 2 (0 - |b s x - b w x|))

theorem pair_coe (b q k : Fin 128 → Fin 128 → ℝ) (u w t s : Fin 128) :
    ∑ x, ((q t x : ℝ) : EReal) * (FloatOps.exp2 (F := Ideal) (φ := .f32) (0 - FloatOps.absf (F := Ideal) (φ := .f32) (((b t x : ℝ) : EReal) - ((b u x : ℝ) : EReal)) : EReal) : EReal)
      * (((k s x : ℝ) : EReal) * (FloatOps.exp2 (F := Ideal) (φ := .f32) (0 - FloatOps.absf (F := Ideal) (φ := .f32) (((b s x : ℝ) : EReal) - ((b w x : ℝ) : EReal)) : EReal) : EReal))
      = ((pairR b q k u w t s : ℝ) : EReal) := by
  simp only [← EReal.coe_sub, absf_coe, ← EReal.coe_zero, exp2_coe', ← EReal.coe_mul, coe_sum]
  rfl

theorem pairR_eq (d : Bool) (b q k : Fin 128 → Fin 128 → ℝ) (hm : ∀ t s x, dirE d s ≤ dirE d t → b t x ≤ b s x) (u t s : Fin 128)
    (h1 : dirE d s ≤ dirE d u) (h2 : dirE d u ≤ dirE d t) : pairR b q k u u t s = ∑ x, q t x * k s x * Real.rpow 2 (b t x - b s x) := by
  refine Finset.sum_congr rfl fun x _ => ?_
  rw [← exp2_mid (b t x) (b s x) (b u x) (hm _ _ _ h2) (hm _ _ _ h1)]
  ring

/-- The middle row, as a row. -/
def midI (d : Bool) (m : ℕ) (t : Fin 128) : Fin 128 := ⟨midN d m t.val % 128, Nat.mod_lt _ (by decide)⟩

theorem mid2_word : ∀ t < 128, IntOp.cmpi CmpIPredicate.sge (BitVec.ofNat 32 (t % 8)) 4#32 = if 4 ≤ t % 8 then 1#1 else 0#1 := by
  decide +kernel

theorem midN_val : ∀ d : Bool, ∀ t < 128, midN d 7 t % 128 = t / 128 * 128 + (if d then 64 else 63)
    ∧ midN d 6 t % 128 = t / 64 * 64 + (if d then 32 else 31) ∧ midN d 5 t % 128 = t / 32 * 32 + (if d then 16 else 15)
    ∧ midN d 4 t % 128 = t / 16 * 16 + (if d then 8 else 7) ∧ midN d 3 t % 128 = t / 8 * 8 + (if d then 4 else 3)
    ∧ midN d 2 t % 128 = t / 8 * 8 + ((if 4 ≤ t % 8 then 4 else 0) + (if d then 2 else 1)) := by
  decide +kernel

section Attn
variable (d : Bool) (g b q k : FVec Ideal S128x128 .f32) (gr br qr kr : Fin 128 → Fin 128 → ℝ)
  (hg : ∀ t s, (g (ix2 (n0 := 128) (n1 := 128) t s) : EReal) = ((gr t s : ℝ) : EReal))
  (hb : ∀ t s, (b (ix2 (n0 := 128) (n1 := 128) t s) : EReal) = ((br t s : ℝ) : EReal))
  (hq : ∀ t s, (q (ix2 (n0 := 128) (n1 := 128) t s) : EReal) = ((qr t s : ℝ) : EReal))
  (hk : ∀ t s, (k (ix2 (n0 := 128) (n1 := 128) t s) : EReal) = ((kr t s : ℝ) : EReal))

theorem mid_eq (u w u' w' t s : Fin 128) (hu : u'.val = u.val) (hw : w'.val = w.val) :
    ((pairR br qr kr u w t s : ℝ) : EReal) = ((pairR br qr kr u' w' t s : ℝ) : EReal) := by
  rw [Fin.ext hu, Fin.ext hw]

include hb hq hk in
theorem level7 (t s : Fin 128) : (pairs S1x128x128 shapeCasts_S128x128_S1x128x128 shapeCasts_S1x128x128_S128x128 b q k (midF d b)
    (ix2 (n0 := 128) (n1 := 128) t s) : EReal) = ((pairR br qr kr (midI d 7 t) (midI d 7 s) t s : ℝ) : EReal) := by
  have hv := fun t : Fin 128 => (midN_val d t t.isLt).1
  cases d
  all_goals
    pointwise [pairs, midF]
    simp only [hb, hq, hk]
    refine (pair_coe br qr kr _ _ t s).trans (mid_eq br qr kr _ _ _ _ t s ?_ ?_)
    · exact (hv t).trans (by simp [Nat.div_eq_of_lt t.isLt])
    · exact (hv s).trans (by simp [Nat.div_eq_of_lt s.isLt])

include hb hq hk in
theorem level6 (t s : Fin 128) : (pairs S2x64x128 shapeCasts_S128x128_S2x64x128 shapeCasts_S2x64x128_S128x128 b q k (midE d b)
    (ix2 (n0 := 128) (n1 := 128) t s) : EReal) = ((pairR br qr kr (midI d 6 t) (midI d 6 s) t s : ℝ) : EReal) := by
  have hv := fun t : Fin 128 => (midN_val d t t.isLt).2.1
  have ht := t.isLt
  have hs := s.isLt
  cases d
  · pointwise [pairs, midE]
    simp only [hb, hq, hk]
    exact (pair_coe br qr kr ⟨t.val / 64 * 64 + 31, by omega⟩ ⟨s.val / 64 * 64 + 31, by omega⟩ t s).trans
      (mid_eq br qr kr _ _ _ _ t s (hv t) (hv s))
  · pointwise [pairs, midE]
    simp only [hb, hq, hk]
    exact (pair_coe br qr kr ⟨t.val / 64 * 64 + 32, by omega⟩ ⟨s.val / 64 * 64 + 32, by omega⟩ t s).trans
      (mid_eq br qr kr _ _ _ _ t s (hv t) (hv s))

include hb hq hk in
theorem level5 (t s : Fin 128) : (pairs S4x32x128 shapeCasts_S128x128_S4x32x128 shapeCasts_S4x32x128_S128x128 b q k (midD d b)
    (ix2 (n0 := 128) (n1 := 128) t s) : EReal) = ((pairR br qr kr (midI d 5 t) (midI d 5 s) t s : ℝ) : EReal) := by
  have hv := fun t : Fin 128 => (midN_val d t t.isLt).2.2.1
  have ht := t.isLt
  have hs := s.isLt
  cases d
  · pointwise [pairs, midD]
    simp only [hb, hq, hk]
    exact (pair_coe br qr kr ⟨t.val / 32 * 32 + 15, by omega⟩ ⟨s.val / 32 * 32 + 15, by omega⟩ t s).trans
      (mid_eq br qr kr _ _ _ _ t s (hv t) (hv s))
  · pointwise [pairs, midD]
    simp only [hb, hq, hk]
    exact (pair_coe br qr kr ⟨t.val / 32 * 32 + 16, by omega⟩ ⟨s.val / 32 * 32 + 16, by omega⟩ t s).trans
      (mid_eq br qr kr _ _ _ _ t s (hv t) (hv s))

include hb hq hk in
theorem level4 (t s : Fin 128) : (pairs S8x16x128 shapeCasts_S128x128_S8x16x128 shapeCasts_S8x16x128_S128x128 b q k (midC d b)
    (ix2 (n0 := 128) (n1 := 128) t s) : EReal) = ((pairR br qr kr (midI d 4 t) (midI d 4 s) t s : ℝ) : EReal) := by
  have hv := fun t : Fin 128 => (midN_val d t t.isLt).2.2.2.1
  have ht := t.isLt
  have hs := s.isLt
  cases d
  · pointwise [pairs, midC]
    simp only [hb, hq, hk]
    exact (pair_coe br qr kr ⟨t.val / 16 * 16 + 7, by omega⟩ ⟨s.val / 16 * 16 + 7, by omega⟩ t s).trans
      (mid_eq br qr kr _ _ _ _ t s (hv t) (hv s))
  · pointwise [pairs, midC]
    simp only [hb, hq, hk]
    exact (pair_coe br qr kr ⟨t.val / 16 * 16 + 8, by omega⟩ ⟨s.val / 16 * 16 + 8, by omega⟩ t s).trans
      (mid_eq br qr kr _ _ _ _ t s (hv t) (hv s))

include hb hq hk in
theorem level3 (t s : Fin 128) : (pairs S16x8x128 shapeCasts_S128x128_S16x8x128 shapeCasts_S16x8x128_S128x128 b q k (midB d b)
    (ix2 (n0 := 128) (n1 := 128) t s) : EReal) = ((pairR br qr kr (midI d 3 t) (midI d 3 s) t s : ℝ) : EReal) := by
  have hv := fun t : Fin 128 => (midN_val d t t.isLt).2.2.2.2.1
  have ht := t.isLt
  have hs := s.isLt
  cases d
  · pointwise [pairs, midB]
    simp only [hb, hq, hk]
    exact (pair_coe br qr kr ⟨t.val / 8 * 8 + 3, by omega⟩ ⟨s.val / 8 * 8 + 3, by omega⟩ t s).trans
      (mid_eq br qr kr _ _ _ _ t s (hv t) (hv s))
  · pointwise [pairs, midB]
    simp only [hb, hq, hk]
    exact (pair_coe br qr kr ⟨t.val / 8 * 8 + 4, by omega⟩ ⟨s.val / 8 * 8 + 4, by omega⟩ t s).trans
      (mid_eq br qr kr _ _ _ _ t s (hv t) (hv s))

theorem sel_row (f : Fin 128 → EReal) (c : Prop) [Decidable c] (u w r : Fin 128) (hu : c → u = r) (hw : ¬c → w = r) :
    Scalar.select (if c then 1#1 else 0#1) (f u) (f w) = f r := by
  by_cases h : c
  · rw [if_pos h, hu h]; rfl
  · rw [if_neg h, hw h]; rfl

include hb hq hk in
theorem level2 (t s : Fin 128) : (pairs S16x8x128 shapeCasts_S128x128_S16x8x128 shapeCasts_S16x8x128_S128x128 b q k (midA d b)
    (ix2 (n0 := 128) (n1 := 128) t s) : EReal) = ((pairR br qr kr (midI d 2 t) (midI d 2 s) t s : ℝ) : EReal) := by
  have hh : ∀ (d : Bool) (t : Fin 128), (midI d 2 t).val = t.val / 8 * 8 + ((if 4 ≤ t.val % 8 then 4 else 0) + (if d then 2 else 1)) :=
    fun d t => (midN_val d t t.isLt).2.2.2.2.2
  cases d
  all_goals
    pointwise [pairs, midA, mid2]
    simp only [hb, hq, hk, mid2_word t t.isLt, mid2_word s s.isLt]
    refine Eq.trans (Finset.sum_congr rfl fun x _ => ?_) (pair_coe br qr kr _ _ t s)
    rw [sel_row (fun u => ((br u x : ℝ) : EReal)) (4 ≤ t.val % 8) _ _ _ (fun h => Fin.ext ((hh _ t).trans ?_).symm) (fun h => Fin.ext ((hh _ t).trans ?_).symm),
      sel_row (fun u => ((br u x : ℝ) : EReal)) (4 ≤ s.val % 8) _ _ _ (fun h => Fin.ext ((hh _ s).trans ?_).symm) (fun h => Fin.ext ((hh _ s).trans ?_).symm)]
    all_goals first | rw [if_pos h]; rfl | rw [if_neg h]; rfl

/-- Picking by level, at an entry. -/
theorem pick_at (lvl : Vec Ideal S1x128x128 .i32) (n : BitVec 32) (a r : FVec Ideal S128x128 .f32) (t s : Fin 128) (w : BitVec 32)
    (hw : (lvl (ix3 (n0 := 1) (n1 := 128) (n2 := 128) 0 t s) : BitVec 32) = w) :
    (pick lvl n a r (ix2 (n0 := 128) (n1 := 128) t s) : EReal) = if w = n then a (ix2 (n0 := 128) (n1 := 128) t s) else r (ix2 (n0 := 128) (n1 := 128) t s) := by
  pointwise [pick]
  rw [hw]
  by_cases h : w = n
  · subst h; simp [IntOp.cmpi, Scalar.select]
  · have e : (w == n) = false := by simpa using h
    simp [IntOp.cmpi, Scalar.select, h, e]

include hg hb hq hk in
theorem attn_val (hm : ∀ t s x, dirE d s ≤ dirE d t → br t x ≤ br s x)
    (hs : ∀ t s x, (dirE d t).val = (dirE d s).val + 1 → br t x = br s x + gr t x) (t s : Fin 128) :
    (attn d g b q k (sub3 (lvlV (F := Ideal)) (dIx d)) (ix2 (n0 := 128) (n1 := 128) t s) : EReal)
      = ((if dirE d s ≤ dirE d t then ∑ x, qr t x * kr s x * Real.rpow 2 (br t x - br s x) else 0 : ℝ) : EReal) := by
  unfold attn
  have hw := lvl_val d t s
  simp only [pick_at _ _ _ _ _ _ _ hw]
  by_cases h : dirE d s ≤ dirE d t
  · have h' := (dirE_le d t s).1 h
    rw [if_pos h']
    obtain ⟨h7, h0, h1, h2⟩ := lvN_facts d t s h'
    have key : 2 ≤ lvN t.val s.val → pairR br qr kr (midI d (lvN t.val s.val) t) (midI d (lvN t.val s.val) s) t s
        = ∑ x, qr t x * kr s x * Real.rpow 2 (br t x - br s x) := by
      intro hn
      obtain ⟨l1, l2, l3, l4⟩ := h2 hn
      have e1 : midI d (lvN t.val s.val) s = midI d (lvN t.val s.val) t := Fin.ext (by show _ % 128 = _ % 128; rw [l2])
      have e2 : (midI d (lvN t.val s.val) t).val = midN d (lvN t.val s.val) t.val := Nat.mod_eq_of_lt l1
      rw [e1]
      exact pairR_eq d br qr kr hm _ t s ((dirE_le d _ _).2 (by rw [e2]; exact l3)) ((dirE_le d _ _).2 (by rw [e2]; exact l4))
    generalize lvN t.val s.val = n at *
    interval_cases n
    · have e : t = s := Fin.ext (h0 rfl)
      subst e
      simp only [BitVec.reduceEq, BitVec.ofNat_eq_ofNat, if_true, if_false, if_pos h]
      pointwise
      simp only [hq, hk, ← EReal.coe_mul, coe_sum]
      refine congrArg _ (Finset.sum_congr rfl fun x _ => ?_)
      rw [sub_self, show Real.rpow 2 0 = 1 from Real.rpow_zero 2, mul_one]
    · have e := hs t s
      rw [dirE_val, dirE_val] at e
      simp only [BitVec.reduceEq, BitVec.ofNat_eq_ofNat, if_true, if_false, if_pos h]
      pointwise
      simp only [hq, hk, hg, exp2_coe', ← EReal.coe_mul, coe_sum]
      refine congrArg _ (Finset.sum_congr rfl fun x _ => ?_)
      rw [e x (h1 rfl), show br s x + gr t x - br s x = gr t x by ring]
      ring
    all_goals simp only [BitVec.reduceEq, BitVec.ofNat_eq_ofNat, if_true, if_false, if_pos h]
    · rw [level2 d b q k br qr kr hb hq hk, key (by decide)]
    · rw [level3 d b q k br qr kr hb hq hk, key (by decide)]
    · rw [level4 d b q k br qr kr hb hq hk, key (by decide)]
    · rw [level5 d b q k br qr kr hb hq hk, key (by decide)]
    · rw [level6 d b q k br qr kr hb hq hk, key (by decide)]
    · rw [level7 d b q k br qr kr hb hq hk, key (by decide)]
  · have h' := mt (dirE_le d t s).2 h
    rw [if_neg h', if_neg h]
    simp only [BitVec.reduceEq, if_false]
    pointwise
    exact EReal.coe_zero.symm

end Attn
end Cert.Hgrn
-- ==== Proof.ChunkOut.lean ====
/- One chunk at real inputs: the state it leaves and the rows it puts out, in closed form. -/
module

public import proofs.«01_k».proof.Proof.ChunkVal

@[expose] public section

set_option maxRecDepth 16384

noncomputable section

namespace Cert.Hgrn
open Idealize.ShloMosaic Idealize.ShloMosaic.TcCoe
open Cert.KernelIdeal Cert.KernelIdeal.Gen Cert.KernelIdeal.Chunk

variable (d : Bool) (lb : FVec Ideal S1x128 .f32) (x z v : Vec Ideal S128x128 .bf16) (st : Vec Ideal S1x128x128 .f32)
  (l : Fin 128 → ℝ) (xr zr vr S : Fin 128 → Fin 128 → ℝ)
  (hl : ∀ s, (lb (ix2 (n0 := 1) (n1 := 128) 0 s) : EReal) = ((l s : ℝ) : EReal))
  (hx : ∀ t s, (x (ix2 (n0 := 128) (n1 := 128) t s) : EReal) = ((xr t s : ℝ) : EReal))
  (hz : ∀ t s, (z (ix2 (n0 := 128) (n1 := 128) t s) : EReal) = ((zr t s : ℝ) : EReal))
  (hv : ∀ t s, (v (ix2 (n0 := 128) (n1 := 128) t s) : EReal) = ((vr t s : ℝ) : EReal))
  (hst : ∀ j k, (st (ix3 (n0 := 1) (n1 := 128) (n2 := 128) 0 j k) : EReal) = ((S j k : ℝ) : EReal))

/-- The running sums are those of the gate's logarithm, in base two. -/
theorem G_scale (f : Fin 128 → Fin 128 → ℝ) (c : ℝ) (t k : Fin 128) : G d (fun s k => f s k * c) t k = G d f t k * c := by
  unfold G
  rw [Finset.sum_mul]
  exact Finset.sum_congr rfl fun s _ => by split <;> simp

/-- The row that holds the whole sum. -/
def lastI (d : Bool) : Fin 128 := if d then 0 else 127

theorem G_last (f : Fin 128 → Fin 128 → ℝ) (k : Fin 128) : G d f (lastI d) k = ∑ s, f s k := by
  refine Finset.sum_congr rfl fun s _ => if_pos ?_
  rw [dirE_le]
  cases d
  · exact (Nat.lt_succ_iff.1 s.isLt : s.val ≤ 127)
  · exact Nat.sub_le 127 s.val

theorem totRow_val (b : FVec Ideal S128x128 .f32) (k : Fin 128) :
    (totRow d b (ix2 (n0 := 1) (n1 := 128) 0 k) : EReal) = b (ix2 (n0 := 128) (n1 := 128) (lastI d) k) := by
  cases d <;> pointwise [totRow] <;> rfl

include hl hz in
theorem b_val (t k : Fin 128) : (csum (sub3 (triV : Vec Ideal _ _) (dIx d)) (gateG lb z) (ix2 (n0 := 128) (n1 := 128) t k) : EReal)
    = ((G d (fun s k => lfR (l k) (zr s k)) t k * (Real.log 2)⁻¹ : ℝ) : EReal) := by
  rw [csum_val (gateG lb z) _ (gateG_val z zr hz lb l hl) d t k, G_scale d (fun s k => lfR (l k) (zr s k))]

theorem exp2_sub (a b : ℝ) : Real.rpow 2 (a * (Real.log 2)⁻¹ - b * (Real.log 2)⁻¹) = Real.exp (a - b) := by
  rw [← sub_mul, exp2_inv_log2]

include hl hz hv hst in
theorem stNew_val (j k : Fin 128) :
    (stNew d lb z v st (sub3 triV (dIx d)) (ix3 (n0 := 1) (n1 := 128) (n2 := 128) 0 j k) : EReal)
      = ((Real.exp (∑ s, lfR (l k) (zr s k)) * S j k + ∑ s, kkR (l k) (zr s k)
          * Real.exp (∑ s, lfR (l k) (zr s k) - G d (fun s k => lfR (l k) (zr s k)) s k) * vr s j : ℝ) : EReal) := by
  pointwise [stNew, val]
  simp only [totRow_val, b_val d lb z l zr hl hz, gateK_val z zr hz lb l hl, hv, hst, G_last, ← EReal.coe_sub, exp2_coe', exp2_sub, exp2_inv_log2,
    ← EReal.coe_mul, coe_sum, ← EReal.coe_add]
  refine congrArg _ (congrArg₂ _ (mul_comm _ _) (Finset.sum_congr rfl fun s _ => ?_))
  ring

include hl hx hz hv hst in
theorem oNew_val (hl1 : ∀ k, l k ≤ 1) (t j : Fin 128) :
    (oNew d lb x z v st (sub3 triV (dIx d)) (sub3 (lvlV (F := Ideal)) (dIx d)) (ix2 (n0 := 128) (n1 := 128) t j) : EReal)
      = ((∑ k, xr t k * sg (xr t k) * Real.exp (G d (fun s k => lfR (l k) (zr s k)) t k) * S j k
        + ∑ s, (if dirE d s ≤ dirE d t then ∑ k, xr t k * sg (xr t k) * kkR (l k) (zr s k)
          * Real.exp (G d (fun s k => lfR (l k) (zr s k)) t k - G d (fun s k => lfR (l k) (zr s k)) s k) else 0) * vr s j : ℝ) : EReal) := by
  have hc : 0 ≤ (Real.log 2)⁻¹ := inv_nonneg.2 (Real.log_nonneg one_le_two)
  have ha := attn_val d (gateG lb z) (csum (sub3 (triV : Vec Ideal _ _) (dIx d)) (gateG lb z)) (swish x) (gateK lb z)
    _ _ _ _ (gateG_val z zr hz lb l hl) (b_val d lb z l zr hl hz) (swish_val x xr hx) (gateK_val z zr hz lb l hl)
    (fun t s x h => mul_le_mul_of_nonneg_right (G_anti d (fun s k => lfR (l k) (zr s k)) (fun t x => lfR_nonpos _ _ (hl1 x)) t s x h) hc)
    (fun t s x h => by rw [G_succ d (fun s k => lfR (l k) (zr s k)) t s x h, add_mul])
  pointwise [oNew, val]
  simp only [ha, b_val d lb z l zr hl hz, swish_val x xr hx, hv, hst, exp2_coe', exp2_sub, exp2_inv_log2, ← EReal.coe_mul, coe_sum, ← EReal.coe_add]

end Cert.Hgrn
-- ==== Proof.Rows.lean ====
/- The kernel's two trips at real inputs: its states and rows are the recurrence's over the 256 rows of a sequence,
   taken from the first row forwards and from the last row backwards. -/
module

public import proofs.«01_k».proof.Proof.ChunkOut

@[expose] public section

set_option maxRecDepth 16384

noncomputable section

namespace Cert.Hgrn
open Idealize.ShloMosaic Idealize.ShloMosaic.TcCoe
open Cert.KernelIdeal Cert.KernelIdeal.Gen Cert.KernelIdeal.Chunk

/-- The row of a sequence that comes at time `n`. -/
def row (d : Bool) (n : ℕ) : Fin 256 := if d then ⟨255 - n, by omega⟩ else ⟨n % 256, by omega⟩

/-- A head's column. -/
def col (h : Fin 4) (k : Fin 128) : Fin 512 := ⟨128 * h.val + k.val, by omega⟩

/-- The gate's logarithm, row by row in time. -/
def lfS (d : Bool) (L : Fin 512 → ℝ) (Z : Fin 256 → Fin 512 → ℝ) (h : Fin 4) (n : ℕ) (k : Fin 128) : ℝ :=
  lfR (L (col h k)) (Z (row d n) (col h k))

/-- The keys, row by row in time. -/
def kkS (d : Bool) (L : Fin 512 → ℝ) (Z : Fin 256 → Fin 512 → ℝ) (h : Fin 4) (n : ℕ) (k : Fin 128) : ℝ :=
  kkR (L (col h k)) (Z (row d n) (col h k))

/-- The queries, row by row in time. -/
def qS (d : Bool) (X : Fin 256 → Fin 512 → ℝ) (h : Fin 4) (n : ℕ) (k : Fin 128) : ℝ :=
  X (row d n) (col h k) * sg (X (row d n) (col h k))

/-- The values, row by row in time. -/
def vS (d : Bool) (V : Fin 256 → Fin 512 → ℝ) (h : Fin 4) (j : Fin 128) (n : ℕ) : ℝ := V (row d n) (col h j)

/-- One entry of the state before time `n`. -/
def stS (d : Bool) (L : Fin 512 → ℝ) (Z V : Fin 256 → Fin 512 → ℝ) (h : Fin 4) (k j : Fin 128) (n : ℕ) : ℝ :=
  st (fun i => lfS d L Z h i k) (fun i => kkS d L Z h i k) (vS d V h j) n

/-- One entry of the output at time `n`. -/
def rowO (d : Bool) (L : Fin 512 → ℝ) (X Z V : Fin 256 → Fin 512 → ℝ) (h : Fin 4) (j : Fin 128) (n : ℕ) : ℝ :=
  out (qS d X h) (lfS d L Z h) (kkS d L Z h) (vS d V h j) n

theorem row_blk (d : Bool) (k : Fin 2) (t : Fin 128) : (row d (128 * k.val + (dirE d t).val)).val = 128 * (rb d k).val + t.val := by
  rw [dirE_val]
  have := k.isLt
  have := t.isLt
  cases d
  · show (128 * k.val + t.val) % 256 = 128 * k.val + t.val; omega
  · show 255 - (128 * k.val + (127 - t.val)) = 128 * (1 - k.val) + t.val; omega

theorem blk_val (X : Vec Ideal S256x512 .bf16) (Xr : Fin 256 → Fin 512 → ℝ)
    (hX : ∀ r c, (X (ix2 (n0 := 256) (n1 := 512) r c) : EReal) = ((Xr r c : ℝ) : EReal)) (d : Bool) (k : Fin 2) (h : Fin 4) (t s : Fin 128) :
    (blkV X (rb d k) h (ix2 (n0 := 128) (n1 := 128) t s) : EReal) = ((Xr (row d (128 * k.val + (dirE d t).val)) (col h s) : ℝ) : EReal) := by
  rw [← hX]
  refine congrArg X (funext fun a => Fin.ext ?_)
  match a with
  | ⟨0, _⟩ => exact (row_blk d k t).symm
  | ⟨1, _⟩ => rfl

theorem lbh_val (L : FVec Ideal S1x512 .f32) (Lr : Fin 512 → ℝ)
    (hL : ∀ c, (L (ix2 (n0 := 1) (n1 := 512) 0 c) : EReal) = ((Lr c : ℝ) : EReal)) (h : Fin 4) (s : Fin 128) :
    (lbh L h (ix2 (n0 := 1) (n1 := 128) 0 s) : EReal) = ((Lr (col h s) : ℝ) : EReal) := hL _

variable (L0 L1 : FVec Ideal S1x512 .f32) (x2 x3 x4 x5 : Vec Ideal S256x512 .bf16) (Lr : Bool → Fin 512 → ℝ)
  (X V : Fin 256 → Fin 512 → ℝ) (Z : Bool → Fin 256 → Fin 512 → ℝ)
  (hL0 : ∀ c, (L0 (ix2 (n0 := 1) (n1 := 512) 0 c) : EReal) = ((Lr false c : ℝ) : EReal))
  (hL1 : ∀ c, (L1 (ix2 (n0 := 1) (n1 := 512) 0 c) : EReal) = ((Lr true c : ℝ) : EReal))
  (h2 : ∀ r c, (x2 (ix2 (n0 := 256) (n1 := 512) r c) : EReal) = ((X r c : ℝ) : EReal))
  (h3 : ∀ r c, (x3 (ix2 (n0 := 256) (n1 := 512) r c) : EReal) = ((Z false r c : ℝ) : EReal))
  (h4 : ∀ r c, (x4 (ix2 (n0 := 256) (n1 := 512) r c) : EReal) = ((Z true r c : ℝ) : EReal))
  (h5 : ∀ r c, (x5 (ix2 (n0 := 256) (n1 := 512) r c) : EReal) = ((V r c : ℝ) : EReal))

include hL0 hL1 in
theorem L_sel (d : Bool) (c : Fin 512) : ((if d then L1 else L0) (ix2 (n0 := 1) (n1 := 512) 0 c) : EReal) = ((Lr d c : ℝ) : EReal) := by
  cases d
  · exact hL0 c
  · exact hL1 c

include h3 h4 in
theorem z_sel (d : Bool) (r : Fin 256) (c : Fin 512) : ((if d then x4 else x3) (ix2 (n0 := 256) (n1 := 512) r c) : EReal) = ((Z d r c : ℝ) : EReal) := by
  cases d
  · exact h3 r c
  · exact h4 r c

theorem d_of (d : Bool) (h : Fin 4) : dOf (cIx d h) = d := by revert d h; decide
theorem h_of (d : Bool) (h : Fin 4) : hOf (cIx d h) = h := by revert d h; decide

/-- The running sum within a block is the recurrence's partial sum. -/
theorem G_psum (d : Bool) (k : Fin 2) (h : Fin 4) (L : Fin 512 → ℝ) (Zd : Fin 256 → Fin 512 → ℝ) (t x : Fin 128) :
    G d (fun s x => lfR (L (col h x)) (Zd (row d (128 * k.val + (dirE d s).val)) (col h x))) t x
      = psum (fun i => lfS d L Zd h i x) (128 * k.val) ((dirE d t).val + 1) := (psum_eq (dirE d) (fun i => lfS d L Zd h i x) (128 * k.val) t).symm

include hL0 hL1 h3 h4 h5 in
theorem step_val (k : Fin 2) (S : Vec Ideal S8x128x128 .f32)
    (hS : ∀ d h j x, (S (ix3 (n0 := 8) (n1 := 128) (n2 := 128) (cIx d h) j x) : EReal) = ((stS d (Lr d) (Z d) V h x j (128 * k.val) : ℝ) : EReal))
    (d : Bool) (h : Fin 4) (j x : Fin 128) :
    (stepS L0 L1 x3 x4 x5 triV k S (ix3 (n0 := 8) (n1 := 128) (n2 := 128) (cIx d h) j x) : EReal)
      = ((stS d (Lr d) (Z d) V h x j (128 * k.val + 128) : ℝ) : EReal) := by
  show (stNew (dOf (cIx d h)) (lbh (if dOf (cIx d h) then L1 else L0) (hOf (cIx d h)))
    (blkV (if dOf (cIx d h) then x4 else x3) (rb (dOf (cIx d h)) k) (hOf (cIx d h)))
    (blkV x5 (rb (dOf (cIx d h)) k) (hOf (cIx d h))) (sub3 S (cIx d h)) (sub3 triV (dIx (dOf (cIx d h))))
    (ix3 (n0 := 1) (n1 := 128) (n2 := 128) 0 j x) : EReal) = _
  rw [d_of, h_of]
  rw [stNew_val d _ _ _ _ (fun x => Lr d (col h x)) _ _ _ (lbh_val _ (Lr d) (L_sel L0 L1 Lr hL0 hL1 d) h)
    (blk_val _ (Z d) (z_sel x3 x4 Z h3 h4 d) d k h) (blk_val _ V h5 d k h) (fun j x => hS d h j x)]
  refine congrArg _ ?_
  unfold stS
  rw [chunk_st (dirE d), psum_all (dirE d)]
  simp only [G_psum]
  rfl

include hL0 hL1 h2 h3 h4 h5 in
theorem outB_val (hl1 : ∀ d c, Lr d c ≤ 1) (k : Fin 2) (S : Vec Ideal S8x128x128 .f32)
    (hS : ∀ d h j x, (S (ix3 (n0 := 8) (n1 := 128) (n2 := 128) (cIx d h) j x) : EReal) = ((stS d (Lr d) (Z d) V h x j (128 * k.val) : ℝ) : EReal))
    (d : Bool) (h : Fin 4) (t j : Fin 128) :
    (outB d (if d then L1 else L0) x2 (if d then x4 else x3) x5 triV lvlV k h S (ix2 (n0 := 128) (n1 := 128) t j) : EReal)
      = ((rowO d (Lr d) X (Z d) V h j (128 * k.val + (dirE d t).val) : ℝ) : EReal) := by
  unfold outB
  rw [oNew_val d _ _ _ _ _ (fun x => Lr d (col h x)) _ _ _ _ (lbh_val _ (Lr d) (L_sel L0 L1 Lr hL0 hL1 d) h) (blk_val _ X h2 d k h)
    (blk_val _ (Z d) (z_sel x3 x4 Z h3 h4 d) d k h) (blk_val _ V h5 d k h) (fun j x => hS d h j x) (fun x => hl1 d _)]
  refine congrArg _ ?_
  rw [rowO, chunk_out (dirE d)]
  simp only [G_psum]
  rfl

theorem st0_val (d : Bool) (h : Fin 4) (j x : Fin 128) : ((st0V : Vec Ideal S8x128x128 .f32) (ix3 (n0 := 8) (n1 := 128) (n2 := 128) (cIx d h) j x) : EReal)
    = ((stS d (Lr d) (Z d) V h x j 0 : ℝ) : EReal) := by
  have e : ((st0V : Vec Ideal S8x128x128 .f32) (ix3 (n0 := 8) (n1 := 128) (n2 := 128) (cIx d h) j x) : EReal) = 0 := by
    pointwise [st0V]
  rw [e]
  exact EReal.coe_zero.symm

section Kernel
variable (x0 : Vec Ideal S8x512 .f32)
  (hF : ∀ c, (lbF x0 (ix2 (n0 := 1) (n1 := 512) 0 c) : EReal) = ((Lr false c : ℝ) : EReal))
  (hB : ∀ c, (lbB x0 (ix2 (n0 := 1) (n1 := 512) 0 c) : EReal) = ((Lr true c : ℝ) : EReal))

include hF hB h3 h4 h5 in
theorem stAt_val (k : Fin 2) (d : Bool) (h : Fin 4) (j x : Fin 128) :
    (stAt x0 x3 x4 x5 k (ix3 (n0 := 8) (n1 := 128) (n2 := 128) (cIx d h) j x) : EReal) = ((stS d (Lr d) (Z d) V h x j (128 * k.val) : ℝ) : EReal) := by
  match k with
  | 0 => exact st0_val Lr V Z d h j x
  | 1 => exact step_val _ _ x3 x4 x5 Lr V Z hF hB h3 h4 h5 0 st0V (st0_val Lr V Z) d h j x

include hF hB h3 h4 h5 in
theorem stEnd_val (d : Bool) (h : Fin 4) (j x : Fin 128) :
    (stEnd x0 x3 x4 x5 (ix3 (n0 := 8) (n1 := 128) (n2 := 128) (cIx d h) j x) : EReal) = ((stS d (Lr d) (Z d) V h x j 256 : ℝ) : EReal) :=
  step_val _ _ x3 x4 x5 Lr V Z hF hB h3 h4 h5 1 (stAt x0 x3 x4 x5 1) (stAt_val x3 x4 x5 Lr V Z h3 h4 h5 x0 hF hB 1) d h j x

/-- The time a row comes at. -/
def time (d : Bool) (r : Fin 256) : ℕ := if d then 255 - r.val else r.val

theorem row_time (d : Bool) (r : Fin 256) : row d (time d r) = r := by
  refine Fin.ext ?_
  cases d
  · exact Nat.mod_eq_of_lt r.isLt
  · show 255 - (255 - r.val) = r.val; omega

include hF hB h2 h3 h4 h5 in
theorem dirOut_val (hl1 : ∀ d c, Lr d c ≤ 1) (d : Bool) (r : Fin 256) (h : Fin 4) (j : Fin 128) :
    (dirOut d x0 x2 x3 x4 x5 (ix2 (n0 := 256) (n1 := 512) r (col h j)) : EReal) = ((rowO d (Lr d) X (Z d) V h j (time d r) : ℝ) : EReal) := by
  have hr := r.isLt
  have hj := j.isLt
  have e := outB_val (lbF x0) (lbB x0) x2 x3 x4 x5 Lr X V Z hF hB h2 h3 h4 h5 hl1 (rb d ⟨r.val / 128, by omega⟩)
    (stAt x0 x3 x4 x5 (rb d ⟨r.val / 128, by omega⟩)) (stAt_val x3 x4 x5 Lr V Z h3 h4 h5 x0 hF hB _) d h ⟨r.val % 128, by omega⟩ j
  have et : 128 * (rb d ⟨r.val / 128, by omega⟩ : Fin 2).val + (dirE d ⟨r.val % 128, by omega⟩).val = time d r := by
    rw [dirE_val]
    cases d
    · show 128 * (r.val / 128) + r.val % 128 = r.val; omega
    · show 128 * (1 - r.val / 128) + (127 - r.val % 128) = 255 - r.val; omega
  rw [et] at e
  refine Eq.trans ?_ e
  have eh : (⟨(col h j).val / 128, by have : (col h j).val < 512 := (col h j).isLt; omega⟩ : Fin 4) = h :=
    Fin.ext (by show (128 * h.val + j.val) / 128 = h.val; omega)
  have ej : (⟨(col h j).val % 128, by omega⟩ : Fin 128) = j := Fin.ext (by show (128 * h.val + j.val) % 128 = j.val; omega)
  show outB d _ x2 _ x5 triV lvlV (rb d ⟨r.val / 128, _⟩) ⟨(col h j).val / 128, _⟩ (stAt x0 x3 x4 x5 (rb d ⟨r.val / 128, _⟩))
    (ix2 (n0 := 128) (n1 := 128) ⟨r.val % 128, _⟩ ⟨(col h j).val % 128, _⟩) = _
  rw [eh, ej]

end Kernel
end Cert.Hgrn
-- ==== Proof.Soft.lean ====
/- The softmax over the layers, of real numbers, and the lower bound it gives the gates. -/
module

public import proofs.«01_k».proof.Proof.Rows

@[expose] public section

noncomputable section

namespace Cert.Hgrn
open Idealize.ShloMosaic

/-- The lower bound of the fourth layer: the second to fourth layers' shares together. -/
def bound (f : Fin 4 → ℝ) : ℝ :=
  max ((Real.exp (f 1) + Real.exp (f 2) + Real.exp (f 3)) / (Real.exp (f 0) + Real.exp (f 1) + Real.exp (f 2) + Real.exp (f 3))) 0

theorem bound_le (f : Fin 4 → ℝ) : bound f ≤ 1 := by
  refine max_le ((div_le_one (by positivity)).2 ?_) zero_le_one
  have := Real.exp_pos (f 0)
  linarith

/-- One layer's share, with any shift of the exponents. -/
def share (f : Fin 4 → ℝ) (t : Fin 4) : ℝ := Real.exp (f t) / (Real.exp (f 0) + Real.exp (f 1) + Real.exp (f 2) + Real.exp (f 3))

theorem share_shift (f : Fin 4 → ℝ) (M : ℝ) (t : Fin 4) :
    Real.exp (f t - M) / (Real.exp (f 0 - M) + Real.exp (f 1 - M) + Real.exp (f 2 - M) + Real.exp (f 3 - M)) = share f t := by
  simp only [Real.exp_sub, ← add_div]
  exact div_div_div_cancel_right₀ (Real.exp_pos M).ne' _ _

theorem bound_shift (f : Fin 4 → ℝ) (M : ℝ) :
    max ((Real.exp (f 1 - M) + Real.exp (f 2 - M) + Real.exp (f 3 - M))
      / (Real.exp (f 0 - M) + Real.exp (f 1 - M) + Real.exp (f 2 - M) + Real.exp (f 3 - M))) 0 = bound f := by
  simp only [Real.exp_sub, ← add_div]
  rw [div_div_div_cancel_right₀ (Real.exp_pos M).ne']
  rfl

theorem bound_share (f : Fin 4 → ℝ) : max (share f 0 + share f 1 + share f 2 + share f 3 - share f 0) 0 = bound f := by
  rw [bound]
  congr 1
  simp only [share, ← add_div, ← sub_div]
  congr 1
  ring

theorem neg_top : Ideal.ofBits .f32 0xFF800000#32 = (⊥ : EReal) := by simp [Ideal.ofBits, Ideal.ieee]

theorem fold_max (f : Fin 4 → ℝ) :
    max (⊥ : EReal) (Finset.fold max (⊥ : EReal) (fun x => (f x : EReal)) Finset.univ) = ((max (f 0) (max (f 1) (max (f 2) (f 3))) : ℝ) : EReal) := by
  have e : (Finset.univ : Finset (Fin 4)) = {0, 1, 2, 3} := by decide
  rw [e, Finset.fold_insert (by decide), Finset.fold_insert (by decide), Finset.fold_insert (by decide), Finset.fold_singleton,
    max_eq_left (bot_le (a := ((f 3 : ℝ) : EReal))), max_eq_right bot_le]
  simp only [max_coe]

theorem soft_val (f : Fin 4 → ℝ) (M : ℝ) (t : Fin 4) :
    Ideal.div (Ideal.exp ((f t : EReal) - (M : EReal))) (∑ x, Ideal.exp ((f x : EReal) - (M : EReal))) = (share f t : EReal) := by
  simp only [Fin.sum_univ_four, ← EReal.coe_sub, Ideal.exp_coe, ← EReal.coe_add]
  rw [div_coe' _ _ (by positivity), share_shift]

/-- The kernel's way to write the lower bound. -/
theorem bound_val (f : Fin 4 → ℝ) :
    max (Ideal.div (0 + Ideal.exp ((f 1 : EReal) - max (max (max (f 0 : EReal) (f 1)) (f 2)) (f 3))
      + Ideal.exp ((f 2 : EReal) - max (max (max (f 0 : EReal) (f 1)) (f 2)) (f 3)) + Ideal.exp ((f 3 : EReal) - max (max (max (f 0 : EReal) (f 1)) (f 2)) (f 3)))
      (Ideal.exp ((f 0 : EReal) - max (max (max (f 0 : EReal) (f 1)) (f 2)) (f 3)) + Ideal.exp ((f 1 : EReal) - max (max (max (f 0 : EReal) (f 1)) (f 2)) (f 3))
      + Ideal.exp ((f 2 : EReal) - max (max (max (f 0 : EReal) (f 1)) (f 2)) (f 3)) + Ideal.exp ((f 3 : EReal) - max (max (max (f 0 : EReal) (f 1)) (f 2)) (f 3)))) 0
      = (bound f : EReal) := by
  simp only [max_coe, ← EReal.coe_sub, Ideal.exp_coe, zero_add, ← EReal.coe_add]
  rw [div_coe' _ _ (by positivity), ← EReal.coe_zero, max_coe, bound_shift]

end Cert.Hgrn
end
-- ==== Proof.CumSum.lean ====
/- The host's running sums read at an entry. -/
module

public import proofs.«01_k».proof.Proof.Gen.ReferenceIdeal
public import Idealize.ShloMosaic.Lib.Pointwise

@[expose] public section

set_option maxRecDepth 16384

noncomputable section

namespace Cert.ReferenceIdeal.Hand
open Idealize.ShloMosaic Idealize.ShloMosaic.TcCoe
open Cert.ReferenceIdeal Cert.ReferenceIdeal.Gen

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem foldl_zero {N : ℕ} (g : Fin N → EReal) : (List.finRange N).foldl (fun r n => r + g n) 0 = ∑ n, g n := by
  rw [foldl_add, zero_add, Fin.sum_univ_def]

/-- A window of the whole extent that ends at `t` sums the entries up to `t`. -/
theorem window_sum {N : ℕ} (X : Fin (N + 1) → EReal) (t : Fin (N + 1)) (g : Fin (N + 1) → EReal)
    (h1 : ∀ n : Fin (N + 1), ∀ h : N ≤ t.val + n.val, g n = X ⟨t.val + n.val - N, by omega⟩) (h0 : ∀ n : Fin (N + 1), ¬ N ≤ t.val + n.val → g n = 0) :
    ∑ n, g n = ∑ s, if s ≤ t then X s else 0 := by
  refine Eq.trans (Finset.sum_congr rfl fun n _ => ?_) (Equiv.sum_comp (Equiv.addRight (t + 1)) fun s => if s ≤ t then X s else 0)
  have ht := t.isLt
  have hn := n.isLt
  have e : ((Equiv.addRight (t + 1)) n).val = if N ≤ t.val + n.val then t.val + n.val - N else t.val + n.val + 1 := by
    show (n + (t + 1)).val = _
    rw [Fin.val_add, Fin.val_add, Fin.val_one', Nat.add_mod_mod, ← Nat.add_assoc, Nat.add_mod_mod]
    split
    · rw [show n.val + t.val + 1 = (t.val + n.val - N) + (N + 1) by omega, Nat.add_mod_right, Nat.mod_eq_of_lt (by omega)]
    · rw [Nat.mod_eq_of_lt (by omega)]; omega
  by_cases h : N ≤ t.val + n.val
  · rw [if_pos h] at e
    rw [h1 n h, if_pos (by rw [Fin.le_def, e]; omega)]
    exact congrArg X (Fin.ext e.symm)
  · rw [if_neg h] at e
    rw [h0 n h, if_neg (by rw [Fin.le_def, e]; omega)]

abbrev W4 : Shape := ⟨4, ![1, 1, 32, 1]⟩
abbrev W3 : Shape := ⟨3, ![4, 1, 1]⟩

theorem w4_val : ∀ n : Fin W4.numel, (W4.rowMajor.symm n 2).val = n.val := by decide +kernel
theorem w3_val : ∀ n : Fin W3.numel, (W3.rowMajor.symm n 0).val = n.val := by decide +kernel

theorem cumsum4 (x : FVec Ideal S64x4x32x128 .f32) (init : FVec Ideal S_ .f32) (hi : ∀ i, (init i : EReal) = 0)
    (b : Fin 64) (h : Fin 4) (t : Fin 32) (k : Fin 128) :
    (Host.reduceWindowAdd ![1, 1, 32, 1] ![1, 1, 1, 1] ![0, 0, 31, 0] ![0, 0, 0, 0] x init
      reduceWindows_S64x4x32x128_S64x4x32x128_w1s1p0_0_w1s1p0_0_w32s1p31_0_w1s1p0_0 h_S_ (ix4 (n0 := 64) (n1 := 4) (n2 := 32) (n3 := 128) b h t k) : EReal)
      = ∑ s : Fin 32, if s ≤ t then (x (ix4 (n0 := 64) (n1 := 4) (n2 := 32) (n3 := 128) b h s k) : EReal) else 0 := by
  refine Eq.trans ?_ (window_sum (N := 31) (fun s => (x (ix4 (n0 := 64) (n1 := 4) (n2 := 32) (n3 := 128) b h s k) : EReal)) t
    (fun n => if hn : 31 ≤ t.val + n.val then x (ix4 (n0 := 64) (n1 := 4) (n2 := 32) (n3 := 128) b h ⟨t.val + n.val - 31, by omega⟩ k) else 0)
    (fun n hn => dif_pos hn) (fun n hn => dif_neg hn))
  refine Eq.trans ?_ (foldl_zero (N := W4.numel) _)
  unfold Host.reduceWindowAdd
  rw [Ideal.hostReduceWindowAdd_def]
  unfold Ideal.hostReduceWindowAdd Host.reduceWindow
  dsimp only
  rw [hi]
  refine congrArg (fun f => List.foldl f (0 : EReal) (List.finRange W4.numel)) ?_
  funext r n
  refine congrArg (r + ·) ?_
  have h2 := w4_val n
  have z0 : (W4.rowMajor.symm n 0).val = 0 := Nat.lt_one_iff.1 (W4.rowMajor.symm n 0).isLt
  have z1 : (W4.rowMajor.symm n 1).val = 0 := Nat.lt_one_iff.1 (W4.rowMajor.symm n 1).isLt
  have z3 : (W4.rowMajor.symm n 3).val = 0 := Nat.lt_one_iff.1 (W4.rowMajor.symm n 3).isLt
  have hn : n.val < 32 := n.isLt
  by_cases hc : 31 ≤ t.val + n.val
  · rw [dif_pos (show 31 ≤ t.val + n.val from hc)]
    refine (dif_pos fun a => ?_).trans (congrArg x (funext fun a => Fin.ext ?_))
    · match a with
      | ⟨0, _⟩ => exact ⟨Nat.zero_le _, by show b.val * 1 + (W4.rowMajor.symm n 0).val - 0 < 64; omega⟩
      | ⟨1, _⟩ => exact ⟨Nat.zero_le _, by show h.val * 1 + (W4.rowMajor.symm n 1).val - 0 < 4; omega⟩
      | ⟨2, _⟩ => exact ⟨by show 31 ≤ t.val * 1 + (W4.rowMajor.symm n 2).val; omega, by show t.val * 1 + (W4.rowMajor.symm n 2).val - 31 < 32; omega⟩
      | ⟨3, _⟩ => exact ⟨Nat.zero_le _, by show k.val * 1 + (W4.rowMajor.symm n 3).val - 0 < 128; omega⟩
    · match a with
      | ⟨0, _⟩ => show b.val * 1 + (W4.rowMajor.symm n 0).val - 0 = b.val; omega
      | ⟨1, _⟩ => show h.val * 1 + (W4.rowMajor.symm n 1).val - 0 = h.val; omega
      | ⟨2, _⟩ => show t.val * 1 + (W4.rowMajor.symm n 2).val - 31 = t.val + n.val - 31; omega
      | ⟨3, _⟩ => show k.val * 1 + (W4.rowMajor.symm n 3).val - 0 = k.val; omega
  · rw [dif_neg (show ¬ 31 ≤ t.val + n.val from hc)]
    refine (dif_neg fun hh => hc ?_)
    have q : 31 ≤ t.val * 1 + (W4.rowMajor.symm n 2).val := (hh 2).1
    omega

theorem cumsum3 (x : FVec Ideal S4x2x512 .f32) (init : FVec Ideal S_ .f32) (hi : ∀ i, (init i : EReal) = 0)
    (t : Fin 4) (b : Fin 2) (k : Fin 512) :
    (Host.reduceWindowAdd ![4, 1, 1] ![1, 1, 1] ![3, 0, 0] ![0, 0, 0] x init
      reduceWindows_S4x2x512_S4x2x512_w4s1p3_0_w1s1p0_0_w1s1p0_0 h_S_ (ix3 (n0 := 4) (n1 := 2) (n2 := 512) t b k) : EReal)
      = ∑ s : Fin 4, if s ≤ t then (x (ix3 (n0 := 4) (n1 := 2) (n2 := 512) s b k) : EReal) else 0 := by
  refine Eq.trans ?_ (window_sum (N := 3) (fun s => (x (ix3 (n0 := 4) (n1 := 2) (n2 := 512) s b k) : EReal)) t
    (fun n => if hn : 3 ≤ t.val + n.val then x (ix3 (n0 := 4) (n1 := 2) (n2 := 512) ⟨t.val + n.val - 3, by omega⟩ b k) else 0)
    (fun n hn => dif_pos hn) (fun n hn => dif_neg hn))
  refine Eq.trans ?_ (foldl_zero (N := W3.numel) _)
  unfold Host.reduceWindowAdd
  rw [Ideal.hostReduceWindowAdd_def]
  unfold Ideal.hostReduceWindowAdd Host.reduceWindow
  dsimp only
  rw [hi]
  refine congrArg (fun f => List.foldl f (0 : EReal) (List.finRange W3.numel)) ?_
  funext r n
  refine congrArg (r + ·) ?_
  have h2 := w3_val n
  have z1 : (W3.rowMajor.symm n 1).val = 0 := Nat.lt_one_iff.1 (W3.rowMajor.symm n 1).isLt
  have z2 : (W3.rowMajor.symm n 2).val = 0 := Nat.lt_one_iff.1 (W3.rowMajor.symm n 2).isLt
  have hn : n.val < 4 := n.isLt
  by_cases hc : 3 ≤ t.val + n.val
  · rw [dif_pos (show 3 ≤ t.val + n.val from hc)]
    refine (dif_pos fun a => ?_).trans (congrArg x (funext fun a => Fin.ext ?_))
    · match a with
      | ⟨0, _⟩ => exact ⟨by show 3 ≤ t.val * 1 + (W3.rowMajor.symm n 0).val; omega, by show t.val * 1 + (W3.rowMajor.symm n 0).val - 3 < 4; omega⟩
      | ⟨1, _⟩ => exact ⟨Nat.zero_le _, by show b.val * 1 + (W3.rowMajor.symm n 1).val - 0 < 2; omega⟩
      | ⟨2, _⟩ => exact ⟨Nat.zero_le _, by show k.val * 1 + (W3.rowMajor.symm n 2).val - 0 < 512; omega⟩
    · match a with
      | ⟨0, _⟩ => show t.val * 1 + (W3.rowMajor.symm n 0).val - 3 = t.val + n.val - 3; omega
      | ⟨1, _⟩ => show b.val * 1 + (W3.rowMajor.symm n 1).val - 0 = b.val; omega
      | ⟨2, _⟩ => show k.val * 1 + (W3.rowMajor.symm n 2).val - 0 = k.val; omega
  · rw [dif_neg (show ¬ 3 ≤ t.val + n.val from hc)]
    refine (dif_neg fun hh => hc ?_)
    have q : 3 ≤ t.val * 1 + (W3.rowMajor.symm n 0).val := (hh 0).1
    omega

end Cert.ReferenceIdeal.Hand
-- ==== Proof.RefLoop.lean ====
/- The reference's scan over chunks: before each trip the carried state is the recurrence's at the chunk's first row, and the
   chunks already written are its output. -/
module

public import proofs.«01_k».proof.Proof.CumSum
public import proofs.«01_k».proof.Proof.Rec
public import proofs.«01_k».proof.Proof.Gen.ReferenceIdeal.Run
public import Idealize.ShloMosaic.Lib.DynamicIndex
public import Idealize.ShloMosaic.Lib.Tactic.CleanTypes

@[expose] public section

set_option maxRecDepth 16384

noncomputable section

namespace Cert.ReferenceIdeal.Hand
open Idealize.ShloMosaic Idealize.ShloMosaic.TcCoe
open Cert.ReferenceIdeal Cert.ReferenceIdeal.Gen Cert.ReferenceIdeal.Value
open Cert.Hgrn

abbrev Cnt := (⟨S_, .i32⟩ : BufTy).Contents (Elt Ideal)

theorem start_at (c : Cnt) (n : ℕ) (hn : n < 8) (hc : ∀ i, c i = BitVec.ofNat 32 n) (f : Fin 5 → Nat) (hf : ∀ a, f a = if a = 0 then n else 0) :
    ∀ a, (((![c, constantI S_ 32 0#32, constantI S_ 32 0#32, constantI S_ 32 0#32, constantI S_ 32 0#32] : Fin 5 → Cnt) a (Shape.Idx.first h_S_)).toInt) = ((f a : ℕ) : Int) := by
  intro a
  rw [hf]
  match a with
  | ⟨0, _⟩ => exact (congrArg BitVec.toInt (hc _)).trans (toInt_ofNat_of_lt (by omega))
  | ⟨1, _⟩ => rfl
  | ⟨2, _⟩ => rfl
  | ⟨3, _⟩ => rfl
  | ⟨4, _⟩ => rfl

/-- A chunk of a carried array. -/
theorem slice_at {α : Type} (x : S8x64x4x32x128.Idx → α) (c : Cnt) (n : Fin 8) (hc : ∀ i, c i = BitVec.ofNat 32 n.val)
    (b : Fin 64) (h : Fin 4) (t : Fin 32) (k : Fin 128) :
    shapeCast S64x4x32x128 (Host.dynamicSlice S1x64x4x32x128 x (fun k => (((![c, constantI S_ 32 0#32, constantI S_ 32 0#32, constantI S_ 32 0#32, constantI S_ 32 0#32] : Fin 5 → Cnt)) k (Shape.Idx.first h_S_)).toInt) sliceFits_S8x64x4x32x128_S1x64x4x32x128) shapeCasts_S1x64x4x32x128_S64x4x32x128 (ix4 (n0 := 64) (n1 := 4) (n2 := 32) (n3 := 128) b h t k)
      = x (ix5 (n0 := 8) (n1 := 64) (n2 := 4) (n3 := 32) (n4 := 128) n b h t k) := by
  have hs := start_at c n.val n.isLt hc (fun a => if a = 0 then n.val else 0) (fun _ => rfl)
  rw [Host.dynamicSlice_eq_extractStridedSlice S1x64x4x32x128 x _ (fun a => if a = 0 then n.val else 0) _
    ⟨rfl, fun a => by
      have := n.isLt
      match a with
      | ⟨0, _⟩ => show n.val + 1 ≤ 8; omega
      | ⟨1, _⟩ => show 0 + 64 ≤ 64; omega
      | ⟨2, _⟩ => show 0 + 4 ≤ 4; omega
      | ⟨3, _⟩ => show 0 + 32 ≤ 32; omega
      | ⟨4, _⟩ => show 0 + 128 ≤ 128; omega⟩ hs]
  pointwise

/-- A carried array after one chunk of it is written, at a start read as `n`. -/
theorem upd_start {α : Type} (x : S8x64x4x32x128.Idx → α) (u : S1x64x4x32x128.Idx → α) (S : Fin 5 → Int) (n : Fin 8) (hs : ∀ a, S a = ((if a = 0 then n.val else 0 : ℕ) : Int))
    (i : Fin 8) (b : Fin 64) (h : Fin 4) (t : Fin 32) (k : Fin 128) :
    Host.dynamicUpdateSlice x u S updateFits_S8x64x4x32x128_S1x64x4x32x128 (ix5 (n0 := 8) (n1 := 64) (n2 := 4) (n3 := 32) (n4 := 128) i b h t k)
      = if i = n then u (ix5 (n0 := 1) (n1 := 64) (n2 := 4) (n3 := 32) (n4 := 128) 0 b h t k) else x (ix5 (n0 := 8) (n1 := 64) (n2 := 4) (n3 := 32) (n4 := 128) i b h t k) := by
  have hn := n.isLt
  have q : ∀ a : Fin 5, Host.clampedStart S8x64x4x32x128 S1x64x4x32x128 rfl S a = if a = 0 then n.val else 0 := by
    intro a
    refine Host.clampedStart_of_le (s := S8x64x4x32x128) (t := S1x64x4x32x128) rfl S a (if a = 0 then n.val else 0) (hs a) ?_
    match a with
    | ⟨0, _⟩ => show n.val + 1 ≤ 8; omega
    | ⟨1, _⟩ => exact le_refl _
    | ⟨2, _⟩ => exact le_refl _
    | ⟨3, _⟩ => exact le_refl _
    | ⟨4, _⟩ => exact le_refl _
  rw [Host.dynamicUpdateSlice_apply]
  by_cases e : i = n
  · subst e
    rw [if_pos rfl]
    refine (dif_pos ?_).trans (congrArg u (funext fun a => Fin.ext ?_))
    · intro a
      rw [q]
      match a with
      | ⟨0, _⟩ => exact ⟨le_refl i.val, by show i.val < i.val + 1; omega⟩
      | ⟨1, _⟩ => exact ⟨Nat.zero_le _, by show b.val < 0 + 64; omega⟩
      | ⟨2, _⟩ => exact ⟨Nat.zero_le _, by show h.val < 0 + 4; omega⟩
      | ⟨3, _⟩ => exact ⟨Nat.zero_le _, by show t.val < 0 + 32; omega⟩
      | ⟨4, _⟩ => exact ⟨Nat.zero_le _, by show k.val < 0 + 128; omega⟩
    · match a with
      | ⟨0, _⟩ => exact (congrArg (fun z => i.val - z) (q 0)).trans (Nat.sub_self _)
      | ⟨1, _⟩ => exact (congrArg (fun z => b.val - z) (q 1))
      | ⟨2, _⟩ => exact (congrArg (fun z => h.val - z) (q 2))
      | ⟨3, _⟩ => exact (congrArg (fun z => t.val - z) (q 3))
      | ⟨4, _⟩ => exact (congrArg (fun z => k.val - z) (q 4))
  · rw [if_neg e]
    refine dif_neg fun hh => e (Fin.ext ?_)
    have h0 := hh 0
    rw [q] at h0
    have h1 : n.val ≤ i.val := h0.1
    have h2 : i.val < n.val + 1 := h0.2
    omega

/-- A carried array after one chunk of it is written. -/
theorem upd_at {α : Type} (x : S8x64x4x32x128.Idx → α) (u : S1x64x4x32x128.Idx → α) (c : Cnt) (n : Fin 8) (hc : ∀ i, c i = BitVec.ofNat 32 n.val)
    (i : Fin 8) (b : Fin 64) (h : Fin 4) (t : Fin 32) (k : Fin 128) :
    Host.dynamicUpdateSlice x u (fun k => (((![c, constantI S_ 32 0#32, constantI S_ 32 0#32, constantI S_ 32 0#32, constantI S_ 32 0#32] : Fin 5 → Cnt)) k (Shape.Idx.first h_S_)).toInt) updateFits_S8x64x4x32x128_S1x64x4x32x128 (ix5 (n0 := 8) (n1 := 64) (n2 := 4) (n3 := 32) (n4 := 128) i b h t k)
      = if i = n then u (ix5 (n0 := 1) (n1 := 64) (n2 := 4) (n3 := 32) (n4 := 128) 0 b h t k) else x (ix5 (n0 := 8) (n1 := 64) (n2 := 4) (n3 := 32) (n4 := 128) i b h t k) :=
  upd_start x u _ n (start_at c n.val n.isLt hc (fun a => if a = 0 then n.val else 0) (fun _ => rfl)) i b h t k

/-- Real arrays by batch, head, row and channel. -/
abbrev Arr := Fin 64 → Fin 4 → ℕ → Fin 128 → ℝ

def Chunks (x : S8x64x4x32x128.Idx → EReal) (A : Arr) : Prop :=
  ∀ (i : Fin 8) (b : Fin 64) (h : Fin 4) (t : Fin 32) (k : Fin 128),
    x (ix5 (n0 := 8) (n1 := 64) (n2 := 4) (n3 := 32) (n4 := 128) i b h t k) = (A b h (32 * i.val + t.val) k : EReal)

/-- What the carried buffers hold before trip `n`. -/
structure Inv (Q K L W : Arr) (n : ℕ) (V0 : Valuation τ sig (Elt Ideal)) : Prop where
  q : Chunks (V0 (Proc.devRef .tc main_v124_0)) Q
  k : Chunks (V0 (Proc.devRef .tc main_v124_1)) K
  l : Chunks (V0 (Proc.devRef .tc main_v124_2)) L
  v : Chunks (V0 (Proc.devRef .tc main_v124_3)) W
  mask : ∀ t s : Fin 32, (V0 (Proc.devRef .tc main_v124_4) : S32x32x1.Idx → BitVec 1) (ix3 (n0 := 32) (n1 := 32) (n2 := 1) t s 0) = if s ≤ t then 1#1 else 0#1
  cnt : ∀ i, (V0 (Proc.devRef .tc main_v124_5) : Cnt) i = BitVec.ofNat 32 n
  st : ∀ (b : Fin 64) (h : Fin 4) (k j : Fin 128), (V0 (Proc.devRef .tc main_v124_6) : S64x4x128x128.Idx → EReal) (ix4 (n0 := 64) (n1 := 4) (n2 := 128) (n3 := 128) b h k j)
    = (Cert.Hgrn.st (fun i => L b h i k) (fun i => K b h i k) (fun i => W b h i j) (32 * n) : EReal)
  out : ∀ (i : Fin 8), i.val < n → ∀ (b : Fin 64) (h : Fin 4) (t : Fin 32) (j : Fin 128),
    (V0 (Proc.devRef .tc main_v124_7) : S8x64x4x32x128.Idx → EReal) (ix5 (n0 := 8) (n1 := 64) (n2 := 4) (n3 := 32) (n4 := 128) i b h t j)
    = (Cert.Hgrn.out (Q b h) (L b h) (K b h) (fun i => W b h i j) (32 * i.val + t.val) : EReal)

section
variable {Q K L W : Arr} {n : Fin 8} {V0 : Valuation τ sig (Elt Ideal)} (I : Inv Q K L W n.val V0) (b : Fin 64) (h : Fin 4) (t : Fin 32) (k : Fin 128)
include I

theorem q_at : (res_main_while0b_v159 V0 : S64x4x32x128.Idx → EReal) (ix4 (n0 := 64) (n1 := 4) (n2 := 32) (n3 := 128) b h t k) = (Q b h (32 * n.val + t.val) k : EReal) := by
  unfold res_main_while0b_v159
  exact (slice_at (α := EReal) _ _ n I.cnt b h t k).trans (I.q n b h t k)

theorem k_at : (res_main_while0b_v160 V0 : S64x4x32x128.Idx → EReal) (ix4 (n0 := 64) (n1 := 4) (n2 := 32) (n3 := 128) b h t k) = (K b h (32 * n.val + t.val) k : EReal) := by
  unfold res_main_while0b_v160
  exact (slice_at (α := EReal) _ _ n I.cnt b h t k).trans (I.k n b h t k)

theorem v_at : (res_main_while0b_v162 V0 : S64x4x32x128.Idx → EReal) (ix4 (n0 := 64) (n1 := 4) (n2 := 32) (n3 := 128) b h t k) = (W b h (32 * n.val + t.val) k : EReal) := by
  unfold res_main_while0b_v162
  exact (slice_at (α := EReal) _ _ n I.cnt b h t k).trans (I.v n b h t k)

theorem l_at : (res_main_while0b_v163 V0 : S64x4x32x128.Idx → EReal) (ix4 (n0 := 64) (n1 := 4) (n2 := 32) (n3 := 128) b h t k) = (psum (fun i => L b h i k) (32 * n.val) (t.val + 1) : EReal) := by
  unfold res_main_while0b_v163
  refine (cumsum4 _ _ (fun i => ?_) b h t k).trans ?_
  · pointwise
  · refine Eq.trans (Finset.sum_congr rfl fun s _ => ?_) ((coe_sum Finset.univ fun s : Fin 32 => if s ≤ t then L b h (32 * n.val + s.val) k else 0).trans
      (congrArg (fun r : ℝ => (r : EReal)) (psum_eq (Equiv.refl (Fin 32)) (fun i => L b h i k) (32 * n.val) t).symm))
    by_cases hs : s ≤ t
    · rw [if_pos hs, if_pos hs]
      exact (slice_at (α := EReal) _ _ n I.cnt b h s k).trans (I.l n b h s k)
    · rw [if_neg hs, if_neg hs, EReal.coe_zero]

theorem last_at : (res_main_while0b_v183 V0 : S64x4x1x128.Idx → EReal) (ix4 (n0 := 64) (n1 := 4) (n2 := 1) (n3 := 128) b h 0 k) = (psum (fun i => L b h i k) (32 * n.val) 32 : EReal) := by
  unfold res_main_while0b_v183
  pointwise
  exact l_at I b h 31 k

/-- The state after the trip. -/
theorem st_next (j : Fin 128) : (step_main_v124_6 V0 : S64x4x128x128.Idx → EReal) (ix4 (n0 := 64) (n1 := 4) (n2 := 128) (n3 := 128) b h k j)
    = (Cert.Hgrn.st (fun i => L b h i k) (fun i => K b h i k) (fun i => W b h i j) (32 * (n.val + 1)) : EReal) := by
  unfold step_main_v124_6
  clean_types
  pointwise [id]
  rw [Nat.mul_add, chunk_st (C := 32) (Equiv.refl (Fin 32))]
  simp only [Equiv.refl_apply]
  have hs := I.st b h k j
  rw [last_at I, hs]
  simp only [k_at I, l_at I, v_at I, ← EReal.coe_sub, Ideal.exp_coe, ← EReal.coe_mul]
  rw [coe_sum, ← EReal.coe_add]

/-- The chunk the trip writes. -/
theorem out_next (j : Fin 128) (i : Fin 8) : (step_main_v124_7 V0 : S8x64x4x32x128.Idx → EReal) (ix5 (n0 := 8) (n1 := 64) (n2 := 4) (n3 := 32) (n4 := 128) i b h t j)
    = if i = n then (Cert.Hgrn.out (Q b h) (L b h) (K b h) (fun i => W b h i j) (32 * n.val + ((Equiv.refl (Fin 32)) t).val) : EReal)
      else (V0 (Proc.devRef .tc main_v124_7) : S8x64x4x32x128.Idx → EReal) (ix5 (n0 := 8) (n1 := 64) (n2 := 4) (n3 := 32) (n4 := 128) i b h t j) := by
  unfold step_main_v124_7
  refine (upd_at (α := EReal) _ _ _ n I.cnt i b h t j).trans (if_congr Iff.rfl ?_ rfl)
  clean_types
  pointwise [id]
  have e := chunk_out (C := 32) (Equiv.refl (Fin 32)) (Q b h) (L b h) (K b h) (fun i => W b h i j) (32 * n.val) t
  rw [e]
  have hs := fun k => I.st b h k j
  have hm := fun s => I.mask t s
  simp only [hs, hm, q_at I, k_at I, l_at I, v_at I, ← EReal.coe_sub, Ideal.exp_coe, ← EReal.coe_mul]
  rw [coe_sum, EReal.coe_add]
  refine congrArg _ ?_
  rw [← coe_sum]
  refine Finset.sum_congr rfl fun s _ => ?_
  rw [EReal.coe_mul]
  refine congrArg (· * _) ?_
  by_cases c : (Equiv.refl (Fin 32)) s ≤ (Equiv.refl (Fin 32)) t
  · rw [if_pos c, if_pos (show s ≤ t from c), ← coe_sum]
    refine Finset.sum_congr rfl fun k _ => ?_
    have s1 : ∀ a b : EReal, Scalar.select (1#1) a b = a := fun a b => if_pos rfl
    rw [s1, s1, Ideal.exp_coe, ← EReal.coe_mul]
    rfl
  · rw [if_neg c, if_neg (show ¬ s ≤ t from c)]
    simp [Scalar.select]

end

/-- One trip. -/
theorem inv_step {Q K L W : Arr} {n : ℕ} (hn : n < 8) {V0 : Valuation τ sig (Elt Ideal)} (I : Inv Q K L W n V0) : Inv Q K L W (n + 1) (STEP V0) where
  q := by rw [STEP_main_v124_0]; exact I.q
  k := by rw [STEP_main_v124_1]; exact I.k
  l := by rw [STEP_main_v124_2]; exact I.l
  v := by rw [STEP_main_v124_3]; exact I.v
  mask := by rw [STEP_main_v124_4]; exact I.mask
  cnt := by
    intro i
    rw [STEP_main_v124_5]
    exact (congrArg (fun z : BitVec 32 => z + 1#32) (I.cnt i)).trans (BitVec.ofNat_add n 1).symm
  st := by
    intro b h k j
    rw [STEP_main_v124_6]
    exact st_next (n := ⟨n, hn⟩) I b h k j
  out := by
    intro i hi b h t j
    rw [STEP_main_v124_7]
    refine (out_next (n := ⟨n, hn⟩) I b h t j i).trans ?_
    by_cases e : i = ⟨n, hn⟩
    · rw [if_pos e, e]
      rfl
    · rw [if_neg e]
      exact I.out i (Nat.lt_of_le_of_ne (Nat.lt_succ_iff.1 hi) fun h' => e (Fin.ext h')) b h t j

/-- All the trips. -/
theorem inv_all {Q K L W : Arr} {V0 : Valuation τ sig (Elt Ideal)} (I : Inv Q K L W 0 V0) : ∀ n ≤ 8, Inv Q K L W n (STEP^[n] V0)
  | 0, _ => I
  | n + 1, h => by
    rw [Function.iterate_succ_apply']
    exact inv_step h (inv_all I n (Nat.le_of_succ_le h))

end Cert.ReferenceIdeal.Hand
-- ==== Proof.RefTail.lean ====
/- What the reference prepares for its scan, entry by entry. -/
module

public import proofs.«01_k».proof.Proof.RefLoop
public import proofs.«01_k».proof.Proof.Rows
public import Idealize.ShloMosaic.Lib.StableHlo.ReadAt

@[expose] public section

set_option maxRecDepth 16384

noncomputable section

namespace Cert.ReferenceIdeal.Hand
open Idealize.ShloMosaic Idealize.ShloMosaic.TcCoe Idealize.ShloMosaic.Tactic
open Idealize.ShloMosaic.StableHlo
open Cert.ReferenceIdeal Cert.ReferenceIdeal.Gen Cert.ReferenceIdeal.Value
open Cert.Hgrn

/-- The operations between the lower bounds and the concatenations. -/
def mid (V : Valuation τ sig (Elt Ideal)) : Valuation τ sig (Elt Ideal) :=
  after hostOps0_11 (after hostOps0_10 (after hostOps0_9 (after hostOps0_8 (after hostOps0_7 (after hostOps0_6 (after hostOps0_5 (after hostOps0_4 (after hostOps0_3 V))))))))

/-- The last operations before the scan. -/
def tail (V : Valuation τ sig (Elt Ideal)) : Valuation τ sig (Elt Ideal) :=
  after hostOps0_14 (after hostOps0_13 (after hostOps0_12 V))

/-- The stable form of `log (exp a + exp b)`. -/
theorem lae_real (a b : ℝ) : max a b + Real.log (1 + Real.exp (-|a - b|)) = Real.log (Real.exp a + Real.exp b) := by
  have key : ∀ a b : ℝ, b ≤ a → a + Real.log (1 + Real.exp (-(a - b))) = Real.log (Real.exp a + Real.exp b) := by
    intro a b _
    have e : Real.exp a + Real.exp b = Real.exp a * (1 + Real.exp (-(a - b))) := by
      rw [mul_add, mul_one, ← Real.exp_add]
      congr 2
      ring
    rw [e, Real.log_mul (Real.exp_pos _).ne' (by positivity), Real.log_exp]
  rcases le_total b a with h | h
  · rw [max_eq_left h, abs_of_nonneg (sub_nonneg.2 h), key a b h]
  · rw [max_eq_right h, abs_of_nonpos (sub_nonpos.2 h), neg_sub, key b a h, add_comm]

theorem log1p_val (r : ℝ) : Ideal.log1p ((Real.exp r : ℝ) : EReal) = ((Real.log (1 + Real.exp r) : ℝ) : EReal) := by
  have hp : (0 : ℝ) < 1 + Real.exp r := by positivity
  rw [Ideal.log1p, ← EReal.coe_one, ← EReal.coe_add, Ideal.log_coe, if_neg (not_le.2 hp)]

theorem logFL (l : ℝ) : Ideal.log ((max l FL : ℝ) : EReal) = ((Real.log (max l FL) : ℝ) : EReal) := by
  rw [Ideal.log_coe, if_neg (not_le.2 (lt_max_of_lt_right FL_fact.2.1))]

theorem recip_val (r : ℝ) : Ideal.div 1 (1 + ((Real.exp r : ℝ) : EReal)) = ((1 / (1 + Real.exp r) : ℝ) : EReal) := recip _ (Real.exp_pos _)

/-- `log_sigmoid` through the stable form. -/
theorem lsm_real (x : ℝ) : -(max (-x) 0 + Real.log (1 + Real.exp (-|-x|))) = Real.log (sg x) := by
  have e := lae_real (-x) 0
  rw [sub_zero, Real.exp_zero] at e
  rw [e, sg, Real.log_div one_ne_zero (by positivity), Real.log_one, zero_sub, add_comm]

theorem gate_real (l x : ℝ) : Real.log (Real.exp (Real.log (sg x)) + Real.exp (Real.log (max l FL) + Real.log (sg (-x)))) = lfR l x := by
  rw [Real.exp_add, Real.exp_log (sg_pos _), Real.exp_log (sg_pos _), Real.exp_log (lt_max_of_lt_right FL_fact.2.1), lfR]

/-- The forget gate's logarithm as the reference writes it, of real numbers. -/
theorem gate_log (l x : ℝ) : max (Real.log (sg x)) (Real.log (max l FL) + Real.log (sg (-x)))
    + Real.log (1 + Real.exp (-|Real.log (sg x) - (Real.log (max l FL) + Real.log (sg (-x)))|)) = lfR l x := by
  rw [lae_real, gate_real]

theorem zero_max (r : ℝ) : max (r : EReal) 0 = ((max r 0 : ℝ) : EReal) := by rw [← EReal.coe_zero, max_coe]

/-- Part `p` of sequence `b`. -/
def Zs (A : Fin 24576 → Fin 4096 → ℝ) (p : Fin 8) (b : Fin 32) (r : Fin 256) (c : Fin 512) : ℝ :=
  A ⟨256 * b.val + r.val, by omega⟩ ⟨512 * p.val + c.val, by omega⟩

theorem Zs_of (A : Fin 24576 → Fin 4096 → ℝ) (p : Fin 8) (b : Fin 32) (r : Fin 256) (c : Fin 512) (R : Fin 24576) (C : Fin 4096)
    (hR : R.val = 256 * b.val + r.val) (hC : C.val = 512 * p.val + c.val) : A R C = Zs A p b r c :=
  congrArg₂ A (Fin.ext hR) (Fin.ext hC)

section Parts
variable (V : Valuation τ sig (Elt Ideal)) (A : Fin 24576 → Fin 4096 → ℝ) (Lr : Bool → Fin 512 → ℝ)
  (hA : ∀ r c, (V (Proc.devRef .tc main_arg0) : S24576x4096.Idx → EReal) (ix2 (n0 := 24576) (n1 := 4096) r c) = (A r c : EReal))
  (hL : ∀ (d : Fin 2) (h : Fin 4) (k : Fin 128), (V (Proc.devRef .tc main_v19) : S2x4x128.Idx → EReal) (ix3 (n0 := 2) (n1 := 4) (n2 := 128) d h k) = (Lr (decide (d = 1)) (col h k) : EReal))
  (hX : ∀ (b : Fin 32) (n : Fin 256) (c : Fin 512), (V (Proc.devRef .tc main_v22) : S32x256x512.Idx → EReal) (ix3 (n0 := 32) (n1 := 256) (n2 := 512) b n c) = (Zs A 3 b n c : EReal))
  (b : Fin 32) (n : Fin 256) (h : Fin 4) (k : Fin 128)

include hX in
theorem q0_at : ((mid V (Proc.devRef .tc main_v24) : S32x256x4x128.Idx → EReal) (ix4 (n0 := 32) (n1 := 256) (n2 := 4) (n3 := 128) b n h k) : EReal)
    = ((Zs A 3 b n (col h k) * sg (Zs A 3 b n (col h k)) : ℝ) : EReal) := by
  unfold mid
  after_reads_at
  rw [show (⟨h.val * 128 + k.val, by omega⟩ : Fin 512) = col h k from Fin.ext (by dsimp only [col]; omega), hX, ← EReal.coe_neg, Ideal.exp_coe, recip_val, ← EReal.coe_mul]
  rfl

include hX in
theorem q1_at : ((after hostOps0_12 (mid V) (Proc.devRef .tc main_v103) : S32x256x4x128.Idx → EReal) (ix4 (n0 := 32) (n1 := 256) (n2 := 4) (n3 := 128) b n h k) : EReal)
    = ((Zs A 3 b n.rev (col h k) * sg (Zs A 3 b n.rev (col h k)) : ℝ) : EReal) := by
  rw [← q0_at V A hX b n.rev h k]
  generalize hx : (mid V (Proc.devRef .tc main_v24) : S32x256x4x128.Idx → EReal) = x
  generalize mid V = W at hx
  subst hx
  after_reads_at
  simp

include hA in
theorem v0_at : ((mid V (Proc.devRef .tc main_v28) : S32x256x4x128.Idx → EReal) (ix4 (n0 := 32) (n1 := 256) (n2 := 4) (n3 := 128) b n h k) : EReal)
    = ((Zs A 6 b n (col h k) : ℝ) : EReal) := by
  unfold mid
  after_reads_at
  rw [hA]
  exact congrArg (fun x : ℝ => (x : EReal)) (Zs_of A 6 b n (col h k) _ _ (by dsimp only; omega) (by dsimp only [col]; simp; omega))

include hA in
theorem v1_at : ((after hostOps0_12 (mid V) (Proc.devRef .tc main_v109) : S32x256x4x128.Idx → EReal) (ix4 (n0 := 32) (n1 := 256) (n2 := 4) (n3 := 128) b n h k) : EReal)
    = ((Zs A 6 b n.rev (col h k) : ℝ) : EReal) := by
  rw [← v0_at V A hA b n.rev h k]
  generalize mid V = W
  after_reads_at
  simp

include hA hL in
theorem lfwd_at : ((mid V (Proc.devRef .tc main_v53) : S32x256x4x128.Idx → EReal) (ix4 (n0 := 32) (n1 := 256) (n2 := 4) (n3 := 128) b n h k) : EReal)
    = ((lfR (Lr false (col h k)) (Zs A 4 b n (col h k)) : ℝ) : EReal) := by
  unfold mid
  after_reads_at
  simp only [ne_eq, not_true_eq_false, if_false, List.mem_cons, List.not_mem_nil, or_false, if_true, Fin.reduceEq, reduceIte, Fin.isValue]
  simp only [hA, hL, FL_fact.1, ← EReal.coe_neg, zero_max, max_coe, absf_coe, Ideal.exp_coe, log1p_val, logFL, ← EReal.coe_add, ← EReal.coe_sub, lsm_real, gate_log]
  exact congrArg (fun x : ℝ => ((lfR (Lr false (col h k)) x : ℝ) : EReal)) (Zs_of A 4 b n (col h k) _ _ (by dsimp only; omega) (by dsimp only [col]; simp; omega))

include hA hL in
theorem kfwd_at : ((mid V (Proc.devRef .tc main_v65) : S32x256x4x128.Idx → EReal) (ix4 (n0 := 32) (n1 := 256) (n2 := 4) (n3 := 128) b n h k) : EReal)
    = ((kkR (Lr false (col h k)) (Zs A 4 b n (col h k)) : ℝ) : EReal) := by
  unfold mid
  after_reads_at
  simp only [hA, hL, ← EReal.coe_neg, Ideal.exp_coe, recip_val]
  simp only [← EReal.coe_one, ← EReal.coe_mul, ← EReal.coe_sub]
  exact congrArg (fun x : ℝ => ((kkR (Lr false (col h k)) x : ℝ) : EReal)) (Zs_of A 4 b n (col h k) _ _ (by dsimp only; omega) (by dsimp only [col]; simp; omega))

include hA hL in
theorem lbwd_at : ((after hostOps0_12 (mid V) (Proc.devRef .tc main_v107) : S32x256x4x128.Idx → EReal) (ix4 (n0 := 32) (n1 := 256) (n2 := 4) (n3 := 128) b n h k) : EReal)
    = ((lfR (Lr true (col h k)) (Zs A 5 b n.rev (col h k)) : ℝ) : EReal) := by
  unfold mid
  after_reads_at
  simp only [ne_eq, not_true_eq_false, if_false, List.mem_cons, List.not_mem_nil, or_false, if_true, Fin.reduceEq, reduceIte, Fin.isValue]
  simp only [hA, hL, FL_fact.1, ← EReal.coe_neg, zero_max, max_coe, absf_coe, Ideal.exp_coe, log1p_val, logFL, ← EReal.coe_add, ← EReal.coe_sub, lsm_real, gate_log]
  exact congrArg (fun x : ℝ => ((lfR (Lr true (col h k)) x : ℝ) : EReal)) (Zs_of A 5 b n.rev (col h k) _ _ (by dsimp only; omega) (by dsimp only [col]; simp; omega))

include hA hL in
theorem kbwd_at : ((after hostOps0_12 (mid V) (Proc.devRef .tc main_v105) : S32x256x4x128.Idx → EReal) (ix4 (n0 := 32) (n1 := 256) (n2 := 4) (n3 := 128) b n h k) : EReal)
    = ((kkR (Lr true (col h k)) (Zs A 5 b n.rev (col h k)) : ℝ) : EReal) := by
  unfold mid
  after_reads_at
  simp only [ne_eq, not_true_eq_false, if_false, List.mem_cons, List.not_mem_nil, or_false, if_true, Fin.reduceEq, reduceIte, Fin.isValue]
  simp only [hA, hL, ← EReal.coe_neg, Ideal.exp_coe, recip_val]
  simp only [← EReal.coe_one, ← EReal.coe_mul, ← EReal.coe_sub]
  exact congrArg (fun x : ℝ => ((kkR (Lr true (col h k)) x : ℝ) : EReal)) (Zs_of A 5 b n.rev (col h k) _ _ (by dsimp only; omega) (by dsimp only [col]; simp; omega))

end Parts

/-- Both directions of stored array 0, cut into chunks. -/
theorem catQ (V : Valuation τ sig (Elt Ideal)) (i : Fin 8) (b : Fin 64) (h : Fin 4) (t : Fin 32) (k : Fin 128) :
    ((tail V (Proc.devRef .tc main_v124_0) : S8x64x4x32x128.Idx → EReal) (ix5 (n0 := 8) (n1 := 64) (n2 := 4) (n3 := 32) (n4 := 128) i b h t k) : EReal)
    = if hb : b.val < 32 then (V (Proc.devRef .tc main_v24) : S32x256x4x128.Idx → EReal) (ix4 (n0 := 32) (n1 := 256) (n2 := 4) (n3 := 128) ⟨b.val, hb⟩ ⟨i.val * 32 + t.val, by omega⟩ h k)
      else (after hostOps0_12 V (Proc.devRef .tc main_v103) : S32x256x4x128.Idx → EReal) (ix4 (n0 := 32) (n1 := 256) (n2 := 4) (n3 := 128) ⟨b.val - 32, by omega⟩ ⟨i.val * 32 + t.val, by omega⟩ h k) := by
  generalize hx : (V (Proc.devRef .tc main_v24) : S32x256x4x128.Idx → EReal) = x
  generalize hy : (after hostOps0_12 V (Proc.devRef .tc main_v103) : S32x256x4x128.Idx → EReal) = y
  unfold tail
  after_reads_at
  have ex : (upto hostOps0_12 V 29 (Proc.devRef .tc main_v24) : S32x256x4x128.Idx → EReal) = x := by rw [← hx]; after_reads_simp
  have ey : (upto hostOps0_12 V 29 (Proc.devRef .tc main_v103) : S32x256x4x128.Idx → EReal) = y := by rw [← hy]; after_reads_simp
  rw [ex, ey]
  clean_types
  pointwise [id]

/-- Both directions of stored array 1, cut into chunks. -/
theorem catK (V : Valuation τ sig (Elt Ideal)) (i : Fin 8) (b : Fin 64) (h : Fin 4) (t : Fin 32) (k : Fin 128) :
    ((tail V (Proc.devRef .tc main_v124_1) : S8x64x4x32x128.Idx → EReal) (ix5 (n0 := 8) (n1 := 64) (n2 := 4) (n3 := 32) (n4 := 128) i b h t k) : EReal)
    = if hb : b.val < 32 then (V (Proc.devRef .tc main_v65) : S32x256x4x128.Idx → EReal) (ix4 (n0 := 32) (n1 := 256) (n2 := 4) (n3 := 128) ⟨b.val, hb⟩ ⟨i.val * 32 + t.val, by omega⟩ h k)
      else (after hostOps0_12 V (Proc.devRef .tc main_v105) : S32x256x4x128.Idx → EReal) (ix4 (n0 := 32) (n1 := 256) (n2 := 4) (n3 := 128) ⟨b.val - 32, by omega⟩ ⟨i.val * 32 + t.val, by omega⟩ h k) := by
  generalize hx : (V (Proc.devRef .tc main_v65) : S32x256x4x128.Idx → EReal) = x
  generalize hy : (after hostOps0_12 V (Proc.devRef .tc main_v105) : S32x256x4x128.Idx → EReal) = y
  unfold tail
  after_reads_at
  have ex : (upto hostOps0_12 V 31 (Proc.devRef .tc main_v65) : S32x256x4x128.Idx → EReal) = x := by rw [← hx]; after_reads_simp
  have ey : (upto hostOps0_12 V 31 (Proc.devRef .tc main_v105) : S32x256x4x128.Idx → EReal) = y := by rw [← hy]; after_reads_simp
  rw [ex, ey]
  clean_types
  pointwise [id]

/-- Both directions of stored array 2, cut into chunks. -/
theorem catL (V : Valuation τ sig (Elt Ideal)) (i : Fin 8) (b : Fin 64) (h : Fin 4) (t : Fin 32) (k : Fin 128) :
    ((tail V (Proc.devRef .tc main_v124_2) : S8x64x4x32x128.Idx → EReal) (ix5 (n0 := 8) (n1 := 64) (n2 := 4) (n3 := 32) (n4 := 128) i b h t k) : EReal)
    = if hb : b.val < 32 then (V (Proc.devRef .tc main_v53) : S32x256x4x128.Idx → EReal) (ix4 (n0 := 32) (n1 := 256) (n2 := 4) (n3 := 128) ⟨b.val, hb⟩ ⟨i.val * 32 + t.val, by omega⟩ h k)
      else (after hostOps0_12 V (Proc.devRef .tc main_v107) : S32x256x4x128.Idx → EReal) (ix4 (n0 := 32) (n1 := 256) (n2 := 4) (n3 := 128) ⟨b.val - 32, by omega⟩ ⟨i.val * 32 + t.val, by omega⟩ h k) := by
  generalize hx : (V (Proc.devRef .tc main_v53) : S32x256x4x128.Idx → EReal) = x
  generalize hy : (after hostOps0_12 V (Proc.devRef .tc main_v107) : S32x256x4x128.Idx → EReal) = y
  unfold tail
  after_reads_at
  have ex : (upto hostOps0_12 V 33 (Proc.devRef .tc main_v53) : S32x256x4x128.Idx → EReal) = x := by rw [← hx]; after_reads_simp
  have ey : (upto hostOps0_12 V 33 (Proc.devRef .tc main_v107) : S32x256x4x128.Idx → EReal) = y := by rw [← hy]; after_reads_simp
  rw [ex, ey]
  clean_types
  pointwise [id]

/-- Both directions of stored array 3, cut into chunks. -/
theorem catW (V : Valuation τ sig (Elt Ideal)) (i : Fin 8) (b : Fin 64) (h : Fin 4) (t : Fin 32) (k : Fin 128) :
    ((tail V (Proc.devRef .tc main_v124_3) : S8x64x4x32x128.Idx → EReal) (ix5 (n0 := 8) (n1 := 64) (n2 := 4) (n3 := 32) (n4 := 128) i b h t k) : EReal)
    = if hb : b.val < 32 then (V (Proc.devRef .tc main_v28) : S32x256x4x128.Idx → EReal) (ix4 (n0 := 32) (n1 := 256) (n2 := 4) (n3 := 128) ⟨b.val, hb⟩ ⟨i.val * 32 + t.val, by omega⟩ h k)
      else (after hostOps0_12 V (Proc.devRef .tc main_v109) : S32x256x4x128.Idx → EReal) (ix4 (n0 := 32) (n1 := 256) (n2 := 4) (n3 := 128) ⟨b.val - 32, by omega⟩ ⟨i.val * 32 + t.val, by omega⟩ h k) := by
  generalize hx : (V (Proc.devRef .tc main_v28) : S32x256x4x128.Idx → EReal) = x
  generalize hy : (after hostOps0_12 V (Proc.devRef .tc main_v109) : S32x256x4x128.Idx → EReal) = y
  unfold tail
  after_reads_at
  have ex : (upto hostOps0_12 V 35 (Proc.devRef .tc main_v28) : S32x256x4x128.Idx → EReal) = x := by rw [← hx]; after_reads_simp
  have ey : (upto hostOps0_12 V 35 (Proc.devRef .tc main_v109) : S32x256x4x128.Idx → EReal) = y := by rw [← hy]; after_reads_simp
  rw [ex, ey]
  clean_types
  pointwise [id]

theorem st_init (V : Valuation τ sig (Elt Ideal)) (b : Fin 64) (h : Fin 4) (k j : Fin 128) :
    ((tail V (Proc.devRef .tc main_v124_6) : S64x4x128x128.Idx → EReal) (ix4 (n0 := 64) (n1 := 4) (n2 := 128) (n3 := 128) b h k j) : EReal) = ((0 : ℝ) : EReal) := by
  unfold tail
  after_reads_at
  clean_types
  pointwise [id]
  exact EReal.coe_zero.symm

theorem mask_init (V : Valuation τ sig (Elt Ideal)) (t s : Fin 32) :
    (tail V (Proc.devRef .tc main_v124_4) : S32x32x1.Idx → BitVec 1) (ix3 (n0 := 32) (n1 := 32) (n2 := 1) t s 0) = if s ≤ t then 1#1 else 0#1 := by
  unfold tail
  after_reads_at
  clean_types
  pointwise [id]
  revert t s
  decide +kernel

theorem cnt_init (V : Valuation τ sig (Elt Ideal)) (i) : (tail V (Proc.devRef .tc main_v124_5) : Cnt) i = BitVec.ofNat 32 0 := by
  unfold tail
  after_reads_at
  clean_types
  pointwise [id]

/-- A sequence's direction. -/
def dirB (b : Fin 64) : Bool := decide (32 ≤ b.val)
/-- A sequence's place among its direction's. -/
def sq (b : Fin 64) : Fin 32 := ⟨b.val % 32, by omega⟩
/-- The part that holds a direction's gate. -/
def gp (d : Bool) : Fin 8 := if d then 5 else 4

section Arrs
variable (A : Fin 24576 → Fin 4096 → ℝ) (Lr : Bool → Fin 512 → ℝ)
def aQ : Arr := fun b h n k => qS (dirB b) (Zs A 3 (sq b)) h n k
def aK : Arr := fun b h n k => kkS (dirB b) (Lr (dirB b)) (Zs A (gp (dirB b)) (sq b)) h n k
def aL : Arr := fun b h n k => lfS (dirB b) (Lr (dirB b)) (Zs A (gp (dirB b)) (sq b)) h n k
def aW : Arr := fun b h n k => vS (dirB b) (Zs A 6 (sq b)) h k n
end Arrs

/-- Both directions together, from each of them. -/
theorem both (f : Bool → Fin 32 → Fin 256 → ℝ) (i : Fin 8) (b : Fin 64) (t : Fin 32) (x y : Fin 32 → Fin 256 → EReal)
    (hx : ∀ b n, x b n = (f false b n : EReal)) (hy : ∀ b (n : Fin 256), y b n = (f true b n.rev : EReal)) :
    (if hb : b.val < 32 then x ⟨b.val, hb⟩ ⟨i.val * 32 + t.val, by omega⟩ else y ⟨b.val - 32, by omega⟩ ⟨i.val * 32 + t.val, by omega⟩)
      = (f (dirB b) (sq b) (row (dirB b) (32 * i.val + t.val)) : EReal) := by
  have := i.isLt
  have := t.isLt
  by_cases hb : b.val < 32
  · have e : dirB b = false := by simp [dirB, hb]
    rw [dif_pos hb, hx, e]
    have e1 : sq b = ⟨b.val, hb⟩ := Fin.ext (Nat.mod_eq_of_lt hb)
    have e2 : row false (32 * i.val + t.val) = ⟨i.val * 32 + t.val, by omega⟩ := Fin.ext (by show (32 * i.val + t.val) % 256 = i.val * 32 + t.val; omega)
    rw [e1, e2]
  · have e : dirB b = true := by simp [dirB]; omega
    rw [dif_neg hb, hy, e]
    have e1 : sq b = ⟨b.val - 32, by omega⟩ := Fin.ext (by show b.val % 32 = b.val - 32; omega)
    have e2 : row true (32 * i.val + t.val) = Fin.rev ⟨i.val * 32 + t.val, by omega⟩ := Fin.ext (by show 255 - (32 * i.val + t.val) = 256 - (i.val * 32 + t.val + 1); omega)
    rw [e1, e2]

section Zero
variable (V : Valuation τ sig (Elt Ideal)) (A : Fin 24576 → Fin 4096 → ℝ) (Lr : Bool → Fin 512 → ℝ)
  (hA : ∀ r c, (V (Proc.devRef .tc main_arg0) : S24576x4096.Idx → EReal) (ix2 (n0 := 24576) (n1 := 4096) r c) = (A r c : EReal))
  (hL : ∀ (d : Fin 2) (h : Fin 4) (k : Fin 128), (V (Proc.devRef .tc main_v19) : S2x4x128.Idx → EReal) (ix3 (n0 := 2) (n1 := 4) (n2 := 128) d h k) = (Lr (decide (d = 1)) (col h k) : EReal))
  (hX : ∀ (b : Fin 32) (n : Fin 256) (c : Fin 512), (V (Proc.devRef .tc main_v22) : S32x256x512.Idx → EReal) (ix3 (n0 := 32) (n1 := 256) (n2 := 512) b n c) = (Zs A 3 b n c : EReal))

include hX in
theorem zero_Q : Chunks (tail (mid V) (Proc.devRef .tc main_v124_0) : S8x64x4x32x128.Idx → EReal) (aQ A) := by
  intro i b h t k
  refine (catQ (mid V) i b h t k).trans ?_
  exact both (fun _ b n => Zs A 3 b n (col h k) * sg (Zs A 3 b n (col h k))) i b t
    (fun b n => (mid V (Proc.devRef .tc main_v24) : S32x256x4x128.Idx → EReal) (ix4 (n0 := 32) (n1 := 256) (n2 := 4) (n3 := 128) b n h k))
    (fun b n => (after hostOps0_12 (mid V) (Proc.devRef .tc main_v103) : S32x256x4x128.Idx → EReal) (ix4 (n0 := 32) (n1 := 256) (n2 := 4) (n3 := 128) b n h k))
    (fun b n => q0_at V A hX b n h k) (fun b n => q1_at V A hX b n h k)

include hA hL in
theorem zero_K : Chunks (tail (mid V) (Proc.devRef .tc main_v124_1) : S8x64x4x32x128.Idx → EReal) (aK A Lr) := by
  intro i b h t k
  refine (catK (mid V) i b h t k).trans ?_
  exact both (fun d b n => kkR (Lr d (col h k)) (Zs A (gp d) b n (col h k))) i b t
    (fun b n => (mid V (Proc.devRef .tc main_v65) : S32x256x4x128.Idx → EReal) (ix4 (n0 := 32) (n1 := 256) (n2 := 4) (n3 := 128) b n h k))
    (fun b n => (after hostOps0_12 (mid V) (Proc.devRef .tc main_v105) : S32x256x4x128.Idx → EReal) (ix4 (n0 := 32) (n1 := 256) (n2 := 4) (n3 := 128) b n h k))
    (fun b n => kfwd_at V A Lr hA hL b n h k) (fun b n => kbwd_at V A Lr hA hL b n h k)

include hA hL in
theorem zero_L : Chunks (tail (mid V) (Proc.devRef .tc main_v124_2) : S8x64x4x32x128.Idx → EReal) (aL A Lr) := by
  intro i b h t k
  refine (catL (mid V) i b h t k).trans ?_
  exact both (fun d b n => lfR (Lr d (col h k)) (Zs A (gp d) b n (col h k))) i b t
    (fun b n => (mid V (Proc.devRef .tc main_v53) : S32x256x4x128.Idx → EReal) (ix4 (n0 := 32) (n1 := 256) (n2 := 4) (n3 := 128) b n h k))
    (fun b n => (after hostOps0_12 (mid V) (Proc.devRef .tc main_v107) : S32x256x4x128.Idx → EReal) (ix4 (n0 := 32) (n1 := 256) (n2 := 4) (n3 := 128) b n h k))
    (fun b n => lfwd_at V A Lr hA hL b n h k) (fun b n => lbwd_at V A Lr hA hL b n h k)

include hA in
theorem zero_W : Chunks (tail (mid V) (Proc.devRef .tc main_v124_3) : S8x64x4x32x128.Idx → EReal) (aW A) := by
  intro i b h t k
  refine (catW (mid V) i b h t k).trans ?_
  exact both (fun _ b n => Zs A 6 b n (col h k)) i b t
    (fun b n => (mid V (Proc.devRef .tc main_v28) : S32x256x4x128.Idx → EReal) (ix4 (n0 := 32) (n1 := 256) (n2 := 4) (n3 := 128) b n h k))
    (fun b n => (after hostOps0_12 (mid V) (Proc.devRef .tc main_v109) : S32x256x4x128.Idx → EReal) (ix4 (n0 := 32) (n1 := 256) (n2 := 4) (n3 := 128) b n h k))
    (fun b n => v0_at V A hA b n h k) (fun b n => v1_at V A hA b n h k)

include hA hL hX in
/-- The scan starts from the recurrence's zeroth state. -/
theorem inv_zero : Inv (aQ A) (aK A Lr) (aL A Lr) (aW A) 0 (tail (mid V)) where
  q := zero_Q V A hX
  k := zero_K V A Lr hA hL
  l := zero_L V A Lr hA hL
  v := zero_W V A hA
  mask := mask_init _
  cnt := cnt_init _
  st b h k j := st_init _ b h k j
  out i hi := absurd hi (Nat.not_lt_zero _)
end Zero

end Cert.ReferenceIdeal.Hand
-- ==== Proof.RefHead.lean ====
/- The lower bounds of the reference's gates. -/
module

public import proofs.«01_k».proof.Proof.RefTail
public import proofs.«01_k».proof.Proof.Soft

@[expose] public section

set_option maxRecDepth 16384

noncomputable section

namespace Cert.ReferenceIdeal.Hand
open Idealize.ShloMosaic Idealize.ShloMosaic.TcCoe Idealize.ShloMosaic.Tactic
open Idealize.ShloMosaic.StableHlo
open Cert.ReferenceIdeal Cert.ReferenceIdeal.Gen Cert.ReferenceIdeal.Value
open Cert.Hgrn

/-- The operations before the gates. -/
def head (V : Valuation τ sig (Elt Ideal)) : Valuation τ sig (Elt Ideal) := after hostOps0_2 (after hostOps0_1 (after hostOps0 V))

variable (V : Valuation τ sig (Elt Ideal)) (A : Fin 24576 → Fin 4096 → ℝ) (l : Fin 4 → Fin 2 → Fin 512 → ℝ)
  (hA : ∀ r c, (V (Proc.devRef .tc main_arg0) : S24576x4096.Idx → EReal) (ix2 (n0 := 24576) (n1 := 4096) r c) = (A r c : EReal))
  (hl : ∀ t d c, (V (Proc.devRef .tc main_arg1) : S4x2x512.Idx → EReal) (ix3 (n0 := 4) (n1 := 2) (n2 := 512) t d c) = (l t d c : EReal))

include hl in
theorem soft_at (t : Fin 4) (d : Fin 2) (k : Fin 512) :
    ((after hostOps0 V (Proc.devRef .tc main_v10) : S4x2x512.Idx → EReal) (ix3 (n0 := 4) (n1 := 2) (n2 := 512) t d k) : EReal)
    = (share (fun s => l s d k) t : EReal) := by
  after_reads_at
  simp only [hl, neg_top]
  rw [fold_max (fun x => l x d k)]
  exact soft_val (fun s => l s d k) _ t

theorem head_bound (W : Valuation τ sig (Elt Ideal)) (d : Fin 2) (h : Fin 4) (k : Fin 128) (p : Fin 4 → ℝ)
    (hW : ∀ s, (W (Proc.devRef .tc main_v10) : S4x2x512.Idx → EReal) (ix3 (n0 := 4) (n1 := 2) (n2 := 512) s d (col h k)) = (p s : EReal)) :
    ((after hostOps0_2 (after hostOps0_1 W) (Proc.devRef .tc main_v19) : S2x4x128.Idx → EReal) (ix3 (n0 := 2) (n1 := 4) (n2 := 128) d h k) : EReal)
    = ((max (p 0 + p 1 + p 2 + p 3 - p 0) 0 : ℝ) : EReal) := by
  after_reads_at
  rw [show (⟨h.val * 128 + k.val, by omega⟩ : Fin 512) = col h k from Fin.ext (by dsimp only [col]; omega), cumsum3]
  · simp only [show ∀ s : Fin 4, s ≤ 3 from by decide, if_true, hW, Fin.sum_univ_four, ← EReal.coe_add, ← EReal.coe_sub, zero_max]
  · intro i
    pointwise

include hl in
theorem head_lb (d : Fin 2) (h : Fin 4) (k : Fin 128) :
    ((head V (Proc.devRef .tc main_v19) : S2x4x128.Idx → EReal) (ix3 (n0 := 2) (n1 := 4) (n2 := 128) d h k) : EReal) = (bound (fun s => l s d (col h k)) : EReal) :=
  (head_bound _ d h k (share fun s => l s d (col h k)) (fun s => soft_at V l hl s d (col h k))).trans (congrArg _ (bound_share _))

include hA in
theorem head_x (b : Fin 32) (n : Fin 256) (c : Fin 512) : (head V (Proc.devRef .tc main_v22) : S32x256x512.Idx → EReal) (ix3 (n0 := 32) (n1 := 256) (n2 := 512) b n c)
    = (Zs A 3 b n c : EReal) := by
  unfold head
  after_reads_at
  rw [hA]
  exact congrArg (fun x : ℝ => (x : EReal)) (Zs_of A 3 b n c _ _ (by dsimp only; omega) (by dsimp only; simp))

theorem head_arg : (head V (Proc.devRef .tc main_arg0) : S24576x4096.Idx → EReal) = V (Proc.devRef .tc main_arg0) := by
  unfold head
  after_reads_simp

end Cert.ReferenceIdeal.Hand
-- ==== Proof.RefPost.lean ====
/- What the reference makes of the scan's results. -/
module

public import proofs.«01_k».proof.Proof.RefTail

@[expose] public section

set_option maxRecDepth 16384

noncomputable section

namespace Cert.ReferenceIdeal.Hand
open Idealize.ShloMosaic Idealize.ShloMosaic.TcCoe Idealize.ShloMosaic.Tactic
open Idealize.ShloMosaic.StableHlo
open Cert.ReferenceIdeal Cert.ReferenceIdeal.Gen Cert.ReferenceIdeal.Value
open Cert.Hgrn

variable (V : Valuation τ sig (Elt Ideal))

/-- The sequence of a direction. -/
def seq (d : Fin 2) (b : Fin 32) : Fin 64 := ⟨32 * d.val + b.val, by omega⟩

theorem v158_at (b : Fin 32) (d : Fin 2) (h : Fin 4) (k j : Fin 128) :
    ((out_main_v158 V : S32x2x4x128x128.Idx → EReal) (ix5 (n0 := 32) (n1 := 2) (n2 := 4) (n3 := 128) (n4 := 128) b d h k j) : EReal)
    = (V (Proc.devRef .tc main_v124_6) : S64x4x128x128.Idx → EReal) (ix4 (n0 := 64) (n1 := 4) (n2 := 128) (n3 := 128) (seq d b) h k j) := by
  unfold out_main_v158
  clean_types
  pointwise
  have e0 : ∀ p, (⟨b.val, p⟩ : Fin 64) = seq 0 b := fun _ => Fin.ext (by simp [seq])
  have e1 : ∀ p, (⟨32 + b.val, p⟩ : Fin 64) = seq 1 b := fun _ => Fin.ext (by simp [seq])
  match d with
  | ⟨0, _⟩ => rw [e0]; rfl
  | ⟨1, _⟩ => rw [e1]; rfl

/-- The sum of both directions' outputs at a position. -/
def sumO (X : S8x64x4x32x128.Idx → EReal) (b : Fin 32) (n : Fin 256) (h : Fin 4) (j : Fin 128) : EReal :=
  X (ix5 (n0 := 8) (n1 := 64) (n2 := 4) (n3 := 32) (n4 := 128) ⟨n.val / 32, by omega⟩ (seq 0 b) h ⟨n.val % 32, by omega⟩ j)
  + X (ix5 (n0 := 8) (n1 := 64) (n2 := 4) (n3 := 32) (n4 := 128) ⟨n.rev.val / 32, by omega⟩ (seq 1 b) h ⟨n.rev.val % 32, by omega⟩ j)

/-- The normed and gated sum. -/
def gated (o : Fin 128 → EReal) (w g : EReal) (j : Fin 128) : EReal :=
  o j * Ideal.rsqrt (Ideal.div (∑ x : Fin 128, o x * o x) (Ideal.ofBits .f32 0x43000000#32) + Ideal.ofBits .f32 0x358637BD#32) * w
    * (g * Ideal.div 1 (1 + Ideal.exp (-g)))

theorem v155_at (r : Fin 8192) (c : Fin 512) :
    ((out_main_v155 V : S8192x512.Idx → EReal) (ix2 (n0 := 8192) (n1 := 512) r c) : EReal)
    = gated (sumO (V (Proc.devRef .tc main_v124_7)) ⟨r.val / 256, by omega⟩ ⟨r.val % 256, by omega⟩ ⟨c.val / 128, by omega⟩)
      ((V (Proc.devRef .tc main_arg2) : S4x128.Idx → EReal) (ix2 (n0 := 4) (n1 := 128) 3 ⟨c.val % 128, by omega⟩))
      ((V (Proc.devRef .tc main_arg0) : S24576x4096.Idx → EReal) (ix2 (n0 := 24576) (n1 := 4096) ⟨r.val, by omega⟩ ⟨3584 + c.val, by omega⟩))
      ⟨c.val % 128, by omega⟩ := by
  unfold out_main_v155
  clean_types
  pointwise
  have e0 : ∀ p, (⟨r.val / 256, p⟩ : Fin 64) = seq 0 ⟨r.val / 256, by omega⟩ := fun _ => Fin.ext (by simp [seq])
  have e1 : ∀ p, (⟨32 + r.val / 256, p⟩ : Fin 64) = seq 1 ⟨r.val / 256, by omega⟩ := fun _ => Fin.ext (by simp [seq])
  simp only [gated, sumO, ← e0 (by omega), ← e1 (by omega)]
  rfl

end Cert.ReferenceIdeal.Hand
-- ==== Proof.RefVal.lean ====
/- The reference's results at real arguments. -/
module

public import proofs.«01_k».proof.Proof.RefHead
public import proofs.«01_k».proof.Proof.RefPost

@[expose] public section

set_option maxRecDepth 16384

noncomputable section

namespace Cert.ReferenceIdeal.Hand
open Idealize.ShloMosaic Idealize.ShloMosaic.TcCoe Idealize.ShloMosaic.Tactic
open Idealize.ShloMosaic.StableHlo
open Cert.ReferenceIdeal Cert.ReferenceIdeal.Gen Cert.ReferenceIdeal.Value
open Cert.Hgrn

theorem dirB_seq (d : Bool) (b : Fin 32) : dirB (seq (if d then 1 else 0) b) = d := by
  have := b.isLt
  cases d <;> simp [dirB, seq] <;> omega

theorem sq_seq (d : Bool) (b : Fin 32) : sq (seq (if d then 1 else 0) b) = b := by
  have := b.isLt
  refine Fin.ext ?_
  cases d <;> simp [sq, seq] <;> omega

/-- The lower bounds of a direction. -/
def LrOf (l : Fin 4 → Fin 2 → Fin 512 → ℝ) (d : Bool) (c : Fin 512) : ℝ := bound (fun s => l s (if d then 1 else 0) c)

/-- The scan's end. -/
abbrev fin8 (V : Valuation τ sig (Elt Ideal)) : Valuation τ sig (Elt Ideal) := STEP^[8] (tail (mid (head V)))

section
variable (V : Valuation τ sig (Elt Ideal)) (A : Fin 24576 → Fin 4096 → ℝ) (l : Fin 4 → Fin 2 → Fin 512 → ℝ)
  (hA : ∀ r c, (V (Proc.devRef .tc main_arg0) : S24576x4096.Idx → EReal) (ix2 (n0 := 24576) (n1 := 4096) r c) = (A r c : EReal))
  (hl : ∀ t d c, (V (Proc.devRef .tc main_arg1) : S4x2x512.Idx → EReal) (ix3 (n0 := 4) (n1 := 2) (n2 := 512) t d c) = (l t d c : EReal))
include hA hl

theorem inv_end : Inv (aQ A) (aK A (LrOf l)) (aL A (LrOf l)) (aW A) 8 (fin8 V) := by
  refine inv_all (inv_zero (head V) A (LrOf l) ?_ ?_ ?_) 8 le_rfl
  · intro r c
    rw [head_arg]
    exact hA r c
  · intro d h k
    refine (head_lb V l hl d h k).trans ?_
    match d with
    | 0 => rfl
    | 1 => rfl
  · exact head_x V A hA

theorem st_end (d : Bool) (b : Fin 32) (h : Fin 4) (k j : Fin 128) :
    ((fin8 V (Proc.devRef .tc main_v124_6) : S64x4x128x128.Idx → EReal) (ix4 (n0 := 64) (n1 := 4) (n2 := 128) (n3 := 128) (seq (if d then 1 else 0) b) h k j) : EReal)
      = (stS d (LrOf l d) (Zs A (gp d) b) (Zs A 6 b) h k j 256 : EReal) := by
  refine ((inv_end V A l hA hl).st _ h k j).trans ?_
  simp only [aK, aL, aW, dirB_seq, sq_seq]
  rfl

theorem out_end (d : Bool) (b : Fin 32) (n : Fin 256) (h : Fin 4) (j : Fin 128) :
    ((fin8 V (Proc.devRef .tc main_v124_7) : S8x64x4x32x128.Idx → EReal) (ix5 (n0 := 8) (n1 := 64) (n2 := 4) (n3 := 32) (n4 := 128) ⟨n.val / 32, by omega⟩
        (seq (if d then 1 else 0) b) h ⟨n.val % 32, by omega⟩ j) : EReal)
      = (rowO d (LrOf l d) (Zs A 3 b) (Zs A (gp d) b) (Zs A 6 b) h j n.val : EReal) := by
  have := n.isLt
  refine ((inv_end V A l hA hl).out ⟨n.val / 32, by omega⟩ (by dsimp only; omega) _ h ⟨n.val % 32, by omega⟩ j).trans ?_
  have e : 32 * (n.val / 32) + n.val % 32 = n.val := by omega
  dsimp only
  rw [e]
  unfold rowO aQ aK aL aW
  simp only [dirB_seq, sq_seq]

theorem sum_end (b : Fin 32) (n : Fin 256) (h : Fin 4) (j : Fin 128) :
    sumO (fin8 V (Proc.devRef .tc main_v124_7)) b n h j
      = (rowO false (LrOf l false) (Zs A 3 b) (Zs A 4 b) (Zs A 6 b) h j (time false n) : EReal)
        + (rowO true (LrOf l true) (Zs A 3 b) (Zs A 5 b) (Zs A 6 b) h j (time true n) : EReal) := by
  have e1 : time true n = n.rev.val := by rw [Fin.val_rev]; show 255 - n.val = 256 - (n.val + 1); omega
  rw [e1]
  exact congrArg₂ (fun x y : EReal => x + y) (out_end V A l hA hl false b n h j) (out_end V A l hA hl true b n.rev h j)

end

end Cert.ReferenceIdeal.Hand
-- ==== Proof.KerReal.lean ====
/- The kernel's results at real arguments. -/
module

public import proofs.«01_k».proof.Proof.Value
public import proofs.«01_k».proof.Proof.Soft
public import proofs.«01_k».proof.Proof.RefVal

@[expose] public section

set_option maxRecDepth 16384

noncomputable section

namespace Cert.KernelIdeal.Hand
open Idealize.ShloMosaic Idealize.ShloMosaic.TcCoe
open Cert.KernelIdeal Cert.KernelIdeal.Gen Cert.KernelIdeal.Chunk
open Cert.Hgrn
open Cert.ReferenceIdeal.Hand (Zs gated gp LrOf)

variable (a0 : Vec Ideal S24576x4096 .bf16) (a1 : Vec Ideal S4x2x512 .f32) (a2 : Vec Ideal S4x128 .f32)
  (A : Fin 24576 → Fin 4096 → ℝ) (l : Fin 4 → Fin 2 → Fin 512 → ℝ)
  (hA : ∀ r c, (a0 (ix2 (n0 := 24576) (n1 := 4096) r c) : EReal) = (A r c : EReal))
  (hl : ∀ t d c, (a1 (ix3 (n0 := 4) (n1 := 2) (n2 := 512) t d c) : EReal) = (l t d c : EReal))

include hl in
theorem lbF_val (c : Fin 512) : (lbF (lbT a1) (ix2 (n0 := 1) (n1 := 512) 0 c) : EReal) = (LrOf l false c : EReal) := by
  refine Eq.trans ?_ (bound_val (fun s => l s 0 c))
  unfold lbF lbsOf lbT lit
  pointwise
  simp only [hl, zero_add]

include hl in
theorem lbB_val (c : Fin 512) : (lbB (lbT a1) (ix2 (n0 := 1) (n1 := 512) 0 c) : EReal) = (LrOf l true c : EReal) := by
  refine Eq.trans ?_ (bound_val (fun s => l s 1 c))
  unfold lbB lbsOf lbT lit
  pointwise
  simp only [hl, zero_add]

include hA in
theorem part_val (b : Fin 32) (p : Fin 8) (r : Fin 256) (c : Fin 512) : (part a0 b p (ix2 (n0 := 256) (n1 := 512) r c) : EReal) = (Zs A p b r c : EReal) := hA _ _

theorem nw_val (j : Fin 128) : (nwT a2 (ix2 (n0 := 1) (n1 := 128) 0 j) : EReal) = a2 (ix2 (n0 := 4) (n1 := 128) 3 j) := by
  unfold nwT
  pointwise

include hA hl in
theorem resS_val (b : Fin 32) (d : Bool) (h : Fin 4) (k j : Fin 128) :
    (resS a0 a1 (ix5 (n0 := 32) (n1 := 2) (n2 := 4) (n3 := 128) (n4 := 128) b (if d then 1 else 0) h k j) : EReal)
      = (stS d (LrOf l d) (Zs A (gp d) b) (Zs A 6 b) h k j 256 : EReal) := by
  refine Eq.trans ?_ (stEnd_val (part a0 b 4) (part a0 b 5) (part a0 b 6) (LrOf l) (Zs A 6 b) (fun d => Zs A (gp d) b) (part_val a0 A hA b 4) (part_val a0 A hA b 5)
    (part_val a0 A hA b 6) (lbT a1) (lbF_val a1 l hl) (lbB_val a1 l hl) d h j k)
  cases d <;> rfl

/-- The two ways to write the gate's factor. -/
theorem silu_val (G : ℝ) : (G : EReal) * (Ideal.ofBits .f32 0x3F000000#32 * Ideal.tanh (Ideal.ofBits .f32 0x3F000000#32 * (G : EReal)) + Ideal.ofBits .f32 0x3F000000#32)
    = (G : EReal) * Ideal.div 1 (1 + Ideal.exp (-(G : EReal))) := by
  rw [half_fact, ← EReal.coe_mul, Ideal.tanh_coe, ← EReal.coe_mul, ← EReal.coe_add, tanh_half, ← EReal.coe_neg, Ideal.exp_coe, recip _ (Real.exp_pos _)]
  rfl

theorem normOut_val (x y : Vec Ideal S256x128 .f32) (g : Vec Ideal S256x128 .bf16) (nw : Vec Ideal S1x128 .f32) (n : Fin 256) (j : Fin 128) (G : ℝ)
    (hg : (g (ix2 (n0 := 256) (n1 := 128) n j) : EReal) = (G : EReal)) :
    (normOut x y g nw (ix2 (n0 := 256) (n1 := 128) n j) : EReal)
      = gated (fun i => (x (ix2 (n0 := 256) (n1 := 128) n i) : EReal) + y (ix2 (n0 := 256) (n1 := 128) n i)) (nw (ix2 (n0 := 1) (n1 := 128) 0 j)) (G : EReal) j := by
  unfold normOut gated lit
  pointwise
  rw [hg, silu_val]

include hA hl in
theorem resO_val (r : Fin 8192) (c : Fin 512) :
    (resO a0 a1 a2 (ix2 (n0 := 8192) (n1 := 512) r c) : EReal)
      = gated (fun i => ((rowO false (LrOf l false) (Zs A 3 ⟨r.val / 256, by omega⟩) (Zs A 4 ⟨r.val / 256, by omega⟩) (Zs A 6 ⟨r.val / 256, by omega⟩)
            ⟨c.val / 128, by omega⟩ i (time false ⟨r.val % 256, by omega⟩) : ℝ) : EReal)
          + ((rowO true (LrOf l true) (Zs A 3 ⟨r.val / 256, by omega⟩) (Zs A 5 ⟨r.val / 256, by omega⟩) (Zs A 6 ⟨r.val / 256, by omega⟩)
            ⟨c.val / 128, by omega⟩ i (time true ⟨r.val % 256, by omega⟩) : ℝ) : EReal))
        (a2 (ix2 (n0 := 4) (n1 := 128) 3 ⟨c.val % 128, by omega⟩))
        (Zs A 7 ⟨r.val / 256, by omega⟩ ⟨r.val % 256, by omega⟩ c : EReal) ⟨c.val % 128, by omega⟩ := by
  have hd : ∀ (b : Fin 32) (d : Bool) (n : Fin 256) (h : Fin 4) (i : Fin 128), _ := fun b =>
    dirOut_val (part a0 b 3) (part a0 b 4) (part a0 b 5) (part a0 b 6) (LrOf l) (Zs A 3 b) (Zs A 6 b) (fun d => Zs A (gp d) b)
      (part_val a0 A hA b 3) (part_val a0 A hA b 4) (part_val a0 A hA b 5) (part_val a0 A hA b 6) (lbT a1) (lbF_val a1 l hl) (lbB_val a1 l hl)
      (fun d c => bound_le _)
  have hg : (colH (part a0 ⟨r.val / 256, by omega⟩ 7) ⟨c.val / 128, by omega⟩ (ix2 (n0 := 256) (n1 := 128) ⟨r.val % 256, by omega⟩ ⟨c.val % 128, by omega⟩) : EReal)
      = (Zs A 7 ⟨r.val / 256, by omega⟩ ⟨r.val % 256, by omega⟩ c : EReal) :=
    (part_val a0 A hA _ 7 _ _).trans (congrArg (fun x => ((Zs A 7 ⟨r.val / 256, by omega⟩ ⟨r.val % 256, by omega⟩ x : ℝ) : EReal))
      (Fin.ext (by show 128 * (c.val / 128) + c.val % 128 = c.val; omega)))
  refine (normOut_val _ _ _ _ _ _ _ hg).trans ?_
  rw [nw_val]
  refine congrArg (fun o => gated o _ _ _) (funext fun i => ?_)
  exact congrArg₂ (fun x y : EReal => x + y) (hd ⟨r.val / 256, by omega⟩ false ⟨r.val % 256, by omega⟩ ⟨c.val / 128, by omega⟩ i)
    (hd ⟨r.val / 256, by omega⟩ true ⟨r.val % 256, by omega⟩ ⟨c.val / 128, by omega⟩ i)

end Cert.KernelIdeal.Hand
end
-- ==== Proof.FfnMath.lean ====
/- The half step feed-forward of one token, and the two spellings of its pieces. -/
module

public import proofs.«01_k».proof.Proof.KerReal
public import Idealize.ShloMosaic.Lib.Pipeline.ValueKit

@[expose] public section

set_option maxRecDepth 16384

noncomputable section

namespace Cert.HalfStep
open Idealize.ShloMosaic

/-- One over the root of the mean square of a token. -/
def invRms (x : Fin 2048 → EReal) : EReal :=
  Ideal.rsqrt (Ideal.div (∑ k, x k * x k) (Ideal.ofBits .f32 0x45000000#32) + Ideal.ofBits .f32 0x358637BD#32)

/-- The modulated norm of a token. -/
def hid (x : Fin 2048 → EReal) (M : Fin 9 → Fin 2048 → EReal) (g : Fin 2048 → EReal) (k : Fin 2048) : EReal :=
  x k * invRms x * g k * (1 + M 7 k) + M 6 k

/-- `a · sigmoid a`. -/
def swish (a : EReal) : EReal := a * Ideal.div 1 (1 + Ideal.exp (-a))

/-- One inner unit of the feed-forward, from the normed token `h`. -/
def unit (h : Fin 2048 → EReal) (W : Fin 2048 → Fin 11264 → EReal) (j : Fin 5632) : EReal :=
  swish (∑ k, h k * W k ⟨j.val, by omega⟩) * ∑ k, h k * W k ⟨5632 + j.val, by omega⟩

/-- The layer's half step on one token. -/
def step (x : Fin 2048 → EReal) (M : Fin 9 → Fin 2048 → EReal) (g : Fin 2048 → EReal) (W : Fin 2048 → Fin 11264 → EReal)
    (D : Fin 5632 → Fin 2048 → EReal) (d : Fin 2048) : EReal :=
  x d + Ideal.ofBits .f32 0x3F000000#32 * M 8 d * ∑ j, unit (hid x M g) W j * D j d

/-- The row of the modulation that a token reads. -/
def modRow (r : ℕ) : ℕ := if r < 8192 then 0 else 1 + (r - 8192) / 2048

theorem modRow_lt (r : Fin 24576) : modRow r.val < 16 := by
  have := r.isLt
  unfold modRow
  split <;> omega

/-- The gate through the hyperbolic tangent is the gate through the exponential, at the infinities too. -/
theorem swish_tanh (a : EReal) :
    a * (Ideal.ofBits .f32 0x3F000000#32 * Ideal.tanh (Ideal.ofBits .f32 0x3F000000#32 * a) + Ideal.ofBits .f32 0x3F000000#32) = swish a := by
  induction a with
  | coe r => exact Cert.KernelIdeal.Hand.silu_val r
  | top =>
    rw [Cert.Hgrn.half_fact, EReal.coe_mul_top_of_pos (by norm_num), Ideal.tanh_top, mul_one, ← EReal.coe_add]
    unfold swish
    rw [EReal.neg_top, show Ideal.exp ⊥ = ((0 : ℝ) : EReal) from rfl, ← EReal.coe_one, ← EReal.coe_add, Ideal.div_coe (by norm_num)]
    norm_num
  | bot =>
    rw [Cert.Hgrn.half_fact, EReal.coe_mul_bot_of_pos (by norm_num), Ideal.tanh_bot]
    unfold swish
    rw [EReal.neg_bot, show Ideal.exp ⊤ = (⊤ : EReal) from rfl, ← EReal.coe_one, EReal.coe_add_top, Ideal.div, if_neg (by simp), EReal.inv_top,
      mul_zero, mul_zero, ← EReal.coe_neg, ← EReal.coe_mul, ← EReal.coe_add]
    norm_num

/-- Dividing by 2048 is multiplying by its reciprocal. -/
theorem div_2048 (s : EReal) : s * Ideal.ofBits .f32 0x3A000000#32 = Ideal.div s (Ideal.ofBits .f32 0x45000000#32) := by
  rw [show Ideal.ofBits .f32 0x45000000#32 = ((2048 : ℝ) : EReal) by simp [Ideal.ofBits, Ideal.ieee, -EReal.coe_mul]; norm_num,
    Ideal.div_coe (by norm_num),
    show Ideal.ofBits .f32 0x3A000000#32 = ((1 / 2048 : ℝ) : EReal) by simp [Ideal.ofBits, Ideal.ieee, -EReal.coe_mul]; norm_num]

/-- The kernel folds the gain into the scale. -/
theorem hid_eq (x : Fin 2048 → EReal) (M : Fin 9 → Fin 2048 → EReal) (g : Fin 2048 → EReal) (k : Fin 2048) :
    x k * invRms x * (g k * (1 + M 7 k)) + M 6 k = hid x M g k := by rw [hid, mul_assoc (x k * invRms x)]

/-- A row's sum, lane by lane. -/
theorem sum_lanes (f : Fin 2048 → EReal) : ∑ l : Fin 128, ∑ q : Fin 16, f ⟨q.val * 128 + l.val, by omega⟩ = ∑ k, f k := by
  rw [Finset.sum_comm]
  exact Fin.sum_mul_add_fin 16 128 f

/-- A term of the sum over the inner units, zero past the last. -/
def term (f : Fin 5632 → EReal) (n : ℕ) : EReal := if h : n < 5632 then f ⟨n, h⟩ else 0

/-- The sum over the inner units before a bound. -/
def upto (f : Fin 5632 → EReal) (n : ℕ) : EReal := ∑ i ∈ Finset.range n, term f i

theorem upto_zero (f : Fin 5632 → EReal) : upto f 0 = 0 := rfl

theorem upto_all (f : Fin 5632 → EReal) : upto f 5632 = ∑ j, f j := by
  rw [upto, Finset.sum_range]
  exact Finset.sum_congr rfl fun j _ => dif_pos j.isLt

/-- One column tile, in its two halves. -/
theorem upto_tile (f : Fin 5632 → EReal) (j : Fin 11) :
    upto f (512 * j.val) + ((∑ i : Fin 256, f ⟨512 * j.val + i.val, by omega⟩) + ∑ i : Fin 256, f ⟨512 * j.val + (256 + i.val), by omega⟩)
      = upto f (512 * (j.val + 1)) := by
  have e : ∀ n : ℕ, (h : n + 256 ≤ 5632) → (∑ i : Fin 256, f ⟨n + i.val, by omega⟩) = ∑ i ∈ Finset.range 256, term f (n + i) := by
    intro n h
    rw [Finset.sum_range]
    refine Finset.sum_congr rfl fun i _ => ?_
    rw [term, dif_pos (by omega)]
  have e2 : (∑ i : Fin 256, f ⟨512 * j.val + (256 + i.val), by omega⟩) = ∑ i : Fin 256, f ⟨512 * j.val + 256 + i.val, by omega⟩ :=
    Finset.sum_congr rfl fun i _ => congrArg f (Fin.ext (by dsimp only; omega))
  rw [e2, e _ (by omega), e _ (by omega), ← add_assoc, upto, upto, show 512 * (j.val + 1) = 512 * j.val + 256 + 256 by omega,
    Finset.sum_range_add, Finset.sum_range_add]

end Cert.HalfStep

end
-- ==== Proof.FfnTiles.lean ====
/- What one grid point of the feed-forward call computes from its blocks: the normalised rows it keeps, a tile's share of the sum, and the closing residual. -/
module

public import proofs.«01_k».proof.Proof.Gen.FfnIdeal.Value
public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Hand
open Cert.FfnIdeal Cert.FfnIdeal.Gen Idealize.ShloMosaic Idealize.ShloMosaic.TcCoe Idealize.ShloMosaic.Tactic
open Cert.HalfStep

/-- The reciprocal root mean square of a block's rows, as the sixteen column tiles give it. -/
def rowInv (x : S512x2048.Idx → EReal) : FVec Ideal S512x1 .f32 :=
  k0_pay7 (F := Ideal) (k0_pay6 (View.ld x (Rect.unit (s := S512x2048) ![0, 0] ![512, 128] inb_S512x2048_S512x128_0_0)) (View.ld x (Rect.unit (s := S512x2048) ![0, 128] ![512, 128] inb_S512x2048_S512x128_0_128))
      (View.ld x (Rect.unit (s := S512x2048) ![0, 256] ![512, 128] inb_S512x2048_S512x128_0_256)) (View.ld x (Rect.unit (s := S512x2048) ![0, 384] ![512, 128] inb_S512x2048_S512x128_0_384))
      (View.ld x (Rect.unit (s := S512x2048) ![0, 512] ![512, 128] inb_S512x2048_S512x128_0_512)) (View.ld x (Rect.unit (s := S512x2048) ![0, 640] ![512, 128] inb_S512x2048_S512x128_0_640))
      (View.ld x (Rect.unit (s := S512x2048) ![0, 768] ![512, 128] inb_S512x2048_S512x128_0_768)) (View.ld x (Rect.unit (s := S512x2048) ![0, 896] ![512, 128] inb_S512x2048_S512x128_0_896))
      (View.ld x (Rect.unit (s := S512x2048) ![0, 1024] ![512, 128] inb_S512x2048_S512x128_0_1024)))
    (View.ld x (Rect.unit (s := S512x2048) ![0, 1152] ![512, 128] inb_S512x2048_S512x128_0_1152)) (View.ld x (Rect.unit (s := S512x2048) ![0, 1280] ![512, 128] inb_S512x2048_S512x128_0_1280))
    (View.ld x (Rect.unit (s := S512x2048) ![0, 1408] ![512, 128] inb_S512x2048_S512x128_0_1408)) (View.ld x (Rect.unit (s := S512x2048) ![0, 1536] ![512, 128] inb_S512x2048_S512x128_0_1536))
    (View.ld x (Rect.unit (s := S512x2048) ![0, 1664] ![512, 128] inb_S512x2048_S512x128_0_1664)) (View.ld x (Rect.unit (s := S512x2048) ![0, 1792] ![512, 128] inb_S512x2048_S512x128_0_1792))
    (View.ld x (Rect.unit (s := S512x2048) ![0, 1920] ![512, 128] inb_S512x2048_S512x128_0_1920))

theorem rowInv_eq (x : S512x2048.Idx → EReal) : rowInv x =
  k0_pay7 (F := Ideal) (k0_pay6 (View.ld x (Rect.unit (s := S512x2048) ![0, 0] ![512, 128] inb_S512x2048_S512x128_0_0)) (View.ld x (Rect.unit (s := S512x2048) ![0, 128] ![512, 128] inb_S512x2048_S512x128_0_128))
      (View.ld x (Rect.unit (s := S512x2048) ![0, 256] ![512, 128] inb_S512x2048_S512x128_0_256)) (View.ld x (Rect.unit (s := S512x2048) ![0, 384] ![512, 128] inb_S512x2048_S512x128_0_384))
      (View.ld x (Rect.unit (s := S512x2048) ![0, 512] ![512, 128] inb_S512x2048_S512x128_0_512)) (View.ld x (Rect.unit (s := S512x2048) ![0, 640] ![512, 128] inb_S512x2048_S512x128_0_640))
      (View.ld x (Rect.unit (s := S512x2048) ![0, 768] ![512, 128] inb_S512x2048_S512x128_0_768)) (View.ld x (Rect.unit (s := S512x2048) ![0, 896] ![512, 128] inb_S512x2048_S512x128_0_896))
      (View.ld x (Rect.unit (s := S512x2048) ![0, 1024] ![512, 128] inb_S512x2048_S512x128_0_1024)))
    (View.ld x (Rect.unit (s := S512x2048) ![0, 1152] ![512, 128] inb_S512x2048_S512x128_0_1152)) (View.ld x (Rect.unit (s := S512x2048) ![0, 1280] ![512, 128] inb_S512x2048_S512x128_0_1280))
    (View.ld x (Rect.unit (s := S512x2048) ![0, 1408] ![512, 128] inb_S512x2048_S512x128_0_1408)) (View.ld x (Rect.unit (s := S512x2048) ![0, 1536] ![512, 128] inb_S512x2048_S512x128_0_1536))
    (View.ld x (Rect.unit (s := S512x2048) ![0, 1664] ![512, 128] inb_S512x2048_S512x128_0_1664)) (View.ld x (Rect.unit (s := S512x2048) ![0, 1792] ![512, 128] inb_S512x2048_S512x128_0_1792))
    (View.ld x (Rect.unit (s := S512x2048) ![0, 1920] ![512, 128] inb_S512x2048_S512x128_0_1920)) := rfl

theorem rowInv_val (x : S512x2048.Idx → EReal) (r : Fin 512) :
    rowInv x (ix2 (n0 := 512) (n1 := 1) r 0) = invRms (fun k => x (ix2 (n0 := 512) (n1 := 2048) r k)) := by
  unfold rowInv k0_pay7 k0_pay6
  pointwise
  rw [invRms, ← sum_lanes, ← div_2048]
  refine congrArg (fun s => Ideal.rsqrt (s * _ + _)) (Finset.sum_congr rfl fun l _ => ?_)
  simp only [Fin.sum_univ_castSucc, Fin.sum_univ_zero, zero_add, Fin.val_castSucc, Fin.val_last, Nat.zero_mul, Nat.zero_add]

/-- One column of a stored tile is one entry of the normalised, scaled and shifted row. -/
theorem tile_val (x : S512x2048.Idx → EReal) (M : S1x9x2048.Idx → EReal) (g : S1x2048.Idx → EReal) (r : Fin 512) (k K : Fin 2048) (hK : k = K) :
    x (ix2 (n0 := 512) (n1 := 2048) r K) * rowInv x (ix2 (n0 := 512) (n1 := 1) r 0) *
        (g (ix2 (n0 := 1) (n1 := 2048) 0 K) * (1 + M (ix3 (n0 := 1) (n1 := 9) (n2 := 2048) 0 7 K))) + M (ix3 (n0 := 1) (n1 := 9) (n2 := 2048) 0 6 K) =
      hid (fun k => x (ix2 (n0 := 512) (n1 := 2048) r k)) (fun p k => M (ix3 (n0 := 1) (n1 := 9) (n2 := 2048) 0 p k)) (fun k => g (ix2 (n0 := 1) (n1 := 2048) 0 k)) k := by
  subst hK
  rw [rowInv_val]
  exact hid_eq (fun k => x (ix2 (n0 := 512) (n1 := 2048) r k)) (fun p k => M (ix3 (n0 := 1) (n1 := 9) (n2 := 2048) 0 p k)) (fun k => g (ix2 (n0 := 1) (n1 := 2048) 0 k)) k

/-- One grid point's update of the running sum: the two halves of its tile, each through the gate and the second product. -/
def share (h : FVec Ideal S512x2048 .bf16) (w v : FVec Ideal S2048x512 .bf16) (D : FVec Ideal S512x2048 .bf16) (acc : FVec Ideal S512x2048 .f32) : FVec Ideal S512x2048 .f32 :=
  k0_pay1 (F := Ideal)
    (k0_pay29 h (View.ld w (Rect.unit (s := S2048x512) ![0, 0] ![2048, 256] inb_S2048x512_S2048x256_0_0)) (View.ld v (Rect.unit (s := S2048x512) ![0, 0] ![2048, 256] inb_S2048x512_S2048x256_0_0)))
    (k0_pay30 h (View.ld w (Rect.unit (s := S2048x512) ![0, 256] ![2048, 256] inb_S2048x512_S2048x256_0_256)) (View.ld v (Rect.unit (s := S2048x512) ![0, 256] ![2048, 256] inb_S2048x512_S2048x256_0_256)))
    acc (View.ld D (Rect.unit (s := S512x2048) ![0, 0] ![256, 2048] inb_S512x2048_S256x2048_0_0)) (View.ld D (Rect.unit (s := S512x2048) ![256, 0] ![256, 2048] inb_S512x2048_S256x2048_256_0))

/-- Column `i` of a tile: the gated unit times its row of the second factor. -/
def col (h : S512x2048.Idx → EReal) (w v : S2048x512.Idx → EReal) (D : S512x2048.Idx → EReal) (r : Fin 512) (d : Fin 2048) (i : Fin 512) : EReal :=
  swish (∑ k : Fin 2048, h (ix2 (n0 := 512) (n1 := 2048) r k) * w (ix2 (n0 := 2048) (n1 := 512) k i)) *
    (∑ k : Fin 2048, h (ix2 (n0 := 512) (n1 := 2048) r k) * v (ix2 (n0 := 2048) (n1 := 512) k i)) * D (ix2 (n0 := 512) (n1 := 2048) i d)

theorem share_val (h : FVec Ideal S512x2048 .bf16) (w v : FVec Ideal S2048x512 .bf16) (D : FVec Ideal S512x2048 .bf16) (acc : FVec Ideal S512x2048 .f32) (r : Fin 512) (d : Fin 2048) :
    (share h w v D acc (ix2 (n0 := 512) (n1 := 2048) r d) : EReal) =
      acc (ix2 (n0 := 512) (n1 := 2048) r d) + ((∑ i : Fin 256, col h w v D r d ⟨i.val, by omega⟩) + ∑ i : Fin 256, col h w v D r d ⟨256 + i.val, by omega⟩) := by
  unfold share k0_pay1 k0_pay29 k0_pay30
  pointwise
  simp only [swish_tanh]
  rfl

theorem close_val (M : FVec Ideal S1x9x2048 .f32) (x acc : FVec Ideal S512x2048 .f32) (r : Fin 512) (d : Fin 2048) :
    (k0_pay2 (F := Ideal) M x acc (ix2 (n0 := 512) (n1 := 2048) r d) : EReal) =
      x (ix2 (n0 := 512) (n1 := 2048) r d) + Ideal.ofBits .f32 0x3F000000#32 * M (ix3 (n0 := 1) (n1 := 9) (n2 := 2048) 0 8 d) * acc (ix2 (n0 := 512) (n1 := 2048) r d) := by
  unfold k0_pay2
  pointwise

variable (m : (ℓ : Loc nD τ sig) → Buf (Elt Ideal) ℓ)

set_option maxHeartbeats 2000000 in
/-- The rows the first point of a block of tokens keeps. -/
theorem keep_A (c : Dev nD) (t : Fin cfg0.N) (h0 : t.val % 11 = 0) (h1 : ¬t.val % 11 = 10) (x : S512x2048.Idx → EReal) (hx : iblk m c 0 t = x)
    (M : S1x9x2048.Idx → EReal) (hM : iblk m c 1 t = M) (g : S1x2048.Idx → EReal) (hg : iblk m c 2 t = g) (r : Fin 512) (k : Fin 2048) :
    ((outsAt0 m c t.val t.isLt).2 : S512x2048.Idx → EReal) (ix2 (n0 := 512) (n1 := 2048) r k) =
      hid (fun k => x (ix2 (n0 := 512) (n1 := 2048) r k)) (fun p k => M (ix3 (n0 := 1) (n1 := 9) (n2 := 2048) 0 p k)) (fun k => g (ix2 (n0 := 1) (n1 := 2048) 0 k)) k := by
  generalize hv : hid _ _ _ k = v
  rw [outsAt0_A m c t h0 h1]
  frame_out
  rw [hx, hM, hg]
  clear hx hM hg
  canon_tiles i h
  all_goals
    obtain ⟨a, b, rfl⟩ : ∃ (a : Fin 512) (b : Fin 128), i = ix2 (n0 := 512) (n1 := 128) a b := ⟨i 0, i 1, by pointwise⟩
    obtain rfl : r = a := Fin.ext h0
    try simp only [k0_pay10, k0_pay9, k0_pay22, k0_pay18]
    simp only [← rowInv_eq]
    pointwise [k0_pay11, k0_pay12, k0_pay13, k0_pay14, k0_pay15, k0_pay16, k0_pay17, k0_pay19, k0_pay20, k0_pay21, k0_pay23, k0_pay24, k0_pay25, k0_pay26, k0_pay27,
      k0_pay8, k0_pay5, k0_pay4, k0_pay3]
    subst hv
    refine tile_val x M g r k _ ?_
    exact Fin.ext h1

theorem keep_B (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  rfl

theorem keep_C (c : Dev nD) (t : Fin cfg0.N) (h0 : ¬t.val % 11 = 0) (h1 : t.val % 11 = 10) :
    (outsAt0 m c t.val t.isLt).2 = (outsAt0 m c (t.val - 1) (Nat.lt_of_le_of_lt (Nat.sub_le _ _) t.isLt)).2 := by
  rw [outsAt0_C m c t h0 h1]
  rfl

/-- A load of the whole scratch reads what the point's stores left there. -/
theorem load_whole (L : List (View.Piece (Elt Ideal) S512x2048 .bf16)) :
    (View.whole cc0_scratch0).readCov L (Rect.unit (s := S512x2048) ![0, 0] ![512, 2048] inb_S512x2048_S512x2048_0_0).toLoadRect = View.canon L := by
  rw [View.readCov_eq_canon']
  exact View.ld_unit_zero (by decide) _ _

/-- The first point of a block of tokens starts its sum from zero. -/
theorem sum_A (c : Dev nD) (t : Fin cfg0.N) (h0 : t.val % 11 = 0) (h1 : ¬t.val % 11 = 10) :
    (outsAt0 m c t.val t.isLt).1 = share (outsAt0 m c t.val t.isLt).2 (iblk m c 3 t) (iblk m c 4 t) (iblk m c 5 t) (k0_pay28 (F := Ideal)) := by
  rw [outsAt0_A m c t h0 h1]
  frame_out
  simp only [load_whole]
  rfl

/-- The points between add their tile's share to the sum. -/
theorem sum_B (c : Dev nD) (t : Fin cfg0.N) (h0 : ¬t.val % 11 = 0) (h1 : ¬t.val % 11 = 10) :
    (outsAt0 m c t.val t.isLt).1 = share (outsAt0 m c (t.val - 1) (Nat.lt_of_le_of_lt (Nat.sub_le _ _) t.isLt)).2 (iblk m c 3 t) (iblk m c 4 t) (iblk m c 5 t)
      (outsAt0 m c (t.val - 1) (Nat.lt_of_le_of_lt (Nat.sub_le _ _) t.isLt)).1 := by
  rw [outsAt0_B m c t h0 h1]
  frame_out
  rw [read_unread_whole]
  rfl

/-- The last point adds its share and closes the residual. -/
theorem sum_C (c : Dev nD) (t : Fin cfg0.N) (h0 : ¬t.val % 11 = 0) (h1 : t.val % 11 = 10) :
    (outsAt0 m c t.val t.isLt).1 = k0_pay2 (F := Ideal) (iblk m c 1 t) (iblk m c 0 t)
      (share (outsAt0 m c (t.val - 1) (Nat.lt_of_le_of_lt (Nat.sub_le _ _) t.isLt)).2 (iblk m c 3 t) (iblk m c 4 t) (iblk m c 5 t)
        (outsAt0 m c (t.val - 1) (Nat.lt_of_le_of_lt (Nat.sub_le _ _) t.isLt)).1) := by
  rw [outsAt0_C m c t h0 h1]
  frame_out
  rw [read_unread_whole]
  rfl

end Cert.FfnIdeal.Hand
-- ==== Proof.FfnBlock.lean ====
/- The blocks each grid point reads of the feed-forward call's arguments, at coordinates. -/
module

public import proofs.«01_k».proof.Proof.FfnTiles

@[expose] public section

set_option maxRecDepth 16384

noncomputable section

namespace Cert.FfnIdeal.Hand
open Cert.FfnIdeal Cert.FfnIdeal.Gen Idealize.ShloMosaic Idealize.ShloMosaic.TcCoe Idealize.ShloMosaic.Tactic
open Cert.HalfStep

/-! Where each window stands at each point: block of tokens `t / 11`, tile of the first product `t % 11`. -/

theorem idx0_0 : ∀ t : Fin cfg0.N, win0_0.index t = ![t.val / 11, 0] := (by decide +kernel : ∀ t : Fin grid0.N, _)
theorem idx0_1 : ∀ t : Fin cfg0.N, win0_1.index t = ![if t.val / 11 < 16 then 0 else 1 + (t.val / 11 - 16) / 4, 0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, t.val % 11] := (by decide +kernel : ∀ t : Fin grid0.N, _)
theorem idx0_4 : ∀ t : Fin cfg0.N, win0_4.index t = ![0, 11 + t.val % 11] := (by decide +kernel : ∀ t : Fin grid0.N, _)
theorem idx0_5 : ∀ t : Fin cfg0.N, win0_5.index t = ![t.val % 11, 0] := (by decide +kernel : ∀ t : Fin grid0.N, _)

theorem lt_N (t : Fin cfg0.N) : t.val < 528 := lt_of_lt_of_eq t.isLt N_0

variable (m : (ℓ : Loc nD τ sig) → Buf (Elt Ideal) ℓ) (c : Dev nD)

/-- The two weight arrays enter the call as they were given: the cast before it changes nothing of a real. -/
theorem V_up : (V m c main_v0 : S2048x11264.Idx → EReal) = m (c.tc.loc main_arg3) := by
  rfl

theorem V_down : (V m c main_v1 : S5632x2048.Idx → EReal) = m (c.tc.loc main_arg4) := by
  rfl

theorem blk_x (X : S24576x2048.Idx → EReal) (hX : m (c.tc.loc main_arg0) = X) (t : Fin cfg0.N) (r : Fin 512) (k : Fin 2048) (R : Fin 24576) (hR : R.val = 512 * (t.val / 11) + r.val) :
    (iblk m c 0 t : S512x2048.Idx → EReal) (ix2 (n0 := 512) (n1 := 2048) r k) = X (ix2 (n0 := 24576) (n1 := 2048) R k) := by
  subst hX
  blk_ext [iblk, V_main_arg0, idx0_0 t]

theorem blk_mod (M : S16x9x2048.Idx → EReal) (hM : m (c.tc.loc main_arg1) = M) (t : Fin cfg0.N) (r : Fin 512) (p : Fin 9) (k : Fin 2048) (q : Fin 16)
    (hq : q.val = modRow (512 * (t.val / 11) + r.val)) :
    (iblk m c 1 t : S1x9x2048.Idx → EReal) (ix3 (n0 := 1) (n1 := 9) (n2 := 2048) 0 p k) = M (ix3 (n0 := 16) (n1 := 9) (n2 := 2048) q p k) := by
  subst hM
  have hq' : q.val = if t.val / 11 < 16 then 0 else 1 + (t.val / 11 - 16) / 4 := by
    have := lt_N t
    rw [hq, modRow]
    split <;> split <;> omega
  blk_ext [iblk, V_main_arg1, idx0_1 t]

theorem blk_g (g : S1x2048.Idx → EReal) (hg : m (c.tc.loc main_arg2) = g) (t : Fin cfg0.N) (k : Fin 2048) :
    (iblk m c 2 t : S1x2048.Idx → EReal) (ix2 (n0 := 1) (n1 := 2048) 0 k) = g (ix2 (n0 := 1) (n1 := 2048) 0 k) := by
  subst hg
  blk_ext [iblk, V_main_arg2, idx0_2 t]

theorem blk_gate (W : S2048x11264.Idx → EReal) (hW : m (c.tc.loc main_arg3) = W) (t : Fin cfg0.N) (k : Fin 2048) (i : Fin 512) (j : Fin 11264) (hj : j.val = 512 * (t.val % 11) + i.val) :
    (iblk m c 3 t : S2048x512.Idx → EReal) (ix2 (n0 := 2048) (n1 := 512) k i) = W (ix2 (n0 := 2048) (n1 := 11264) k j) := by
  obtain rfl : V m c main_v0 = W := (V_up m c).trans hW
  blk_ext [iblk, idx0_3 t]

theorem blk_up (W : S2048x11264.Idx → EReal) (hW : m (c.tc.loc main_arg3) = W) (t : Fin cfg0.N) (k : Fin 2048) (i : Fin 512) (j : Fin 11264) (hj : j.val = 5632 + (512 * (t.val % 11) + i.val)) :
    (iblk m c 4 t : S2048x512.Idx → EReal) (ix2 (n0 := 2048) (n1 := 512) k i) = W (ix2 (n0 := 2048) (n1 := 11264) k j) := by
  obtain rfl : V m c main_v0 = W := (V_up m c).trans hW
  blk_ext [iblk, idx0_4 t]

theorem blk_down (D : S5632x2048.Idx → EReal) (hD : m (c.tc.loc main_arg4) = D) (t : Fin cfg0.N) (i : Fin 512) (d : Fin 2048) (j : Fin 5632) (hj : j.val = 512 * (t.val % 11) + i.val) :
    (iblk m c 5 t : S512x2048.Idx → EReal) (ix2 (n0 := 512) (n1 := 2048) i d) = D (ix2 (n0 := 5632) (n1 := 2048) j d) := by
  obtain rfl : V m c main_v1 = D := (V_down m c).trans hD
  blk_ext [iblk, idx0_5 t]

end Cert.FfnIdeal.Hand

end
-- ==== Proof.FfnSum.lean ====
/- The feed-forward call's result, entry by entry: the sum over the tiles of a block of tokens, point by point. -/
module

public import proofs.«01_k».proof.Proof.FfnBlock

@[expose] public section

set_option maxRecDepth 16384

noncomputable section

namespace Cert.FfnIdeal.Hand
open Cert.FfnIdeal Cert.FfnIdeal.Gen Cert.FfnIdeal.Value Idealize.ShloMosaic Idealize.ShloMosaic.TcCoe Idealize.ShloMosaic.Tactic
open Cert.HalfStep

/-- The normed token `R` with modulation row `q`. -/
def rowHid (X : S24576x2048.Idx → EReal) (M : S16x9x2048.Idx → EReal) (g : S1x2048.Idx → EReal) (R : Fin 24576) (q : Fin 16) : Fin 2048 → EReal :=
  hid (fun k => X (ix2 (n0 := 24576) (n1 := 2048) R k)) (fun p k => M (ix3 (n0 := 16) (n1 := 9) (n2 := 2048) q p k)) (fun k => g (ix2 (n0 := 1) (n1 := 2048) 0 k))

/-- Inner unit `j` of a token, times its row of the second weight. -/
def inner (h : Fin 2048 → EReal) (W : S2048x11264.Idx → EReal) (D : S5632x2048.Idx → EReal) (d : Fin 2048) (j : Fin 5632) : EReal :=
  unit h (fun k j => W (ix2 (n0 := 2048) (n1 := 11264) k j)) j * D (ix2 (n0 := 5632) (n1 := 2048) j d)

variable (m : (ℓ : Loc nD τ sig) → Buf (Elt Ideal) ℓ) (c : Dev nD)

section rows
variable (X : S24576x2048.Idx → EReal) (hX : m (c.tc.loc main_arg0) = X) (M : S16x9x2048.Idx → EReal) (hM : m (c.tc.loc main_arg1) = M)
  (g : S1x2048.Idx → EReal) (hg : m (c.tc.loc main_arg2) = g)
include hX hM hg

/-- After every point the scratch holds the normed tokens of the point's block. -/
theorem keep_at (r : Fin 512) (k : Fin 2048) (R : Fin 24576) (q : Fin 16) (hq : q.val = modRow R.val) :
    ∀ n : ℕ, (hn : n < cfg0.N) → R.val = 512 * (n / 11) + r.val →
      ((outsAt0 m c n hn).2 : S512x2048.Idx → EReal) (ix2 (n0 := 512) (n1 := 2048) r k) = rowHid X M g R q k := by
  intro n
  induction n with
  | zero =>
    intro hn hR
    refine (keep_A m c ⟨0, hn⟩ rfl (by dsimp only; omega) _ rfl _ rfl _ rfl r k).trans ?_
    unfold rowHid
    congr 1
    · funext k; exact blk_x m c X hX ⟨0, hn⟩ r k R hR
    · funext p k; exact blk_mod m c M hM ⟨0, hn⟩ r p k q (hq.trans (congrArg modRow hR))
    · funext k; exact blk_g m c g hg ⟨0, hn⟩ k
  | succ n ih =>
    intro hn hR
    by_cases h0 : (n + 1) % 11 = 0
    · refine (keep_A m c ⟨n + 1, hn⟩ h0 (by dsimp only; omega) _ rfl _ rfl _ rfl r k).trans ?_
      unfold rowHid
      congr 1
      · funext k; exact blk_x m c X hX ⟨n + 1, hn⟩ r k R hR
      · funext p k; exact blk_mod m c M hM ⟨n + 1, hn⟩ r p k q (hq.trans (congrArg modRow hR))
      · funext k; exact blk_g m c g hg ⟨n + 1, hn⟩ k
    · have e : (outsAt0 m c (n + 1) hn).2 = (outsAt0 m c n (by omega)).2 := by
        by_cases h1 : (n + 1) % 11 = 10
        · exact keep_C m c ⟨n + 1, hn⟩ h0 h1
        · exact keep_B m c ⟨n + 1, hn⟩ h0 h1
      rw [e]
      exact ih (by omega) (by omega)

end rows

section sums
variable (W : S2048x11264.Idx → EReal) (hW : m (c.tc.loc main_arg3) = W) (D : S5632x2048.Idx → EReal) (hD : m (c.tc.loc main_arg4) = D)
include hW hD

/-- A column of a point's tile is an inner unit of the token. -/
theorem col_at (t : Fin cfg0.N) (h : S512x2048.Idx → EReal) (r : Fin 512) (d : Fin 2048) (H : Fin 2048 → EReal)
    (hh : ∀ k, h (ix2 (n0 := 512) (n1 := 2048) r k) = H k) (i : Fin 512) (j : Fin 5632) (hj : j.val = 512 * (t.val % 11) + i.val) :
    col h (iblk m c 3 t) (iblk m c 4 t) (iblk m c 5 t) r d i = inner H W D d j := by
  unfold col inner unit
  rw [Finset.sum_congr rfl fun k _ => congrArg₂ (· * ·) (hh k) (blk_gate m c W hW t k i ⟨j.val, by omega⟩ hj),
    Finset.sum_congr rfl fun k _ => congrArg₂ (· * ·) (hh k) (blk_up m c W hW t k i ⟨5632 + j.val, by omega⟩ (congrArg (5632 + ·) hj)),
    blk_down m c D hD t i d j hj]

/-- A point's update of the sum, from the inner units before its tile to those before the next. -/
theorem share_at (t : Fin cfg0.N) (h : FVec Ideal S512x2048 .bf16) (acc : FVec Ideal S512x2048 .f32) (r : Fin 512) (d : Fin 2048) (H : Fin 2048 → EReal)
    (hh : ∀ k, (h (ix2 (n0 := 512) (n1 := 2048) r k) : EReal) = H k)
    (ha : (acc (ix2 (n0 := 512) (n1 := 2048) r d) : EReal) = upto (inner H W D d) (512 * (t.val % 11))) :
    (share h (iblk m c 3 t) (iblk m c 4 t) (iblk m c 5 t) acc (ix2 (n0 := 512) (n1 := 2048) r d) : EReal) = upto (inner H W D d) (512 * (t.val % 11 + 1)) := by
  have hj : t.val % 11 < 11 := Nat.mod_lt _ (by decide)
  have e1 : (∑ i : Fin 256, col h (iblk m c 3 t) (iblk m c 4 t) (iblk m c 5 t) r d ⟨i.val, by omega⟩) =
      ∑ i : Fin 256, inner H W D d ⟨512 * (t.val % 11) + i.val, by omega⟩ :=
    Finset.sum_congr rfl fun i _ => col_at m c W hW D hD t h r d H hh _ _ rfl
  have e2 : (∑ i : Fin 256, col h (iblk m c 3 t) (iblk m c 4 t) (iblk m c 5 t) r d ⟨256 + i.val, by omega⟩) =
      ∑ i : Fin 256, inner H W D d ⟨512 * (t.val % 11) + (256 + i.val), by omega⟩ :=
    Finset.sum_congr rfl fun i _ => col_at m c W hW D hD t h r d H hh _ _ rfl
  rw [share_val, ha, e1, e2]
  exact upto_tile (inner H W D d) ⟨t.val % 11, hj⟩

end sums

section result
variable (X : S24576x2048.Idx → EReal) (hX : m (c.tc.loc main_arg0) = X) (M : S16x9x2048.Idx → EReal) (hM : m (c.tc.loc main_arg1) = M)
  (g : S1x2048.Idx → EReal) (hg : m (c.tc.loc main_arg2) = g) (W : S2048x11264.Idx → EReal) (hW : m (c.tc.loc main_arg3) = W)
  (D : S5632x2048.Idx → EReal) (hD : m (c.tc.loc main_arg4) = D)
include hX hM hg hW hD

/-- The first point's sum starts at zero. -/
theorem sum_first (r : Fin 512) (d : Fin 2048) (R : Fin 24576) (q : Fin 16) (hq : q.val = modRow R.val) (n : ℕ) (hn : n < cfg0.N) (h0 : n % 11 = 0)
    (hR : R.val = 512 * (n / 11) + r.val) :
    ((outsAt0 m c n hn).1 : S512x2048.Idx → EReal) (ix2 (n0 := 512) (n1 := 2048) r d) = upto (inner (rowHid X M g R q) W D d) (512 * (n % 11 + 1)) := by
  rw [sum_A m c ⟨n, hn⟩ h0 (by dsimp only; omega)]
  refine share_at m c W hW D hD ⟨n, hn⟩ _ _ r d _ (fun k => keep_at m c X hX M hM g hg r k R q hq n hn hR) ?_
  rw [show 512 * ((⟨n, hn⟩ : Fin cfg0.N).val % 11) = 0 by dsimp only; omega, upto_zero]
  pointwise [k0_pay28]

/-- Before the last tile the output block holds the sum so far. -/
theorem sum_at (r : Fin 512) (d : Fin 2048) (R : Fin 24576) (q : Fin 16) (hq : q.val = modRow R.val) :
    ∀ n : ℕ, (hn : n < cfg0.N) → n % 11 ≠ 10 → R.val = 512 * (n / 11) + r.val →
      ((outsAt0 m c n hn).1 : S512x2048.Idx → EReal) (ix2 (n0 := 512) (n1 := 2048) r d) = upto (inner (rowHid X M g R q) W D d) (512 * (n % 11 + 1)) := by
  intro n
  induction n with
  | zero => exact fun hn _ hR => sum_first m c X hX M hM g hg W hW D hD r d R q hq 0 hn rfl hR
  | succ n ih =>
    intro hn h1 hR
    by_cases h0 : (n + 1) % 11 = 0
    · exact sum_first m c X hX M hM g hg W hW D hD r d R q hq (n + 1) hn h0 hR
    · rw [sum_B m c ⟨n + 1, hn⟩ h0 h1]
      refine share_at m c W hW D hD ⟨n + 1, hn⟩ _ _ r d _ (fun k => keep_at m c X hX M hM g hg r k R q hq n (by omega) (by omega)) ?_
      refine (ih (by omega) (by omega) (by omega)).trans (congrArg (fun s => upto (inner (rowHid X M g R q) W D d) (512 * s)) ?_)
      dsimp only
      omega

/-- The last point of a block leaves the half step of its tokens. -/
theorem last_at (r : Fin 512) (d : Fin 2048) (R : Fin 24576) (q : Fin 16) (hq : q.val = modRow R.val) (n : ℕ) (hn : n + 1 < cfg0.N) (h1 : (n + 1) % 11 = 10)
    (hR : R.val = 512 * ((n + 1) / 11) + r.val) :
    ((outsAt0 m c (n + 1) hn).1 : S512x2048.Idx → EReal) (ix2 (n0 := 512) (n1 := 2048) r d) =
      step (fun k => X (ix2 (n0 := 24576) (n1 := 2048) R k)) (fun p k => M (ix3 (n0 := 16) (n1 := 9) (n2 := 2048) q p k))
        (fun k => g (ix2 (n0 := 1) (n1 := 2048) 0 k)) (fun k j => W (ix2 (n0 := 2048) (n1 := 11264) k j)) (fun j e => D (ix2 (n0 := 5632) (n1 := 2048) j e)) d := by
  have h0 : ¬(n + 1) % 11 = 0 := by omega
  have hs := share_at m c W hW D hD ⟨n + 1, hn⟩ (outsAt0 m c n (by omega)).2 (outsAt0 m c n (by omega)).1 r d (rowHid X M g R q)
    (fun k => keep_at m c X hX M hM g hg r k R q hq n (by omega) (by omega))
    ((sum_at m c X hX M hM g hg W hW D hD r d R q hq n (by omega) (by omega) (by omega)).trans
      (congrArg (fun s => upto (inner (rowHid X M g R q) W D d) (512 * s)) (by dsimp only; omega)))
  rw [show 512 * ((⟨n + 1, hn⟩ : Fin cfg0.N).val % 11 + 1) = 5632 by dsimp only; omega, upto_all] at hs
  rw [sum_C m c ⟨n + 1, hn⟩ h0 h1]
  refine (close_val _ _ _ r d).trans ?_
  rw [blk_x m c X hX ⟨n + 1, hn⟩ r d R hR, blk_mod m c M hM ⟨n + 1, hn⟩ r 8 d q (hq.trans (congrArg modRow hR))]
  exact congrArg (fun s => X (ix2 (n0 := 24576) (n1 := 2048) R d) + Ideal.ofBits .f32 0x3F000000#32 * M (ix3 (n0 := 16) (n1 := 9) (n2 := 2048) q 8 d) * s) hs

/-- The call's result. -/
theorem out_at (R : Fin 24576) (d : Fin 2048) :
    (G6 m c : S24576x2048.Idx → EReal) (ix2 (n0 := 24576) (n1 := 2048) R d) =
      step (fun k => X (ix2 (n0 := 24576) (n1 := 2048) R k)) (fun p k => M (ix3 (n0 := 16) (n1 := 9) (n2 := 2048) ⟨modRow R.val, modRow_lt R⟩ p k))
        (fun k => g (ix2 (n0 := 1) (n1 := 2048) 0 k)) (fun k j => W (ix2 (n0 := 2048) (n1 := 11264) k j)) (fun j e => D (ix2 (n0 := 5632) (n1 := 2048) j e)) d := by
  have hn : 11 * (R.val / 512) + 9 + 1 < cfg0.N := by
    rw [show cfg0.N = 528 from N_0]
    omega
  have hl := last_at m c X hX M hM g hg W hW D hD ⟨R.val % 512, by omega⟩ d R ⟨modRow R.val, modRow_lt R⟩ rfl (11 * (R.val / 512) + 9) hn (by omega) (by dsimp only; omega)
  rw [outsAt0_sweep] at hl
  refine Eq.trans ?_ hl
  have hp : pt6Of (ix2 (n0 := 24576) (n1 := 2048) R d) = 11 * (R.val / 512) + 9 + 1 := by
    have hd := d.isLt
    show 11 * (1 * (R.val / 512 - 0) + 1 * (d.val / 2048 - 0)) + 10 = _
    omega
  have hi : loc6Of (ix2 (n0 := 24576) (n1 := 2048) R d) = ix2 (n0 := 512) (n1 := 2048) ⟨R.val % 512, by omega⟩ d := by
    funext a
    match a with
    | ⟨0, _⟩ => rfl
    | ⟨1, _⟩ => exact Fin.ext (Nat.mod_eq_of_lt d.isLt)
  unfold G6
  rw [dif_pos (by rw [hp]; exact hn), hi, fold0_congr m c _ _ _ _ hp]

end result

end Cert.FfnIdeal.Hand

end
-- ==== Proof.FfnRef.lean ====
/- The reference's half step, entry by entry. -/
module

public import proofs.«01_k».proof.Proof.Gen.FfnReferenceIdeal.Run
public import proofs.«01_k».proof.Proof.FfnMath
public import Idealize.ShloMosaic.Lib.Pointwise

@[expose] public section

set_option maxRecDepth 16384

noncomputable section

namespace Cert.FfnReferenceIdeal.Hand
open Idealize.ShloMosaic Idealize.ShloMosaic.TcCoe Idealize.ShloMosaic.Tactic
open Cert.FfnReferenceIdeal Cert.FfnReferenceIdeal.Gen Cert.FfnReferenceIdeal.Value
open Cert.HalfStep

theorem cat_lo (a : FVec Ideal S8192x2048 .f32) (b : FVec Ideal S16384x2048 .f32) (h) (R : Fin 24576) (r : Fin 8192) (hR : R.val = r.val) (d : Fin 2048) :
    (concatenate S24576x2048 0 [⟨S8192x2048, a⟩, ⟨S16384x2048, b⟩] h (ix2 (n0 := 24576) (n1 := 2048) R d) : EReal) = a (ix2 (n0 := 8192) (n1 := 2048) r d) := by
  pointwise
  have := r.isLt
  simp only [hR, this]
  rfl

theorem cat_hi (a : FVec Ideal S8192x2048 .f32) (b : FVec Ideal S16384x2048 .f32) (h) (R : Fin 24576) (r : Fin 16384) (hR : R.val = 8192 + r.val) (d : Fin 2048) :
    (concatenate S24576x2048 0 [⟨S8192x2048, a⟩, ⟨S16384x2048, b⟩] h (ix2 (n0 := 24576) (n1 := 2048) R d) : EReal) = b (ix2 (n0 := 16384) (n1 := 2048) r d) := by
  pointwise
  simp [hR]

/-- The half step of token `R`, with modulation row `q`, read off the five arguments. -/
def at_ (X : S24576x2048.Idx → EReal) (M : S16x9x2048.Idx → EReal) (g : S1x2048.Idx → EReal) (W : S2048x11264.Idx → EReal)
    (D : S5632x2048.Idx → EReal) (R : Fin 24576) (q : Fin 16) (d : Fin 2048) : EReal :=
  step (fun k => X (ix2 (n0 := 24576) (n1 := 2048) R k)) (fun p k => M (ix3 (n0 := 16) (n1 := 9) (n2 := 2048) q p k))
    (fun k => g (ix2 (n0 := 1) (n1 := 2048) 0 k)) (fun k j => W (ix2 (n0 := 2048) (n1 := 11264) k j)) (fun j e => D (ix2 (n0 := 5632) (n1 := 2048) j e)) d

section
variable (m : (ℓ : Loc nD τ sig) → Buf (Elt Ideal) ℓ) (c : Dev nD)
  (X : S24576x2048.Idx → EReal) (hX : m (c.tc.loc main_arg0) = X) (M : S16x9x2048.Idx → EReal) (hM : m (c.tc.loc main_arg1) = M)
  (g : S1x2048.Idx → EReal) (hg : m (c.tc.loc main_arg2) = g) (W : S2048x11264.Idx → EReal) (hW : m (c.tc.loc main_arg3) = W)
  (D : S5632x2048.Idx → EReal) (hD : m (c.tc.loc main_arg4) = D)
include hX hM hg hW hD

set_option maxHeartbeats 4000000 in
theorem res_lo (R : Fin 24576) (r : Fin 8192) (hR : R.val = r.val) (d : Fin 2048) :
    (res_out0 m c : S24576x2048.Idx → EReal) (ix2 (n0 := 24576) (n1 := 2048) R d) = at_ X M g W D R 0 d := by
  unfold res_out0 res_main_v88
  refine (cat_lo _ _ _ R r hR d).trans ?_
  simp only [hX, hM, hg, hW, hD]
  clear hX hM hg hW hD
  have hr := r.isLt
  have hb : r.val < 24576 := by clear hR; omega
  obtain rfl : R = ⟨r.val, hb⟩ := Fin.ext hR
  generalize hv : at_ X M g W D _ _ d = v
  pointwise
  subst hv
  rfl

set_option maxHeartbeats 4000000 in
theorem res_hi (R : Fin 24576) (r : Fin 16384) (hR : R.val = 8192 + r.val) (d : Fin 2048) :
    (res_out0 m c : S24576x2048.Idx → EReal) (ix2 (n0 := 24576) (n1 := 2048) R d) = at_ X M g W D R ⟨1 + r.val / 2048, by omega⟩ d := by
  unfold res_out0 res_main_v88
  refine (cat_hi _ _ _ R r hR d).trans ?_
  simp only [hX, hM, hg, hW, hD]
  clear hX hM hg hW hD
  have hr := r.isLt
  have hb : 8192 + r.val < 24576 := by clear hR; omega
  obtain rfl : R = ⟨8192 + r.val, hb⟩ := Fin.ext hR
  generalize hv : at_ X M g W D _ _ d = v
  pointwise
  subst hv
  rfl

/-- The reference's result. -/
theorem res_at (R : Fin 24576) (d : Fin 2048) :
    (res_out0 m c : S24576x2048.Idx → EReal) (ix2 (n0 := 24576) (n1 := 2048) R d) = at_ X M g W D R ⟨modRow R.val, modRow_lt R⟩ d := by
  by_cases h : R.val < 8192
  · rw [res_lo m c X hX M hM g hg W hW D hD R ⟨R.val, h⟩ rfl d]
    exact congrArg (fun q => at_ X M g W D R q d) (Fin.ext (if_pos h).symm)
  · rw [res_hi m c X hX M hM g hg W hW D hD R ⟨R.val - 8192, by omega⟩ (by dsimp only; omega) d]
    exact congrArg (fun q => at_ X M g W D R q d) (Fin.ext (if_neg h).symm)

end

end Cert.FfnReferenceIdeal.Hand

end
-- ==== Proof.FfnAlgebra.lean ====
/- The feed-forward call and its reference leave the same result, and the reference's run keeps its arguments. -/
module

public import proofs.«01_k».proof.Proof.FfnSum
public import proofs.«01_k».proof.Proof.FfnRef
public import Idealize.ShloMosaic.Lib.Quiescent
public import proofs.«01_k».proof.Defs

@[expose] public section

set_option maxRecDepth 16384

noncomputable section

namespace Cert.HalfStep
open Idealize.ShloMosaic Idealize.ShloMosaic.TcCoe

/-- The reference's run leaves its arguments and every counter as they were. -/
theorem quiet : quiescent_FfnReferenceIdeal (hFfnReferenceIdeal := Cert.FfnReferenceIdeal.Gen.facts) := fun m g _ =>
  (θ_run _ _ _).mono (fun _ h => ⟨fun c => (h c).2, sem_eq_zero_of_no_sems rfl _⟩) (Cert.FfnReferenceIdeal.Value.run (F := Ideal) m g)

/-- The call's result is the reference's. -/
theorem result_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (X : (⟨2, ![24576, 2048]⟩ : Shape).Idx → EReal) (M : (⟨3, ![16, 9, 2048]⟩ : Shape).Idx → EReal) (g : (⟨2, ![1, 2048]⟩ : Shape).Idx → EReal)
    (W : (⟨2, ![2048, 11264]⟩ : Shape).Idx → EReal) (D : (⟨2, ![5632, 2048]⟩ : Shape).Idx → EReal)
    (h0 : m (c.tc.loc Cert.FfnIdeal.main_arg0) = X) (h1 : m (c.tc.loc Cert.FfnIdeal.main_arg1) = M) (h2 : m (c.tc.loc Cert.FfnIdeal.main_arg2) = g)
    (h3 : m (c.tc.loc Cert.FfnIdeal.main_arg3) = W) (h4 : m (c.tc.loc Cert.FfnIdeal.main_arg4) = D)
    (k0 : m' (c.tc.loc Cert.FfnReferenceIdeal.main_arg0) = X) (k1 : m' (c.tc.loc Cert.FfnReferenceIdeal.main_arg1) = M)
    (k2 : m' (c.tc.loc Cert.FfnReferenceIdeal.main_arg2) = g) (k3 : m' (c.tc.loc Cert.FfnReferenceIdeal.main_arg3) = W)
    (k4 : m' (c.tc.loc Cert.FfnReferenceIdeal.main_arg4) = D) :
    (Cert.FfnReferenceIdeal.Value.res_main_v88 m' c : (⟨2, ![24576, 2048]⟩ : Shape).Idx → EReal) = Cert.FfnIdeal.Value.G6 m c := by
  funext i
  have ei : i = ix2 (n0 := 24576) (n1 := 2048) (i 0) (i 1) := by
    funext a
    match a with
    | ⟨0, _⟩ => rfl
    | ⟨1, _⟩ => rfl
  rw [ei]
  exact (Cert.FfnReferenceIdeal.Hand.res_at m' c X k0 M k1 g k2 W k3 D k4 (i 0) (i 1)).trans
    (Cert.FfnIdeal.Hand.out_at m c X h0 M h1 g h2 W h3 D h4 (i 0) (i 1)).symm

/-- The claim about the values. -/
theorem algebraic : algebraic_FfnIdeal_FfnReferenceIdeal (hFfnIdeal := Cert.FfnIdeal.Gen.facts) (hFfnReferenceIdeal := Cert.FfnReferenceIdeal.Gen.facts) := by
  intro m g m' g' _ hargs
  refine ⟨_, Cert.FfnIdeal.Value.run (F := Ideal) m g, (θ_run _ _ _).mono (fun r h c => ?_) (Cert.FfnReferenceIdeal.Value.run (F := Ideal) m' g')⟩
  obtain ⟨a0, a1, a2, a3, a4⟩ := hargs c
  obtain ⟨r0, rest⟩ := h c
  exact ⟨r0.trans (result_eq m m' c _ _ _ _ _ rfl rfl rfl rfl rfl a0 a1 a2 a3 a4), rest⟩

end Cert.HalfStep

end
-- ==== Proof.Ffn1Run.lean ====
/- The two results of the first feed-forward call after its run: each row is what the last of the eleven points of its block of tokens left. -/
module

public import proofs.«01_k».proof.Proof.Gen.Ffn1Ideal.Frame
public import Idealize.ShloMosaic.Lib.Pipeline.Value
public import Idealize.ShloMosaic.Lib.Pointwise

@[expose] public section

set_option maxRecDepth 16384

noncomputable section

namespace Cert.Ffn1Ideal.Hand
open Cert.Ffn1Ideal Cert.Ffn1Ideal.Gen Idealize.ShloMosaic Idealize.ShloMosaic.TcCoe Idealize.SL.Sem

variable (m : (ℓ : Loc nD τ sig) → Buf (Elt Ideal) ℓ) (ρ : Dev nD → PrngReg) (c : Dev nD)

/-- The point that writes row `i 0` back: the last of its block of tokens. -/
def pt (i : S24576x2048.Idx) : Fin cfg0.N :=
  ⟨11 * ((i 0).val / 512) + 10, lt_of_lt_of_eq (by have : (i 0).val < 24576 := (i 0).isLt; omega) N_0.symm⟩

/-- The row's place in that block. -/
def loc (i : S24576x2048.Idx) : S512x2048.Idx := ix2 (n0 := 512) (n1 := 2048) ⟨(i 0).val % 512, Nat.mod_lt _ (by decide)⟩ (i 1)

/-- An entry of a block, placed in the array: its point and its place lead back. -/
theorem pt_loc (t : Fin cfg0.N) (ht : t.val % 11 = 10) (i : S24576x2048.Idx) (y : S512x2048.Idx) (a b : ℕ) (ha : a = t.val / 11) (hb : b = 0)
    (h0 : (i 0).val = a * 512 + 1 * (y 0).val) (h1 : (i 1).val = b * 2048 + 1 * (y 1).val) : pt i = t ∧ loc i = y := by
  have y0 : (y 0).val < 512 := (y 0).isLt
  refine ⟨Fin.ext ?_, ?_⟩
  · show 11 * ((i 0).val / 512) + 10 = t.val
    omega
  · funext a
    match a with
    | ⟨0, _⟩ => exact Fin.ext (show (i 0).val % 512 = (y 0).val by omega)
    | ⟨1, _⟩ => exact Fin.ext (show (i 1).val = (y 1).val by omega)

/-- What point `t` leaves: the two output blocks and the kept rows. -/
def left (t : Fin cfg0.N) : Vec Ideal S512x2048 .f32 × Vec Ideal S512x2048 .bf16 × Vec Ideal S512x2048 .bf16 := outsAt0 m c t.val t.isLt

/-- The tokens the call returns. -/
def outX : S24576x2048.Idx → EReal := fun i => (left m c (pt i)).1 (loc i)

/-- The normed tokens it returns for the next part of the layer. -/
def outH : S24576x2048.Idx → EReal := fun i => (left m c (pt i)).2.1 (loc i)

theorem idx0_7 : ∀ t : Fin cfg0.N, win0_7.index t = ![t.val / 11, 0] := (by decide +kernel : ∀ t : Fin grid0.N, _)
theorem idx0_8 : ∀ t : Fin cfg0.N, win0_8.index t = ![t.val / 11, 0] := (by decide +kernel : ∀ t : Fin grid0.N, _)

theorem flush7 : ∀ t : Fin cfg0.N, t.val % 11 = 10 → win0_7.flush t = true := (by decide +kernel : ∀ t : Fin grid0.N, _)
theorem flush8 : ∀ t : Fin cfg0.N, t.val % 11 = 10 → win0_8.flush t = true := (by decide +kernel : ∀ t : Fin grid0.N, _)

/-- A row lies in the block of its point. -/
theorem in_block (i : S24576x2048.Idx) (q : Fin 2 → ℕ) (hq : q = ![(pt i).val / 11, 0]) (a : Fin 2) :
    q a * S512x2048.size a ≤ (i a).val ∧ (i a).val < q a * S512x2048.size a + S512x2048.size a := by
  subst hq
  have hp : (pt i).val / 11 = (i 0).val / 512 := by
    show (11 * ((i 0).val / 512) + 10) / 11 = _
    omega
  have h1 : (i 1).val < 2048 := (i 1).isLt
  match a with
  | ⟨0, _⟩ =>
    show (pt i).val / 11 * 512 ≤ (i 0).val ∧ (i 0).val < (pt i).val / 11 * 512 + 512
    omega
  | ⟨1, _⟩ =>
    show 0 * 2048 ≤ (i 1).val ∧ (i 1).val < 0 * 2048 + 2048
    omega

theorem pt_mod (i : S24576x2048.Idx) : (pt i).val % 11 = 10 := by
  show (11 * ((i 0).val / 512) + 10) % 11 = 10
  omega

theorem outX_eq : (dats m 0 c).arrAt 7 cfg0.N = outX m c := by
  refine (dats m 0 c).arrAt_eq_of_cover 7 _ (fun t hf => ?_) fun i => ⟨pt i, flush7 _ (pt_mod i), ?_⟩
  · show (cfg0.win 7).cut (grid0.coords t) ((dats m 0 c).after 7 t) = _
    rw [after0_7]
    funext y
    obtain ⟨e, l⟩ := pt_loc t ((flush0_7 t).mp hf) (((cfg0.win 7).blk t).view.emb y) ((cfg0.win 7).xinj (grid0.coords t) y)
      (win0_7.index t 0) (win0_7.index t 1) (congrFun (idx0_7 t) 0) (congrFun (idx0_7 t) 1) rfl rfl
    show (left m c t).1 ((cfg0.win 7).xinj (grid0.coords t) y) = outX m c (((cfg0.win 7).blk t).view.emb y)
    rw [outX, e, l]
  · show i ∈ ((View.whole main_v2_0).slice (win0_7.rect (pt i))).set
    rw [View.set_slice_whole, Rect.mem_set_unit]
    exact in_block i _ (idx0_7 _)

theorem outH_eq : (dats m 0 c).arrAt 8 cfg0.N = outH m c := by
  refine (dats m 0 c).arrAt_eq_of_cover 8 _ (fun t hf => ?_) fun i => ⟨pt i, flush8 _ (pt_mod i), ?_⟩
  · show (cfg0.win 8).cut (grid0.coords t) ((dats m 0 c).after 8 t) = _
    rw [after0_8]
    funext y
    obtain ⟨e, l⟩ := pt_loc t ((flush0_8 t).mp hf) (((cfg0.win 8).blk t).view.emb y) ((cfg0.win 8).xinj (grid0.coords t) y)
      (win0_8.index t 0) (win0_8.index t 1) (congrFun (idx0_8 t) 0) (congrFun (idx0_8 t) 1) rfl rfl
    show (left m c t).2.1 ((cfg0.win 8).xinj (grid0.coords t) y) = outH m c (((cfg0.win 8).blk t).view.emb y)
    rw [outH, e, l]
  · show i ∈ ((View.whole main_v2_1).slice (win0_8.rect (pt i))).set
    rw [View.set_slice_whole, Rect.mem_set_unit]
    exact in_block i _ (idx0_8 _)

/-- The run leaves the two results and its arguments. -/
theorem run : θ_run defs (onTc (τ := τ) (main (F := Ideal))) ⟨m, fun _ => 0, ρ⟩ fun r => ∀ c : Dev nD,
      r.2.mem ((c : Thread nD τ).loc main_v2_0) = outX m c
      ∧ r.2.mem ((c : Thread nD τ).loc main_v2_1) = outH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  have held := (h c).2
  exact ⟨((h c).1 7).trans (outX_eq m c), ((h c).1 8).trans (outH_eq m c),
    ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))),
    (held main_arg4 (Pipeline.mem_restRefs_of main_arg4 (by decide) (by decide))).trans (V_main_arg4 m c),
    (held main_arg5 (Pipeline.mem_restRefs_of main_arg5 (by decide) (by decide))).trans (V_main_arg5 m c)⟩

end Cert.Ffn1Ideal.Hand

end
-- ==== Proof.Ffn1Tiles.lean ====
/- What one grid point of the first feed-forward call computes from its blocks: the normalised rows it keeps, a tile's share of the sum, and the two closing results. -/
module

public import proofs.«01_k».proof.Proof.Ffn1Run
public import proofs.«01_k».proof.Proof.FfnTiles

@[expose] public section

set_option maxRecDepth 16384

noncomputable section

namespace Cert.Ffn1Ideal.Hand
open Cert.Ffn1Ideal Cert.Ffn1Ideal.Gen Idealize.ShloMosaic Idealize.ShloMosaic.TcCoe Idealize.ShloMosaic.Tactic
open Cert.HalfStep
open Cert.FfnIdeal.Hand (rowInv rowInv_val share)

/-! The columns of a block are stored and read in tiles of 128. -/

section columns
variable {κ : Kind} {sp : Space} {e : EltTy} (v : View sig κ sp S512x2048 e) (L : List (View.Piece (Elt Ideal) S512x2048 e))
  (o o' : ℕ) (inb : ∀ a, (![0, o] : Fin 2 → ℕ) a + (![512, 128] : Fin 2 → ℕ) a ≤ S512x2048.size a)
  (inb' : ∀ a, (![0, o'] : Fin 2 → ℕ) a + (![512, 128] : Fin 2 → ℕ) a ≤ S512x2048.size a)

/-- A tile read after a store to another tile does not see the store. -/
theorem read_other (p : (Rect.unit (s := S512x2048) ![0, o] ![512, 128] inb).shape.Idx → Elt Ideal e) (h : o + 128 ≤ o' ∨ o' + 128 ≤ o) :
    v.readCov (⟨Rect.unit (s := S512x2048) ![0, o] ![512, 128] inb, p⟩ :: L) (Rect.unit (s := S512x2048) ![0, o'] ![512, 128] inb').toLoadRect =
      v.readCov L (Rect.unit (s := S512x2048) ![0, o'] ![512, 128] inb').toLoadRect := by
  rw [View.readCov_eq_canon', View.readCov_eq_canon']
  funext j
  refine View.canon_cons_of_not_mem _ _ fun hm => ?_
  have hm' : (Rect.unit (s := S512x2048) ![0, o'] ![512, 128] inb').idx j ∈ (Rect.unit (s := S512x2048) ![0, o] ![512, 128] inb).set := hm
  have h1 : o ≤ o' + 1 * (j 1).val ∧ o' + 1 * (j 1).val < o + 128 := Rect.mem_set_unit.mp hm' 1
  have hj : (j 1).val < 128 := (j 1).isLt
  omega

/-- A tile read after its store is what was stored. -/
theorem read_same (p : (Rect.unit (s := S512x2048) ![0, o] ![512, 128] inb).shape.Idx → Elt Ideal e) :
    v.readCov (⟨Rect.unit (s := S512x2048) ![0, o] ![512, 128] inb, p⟩ :: L) (Rect.unit (s := S512x2048) ![0, o] ![512, 128] inb).toLoadRect = p := by
  rw [View.readCov_eq_canon']
  funext j
  exact View.canon_cons_emb _ p L j

/-- A tile read after a store of the whole block is that tile of it. -/
theorem read_all (inb0) (S : S512x2048.Idx → Elt Ideal e) :
    v.readCov [(⟨Rect.unit (s := S512x2048) ![0, 0] ![512, 2048] inb0, S⟩ : View.Piece (Elt Ideal) S512x2048 e)] (Rect.unit (s := S512x2048) ![0, o] ![512, 128] inb).toLoadRect =
      View.ld S (Rect.unit (s := S512x2048) ![0, o] ![512, 128] inb) := by
  rw [View.readCov_eq_canon']
  funext j
  exact congrFun (View.canon_cons_unit_zero (S := S512x2048) (by decide) inb0 S []) _

/-- Tiles of `Y` stored from the left leave `Y` in the columns stored so far. -/
theorem paint (Y : S512x2048.Idx → Elt Ideal e) (hL : ∀ i : S512x2048.Idx, (i 1).val < o → View.canon L i = Y i) (i : S512x2048.Idx) (hi : (i 1).val < o + 128) :
    View.canon (⟨Rect.unit (s := S512x2048) ![0, o] ![512, 128] inb, View.ld Y (Rect.unit (s := S512x2048) ![0, o] ![512, 128] inb)⟩ :: L) i = Y i := by
  by_cases hm : i ∈ (Rect.unit (s := S512x2048) ![0, o] ![512, 128] inb).set
  · obtain ⟨x, hx⟩ := (Rect.unit (s := S512x2048) ![0, o] ![512, 128] inb).toLoadRect.exists_idx_of_mem hm
    subst hx
    exact View.canon_cons_emb _ _ L x
  · refine (View.canon_cons_of_not_mem ⟨Rect.unit (s := S512x2048) ![0, o] ![512, 128] inb, View.ld Y (Rect.unit (s := S512x2048) ![0, o] ![512, 128] inb)⟩ L hm).trans ?_
    have hr : 0 ≤ (i 0).val ∧ (i 0).val < 0 + 512 := ⟨Nat.zero_le _, (Nat.zero_add 512).symm ▸ (i 0).isLt⟩
    by_cases hn : (i 1).val < o
    · exact hL i hn
    · have hs : ∀ a : Fin 2, (![0, o] : Fin 2 → ℕ) a ≤ (i a).val ∧ (i a).val < (![0, o] : Fin 2 → ℕ) a + (![512, 128] : Fin 2 → ℕ) a :=
        Fin.forall_fin_two.mpr ⟨hr, Nat.le_of_not_lt hn, hi⟩
      exact absurd (Rect.mem_set_unit.mpr hs) hm

end columns

/-- The modulation's rows counted from `s`, so that the half step's rows 6, 7, 8 are the rows this call reads. -/
def rows (s : Fin 9) (M : S1x9x2048.Idx → EReal) (p : Fin 9) (k : Fin 2048) : EReal := M (ix3 (n0 := 1) (n1 := 9) (n2 := 2048) 0 (p + s) k)

/-- The residual that closes the call's first result. -/
def resid (x : S512x2048.Idx → EReal) (M : S1x9x2048.Idx → EReal) (S : S512x2048.Idx → EReal) : S512x2048.Idx → EReal := fun i =>
  x i + Ideal.ofBits .f32 0x3F000000#32 * M (ix3 (n0 := 1) (n1 := 9) (n2 := 2048) 0 2 (i 1)) * S i

/-- One stored tile of it. -/
theorem resid_tile (x : FVec Ideal S512x2048 .f32) (M : FVec Ideal S1x9x2048 .f32) (S : FVec Ideal S512x2048 .f32) (o : ℕ)
    (inb : ∀ a, (![0, o] : Fin 2 → ℕ) a + (![512, 128] : Fin 2 → ℕ) a ≤ S512x2048.size a) (hs) (hb) (hc) :
    addf (F := Ideal) (View.ld (Val := Elt Ideal) (e' := .f32) x (Rect.unit (s := S512x2048) ![0, o] ![512, 128] inb))
      (mulf (broadcastTo S512x128 (extractStridedSlice S1x128 ![0, o] (k0_pay28 M) hs) hb)
        (shapeCast S512x128 (View.ld (Val := Elt Ideal) (e' := .f32) S (Rect.unit (s := S512x2048) ![0, o] ![512, 128] inb)) hc)) =
      View.ld (Val := Elt Ideal) (e' := .f32) (resid x M S) (Rect.unit (s := S512x2048) ![0, o] ![512, 128] inb) := by
  have ho : o + 128 ≤ 2048 := inb 1
  funext i
  obtain ⟨a, b, rfl⟩ : ∃ (a : Fin 512) (b : Fin 128), i = ix2 (n0 := 512) (n1 := 128) a b := ⟨i 0, i 1, by pointwise⟩
  unfold resid
  pointwise [k0_pay27, k0_pay28]

/-- The reciprocal root mean square, as this call's tiles give it. -/
theorem inv_eq (x : FVec Ideal S512x2048 .f32) : rowInv x =
    k0_pay8 (F := Ideal)
      (k0_pay7
        (View.ld x (Rect.unit (s := S512x2048) ![0, 0] ![512, 128] inb_S512x2048_S512x128_0_0)) (View.ld x (Rect.unit (s := S512x2048) ![0, 128] ![512, 128] inb_S512x2048_S512x128_0_128))
        (View.ld x (Rect.unit (s := S512x2048) ![0, 256] ![512, 128] inb_S512x2048_S512x128_0_256)) (View.ld x (Rect.unit (s := S512x2048) ![0, 384] ![512, 128] inb_S512x2048_S512x128_0_384))
        (View.ld x (Rect.unit (s := S512x2048) ![0, 512] ![512, 128] inb_S512x2048_S512x128_0_512)) (View.ld x (Rect.unit (s := S512x2048) ![0, 640] ![512, 128] inb_S512x2048_S512x128_0_640))
        (View.ld x (Rect.unit (s := S512x2048) ![0, 768] ![512, 128] inb_S512x2048_S512x128_0_768)) (View.ld x (Rect.unit (s := S512x2048) ![0, 896] ![512, 128] inb_S512x2048_S512x128_0_896))
        (View.ld x (Rect.unit (s := S512x2048) ![0, 1024] ![512, 128] inb_S512x2048_S512x128_0_1024)))
      (View.ld x (Rect.unit (s := S512x2048) ![0, 1152] ![512, 128] inb_S512x2048_S512x128_0_1152)) (View.ld x (Rect.unit (s := S512x2048) ![0, 1280] ![512, 128] inb_S512x2048_S512x128_0_1280))
      (View.ld x (Rect.unit (s := S512x2048) ![0, 1408] ![512, 128] inb_S512x2048_S512x128_0_1408)) (View.ld x (Rect.unit (s := S512x2048) ![0, 1536] ![512, 128] inb_S512x2048_S512x128_0_1536))
      (View.ld x (Rect.unit (s := S512x2048) ![0, 1664] ![512, 128] inb_S512x2048_S512x128_0_1664)) (View.ld x (Rect.unit (s := S512x2048) ![0, 1792] ![512, 128] inb_S512x2048_S512x128_0_1792))
      (View.ld x (Rect.unit (s := S512x2048) ![0, 1920] ![512, 128] inb_S512x2048_S512x128_0_1920)) := rfl

/-- One grid point's update of the running sum is the other feed-forward call's. -/
theorem share_eq (h : FVec Ideal S512x2048 .bf16) (w v : FVec Ideal S2048x512 .bf16) (D : FVec Ideal S512x2048 .bf16) (acc : FVec Ideal S512x2048 .f32) :
    share h w v D acc = k0_pay1 (F := Ideal)
      (k0_pay76 h (View.ld w (Rect.unit (s := S2048x512) ![0, 0] ![2048, 256] inb_S2048x512_S2048x256_0_0)) (View.ld v (Rect.unit (s := S2048x512) ![0, 0] ![2048, 256] inb_S2048x512_S2048x256_0_0)))
      (k0_pay77 h (View.ld w (Rect.unit (s := S2048x512) ![0, 256] ![2048, 256] inb_S2048x512_S2048x256_0_256)) (View.ld v (Rect.unit (s := S2048x512) ![0, 256] ![2048, 256] inb_S2048x512_S2048x256_0_256)))
      acc (View.ld D (Rect.unit (s := S512x2048) ![0, 0] ![256, 2048] inb_S512x2048_S256x2048_0_0)) (View.ld D (Rect.unit (s := S512x2048) ![256, 0] ![256, 2048] inb_S512x2048_S256x2048_256_0)) := rfl

/-- One column of a stored tile is one entry of the normalised, scaled and shifted row. -/
theorem tile_val (s : Fin 9) (x : S512x2048.Idx → EReal) (M : S1x9x2048.Idx → EReal) (g : S1x2048.Idx → EReal) (r : Fin 512) (k K : Fin 2048) (hK : k = K) :
    x (ix2 (n0 := 512) (n1 := 2048) r K) * rowInv x (ix2 (n0 := 512) (n1 := 1) r 0) * (g (ix2 (n0 := 1) (n1 := 2048) 0 K) * (1 + rows s M 7 K)) + rows s M 6 K =
      hid (fun k => x (ix2 (n0 := 512) (n1 := 2048) r k)) (rows s M) (fun k => g (ix2 (n0 := 1) (n1 := 2048) 0 k)) k := by
  subst hK
  rw [rowInv_val]
  exact hid_eq (fun k => x (ix2 (n0 := 512) (n1 := 2048) r k)) (rows s M) (fun k => g (ix2 (n0 := 1) (n1 := 2048) 0 k)) k

variable (m : (ℓ : Loc nD τ sig) → Buf (Elt Ideal) ℓ)

set_option maxHeartbeats 2000000 in
/-- The rows the first point of a block of tokens keeps. -/
theorem keep_A (c : Dev nD) (t : Fin cfg0.N) (h0 : t.val % 11 = 0) (h1 : ¬t.val % 11 = 10) (x : S512x2048.Idx → EReal) (hx : iblk m c 0 t = x)
    (M : S1x9x2048.Idx → EReal) (hM : iblk m c 1 t = M) (g : S1x2048.Idx → EReal) (hg : iblk m c 2 t = g) (r : Fin 512) (k : Fin 2048) :
    ((outsAt0 m c t.val t.isLt).2.2 : S512x2048.Idx → EReal) (ix2 (n0 := 512) (n1 := 2048) r k) =
      hid (fun k => x (ix2 (n0 := 512) (n1 := 2048) r k)) (rows 3 M) (fun k => g (ix2 (n0 := 1) (n1 := 2048) 0 k)) k := by
  generalize hv : hid _ _ _ k = v
  rw [outsAt0_A m c t h0 h1]
  frame_out
  rw [hx, hM, hg]
  clear hx hM hg
  canon_tiles i h
  all_goals
    obtain ⟨a, b, rfl⟩ : ∃ (a : Fin 512) (b : Fin 128), i = ix2 (n0 := 512) (n1 := 128) a b := ⟨i 0, i 1, by pointwise⟩
    obtain rfl : r = a := Fin.ext h0
    try simp only [k0_pay10]
    simp only [← inv_eq]
    pointwise [k0_pay4, k0_pay5, k0_pay6, k0_pay9, k0_pay11, k0_pay12, k0_pay13, k0_pay14, k0_pay15, k0_pay16, k0_pay17, k0_pay18, k0_pay19, k0_pay20, k0_pay21,
      k0_pay22, k0_pay23, k0_pay24, k0_pay25, k0_pay26, k0_pay73, k0_pay74]
    subst hv
    refine tile_val 3 x M g r k _ ?_
    exact Fin.ext h1

theorem keep_B (c : Dev nD) (t : Fin cfg0.N) (h0 : ¬t.val % 11 = 0) (h1 : ¬t.val % 11 = 10) :
    (outsAt0 m c t.val t.isLt).2.2 = (outsAt0 m c (t.val - 1) (Nat.lt_of_le_of_lt (Nat.sub_le _ _) t.isLt)).2.2 := by
  rw [outsAt0_B m c t h0 h1]
  rfl

theorem keep_C (c : Dev nD) (t : Fin cfg0.N) (h0 : ¬t.val % 11 = 0) (h1 : t.val % 11 = 10) :
    (outsAt0 m c t.val t.isLt).2.2 = (outsAt0 m c (t.val - 1) (Nat.lt_of_le_of_lt (Nat.sub_le _ _) t.isLt)).2.2 := by
  rw [outsAt0_C m c t h0 h1]
  rfl

/-- A load of the whole scratch reads what the point's stores left there. -/
theorem load_whole (L : List (View.Piece (Elt Ideal) S512x2048 .bf16)) :
    (View.whole cc0_scratch0).readCov L (Rect.unit (s := S512x2048) ![0, 0] ![512, 2048] inb_S512x2048_S512x2048_0_0).toLoadRect = View.canon L := by
  rw [View.readCov_eq_canon']
  exact View.ld_unit_zero (by decide) _ _

/-- The first point of a block of tokens starts its sum from zero. -/
theorem sum_A (c : Dev nD) (t : Fin cfg0.N) (h0 : t.val % 11 = 0) (h1 : ¬t.val % 11 = 10) :
    (outsAt0 m c t.val t.isLt).1 = share (outsAt0 m c t.val t.isLt).2.2 (iblk m c 4 t) (iblk m c 5 t) (iblk m c 6 t) (k0_pay75 (F := Ideal)) := by
  rw [outsAt0_A m c t h0 h1]
  frame_out
  simp only [load_whole]
  rfl

/-- The points between add their tile's share to the sum. -/
theorem sum_B (c : Dev nD) (t : Fin cfg0.N) (h0 : ¬t.val % 11 = 0) (h1 : ¬t.val % 11 = 10) :
    (outsAt0 m c t.val t.isLt).1 = share (outsAt0 m c (t.val - 1) (Nat.lt_of_le_of_lt (Nat.sub_le _ _) t.isLt)).2.2 (iblk m c 4 t) (iblk m c 5 t) (iblk m c 6 t)
      (outsAt0 m c (t.val - 1) (Nat.lt_of_le_of_lt (Nat.sub_le _ _) t.isLt)).1 := by
  rw [outsAt0_B m c t h0 h1]
  frame_out
  rw [read_unread_whole]
  rfl

/-- The last point's sum, over all eleven tiles. -/
def total (c : Dev nD) (t : Fin cfg0.N) : FVec Ideal S512x2048 .f32 :=
  share (outsAt0 m c (t.val - 1) (Nat.lt_of_le_of_lt (Nat.sub_le _ _) t.isLt)).2.2 (iblk m c 4 t) (iblk m c 5 t) (iblk m c 6 t)
    (outsAt0 m c (t.val - 1) (Nat.lt_of_le_of_lt (Nat.sub_le _ _) t.isLt)).1

set_option maxHeartbeats 2000000 in
/-- The last point adds its share and closes the residual. -/
theorem sum_C (c : Dev nD) (t : Fin cfg0.N) (h0 : ¬t.val % 11 = 0) (h1 : t.val % 11 = 10) :
    (outsAt0 m c t.val t.isLt).1 = resid (iblk m c 0 t) (iblk m c 1 t) (total m c t) := by
  rw [outsAt0_C m c t h0 h1]
  frame_out
  simp only [read_other, read_same, read_all, Nat.reduceAdd, Nat.reduceLeDiff, true_or, or_true, k0_pay31, k0_pay32, k0_pay34, k0_pay35, k0_pay36, k0_pay37, k0_pay38,
    k0_pay40, k0_pay41, k0_pay42, k0_pay44, k0_pay45, k0_pay46, k0_pay47, k0_pay49, k0_pay50, k0_pay51, resid_tile, read_unread_whole, ← share_eq]
  rw [← total]
  funext i
  have hi : (i 1).val < 1920 + 128 := (i 1).isLt
  revert i
  iterate 16 refine paint _ _ _ _ ?_
  exact fun i h => absurd h (Nat.not_lt_zero _)

set_option maxHeartbeats 4000000 in
/-- The last point's second result: the closed rows, normalised, scaled and shifted for the next part of the layer. -/
theorem next_C (c : Dev nD) (t : Fin cfg0.N) (h0 : ¬t.val % 11 = 0) (h1 : t.val % 11 = 10) (M : S1x9x2048.Idx → EReal) (hM : iblk m c 1 t = M)
    (g : S1x2048.Idx → EReal) (hg : iblk m c 3 t = g) (y : S512x2048.Idx → EReal) (hy : resid (iblk m c 0 t) (iblk m c 1 t) (total m c t) = y) (r : Fin 512) (k : Fin 2048) :
    ((outsAt0 m c t.val t.isLt).2.1 : S512x2048.Idx → EReal) (ix2 (n0 := 512) (n1 := 2048) r k) =
      hid (fun k => y (ix2 (n0 := 512) (n1 := 2048) r k)) (rows 6 M) (fun k => g (ix2 (n0 := 1) (n1 := 2048) 0 k)) k := by
  generalize hv : hid _ _ _ k = v
  rw [outsAt0_C m c t h0 h1]
  frame_out
  simp only [read_other, read_same, read_all, Nat.reduceAdd, Nat.reduceLeDiff, true_or, or_true, k0_pay31, k0_pay32, k0_pay34, k0_pay35, k0_pay36, k0_pay37, k0_pay38,
    k0_pay40, k0_pay41, k0_pay42, k0_pay44, k0_pay45, k0_pay46, k0_pay47, k0_pay49, k0_pay50, k0_pay51, resid_tile, read_unread_whole, ← share_eq,
    k0_pay33, k0_pay39, k0_pay43, k0_pay48, k0_pay52]
  rw [← total, hy]
  have hinv := inv_eq y
  simp only [k0_pay7, k0_pay8] at hinv
  rw [← hinv, hM, hg]
  clear hM hg hinv hy
  canon_tiles i h
  all_goals
    obtain ⟨a, b, rfl⟩ : ∃ (a : Fin 512) (b : Fin 128), i = ix2 (n0 := 512) (n1 := 128) a b := ⟨i 0, i 1, by pointwise⟩
    obtain rfl : r = a := Fin.ext h0
    pointwise [k0_pay2, k0_pay3, k0_pay27, k0_pay29, k0_pay30, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72]
    subst hv
    refine tile_val 6 y M g r k _ ?_
    exact Fin.ext h1

end Cert.Ffn1Ideal.Hand

end
-- ==== Proof.Ffn1Block.lean ====
/- The blocks each grid point of the first feed-forward call reads of its arguments, at coordinates. -/
module

public import proofs.«01_k».proof.Proof.Ffn1Tiles

@[expose] public section

set_option maxRecDepth 16384

noncomputable section

namespace Cert.Ffn1Ideal.Hand
open Cert.Ffn1Ideal Cert.Ffn1Ideal.Gen Idealize.ShloMosaic Idealize.ShloMosaic.TcCoe Idealize.ShloMosaic.Tactic
open Cert.HalfStep

theorem idx0_0 : ∀ t : Fin cfg0.N, win0_0.index t = ![t.val / 11, 0] := (by decide +kernel : ∀ t : Fin grid0.N, _)
theorem idx0_1 : ∀ t : Fin cfg0.N, win0_1.index t = ![if t.val / 11 < 16 then 0 else 1 + (t.val / 11 - 16) / 4, 0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, t.val % 11] := (by decide +kernel : ∀ t : Fin grid0.N, _)
theorem idx0_5 : ∀ t : Fin cfg0.N, win0_5.index t = ![0, 11 + t.val % 11] := (by decide +kernel : ∀ t : Fin grid0.N, _)
theorem idx0_6 : ∀ t : Fin cfg0.N, win0_6.index t = ![t.val % 11, 0] := (by decide +kernel : ∀ t : Fin grid0.N, _)

variable (m : (ℓ : Loc nD τ sig) → Buf (Elt Ideal) ℓ) (c : Dev nD)

theorem blk_x (X : S24576x2048.Idx → EReal) (hX : m (c.tc.loc main_arg0) = X) (t : Fin cfg0.N) (r : Fin 512) (k : Fin 2048) (R : Fin 24576) (hR : R.val = 512 * (t.val / 11) + r.val) :
    (iblk m c 0 t : S512x2048.Idx → EReal) (ix2 (n0 := 512) (n1 := 2048) r k) = X (ix2 (n0 := 24576) (n1 := 2048) R k) := by
  subst hX
  blk_ext [iblk, V_main_arg0, idx0_0 t]

/-- A block's modulation rows are the rows its tokens read, in whatever place they are counted from. -/
theorem blk_rows (M : S16x9x2048.Idx → EReal) (hM : m (c.tc.loc main_arg1) = M) (t : Fin cfg0.N) (r : Fin 512) (s p : Fin 9) (k : Fin 2048) (q : Fin 16)
    (hq : q.val = modRow (512 * (t.val / 11) + r.val)) :
    rows s (iblk m c 1 t) p k = M (ix3 (n0 := 16) (n1 := 9) (n2 := 2048) q (p + s) k) := by
  subst hM
  unfold rows
  generalize p + s = p'
  have hq' : q.val = if t.val / 11 < 16 then 0 else 1 + (t.val / 11 - 16) / 4 := by
    have : t.val < 528 := lt_of_lt_of_eq t.isLt N_0
    rw [hq, modRow]
    split <;> split <;> omega
  blk_ext [iblk, V_main_arg1, idx0_1 t]

theorem blk_g (g : S1x2048.Idx → EReal) (hg : m (c.tc.loc main_arg2) = g) (t : Fin cfg0.N) (k : Fin 2048) :
    (iblk m c 2 t : S1x2048.Idx → EReal) (ix2 (n0 := 1) (n1 := 2048) 0 k) = g (ix2 (n0 := 1) (n1 := 2048) 0 k) := by
  subst hg
  blk_ext [iblk, V_main_arg2, idx0_2 t]

theorem blk_next (g : S1x2048.Idx → EReal) (hg : m (c.tc.loc main_arg3) = g) (t : Fin cfg0.N) (k : Fin 2048) :
    (iblk m c 3 t : S1x2048.Idx → EReal) (ix2 (n0 := 1) (n1 := 2048) 0 k) = g (ix2 (n0 := 1) (n1 := 2048) 0 k) := by
  subst hg
  blk_ext [iblk, V_main_arg3, idx0_3 t]

/-- The weights reach the call through a cast, which leaves a real as it is. -/
theorem V_gu : (V m c main_v0 : S2048x11264.Idx → EReal) = m (c.tc.loc main_arg4) := rfl

theorem V_dn : (V m c main_v1 : S5632x2048.Idx → EReal) = m (c.tc.loc main_arg5) := rfl

theorem blk_gate (W : S2048x11264.Idx → EReal) (hW : m (c.tc.loc main_arg4) = W) (t : Fin cfg0.N) (k : Fin 2048) (i : Fin 512) (j : Fin 11264) (hj : j.val = 512 * (t.val % 11) + i.val) :
    (iblk m c 4 t : S2048x512.Idx → EReal) (ix2 (n0 := 2048) (n1 := 512) k i) = W (ix2 (n0 := 2048) (n1 := 11264) k j) := by
  obtain rfl : V m c main_v0 = W := (V_gu m c).trans hW
  blk_ext [iblk, idx0_4 t]

theorem blk_up (W : S2048x11264.Idx → EReal) (hW : m (c.tc.loc main_arg4) = W) (t : Fin cfg0.N) (k : Fin 2048) (i : Fin 512) (j : Fin 11264) (hj : j.val = 5632 + (512 * (t.val % 11) + i.val)) :
    (iblk m c 5 t : S2048x512.Idx → EReal) (ix2 (n0 := 2048) (n1 := 512) k i) = W (ix2 (n0 := 2048) (n1 := 11264) k j) := by
  obtain rfl : V m c main_v0 = W := (V_gu m c).trans hW
  blk_ext [iblk, idx0_5 t]

theorem blk_down (D : S5632x2048.Idx → EReal) (hD : m (c.tc.loc main_arg5) = D) (t : Fin cfg0.N) (i : Fin 512) (d : Fin 2048) (j : Fin 5632) (hj : j.val = 512 * (t.val % 11) + i.val) :
    (iblk m c 6 t : S512x2048.Idx → EReal) (ix2 (n0 := 512) (n1 := 2048) i d) = D (ix2 (n0 := 5632) (n1 := 2048) j d) := by
  obtain rfl : V m c main_v1 = D := (V_dn m c).trans hD
  blk_ext [iblk, idx0_6 t]

end Cert.Ffn1Ideal.Hand

end
-- ==== Proof.Ffn1Math.lean ====
/- The two results of the first feed-forward call, of one token. -/
module

public import proofs.«01_k».proof.Proof.FfnMath
public import Idealize.ShloMosaic.Lib.Pointwise

@[expose] public section

noncomputable section

namespace Cert.HalfStep
open Idealize.ShloMosaic

/-- Entry `d` of token `R` after the half step, with modulation row `q`: rows 0, 1 and 2 are its shift, scale and gate. -/
def stepOf (X : (⟨2, ![24576, 2048]⟩ : Shape).Idx → EReal) (M : (⟨3, ![16, 9, 2048]⟩ : Shape).Idx → EReal) (g : (⟨2, ![1, 2048]⟩ : Shape).Idx → EReal) (W : (⟨2, ![2048, 11264]⟩ : Shape).Idx → EReal)
    (D : (⟨2, ![5632, 2048]⟩ : Shape).Idx → EReal) (R : Fin 24576) (q : Fin 16) (d : Fin 2048) : EReal :=
  step (fun k => X (ix2 (n0 := 24576) (n1 := 2048) R k)) (fun p k => M (ix3 (n0 := 16) (n1 := 9) (n2 := 2048) q (p + 3) k))
    (fun k => g (ix2 (n0 := 1) (n1 := 2048) 0 k)) (fun k j => W (ix2 (n0 := 2048) (n1 := 11264) k j)) (fun j e => D (ix2 (n0 := 5632) (n1 := 2048) j e)) d

/-- The normed token that enters the half step. -/
def hidOf (X : (⟨2, ![24576, 2048]⟩ : Shape).Idx → EReal) (M : (⟨3, ![16, 9, 2048]⟩ : Shape).Idx → EReal) (g : (⟨2, ![1, 2048]⟩ : Shape).Idx → EReal) (R : Fin 24576) (q : Fin 16) : Fin 2048 → EReal :=
  hid (fun k => X (ix2 (n0 := 24576) (n1 := 2048) R k)) (fun p k => M (ix3 (n0 := 16) (n1 := 9) (n2 := 2048) q (p + 3) k)) (fun k => g (ix2 (n0 := 1) (n1 := 2048) 0 k))

/-- The norm, for the next part of the layer, of the token the half step leaves: rows 3 and 4 are the shift and the scale. -/
def nextOf (X : (⟨2, ![24576, 2048]⟩ : Shape).Idx → EReal) (M : (⟨3, ![16, 9, 2048]⟩ : Shape).Idx → EReal) (g gn : (⟨2, ![1, 2048]⟩ : Shape).Idx → EReal) (W : (⟨2, ![2048, 11264]⟩ : Shape).Idx → EReal)
    (D : (⟨2, ![5632, 2048]⟩ : Shape).Idx → EReal) (R : Fin 24576) (q : Fin 16) : Fin 2048 → EReal :=
  hid (stepOf X M g W D R q) (fun p k => M (ix3 (n0 := 16) (n1 := 9) (n2 := 2048) q (p + 6) k)) (fun k => gn (ix2 (n0 := 1) (n1 := 2048) 0 k))

end Cert.HalfStep

end
-- ==== Proof.Ffn1Sum.lean ====
/- The two results of the first feed-forward call, entry by entry. -/
module

public import proofs.«01_k».proof.Proof.Ffn1Block
public import proofs.«01_k».proof.Proof.FfnSum
public import proofs.«01_k».proof.Proof.Ffn1Math

@[expose] public section

set_option maxRecDepth 16384

noncomputable section

namespace Cert.Ffn1Ideal.Hand
open Cert.Ffn1Ideal Cert.Ffn1Ideal.Gen Idealize.ShloMosaic Idealize.ShloMosaic.TcCoe Idealize.ShloMosaic.Tactic
open Cert.HalfStep
open Cert.FfnIdeal.Hand (share share_val col inner)

variable (m : (ℓ : Loc nD τ sig) → Buf (Elt Ideal) ℓ) (c : Dev nD)

/-- A token's row, from its point. -/
theorem pt_row (R : Fin 24576) (d : Fin 2048) : R.val = 512 * ((pt (ix2 (n0 := 24576) (n1 := 2048) R d)).val / 11) + R.val % 512 := by
  have : (pt (ix2 (n0 := 24576) (n1 := 2048) R d)).val = 11 * (R.val / 512) + 10 := rfl
  omega

section rows
variable (X : S24576x2048.Idx → EReal) (hX : m (c.tc.loc main_arg0) = X) (M : S16x9x2048.Idx → EReal) (hM : m (c.tc.loc main_arg1) = M)
  (g : S1x2048.Idx → EReal) (hg : m (c.tc.loc main_arg2) = g)
include hX hM hg

/-- The first point of a block keeps the block's normed tokens. -/
theorem keep_first (t : Fin cfg0.N) (h0 : t.val % 11 = 0) (r : Fin 512) (k : Fin 2048) (R : Fin 24576) (q : Fin 16) (hq : q.val = modRow R.val)
    (hR : R.val = 512 * (t.val / 11) + r.val) :
    ((outsAt0 m c t.val t.isLt).2.2 : S512x2048.Idx → EReal) (ix2 (n0 := 512) (n1 := 2048) r k) = hidOf X M g R q k := by
  refine (keep_A m c t h0 (by omega) _ rfl _ rfl _ rfl r k).trans ?_
  unfold hidOf
  congr 1
  · funext k; exact blk_x m c X hX t r k R hR
  · funext p k; exact blk_rows m c M hM t r 3 p k q (hq.trans (congrArg modRow hR))
  · funext k; exact blk_g m c g hg t k

/-- Every later point of the block still holds them. -/
theorem keep_at (r : Fin 512) (k : Fin 2048) (R : Fin 24576) (q : Fin 16) (hq : q.val = modRow R.val) (n : ℕ) (hn : n < cfg0.N)
    (hR : R.val = 512 * (n / 11) + r.val) :
    ((outsAt0 m c n hn).2.2 : S512x2048.Idx → EReal) (ix2 (n0 := 512) (n1 := 2048) r k) = hidOf X M g R q k := by
  by_cases h0 : n % 11 = 0
  · exact keep_first m c X hX M hM g hg ⟨n, hn⟩ h0 r k R q hq hR
  · have e : (outsAt0 m c n hn).2.2 = (outsAt0 m c (n - 1) (by omega)).2.2 := by
      by_cases h1 : n % 11 = 10
      · exact keep_C m c ⟨n, hn⟩ h0 h1
      · exact keep_B m c ⟨n, hn⟩ h0 h1
    rw [e]
    exact keep_at r k R q hq (n - 1) (by omega) (by omega)
termination_by n
decreasing_by omega

end rows

section sums
variable (W : S2048x11264.Idx → EReal) (hW : m (c.tc.loc main_arg4) = W) (D : S5632x2048.Idx → EReal) (hD : m (c.tc.loc main_arg5) = D)
include hW hD

/-- What a point adds to the sum, from the inner units before its tile to those before the next. -/
theorem share_at (t : Fin cfg0.N) (h : FVec Ideal S512x2048 .bf16) (acc : FVec Ideal S512x2048 .f32) (r : Fin 512) (d : Fin 2048) (H : Fin 2048 → EReal)
    (hh : ∀ k, (h (ix2 (n0 := 512) (n1 := 2048) r k) : EReal) = H k) (n : ℕ) (hn : n = t.val % 11)
    (ha : (acc (ix2 (n0 := 512) (n1 := 2048) r d) : EReal) = upto (inner H W D d) (512 * n)) :
    (share h (iblk m c 4 t) (iblk m c 5 t) (iblk m c 6 t) acc (ix2 (n0 := 512) (n1 := 2048) r d) : EReal) = upto (inner H W D d) (512 * (n + 1)) := by
  have hj : n < 11 := by omega
  have col_eq : ∀ (i : Fin 512) (j : Fin 5632), j.val = 512 * n + i.val → col h (iblk m c 4 t) (iblk m c 5 t) (iblk m c 6 t) r d i = inner H W D d j := by
    intro i j e
    rw [hn] at e
    unfold col Cert.FfnIdeal.Hand.inner unit
    rw [Finset.sum_congr rfl fun k _ => congrArg₂ (· * ·) (hh k) (blk_gate m c W hW t k i ⟨j.val, by omega⟩ e),
      Finset.sum_congr rfl fun k _ => congrArg₂ (· * ·) (hh k) (blk_up m c W hW t k i ⟨5632 + j.val, by omega⟩ (congrArg (5632 + ·) e)),
      blk_down m c D hD t i d j e]
  have e1 : (∑ i : Fin 256, col h (iblk m c 4 t) (iblk m c 5 t) (iblk m c 6 t) r d ⟨i.val, by omega⟩) =
      ∑ i : Fin 256, inner H W D d ⟨512 * n + i.val, by omega⟩ := Finset.sum_congr rfl fun i _ => col_eq _ _ rfl
  have e2 : (∑ i : Fin 256, col h (iblk m c 4 t) (iblk m c 5 t) (iblk m c 6 t) r d ⟨256 + i.val, by omega⟩) =
      ∑ i : Fin 256, inner H W D d ⟨512 * n + (256 + i.val), by omega⟩ := Finset.sum_congr rfl fun i _ => col_eq _ _ rfl
  rw [share_val, ha, e1, e2]
  exact upto_tile (inner H W D d) ⟨n, hj⟩

end sums

section result
variable (X : S24576x2048.Idx → EReal) (hX : m (c.tc.loc main_arg0) = X) (M : S16x9x2048.Idx → EReal) (hM : m (c.tc.loc main_arg1) = M)
  (g : S1x2048.Idx → EReal) (hg : m (c.tc.loc main_arg2) = g) (W : S2048x11264.Idx → EReal) (hW : m (c.tc.loc main_arg4) = W)
  (D : S5632x2048.Idx → EReal) (hD : m (c.tc.loc main_arg5) = D)
include hX hM hg hW hD

/-- Before the last tile the first output block holds the sum so far. -/
theorem sum_at (r : Fin 512) (d : Fin 2048) (R : Fin 24576) (q : Fin 16) (hq : q.val = modRow R.val) (n : ℕ) (hn : n < cfg0.N) (h1 : ¬n % 11 = 10)
    (hR : R.val = 512 * (n / 11) + r.val) :
    ((outsAt0 m c n hn).1 : S512x2048.Idx → EReal) (ix2 (n0 := 512) (n1 := 2048) r d) = upto (inner (hidOf X M g R q) W D d) (512 * (n % 11 + 1)) := by
  by_cases h0 : n % 11 = 0
  · rw [sum_A m c ⟨n, hn⟩ h0 h1]
    refine share_at m c W hW D hD ⟨n, hn⟩ _ _ r d _ (fun k => keep_at m c X hX M hM g hg r k R q hq n hn hR) (n % 11) rfl ?_
    rw [h0, Nat.mul_zero, upto_zero]
    pointwise [k0_pay75]
  · rw [sum_B m c ⟨n, hn⟩ h0 h1]
    refine share_at m c W hW D hD ⟨n, hn⟩ _ _ r d _ (fun k => keep_at m c X hX M hM g hg r k R q hq (n - 1) (by omega) (by omega)) (n % 11) rfl ?_
    refine (sum_at r d R q hq (n - 1) (by omega) (by omega) (by omega)).trans (congrArg (fun s => upto (inner (hidOf X M g R q) W D d) (512 * s)) ?_)
    omega
termination_by n
decreasing_by omega

/-- The closed residual at the last point of a block is the half step of its tokens. -/
theorem resid_at (r : Fin 512) (d : Fin 2048) (R : Fin 24576) (q : Fin 16) (hq : q.val = modRow R.val) (t : Fin cfg0.N) (h1 : t.val % 11 = 10)
    (hR : R.val = 512 * (t.val / 11) + r.val) :
    resid (iblk m c 0 t) (iblk m c 1 t) (total m c t) (ix2 (n0 := 512) (n1 := 2048) r d) = stepOf X M g W D R q d := by
  have hN := t.isLt
  have hs := share_at m c W hW D hD t (outsAt0 m c (t.val - 1) (by omega)).2.2 (outsAt0 m c (t.val - 1) (by omega)).1 r d (hidOf X M g R q)
    (fun k => keep_at m c X hX M hM g hg r k R q hq (t.val - 1) (by omega) (by omega)) 10 h1.symm
    ((sum_at m c X hX M hM g hg W hW D hD r d R q hq (t.val - 1) (by omega) (by omega) (by omega)).trans
      (congrArg (fun s => upto (inner (hidOf X M g R q) W D d) (512 * s)) (by omega)))
  rw [show 512 * (10 + 1) = 5632 from rfl, upto_all] at hs
  have hx := blk_x m c X hX t r d R hR
  have hm := blk_rows m c M hM t r 3 8 d q (hq.trans (congrArg modRow hR))
  exact congr (congrArg (fun a b : EReal => a + b) hx) (congr (congrArg (fun a b : EReal => Ideal.ofBits .f32 0x3F000000#32 * a * b) hm) hs)

/-- The first result. -/
theorem outX_at (R : Fin 24576) (d : Fin 2048) (q : Fin 16) (hq : q.val = modRow R.val) :
    outX m c (ix2 (n0 := 24576) (n1 := 2048) R d) = stepOf X M g W D R q d := by
  have ht := pt_mod (ix2 (n0 := 24576) (n1 := 2048) R d)
  have hs := congrFun (sum_C m c (pt (ix2 (n0 := 24576) (n1 := 2048) R d)) (by omega) ht) (ix2 (n0 := 512) (n1 := 2048) ⟨R.val % 512, Nat.mod_lt _ (by decide)⟩ d)
  exact hs.trans (resid_at m c X hX M hM g hg W hW D hD ⟨R.val % 512, Nat.mod_lt _ (by decide)⟩ d R q hq _ ht (pt_row R d))

/-- The second result. -/
theorem outH_at (gn : S1x2048.Idx → EReal) (hn : m (c.tc.loc main_arg3) = gn) (R : Fin 24576) (d : Fin 2048) (q : Fin 16) (hq : q.val = modRow R.val) :
    outH m c (ix2 (n0 := 24576) (n1 := 2048) R d) = nextOf X M g gn W D R q d := by
  have ht := pt_mod (ix2 (n0 := 24576) (n1 := 2048) R d)
  have hR := pt_row R d
  refine (next_C m c (pt (ix2 (n0 := 24576) (n1 := 2048) R d)) (by omega) ht _ rfl _ rfl _ rfl ⟨R.val % 512, Nat.mod_lt _ (by decide)⟩ d).trans ?_
  unfold nextOf
  congr 1
  · funext k; exact resid_at m c X hX M hM g hg W hW D hD ⟨R.val % 512, Nat.mod_lt _ (by decide)⟩ k R q hq _ ht hR
  · funext p k; exact blk_rows m c M hM _ ⟨R.val % 512, Nat.mod_lt _ (by decide)⟩ 6 p k q (hq.trans (congrArg modRow hR))
  · funext k; exact blk_next m c gn hn _ k

end result

end Cert.Ffn1Ideal.Hand

end
-- ==== Proof.Ffn1Ref.lean ====
/- The reference of the first feed-forward call, entry by entry: the half step, and the norm of the whole row it leaves. -/
module

public import proofs.«01_k».proof.Proof.Gen.Ffn1ReferenceIdeal.Run
public import proofs.«01_k».proof.Proof.FfnRef
public import proofs.«01_k».proof.Proof.Ffn1Math

@[expose] public section

set_option maxRecDepth 16384

noncomputable section

namespace Cert.Ffn1ReferenceIdeal.Hand
open Idealize.ShloMosaic Idealize.ShloMosaic.TcCoe Idealize.ShloMosaic.Tactic
open Cert.Ffn1ReferenceIdeal Cert.Ffn1ReferenceIdeal.Gen Cert.Ffn1ReferenceIdeal.Value
open Cert.HalfStep
open Cert.FfnReferenceIdeal.Hand (cat_lo cat_hi)

section
variable (m : (ℓ : Loc nD τ sig) → Buf (Elt Ideal) ℓ) (c : Dev nD)
  (X : S24576x2048.Idx → EReal) (hX : m (c.tc.loc main_arg0) = X) (M : S16x9x2048.Idx → EReal) (hM : m (c.tc.loc main_arg1) = M)
  (g : S1x2048.Idx → EReal) (hg : m (c.tc.loc main_arg2) = g) (gn : S1x2048.Idx → EReal) (hn : m (c.tc.loc main_arg3) = gn)
  (W : S2048x11264.Idx → EReal) (hW : m (c.tc.loc main_arg4) = W) (D : S5632x2048.Idx → EReal) (hD : m (c.tc.loc main_arg5) = D)
include hX hM hg hW hD

set_option maxHeartbeats 4000000 in
theorem res_lo (R : Fin 24576) (r : Fin 8192) (hR : R.val = r.val) (d : Fin 2048) :
    (res_out0 m c : S24576x2048.Idx → EReal) (ix2 (n0 := 24576) (n1 := 2048) R d) = stepOf X M g W D R 0 d := by
  unfold res_out0 res_main_v140
  refine (cat_lo _ _ _ R r hR d).trans ?_
  simp only [hX, hM, hg, hW, hD]
  clear hX hM hg hW hD
  have hr := r.isLt
  have hb : r.val < 24576 := by clear hR; omega
  obtain rfl : R = ⟨r.val, hb⟩ := Fin.ext hR
  generalize hv : stepOf X M g W D _ _ d = v
  pointwise
  subst hv
  rfl

set_option maxHeartbeats 4000000 in
theorem res_hi (R : Fin 24576) (r : Fin 16384) (hR : R.val = 8192 + r.val) (d : Fin 2048) :
    (res_out0 m c : S24576x2048.Idx → EReal) (ix2 (n0 := 24576) (n1 := 2048) R d) = stepOf X M g W D R ⟨1 + r.val / 2048, by omega⟩ d := by
  unfold res_out0 res_main_v140
  refine (cat_hi _ _ _ R r hR d).trans ?_
  simp only [hX, hM, hg, hW, hD]
  clear hX hM hg hW hD
  have hr := r.isLt
  have hb : 8192 + r.val < 24576 := by clear hR; omega
  obtain rfl : R = ⟨8192 + r.val, hb⟩ := Fin.ext hR
  generalize hv : stepOf X M g W D _ _ d = v
  pointwise
  subst hv
  rfl

/-- The reference's first result. -/
theorem res_at (R : Fin 24576) (d : Fin 2048) :
    (res_out0 m c : S24576x2048.Idx → EReal) (ix2 (n0 := 24576) (n1 := 2048) R d) = stepOf X M g W D R ⟨modRow R.val, modRow_lt R⟩ d := by
  by_cases h : R.val < 8192
  · rw [res_lo m c X hX M hM g hg W hW D hD R ⟨R.val, h⟩ rfl d]
    exact congrArg (fun q => stepOf X M g W D R q d) (Fin.ext (if_pos h).symm)
  · rw [res_hi m c X hX M hM g hg W hW D hD R ⟨R.val - 8192, by omega⟩ (by dsimp only; omega) d]
    exact congrArg (fun q => stepOf X M g W D R q d) (Fin.ext (if_neg h).symm)

include hn

set_option maxHeartbeats 4000000 in
theorem next_lo (R : Fin 24576) (r : Fin 8192) (hR : R.val = r.val) (d : Fin 2048) :
    (res_out1 m c : S24576x2048.Idx → EReal) (ix2 (n0 := 24576) (n1 := 2048) R d) = nextOf X M g gn W D R 0 d := by
  unfold res_out1 res_main_v144
  refine (cat_lo _ _ concatenates_S8192x2048_S16384x2048_S24576x2048_d0 R r hR d).trans ?_
  simp only [hX, hM, hg, hn, hW, hD]
  clear hX hM hg hn hW hD
  have hr := r.isLt
  have hb : r.val < 24576 := by clear hR; omega
  obtain rfl : R = ⟨r.val, hb⟩ := Fin.ext hR
  generalize hv : nextOf X M g gn W D _ _ d = v
  pointwise
  subst hv
  rfl

set_option maxHeartbeats 4000000 in
theorem next_hi (R : Fin 24576) (r : Fin 16384) (hR : R.val = 8192 + r.val) (d : Fin 2048) :
    (res_out1 m c : S24576x2048.Idx → EReal) (ix2 (n0 := 24576) (n1 := 2048) R d) = nextOf X M g gn W D R ⟨1 + r.val / 2048, by omega⟩ d := by
  unfold res_out1 res_main_v144
  refine (cat_hi _ _ concatenates_S8192x2048_S16384x2048_S24576x2048_d0 R r hR d).trans ?_
  simp only [hX, hM, hg, hn, hW, hD]
  clear hX hM hg hn hW hD
  have hr := r.isLt
  have hb : 8192 + r.val < 24576 := by clear hR; omega
  obtain rfl : R = ⟨8192 + r.val, hb⟩ := Fin.ext hR
  generalize hv : nextOf X M g gn W D _ _ d = v
  pointwise
  subst hv
  rfl

/-- The reference's second result. -/
theorem next_at (R : Fin 24576) (d : Fin 2048) :
    (res_out1 m c : S24576x2048.Idx → EReal) (ix2 (n0 := 24576) (n1 := 2048) R d) = nextOf X M g gn W D R ⟨modRow R.val, modRow_lt R⟩ d := by
  by_cases h : R.val < 8192
  · rw [next_lo m c X hX M hM g hg gn hn W hW D hD R ⟨R.val, h⟩ rfl d]
    exact congrArg (fun q => nextOf X M g gn W D R q d) (Fin.ext (if_pos h).symm)
  · rw [next_hi m c X hX M hM g hg gn hn W hW D hD R ⟨R.val - 8192, by omega⟩ (by dsimp only; omega) d]
    exact congrArg (fun q => nextOf X M g gn W D R q d) (Fin.ext (if_neg h).symm)

end

end Cert.Ffn1ReferenceIdeal.Hand

end
-- ==== Proof.Ffn1Algebra.lean ====
/- The first feed-forward call and its reference leave the same two results, and the reference's run keeps its arguments. -/
module

public import proofs.«01_k».proof.Proof.Ffn1Sum
public import proofs.«01_k».proof.Proof.Ffn1Ref
public import Idealize.ShloMosaic.Lib.Quiescent
public import proofs.«01_k».proof.Defs

@[expose] public section

set_option maxRecDepth 16384

noncomputable section

namespace Cert.FirstHalfStep
open Idealize.ShloMosaic Idealize.ShloMosaic.TcCoe
open Cert.HalfStep (modRow modRow_lt)

/-- The reference's run leaves its arguments and every counter as they were. -/
theorem quiet : quiescent_Ffn1ReferenceIdeal (hFfn1ReferenceIdeal := Cert.Ffn1ReferenceIdeal.Gen.facts) := fun m g _ =>
  (θ_run _ _ _).mono (fun _ h => ⟨fun c => (h c).2.2, sem_eq_zero_of_no_sems rfl _⟩) (Cert.Ffn1ReferenceIdeal.Value.run (F := Ideal) m g)

/-- An index of the results, by its two coordinates. -/
theorem index_eq (i : (⟨2, ![24576, 2048]⟩ : Shape).Idx) : i = ix2 (n0 := 24576) (n1 := 2048) (i 0) (i 1) := by
  funext a
  match a with
  | ⟨0, _⟩ => rfl
  | ⟨1, _⟩ => rfl

section
variable (m : (ℓ : Loc Cert.Ffn1Ideal.nD Cert.Ffn1Ideal.τ Cert.Ffn1Ideal.sig) → Buf (Elt Ideal) ℓ)
  (m' : (ℓ : Loc Cert.Ffn1ReferenceIdeal.nD Cert.Ffn1ReferenceIdeal.τ Cert.Ffn1ReferenceIdeal.sig) → Buf (Elt Ideal) ℓ) (c : Dev Cert.Ffn1Ideal.nD)
  (X : (⟨2, ![24576, 2048]⟩ : Shape).Idx → EReal) (M : (⟨3, ![16, 9, 2048]⟩ : Shape).Idx → EReal) (g gn : (⟨2, ![1, 2048]⟩ : Shape).Idx → EReal)
  (W : (⟨2, ![2048, 11264]⟩ : Shape).Idx → EReal) (D : (⟨2, ![5632, 2048]⟩ : Shape).Idx → EReal)
  (h0 : m (c.tc.loc Cert.Ffn1Ideal.main_arg0) = X) (h1 : m (c.tc.loc Cert.Ffn1Ideal.main_arg1) = M) (h2 : m (c.tc.loc Cert.Ffn1Ideal.main_arg2) = g)
  (h3 : m (c.tc.loc Cert.Ffn1Ideal.main_arg3) = gn) (h4 : m (c.tc.loc Cert.Ffn1Ideal.main_arg4) = W) (h5 : m (c.tc.loc Cert.Ffn1Ideal.main_arg5) = D)
  (k0 : m' (c.tc.loc Cert.Ffn1ReferenceIdeal.main_arg0) = X) (k1 : m' (c.tc.loc Cert.Ffn1ReferenceIdeal.main_arg1) = M)
  (k2 : m' (c.tc.loc Cert.Ffn1ReferenceIdeal.main_arg2) = g) (k3 : m' (c.tc.loc Cert.Ffn1ReferenceIdeal.main_arg3) = gn)
  (k4 : m' (c.tc.loc Cert.Ffn1ReferenceIdeal.main_arg4) = W) (k5 : m' (c.tc.loc Cert.Ffn1ReferenceIdeal.main_arg5) = D)
include h0 h1 h2 h4 h5 k0 k1 k2 k4 k5

/-- The two first results are one array. -/
theorem first_eq : (Cert.Ffn1ReferenceIdeal.Value.res_main_v140 m' c : (⟨2, ![24576, 2048]⟩ : Shape).Idx → EReal) = Cert.Ffn1Ideal.Hand.outX m c := by
  funext i
  rw [index_eq i]
  exact (Cert.Ffn1ReferenceIdeal.Hand.res_at m' c X k0 M k1 g k2 W k4 D k5 (i 0) (i 1)).trans
    (Cert.Ffn1Ideal.Hand.outX_at m c X h0 M h1 g h2 W h4 D h5 (i 0) (i 1) ⟨modRow (i 0).val, modRow_lt (i 0)⟩ rfl).symm

include h3 k3

/-- The two second results are one array. -/
theorem second_eq : (Cert.Ffn1ReferenceIdeal.Value.res_main_v144 m' c : (⟨2, ![24576, 2048]⟩ : Shape).Idx → EReal) = Cert.Ffn1Ideal.Hand.outH m c := by
  funext i
  rw [index_eq i]
  exact (Cert.Ffn1ReferenceIdeal.Hand.next_at m' c X k0 M k1 g k2 gn k3 W k4 D k5 (i 0) (i 1)).trans
    (Cert.Ffn1Ideal.Hand.outH_at m c X h0 M h1 g h2 W h4 D h5 gn h3 (i 0) (i 1) ⟨modRow (i 0).val, modRow_lt (i 0)⟩ rfl).symm

end

/-- The claim about the values. -/
theorem algebraic : algebraic_Ffn1Ideal_Ffn1ReferenceIdeal (hFfn1Ideal := Cert.Ffn1Ideal.Gen.facts) (hFfn1ReferenceIdeal := Cert.Ffn1ReferenceIdeal.Gen.facts) := by
  intro m g m' g' _ hargs
  refine ⟨_, _, Cert.Ffn1Ideal.Hand.run m g, (θ_run _ _ _).mono (fun r h c => ?_) (Cert.Ffn1ReferenceIdeal.Value.run (F := Ideal) m' g')⟩
  obtain ⟨a0, a1, a2, a3, a4, a5⟩ := hargs c
  obtain ⟨r0, r1, rest⟩ := h c
  exact ⟨r0.trans (first_eq m m' c _ _ _ _ _ rfl rfl rfl rfl rfl a0 a1 a2 a4 a5),
    r1.trans (second_eq m m' c _ _ _ _ _ _ rfl rfl rfl rfl rfl rfl a0 a1 a2 a3 a4 a5), rest⟩

end Cert.FirstHalfStep

end
-- ==== Proof.ProjMath.lean ====
/- One entry of a projection of the normed tokens, and the two spellings of the sigmoid. -/
module

public import proofs.«01_k».proof.Proof.KerReal
public import Idealize.ShloMosaic.Lib.Pipeline.ValueKit

@[expose] public section

noncomputable section

namespace Cert.Project
open Idealize.ShloMosaic

/-- Token `R` against column `n` of the weights. -/
def entry (h : (⟨2, ![24576, 2048]⟩ : Shape).Idx → EReal) (W : (⟨2, ![2048, 14848]⟩ : Shape).Idx → EReal) (R : Fin 24576) (n : Fin 14848) : EReal :=
  ∑ k : Fin 2048, h (ix2 (n0 := 24576) (n1 := 2048) R k) * W (ix2 (n0 := 2048) (n1 := 14848) k n)

/-- `sigmoid a`. -/
def sigm (a : EReal) : EReal := Ideal.div 1 (1 + Ideal.exp (-a))

/-- The sixteen-bit half. -/
theorem half_short : Ideal.ofBits .bf16 0x3F00#16 = ((1 / 2 : ℝ) : EReal) := by
  simp [Ideal.ofBits, Ideal.ieee, -EReal.coe_mul]
  norm_num

/-- The kernel's sigmoid is a shifted hyperbolic tangent, at the infinities too. -/
theorem sigm_tanh (a : EReal) :
    Ideal.ofBits .bf16 0x3F00#16 * Ideal.tanh (Ideal.ofBits .bf16 0x3F00#16 * a) + Ideal.ofBits .bf16 0x3F00#16 = sigm a := by
  rw [half_short]
  unfold sigm
  induction a with
  | coe r =>
    rw [← EReal.coe_mul, Ideal.tanh_coe, ← EReal.coe_mul, ← EReal.coe_add, Cert.Hgrn.tanh_half, ← EReal.coe_neg, Ideal.exp_coe, Cert.Hgrn.recip _ (Real.exp_pos _)]
    rfl
  | top =>
    rw [EReal.coe_mul_top_of_pos (by norm_num), Ideal.tanh_top, mul_one, ← EReal.coe_add,
      EReal.neg_top, show Ideal.exp ⊥ = ((0 : ℝ) : EReal) from rfl, ← EReal.coe_one, ← EReal.coe_add, Ideal.div_coe (by norm_num)]
    norm_num
  | bot =>
    rw [EReal.coe_mul_bot_of_pos (by norm_num), Ideal.tanh_bot,
      EReal.neg_bot, show Ideal.exp ⊤ = (⊤ : EReal) from rfl, ← EReal.coe_one, EReal.coe_add_top, Ideal.div, if_neg (by simp), EReal.inv_top,
      mul_zero, ← EReal.coe_neg, ← EReal.coe_mul, ← EReal.coe_add]
    norm_num

end Cert.Project

end
-- ==== Proof.ProjRec.lean ====
/- The result of the projection for the recurrence, entry by entry: a token against a column of its slice of the weights. -/
module

public import proofs.«01_k».proof.Proof.Gen.RecIdeal.Value
public import proofs.«01_k».proof.Proof.ProjMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RecIdeal.Hand
open Cert.RecIdeal Cert.RecIdeal.Gen Idealize.ShloMosaic Idealize.ShloMosaic.TcCoe Idealize.ShloMosaic.Tactic
open Cert.Project

/-- What a grid point leaves is the product of its two blocks. -/
theorem out_val (x : Vec Ideal S2048x2048 .bf16) (w : Vec Ideal S2048x512 .bf16) (r : Fin 2048) (n : Fin 512) :
    (out0_2 x w (ix2 (n0 := 2048) (n1 := 512) r n) : EReal) =
      ∑ k : Fin 2048, (x (ix2 (n0 := 2048) (n1 := 2048) r k) : EReal) * w (ix2 (n0 := 2048) (n1 := 512) k n) := by
  unfold out0_2
  refine (congrFun (View.canon_cons_unit_zero (S := S2048x512) (by decide) _ _ []) _).trans ?_
  unfold k0_pay1
  pointwise

variable (m : (ℓ : Loc nD τ sig) → Buf (Elt Ideal) ℓ) (c : Dev nD)

theorem idx0_0 : ∀ t : Fin cfg0.N, win0_0.index t = ![t.val / 8, 0] := (by decide +kernel : ∀ t : Fin grid0.N, _)
theorem idx0_1 : ∀ t : Fin cfg0.N, win0_1.index t = ![0, t.val % 8] := (by decide +kernel : ∀ t : Fin grid0.N, _)
theorem idx0_2 : ∀ t : Fin cfg0.N, win0_2.index t = ![t.val / 8, t.val % 8] := (by decide +kernel : ∀ t : Fin grid0.N, _)
theorem flush2 : ∀ t : Fin cfg0.N, win0_2.flush t = true := (by decide +kernel : ∀ t : Fin grid0.N, _)

theorem blk_h (h : S24576x2048.Idx → EReal) (hh : m (c.tc.loc main_arg0) = h) (t : Fin cfg0.N) (r : Fin 2048) (k : Fin 2048) (R : Fin 24576) (hR : R.val = 2048 * (t.val / 8) + r.val) :
    (iblk m c 0 t : S2048x2048.Idx → EReal) (ix2 (n0 := 2048) (n1 := 2048) r k) = h (ix2 (n0 := 24576) (n1 := 2048) R k) := by
  subst hh
  blk_ext [iblk, V_main_arg0, idx0_0 t]

/-- The slice of the weights the call reads, rounded there, which leaves a real as it is. -/
theorem V_w (k : Fin 2048) (n : Fin 4096) (j : Fin 14848) (hj : j.val = 2560 + n.val) :
    (V m c main_v1 : S2048x4096.Idx → EReal) (ix2 (n0 := 2048) (n1 := 4096) k n) = (m (c.tc.loc main_arg1) : S2048x14848.Idx → EReal) (ix2 (n0 := 2048) (n1 := 14848) k j) := by
  have hb : 2560 + n.val < 14848 := by
    clear hj
    omega
  obtain rfl : j = ⟨2560 + n.val, hb⟩ := Fin.ext hj
  show (truncf (F := Ideal) .bf16 (extractStridedSlice S2048x4096 ![0, 2560] (m (c.tc.loc main_arg1)) slices_S2048x14848_S2048x4096_0_2560) bitsLt_bf16_f32) _ = _
  pointwise

theorem blk_w (t : Fin cfg0.N) (k : Fin 2048) (i : Fin 512) (n : Fin 4096) (hn : n.val = 512 * (t.val % 8) + i.val) :
    (iblk m c 1 t : S2048x512.Idx → EReal) (ix2 (n0 := 2048) (n1 := 512) k i) = (V m c main_v1 : S2048x4096.Idx → EReal) (ix2 (n0 := 2048) (n1 := 4096) k n) := by
  blk_ext [iblk, idx0_1 t]

/-- The point that writes an entry, and the entry's place in its block. -/
def pt (i : S24576x4096.Idx) : Fin cfg0.N :=
  ⟨8 * ((i 0).val / 2048) + (i 1).val / 512, lt_of_lt_of_eq (by have : (i 0).val < 24576 := (i 0).isLt; have : (i 1).val < 4096 := (i 1).isLt; omega) N_0.symm⟩

def loc (i : S24576x4096.Idx) : S2048x512.Idx :=
  ix2 (n0 := 2048) (n1 := 512) ⟨(i 0).val % 2048, Nat.mod_lt _ (by decide)⟩ ⟨(i 1).val % 512, Nat.mod_lt _ (by decide)⟩

/-- An entry of a block, placed in the array: its point and its place lead back. -/
theorem pt_loc (t : Fin cfg0.N) (i : S24576x4096.Idx) (y : S2048x512.Idx) (a b : ℕ) (ha : a = t.val / 8) (hb : b = t.val % 8)
    (h0 : (i 0).val = a * 2048 + 1 * (y 0).val) (h1 : (i 1).val = b * 512 + 1 * (y 1).val) : pt i = t ∧ loc i = y := by
  have y0 : (y 0).val < 2048 := (y 0).isLt
  have y1 : (y 1).val < 512 := (y 1).isLt
  refine ⟨Fin.ext ?_, ?_⟩
  · show 8 * ((i 0).val / 2048) + (i 1).val / 512 = t.val
    omega
  · funext a
    match a with
    | ⟨0, _⟩ => exact Fin.ext (show (i 0).val % 2048 = (y 0).val by omega)
    | ⟨1, _⟩ => exact Fin.ext (show (i 1).val % 512 = (y 1).val by omega)

/-- What point `t` leaves. -/
def left (t : Fin cfg0.N) : Vec Ideal S2048x512 .bf16 := out0_2 (F := Ideal) (iblk m c 0 t) (iblk m c 1 t)

/-- The call's result. -/
def out : S24576x4096.Idx → EReal := fun i => left m c (pt i) (loc i)

theorem after_left (t : Fin cfg0.N) : (dats m 0 c).after 2 t = left m c t := after0_2 m c t

/-- An entry lies in the block of its point. -/
theorem in_block (i : S24576x4096.Idx) (q : Fin 2 → ℕ) (hq : q = ![(pt i).val / 8, (pt i).val % 8]) (a : Fin 2) :
    q a * S2048x512.size a ≤ (i a).val ∧ (i a).val < q a * S2048x512.size a + S2048x512.size a := by
  subst hq
  have h0 : (i 0).val < 24576 := (i 0).isLt
  have h1 : (i 1).val < 4096 := (i 1).isLt
  have hp : (pt i).val = 8 * ((i 0).val / 2048) + (i 1).val / 512 := rfl
  match a with
  | ⟨0, _⟩ =>
    show (pt i).val / 8 * 2048 ≤ (i 0).val ∧ (i 0).val < (pt i).val / 8 * 2048 + 2048
    omega
  | ⟨1, _⟩ =>
    show (pt i).val % 8 * 512 ≤ (i 1).val ∧ (i 1).val < (pt i).val % 8 * 512 + 512
    omega

/-- Blocks that the points leave one each make up the array. -/
theorem arr_of (L : Fin cfg0.N → S2048x512.Idx → EReal) (hL : ∀ t, (dats m 0 c).after 2 t = L t) :
    (dats m 0 c).arrAt 2 cfg0.N = (fun i => L (pt i) (loc i) : S24576x4096.Idx → EReal) := by
  refine (dats m 0 c).arrAt_eq_of_cover 2 _ (fun t hf => ?_) fun i => ⟨pt i, flush2 _, ?_⟩
  · show (cfg0.win 2).cut (grid0.coords t) ((dats m 0 c).after 2 t) = _
    rw [hL]
    funext y
    obtain ⟨e, l⟩ := pt_loc t (((cfg0.win 2).blk t).view.emb y) ((cfg0.win 2).xinj (grid0.coords t) y)
      (win0_2.index t 0) (win0_2.index t 1) (congrFun (idx0_2 t) 0) (congrFun (idx0_2 t) 1) rfl rfl
    show L t ((cfg0.win 2).xinj (grid0.coords t) y) = L (pt (((cfg0.win 2).blk t).view.emb y)) (loc (((cfg0.win 2).blk t).view.emb y))
    rw [e, l]
  · show i ∈ ((View.whole main_v2).slice (win0_2.rect (pt i))).set
    rw [View.set_slice_whole, Rect.mem_set_unit]
    exact in_block i _ (idx0_2 _)

theorem out_eq : (dats m 0 c).arrAt 2 cfg0.N = out m c := arr_of m c (left m c) (after_left m c)

/-- An entry of the result, from the call's arguments. -/
theorem out_at (h : S24576x2048.Idx → EReal) (hh : m (c.tc.loc main_arg0) = h) (W : S2048x14848.Idx → EReal) (hW : m (c.tc.loc main_arg1) = W)
    (R : Fin 24576) (n : Fin 4096) (j : Fin 14848) (hj : j.val = 2560 + n.val) :
    out m c (ix2 (n0 := 24576) (n1 := 4096) R n) = entry h W R j := by
  have hp : (pt (ix2 (n0 := 24576) (n1 := 4096) R n)).val = 8 * (R.val / 2048) + n.val / 512 := rfl
  unfold out left
  refine (out_val _ _ _ _).trans (Finset.sum_congr rfl fun k _ => ?_)
  rw [blk_h m c h hh _ _ k R (by dsimp only [ix2]; rw [hp]; show R.val = 2048 * _ + R.val % 2048; omega),
    blk_w m c _ k _ n (by rw [hp]; show n.val = 512 * _ + n.val % 512; omega), V_w m c k n j hj, hW]

end Cert.RecIdeal.Hand

end
-- ==== Proof.ProjGates.lean ====
/- The result of the projection for the gates, entry by entry: the sigmoid of a token against a column of its slice of the weights. -/
module

public import proofs.«01_k».proof.Proof.Gen.GatesIdeal.Value
public import proofs.«01_k».proof.Proof.ProjMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GatesIdeal.Hand
open Cert.GatesIdeal Cert.GatesIdeal.Gen Idealize.ShloMosaic Idealize.ShloMosaic.TcCoe Idealize.ShloMosaic.Tactic
open Cert.Project

/-- What a grid point leaves is the sigmoid of the product of its two blocks. -/
theorem out_val (x : Vec Ideal S2048x2048 .bf16) (w : Vec Ideal S2048x512 .bf16) (r : Fin 2048) (n : Fin 512) :
    (out0_2 x w (ix2 (n0 := 2048) (n1 := 512) r n) : EReal) =
      sigm (∑ k : Fin 2048, (x (ix2 (n0 := 2048) (n1 := 2048) r k) : EReal) * w (ix2 (n0 := 2048) (n1 := 512) k n)) := by
  unfold out0_2
  refine (congrFun (View.canon_cons_unit_zero (S := S2048x512) (by decide) _ _ []) _).trans ?_
  unfold k0_pay1
  pointwise
  exact sigm_tanh _

variable (m : (ℓ : Loc nD τ sig) → Buf (Elt Ideal) ℓ) (c : Dev nD)

theorem idx0_0 : ∀ t : Fin cfg0.N, win0_0.index t = ![t.val / 16, 0] := (by decide +kernel : ∀ t : Fin grid0.N, _)
theorem idx0_1 : ∀ t : Fin cfg0.N, win0_1.index t = ![0, t.val % 16] := (by decide +kernel : ∀ t : Fin grid0.N, _)
theorem idx0_2 : ∀ t : Fin cfg0.N, win0_2.index t = ![t.val / 16, t.val % 16] := (by decide +kernel : ∀ t : Fin grid0.N, _)
theorem flush2 : ∀ t : Fin cfg0.N, win0_2.flush t = true := (by decide +kernel : ∀ t : Fin grid0.N, _)

theorem blk_h (h : S24576x2048.Idx → EReal) (hh : m (c.tc.loc main_arg0) = h) (t : Fin cfg0.N) (r : Fin 2048) (k : Fin 2048) (R : Fin 24576) (hR : R.val = 2048 * (t.val / 16) + r.val) :
    (iblk m c 0 t : S2048x2048.Idx → EReal) (ix2 (n0 := 2048) (n1 := 2048) r k) = h (ix2 (n0 := 24576) (n1 := 2048) R k) := by
  subst hh
  blk_ext [iblk, V_main_arg0, idx0_0 t]

/-- The slice of the weights the call reads, rounded there, which leaves a real as it is. -/
theorem V_w (k : Fin 2048) (n : Fin 8192) (j : Fin 14848) (hj : j.val = 6656 + n.val) :
    (V m c main_v1 : S2048x8192.Idx → EReal) (ix2 (n0 := 2048) (n1 := 8192) k n) = (m (c.tc.loc main_arg1) : S2048x14848.Idx → EReal) (ix2 (n0 := 2048) (n1 := 14848) k j) := by
  have hb : 6656 + n.val < 14848 := by
    clear hj
    omega
  obtain rfl : j = ⟨6656 + n.val, hb⟩ := Fin.ext hj
  show (truncf (F := Ideal) .bf16 (extractStridedSlice S2048x8192 ![0, 6656] (m (c.tc.loc main_arg1)) slices_S2048x14848_S2048x8192_0_6656) bitsLt_bf16_f32) _ = _
  pointwise

theorem blk_w (t : Fin cfg0.N) (k : Fin 2048) (i : Fin 512) (n : Fin 8192) (hn : n.val = 512 * (t.val % 16) + i.val) :
    (iblk m c 1 t : S2048x512.Idx → EReal) (ix2 (n0 := 2048) (n1 := 512) k i) = (V m c main_v1 : S2048x8192.Idx → EReal) (ix2 (n0 := 2048) (n1 := 8192) k n) := by
  blk_ext [iblk, idx0_1 t]

/-- The point that writes an entry, and the entry's place in its block. -/
def pt (i : S24576x8192.Idx) : Fin cfg0.N :=
  ⟨16 * ((i 0).val / 2048) + (i 1).val / 512, lt_of_lt_of_eq (by have : (i 0).val < 24576 := (i 0).isLt; have : (i 1).val < 8192 := (i 1).isLt; omega) N_0.symm⟩

def loc (i : S24576x8192.Idx) : S2048x512.Idx :=
  ix2 (n0 := 2048) (n1 := 512) ⟨(i 0).val % 2048, Nat.mod_lt _ (by decide)⟩ ⟨(i 1).val % 512, Nat.mod_lt _ (by decide)⟩

/-- An entry of a block, placed in the array: its point and its place lead back. -/
theorem pt_loc (t : Fin cfg0.N) (i : S24576x8192.Idx) (y : S2048x512.Idx) (a b : ℕ) (ha : a = t.val / 16) (hb : b = t.val % 16)
    (h0 : (i 0).val = a * 2048 + 1 * (y 0).val) (h1 : (i 1).val = b * 512 + 1 * (y 1).val) : pt i = t ∧ loc i = y := by
  have y0 : (y 0).val < 2048 := (y 0).isLt
  have y1 : (y 1).val < 512 := (y 1).isLt
  refine ⟨Fin.ext ?_, ?_⟩
  · show 16 * ((i 0).val / 2048) + (i 1).val / 512 = t.val
    omega
  · funext a
    match a with
    | ⟨0, _⟩ => exact Fin.ext (show (i 0).val % 2048 = (y 0).val by omega)
    | ⟨1, _⟩ => exact Fin.ext (show (i 1).val % 512 = (y 1).val by omega)

/-- What point `t` leaves. -/
def left (t : Fin cfg0.N) : Vec Ideal S2048x512 .bf16 := out0_2 (F := Ideal) (iblk m c 0 t) (iblk m c 1 t)

/-- The call's result. -/
def out : S24576x8192.Idx → EReal := fun i => left m c (pt i) (loc i)

theorem after_left (t : Fin cfg0.N) : (dats m 0 c).after 2 t = left m c t := after0_2 m c t

/-- An entry lies in the block of its point. -/
theorem in_block (i : S24576x8192.Idx) (q : Fin 2 → ℕ) (hq : q = ![(pt i).val / 16, (pt i).val % 16]) (a : Fin 2) :
    q a * S2048x512.size a ≤ (i a).val ∧ (i a).val < q a * S2048x512.size a + S2048x512.size a := by
  subst hq
  have h0 : (i 0).val < 24576 := (i 0).isLt
  have h1 : (i 1).val < 8192 := (i 1).isLt
  have hp : (pt i).val = 16 * ((i 0).val / 2048) + (i 1).val / 512 := rfl
  match a with
  | ⟨0, _⟩ =>
    show (pt i).val / 16 * 2048 ≤ (i 0).val ∧ (i 0).val < (pt i).val / 16 * 2048 + 2048
    omega
  | ⟨1, _⟩ =>
    show (pt i).val % 16 * 512 ≤ (i 1).val ∧ (i 1).val < (pt i).val % 16 * 512 + 512
    omega

/-- Blocks that the points leave one each make up the array. -/
theorem arr_of (L : Fin cfg0.N → S2048x512.Idx → EReal) (hL : ∀ t, (dats m 0 c).after 2 t = L t) :
    (dats m 0 c).arrAt 2 cfg0.N = (fun i => L (pt i) (loc i) : S24576x8192.Idx → EReal) := by
  refine (dats m 0 c).arrAt_eq_of_cover 2 _ (fun t hf => ?_) fun i => ⟨pt i, flush2 _, ?_⟩
  · show (cfg0.win 2).cut (grid0.coords t) ((dats m 0 c).after 2 t) = _
    rw [hL]
    funext y
    obtain ⟨e, l⟩ := pt_loc t (((cfg0.win 2).blk t).view.emb y) ((cfg0.win 2).xinj (grid0.coords t) y)
      (win0_2.index t 0) (win0_2.index t 1) (congrFun (idx0_2 t) 0) (congrFun (idx0_2 t) 1) rfl rfl
    show L t ((cfg0.win 2).xinj (grid0.coords t) y) = L (pt (((cfg0.win 2).blk t).view.emb y)) (loc (((cfg0.win 2).blk t).view.emb y))
    rw [e, l]
  · show i ∈ ((View.whole main_v2).slice (win0_2.rect (pt i))).set
    rw [View.set_slice_whole, Rect.mem_set_unit]
    exact in_block i _ (idx0_2 _)

theorem out_eq : (dats m 0 c).arrAt 2 cfg0.N = out m c := arr_of m c (left m c) (after_left m c)

/-- An entry of the result, from the call's arguments. -/
theorem out_at (h : S24576x2048.Idx → EReal) (hh : m (c.tc.loc main_arg0) = h) (W : S2048x14848.Idx → EReal) (hW : m (c.tc.loc main_arg1) = W)
    (R : Fin 24576) (n : Fin 8192) (j : Fin 14848) (hj : j.val = 6656 + n.val) :
    out m c (ix2 (n0 := 24576) (n1 := 8192) R n) = sigm (entry h W R j) := by
  have hp : (pt (ix2 (n0 := 24576) (n1 := 8192) R n)).val = 16 * (R.val / 2048) + n.val / 512 := rfl
  unfold out left
  refine (out_val _ _ _ _).trans (congrArg sigm (Finset.sum_congr rfl fun k _ => ?_))
  rw [blk_h m c h hh _ _ k R (by dsimp only [ix2]; rw [hp]; show R.val = 2048 * _ + R.val % 2048; omega),
    blk_w m c _ k _ n (by rw [hp]; show n.val = 512 * _ + n.val % 512; omega), V_w m c k n j hj, hW]

end Cert.GatesIdeal.Hand

end
-- ==== Proof.ProjRef.lean ====
/- The references of the two projections, entry by entry. -/
module

public import proofs.«01_k».proof.Proof.Gen.RecReferenceIdeal.Run
public import proofs.«01_k».proof.Proof.Gen.GatesReferenceIdeal.Run
public import proofs.«01_k».proof.Proof.ProjMath
public import Idealize.ShloMosaic.Lib.Pointwise

@[expose] public section

set_option maxRecDepth 16384

noncomputable section

open Idealize.ShloMosaic Idealize.ShloMosaic.TcCoe Idealize.ShloMosaic.Tactic
open Cert.Project

namespace Cert.RecReferenceIdeal.Hand
open Cert.RecReferenceIdeal Cert.RecReferenceIdeal.Gen

/-- The reference's result, of its two arguments. -/
def res (h : FVec Ideal S24576x2048 .bf16) (W : FVec Ideal S2048x14848 .f32) : FVec Ideal S24576x4096 .bf16 :=
  truncf .bf16 (concatenate S24576x4096 1
    [⟨S24576x1536, extractStridedSlice S24576x1536 ![0, 2560] (Host.dotGeneral dot_S24576x2048_S2048x14848_S24576x14848_1_0_0_1_n_n none (extf .f32 h bitsLt_bf16_f32) W) slices_S24576x14848_S24576x1536_0_2560⟩,
      ⟨S24576x2560, extractStridedSlice S24576x2560 ![0, 4096] (Host.dotGeneral dot_S24576x2048_S2048x14848_S24576x14848_1_0_0_1_n_n none (extf .f32 h bitsLt_bf16_f32) W) slices_S24576x14848_S24576x2560_0_4096⟩]
    concatenates_S24576x1536_S24576x2560_S24576x4096_d1) bitsLt_bf16_f32

theorem cat_left (a : FVec Ideal S24576x1536 .f32) (b : FVec Ideal S24576x2560 .f32) (h) (R : Fin 24576) (n : Fin 4096) (r : Fin 1536) (hn : n.val = r.val) :
    (concatenate S24576x4096 1 [⟨S24576x1536, a⟩, ⟨S24576x2560, b⟩] h (ix2 (n0 := 24576) (n1 := 4096) R n) : EReal) = a (ix2 (n0 := 24576) (n1 := 1536) R r) := by
  pointwise
  have := r.isLt
  simp only [hn, this]
  rfl

theorem cat_right (a : FVec Ideal S24576x1536 .f32) (b : FVec Ideal S24576x2560 .f32) (h) (R : Fin 24576) (n : Fin 4096) (r : Fin 2560) (hn : n.val = 1536 + r.val) :
    (concatenate S24576x4096 1 [⟨S24576x1536, a⟩, ⟨S24576x2560, b⟩] h (ix2 (n0 := 24576) (n1 := 4096) R n) : EReal) = b (ix2 (n0 := 24576) (n1 := 2560) R r) := by
  pointwise
  simp [hn]

theorem res_at (h : FVec Ideal S24576x2048 .bf16) (W : FVec Ideal S2048x14848 .f32) (R : Fin 24576) (n : Fin 4096) (hb : 2560 + n.val < 14848) :
    (res h W (ix2 (n0 := 24576) (n1 := 4096) R n) : EReal) = entry h W R ⟨2560 + n.val, hb⟩ := by
  unfold res
  by_cases hn : n.val < 1536
  · refine (cat_left _ _ concatenates_S24576x1536_S24576x2560_S24576x4096_d1 R n ⟨n.val, hn⟩ rfl).trans ?_
    generalize hv : entry h W R _ = v
    pointwise
    subst hv
    rfl
  · have hr : n.val - 1536 < 2560 := by omega
    refine (cat_right _ _ concatenates_S24576x1536_S24576x2560_S24576x4096_d1 R n ⟨n.val - 1536, hr⟩ (by dsimp only; omega)).trans ?_
    rw [show (⟨2560 + n.val, hb⟩ : Fin 14848) = ⟨4096 + (n.val - 1536), by omega⟩ from Fin.ext (by dsimp only; omega)]
    generalize hv : entry h W R _ = v
    pointwise
    subst hv
    rfl

end Cert.RecReferenceIdeal.Hand

namespace Cert.GatesReferenceIdeal.Hand
open Cert.GatesReferenceIdeal Cert.GatesReferenceIdeal.Gen

/-- The reference's result, of its two arguments. -/
def res (h : FVec Ideal S24576x2048 .bf16) (W : FVec Ideal S2048x14848 .f32) : FVec Ideal S24576x8192 .bf16 :=
  truncf .bf16 (Host.divf (broadcastInDim S24576x8192 ![] bcast_S_S24576x8192 (constant S_ .f32 0x3F800000#32))
    (addf (broadcastInDim S24576x8192 ![] bcast_S_S24576x8192 (constant S_ .f32 0x3F800000#32))
      (Host.exp (Host.negf (extractStridedSlice S24576x8192 ![0, 6656] (Host.dotGeneral dot_S24576x2048_S2048x14848_S24576x14848_1_0_0_1_n_n none (extf .f32 h bitsLt_bf16_f32) W)
        slices_S24576x14848_S24576x8192_0_6656))))) bitsLt_bf16_f32

theorem res_at (h : FVec Ideal S24576x2048 .bf16) (W : FVec Ideal S2048x14848 .f32) (R : Fin 24576) (n : Fin 8192) (hb : 6656 + n.val < 14848) :
    (res h W (ix2 (n0 := 24576) (n1 := 8192) R n) : EReal) = sigm (entry h W R ⟨6656 + n.val, hb⟩) := by
  unfold res
  generalize hv : sigm (entry h W R _) = v
  pointwise
  subst hv
  rfl

end Cert.GatesReferenceIdeal.Hand

end
-- ==== Proof.ProjAlgebra.lean ====
/- The two projections and their references leave the same results, and the references' runs keep their arguments. -/
module

public import proofs.«01_k».proof.Proof.ProjRec
public import proofs.«01_k».proof.Proof.ProjGates
public import proofs.«01_k».proof.Proof.ProjRef
public import Idealize.ShloMosaic.Lib.Quiescent
public import proofs.«01_k».proof.Defs

@[expose] public section

set_option maxRecDepth 16384

noncomputable section

namespace Cert.Project
open Idealize.ShloMosaic Idealize.ShloMosaic.TcCoe

/-- An index of a result, by its two coordinates. -/
theorem index_eq {n : ℕ} (i : (⟨2, ![24576, n]⟩ : Shape).Idx) : i = ix2 (n0 := 24576) (n1 := n) (i 0) (i 1) := by
  funext a
  match a with
  | ⟨0, _⟩ => rfl
  | ⟨1, _⟩ => rfl

/-- The references' runs leave their arguments and every counter as they were. -/
theorem quiet_rec : quiescent_RecReferenceIdeal (hRecReferenceIdeal := Cert.RecReferenceIdeal.Gen.facts) := fun m g _ =>
  (θ_run _ _ _).mono (fun _ h => ⟨fun c => (h c).2, sem_eq_zero_of_no_sems rfl _⟩) (Cert.RecReferenceIdeal.Value.run (F := Ideal) m g)

theorem quiet_gates : quiescent_GatesReferenceIdeal (hGatesReferenceIdeal := Cert.GatesReferenceIdeal.Gen.facts) := fun m g _ =>
  (θ_run _ _ _).mono (fun _ h => ⟨fun c => (h c).2, sem_eq_zero_of_no_sems rfl _⟩) (Cert.GatesReferenceIdeal.Value.run (F := Ideal) m g)

variable (c : Dev Cert.RecIdeal.nD) (h : (⟨2, ![24576, 2048]⟩ : Shape).Idx → EReal) (W : (⟨2, ![2048, 14848]⟩ : Shape).Idx → EReal)

theorem rec_eq (m : (ℓ : Loc Cert.RecIdeal.nD Cert.RecIdeal.τ Cert.RecIdeal.sig) → Buf (Elt Ideal) ℓ)
    (h0 : m (c.tc.loc Cert.RecIdeal.main_arg0) = h) (h1 : m (c.tc.loc Cert.RecIdeal.main_arg1) = W) :
    (Cert.RecReferenceIdeal.Hand.res h W : (⟨2, ![24576, 4096]⟩ : Shape).Idx → EReal) = Cert.RecIdeal.Hand.out m c := by
  funext i
  rw [index_eq i]
  have hb : 2560 + (i 1).val < 14848 := by
    have : (i 1).val < 4096 := (i 1).isLt
    omega
  exact (Cert.RecReferenceIdeal.Hand.res_at h W (i 0) (i 1) hb).trans (Cert.RecIdeal.Hand.out_at m c h h0 W h1 (i 0) (i 1) ⟨2560 + (i 1).val, hb⟩ rfl).symm

theorem gates_eq (m : (ℓ : Loc Cert.GatesIdeal.nD Cert.GatesIdeal.τ Cert.GatesIdeal.sig) → Buf (Elt Ideal) ℓ)
    (h0 : m (c.tc.loc Cert.GatesIdeal.main_arg0) = h) (h1 : m (c.tc.loc Cert.GatesIdeal.main_arg1) = W) :
    (Cert.GatesReferenceIdeal.Hand.res h W : (⟨2, ![24576, 8192]⟩ : Shape).Idx → EReal) = Cert.GatesIdeal.Hand.out m c := by
  funext i
  rw [index_eq i]
  have hb : 6656 + (i 1).val < 14848 := by
    have : (i 1).val < 8192 := (i 1).isLt
    omega
  exact (Cert.GatesReferenceIdeal.Hand.res_at h W (i 0) (i 1) hb).trans (Cert.GatesIdeal.Hand.out_at m c h h0 W h1 (i 0) (i 1) ⟨6656 + (i 1).val, hb⟩ rfl).symm

/-- The claims about the values. -/
theorem algebraic_rec : algebraic_RecIdeal_RecReferenceIdeal (hRecIdeal := Cert.RecIdeal.Gen.facts) (hRecReferenceIdeal := Cert.RecReferenceIdeal.Gen.facts) := by
  intro m g m' g' _ hargs
  refine ⟨Cert.RecIdeal.Hand.out m, (θ_run _ _ _).mono (fun r h c => ⟨(h c).1.trans (Cert.RecIdeal.Hand.out_eq m c), (h c).2⟩) (Cert.RecIdeal.Value.run_blocks (F := Ideal) m g),
    (θ_run _ _ _).mono (fun r h c => ⟨(h c).1.trans ?_, (h c).2⟩) (Cert.RecReferenceIdeal.Value.run (F := Ideal) m' g')⟩
  obtain ⟨a0, a1⟩ := hargs c
  rw [a0, a1]
  exact rec_eq c _ _ m rfl rfl

theorem algebraic_gates : algebraic_GatesIdeal_GatesReferenceIdeal (hGatesIdeal := Cert.GatesIdeal.Gen.facts) (hGatesReferenceIdeal := Cert.GatesReferenceIdeal.Gen.facts) := by
  intro m g m' g' _ hargs
  refine ⟨Cert.GatesIdeal.Hand.out m, (θ_run _ _ _).mono (fun r h c => ⟨(h c).1.trans (Cert.GatesIdeal.Hand.out_eq m c), (h c).2⟩) (Cert.GatesIdeal.Value.run_blocks (F := Ideal) m g),
    (θ_run _ _ _).mono (fun r h c => ⟨(h c).1.trans ?_, (h c).2⟩) (Cert.GatesReferenceIdeal.Value.run (F := Ideal) m' g')⟩
  obtain ⟨a0, a1⟩ := hargs c
  rw [a0, a1]
  exact gates_eq c _ _ m rfl rfl

end Cert.Project

end
-- ==== Proof.NormRun.lean ====
/- The final norm's run. The call has one result for the first tokens and one for the rest: at the points of the first, the
   buffer of the second is passed by, and the other way round. The first's last block stays in its buffer until the call
   ends and is written back there. -/
module

public import proofs.«01_k».proof.Proof.Gen.NormIdeal.Frame
public import proofs.«01_k».proof.Proof.Gen.NormIdeal.Skeleton
public import Idealize.ShloMosaic.Lib.Pipeline.TableIdle
public import Idealize.ShloMosaic.Lib.Claim

@[expose] public section

set_option maxRecDepth 16384

noncomputable section

namespace Cert.NormIdeal.Hand
open Cert.NormIdeal Cert.NormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block of tokens, and the weights' one row. -/
abbrev toks : Rect S512x2048 := Rect.unit (s := S512x2048) ![0, 0] S512x2048.size inb_S512x2048_S512x2048_0_0
abbrev row : Rect S1x2048 := Rect.unit (s := S1x2048) ![0, 0] S1x2048.size inb_S1x2048_S1x2048_0_0

/-- What a point stores, of a block of tokens and the weights. -/
def normed (x : Vec F S512x2048 .f32) (g : Vec F S1x2048 .f32) : Vec F S512x2048 .f32 :=
  View.canon [⟨toks, k0_pay1 (View.ld x toks) (View.ld g row)⟩]

/-- The one store covers the block. -/
theorem covers (p : Vec F S512x2048 .f32) (y : S512x2048.Idx) :
    ∃ pc ∈ ([⟨toks, p⟩] : List (View.Piece (Elt F) S512x2048 .f32)), y ∈ pc.1.set :=
  View.cover_of_tiled [⟨toks, p⟩] S512x2048.size (by rfl) y

set_option maxHeartbeats 1000000 in
/-- The body at a point of the first result. -/
theorem body_first (c : Dev nD) (E : Set ℕ) (i : grid0.Coords) (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (x0 : Vec F S512x2048 .f32) (x1 : Vec F S1x2048 .f32) (K : PUnit → sProp 𝕄)
    (hc : k0_cond1 i = 1#1) (hd : ¬ k0_cond2 i = 1#1) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (normed x0 x1)) -∗ K ⟨⟩))
      ⊢ wp frame (wpE (defs₀ (F := F)) Variants.none c none) E (cc0_final_norm i arg1 harg1 arg2 harg2 arg3 harg3 arg4 harg4) K := by
  simp only [cc0_final_norm_eq_skeleton]; unfold cc0_final_norm_skel
  simp only [dif_pos hc, dif_neg hd]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

set_option maxHeartbeats 1000000 in
/-- The body at a point of the second. -/
theorem body_second (c : Dev nD) (E : Set ℕ) (i : grid0.Coords) (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (x0 : Vec F S512x2048 .f32) (x1 : Vec F S1x2048 .f32) (K : PUnit → sProp 𝕄)
    (hc : ¬ k0_cond1 i = 1#1) (hd : k0_cond2 i = 1#1) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (normed x0 x1)) -∗ K ⟨⟩))
      ⊢ wp frame (wpE (defs₀ (F := F)) Variants.none c none) E (cc0_final_norm i arg1 harg1 arg2 harg2 arg3 harg3 arg4 harg4) K := by
  simp only [cc0_final_norm_eq_skeleton]; unfold cc0_final_norm_skel
  simp only [dif_pos hd, dif_neg hc]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

variable (m : (ℓ : Loc nD τ sig) → Buf (Elt F) ℓ) (ρ : Dev nD → PrngReg)

/-- The point whose block the first result's buffer holds after a point. -/
def last (t : Fin cfg0.N) : Fin cfg0.N := if t.val < 16 then t else ⟨15, lt_of_lt_of_eq (by decide) N_0.symm⟩

/-- What the first result's buffer holds after a point, and the second's after one of its own. -/
def first (c : Dev nD) (t : Fin cfg0.N) : Vec F S512x2048 .f32 := normed (iblk m c 0 (last t)) (iblk m c 1 (last t))
def second (c : Dev nD) (t : Fin cfg0.N) : Vec F S512x2048 .f32 := normed (iblk m c 0 t) (iblk m c 1 t)

/-- The contents point by point: each argument's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => first m c t
    | ⟨3, _⟩ => second m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tok (c : Dev nD) (t : Fin cfg0.N) : (dats m 0 c).after 0 t = iblk m c 0 t := by dsimp only [dats]
theorem after_row (c : Dev nD) (t : Fin cfg0.N) : (dats m 0 c).after 1 t = iblk m c 1 t := by dsimp only [dats]
theorem after_first (c : Dev nD) (t : Fin cfg0.N) : (dats m 0 c).after 2 t = first m c t := by dsimp only [dats]
theorem after_second (c : Dev nD) (t : Fin cfg0.N) : (dats m 0 c).after 3 t = second m c t := by dsimp only [dats]

theorem before_tok (c : Dev nD) (t : Fin cfg0.N) (d) : (dats m 0 c).before 0 t d = iblk m c 0 t :=
  before0_0_of m (dats m 0 c) (A_eq m c 0) (after_tok m c) t d
theorem before_row (c : Dev nD) (t : Fin cfg0.N) (d) : (dats m 0 c).before 1 t d = iblk m c 1 t :=
  before0_1_of m (dats m 0 c) (A_eq m c 1) (after_row m c) t d

/-- Which points store what, and which write back. -/
theorem cond1_iff : ∀ t : Fin cfg0.N, k0_cond1 (cfg0.grid.coords t) = 1#1 ↔ t.val < 16 := (by decide +kernel : ∀ t : Fin grid0.N, _)
theorem cond2_iff : ∀ t : Fin cfg0.N, k0_cond2 (cfg0.grid.coords t) = 1#1 ↔ ¬ t.val < 16 := (by decide +kernel : ∀ t : Fin grid0.N, _)
theorem idle2 : ∀ t : Fin cfg0.N, cfg0.idle 2 (cfg0.grid.coords t) = !decide (t.val < 16) := (by decide +kernel : ∀ t : Fin grid0.N, idle0 2 (grid0.coords t) = !decide (t.val < 16))
theorem idle3 : ∀ t : Fin cfg0.N, cfg0.idle 3 (cfg0.grid.coords t) = decide (t.val < 16) := (by decide +kernel : ∀ t : Fin grid0.N, idle0 3 (grid0.coords t) = decide (t.val < 16))
theorem flush2 : ∀ t : Fin cfg0.N, (cfg0.win 2).flush t = (decide (t.val < 15) || decide (t.val = 47)) := (by decide +kernel : ∀ t : Fin grid0.N, win0_2.flush t = (decide (t.val < 15) || decide (t.val = 47)))
theorem flush3 : ∀ t : Fin cfg0.N, (cfg0.win 3).flush t = !decide (t.val < 16) := (by decide +kernel : ∀ t : Fin grid0.N, win0_3.flush t = !decide (t.val < 16))

/-- From point 16 on the first result's buffer is as point 15 left it. -/
theorem before_first (c : Dev nD) (t : Fin cfg0.N) (ht : ¬ t.val < 16) (d) : (dats m 0 c).before 2 t d = first m c t := by
  have hN : t.val < 48 := lt_of_lt_of_eq t.isLt N_0
  have h16 : 16 < cfg0.N := lt_of_lt_of_eq (by decide) N_0.symm
  refine ((dats m 0 c).before_idle_run 2 ((cfg0.win 2).fetch_out rfl) d (t.val - 16) t (Nat.sub_le _ _) fun j h₁ h₂ => ?_).trans ?_
  · rw [idle2, flush2]
    have h3 : ¬ j.val < 16 := by omega
    have h4 : ¬ j.val < 15 := by omega
    have h5 : ¬ j.val = 47 := by omega
    simp [h3, h4, h5]
  · rw [show (⟨t.val - (t.val - 16), by omega⟩ : Fin cfg0.N) = ⟨16, h16⟩ from Fin.ext (by dsimp only; omega)]
    rw [(dats m 0 c).before_of_pos 2 ⟨16, h16⟩ (by dsimp only; decide) ((cfg0.win 2).fetch_out rfl _), flush2]
    refine (if_neg (show ¬ (decide (15 < 15) || decide (15 = 47)) = true by decide)).trans ?_
    unfold Dat.left
    rw [idle2]
    show (dats m 0 c).kept 2 ⟨15, _⟩ d = _
    unfold Dat.kept
    rw [Pipeline.fill_of_clip_none 2 _ (fun _ => rfl) d ((dats m 0 c).after 2 _), Window.fill_cut, after_first]
    unfold first last
    rw [if_neg ht, if_pos (by dsimp only; decide)]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t
    ∗ (dats m 0 c).leavesExact 3 t)

/-- A buffer the body has stored is at what it left. -/
theorem leaves_stored (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A buffer passed by that is written back all the same. -/
theorem leaves_back (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- The first result's buffer at a point of the second: as found, and so at its block. -/
theorem pass_first (c : Dev nD) (t : Fin cfg0.N) (ht : ¬ t.val < 16) :
    iprop(∃ d, owns (c : Thread nD τ) (st0_2 t) fullShare ((dats m 0 c).before 2 t d)) ⊢ (dats m 0 c).leavesExact 2 t := by
  have hi : cfg0.idle 2 (cfg0.grid.coords t) = true := by rw [idle2]; simp [ht]
  cases hf : (cfg0.win 2).flush t with
  | false => rw [Dat.leavesExact_idle _ 2 t hi hf]
  | true =>
    rw [leaves_back m c 2 t hi hf, after_first]
    iintro ⟨%d, H⟩
    rw [before_first m c t ht d]
    iexact H

theorem sound_body (c : Dev nD) (t : Fin cfg0.N) :
    pre m c t ⊢ wp frame (wpE (defs₀ (F := F)) Variants.none c none) Set.univ (bodyAt0 t) (fun _ => post m c t) := by
  unfold pre post bodyAt0
  simp only [before_tok, before_row]
  rw [show (dats m 0 c).Φ t.succ = (dats m 0 c).Φ t.castSucc from rfl,
    show (dats m 0 c).owesAt () t.succ = (dats m 0 c).owesAt () t.castSucc from rfl,
    after_tok, after_row]
  by_cases ht : t.val < 16
  · have e2 : (dats m 0 c).leavesExact 2 t = owns (c : Thread nD τ) (st0_2 t) fullShare (normed (iblk m c 0 t) (iblk m c 1 t)) := by
      rw [leaves_stored m c 2 t (by rw [idle2]; simp [ht]), after_first]
      unfold first last
      rw [if_pos ht]
    rw [e2, Dat.leavesExact_idle _ 3 t (by rw [idle3]; simp [ht]) (by rw [flush3]; simp [ht])]
    iintro ⟨HΦ, Ho, ⟨%d0, H0⟩, ⟨%d1, H1⟩, ⟨%d2, H2⟩, H3⟩
    iapply (body_first c Set.univ (grid0.coords t) _ _ _ _ _ _ _ _ (iblk m c 0 t) (iblk m c 1 t) _ ((cond1_iff t).mpr ht) (fun h => (cond2_iff t).mp h ht))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexact H3
  · rw [leaves_stored m c 3 t (by rw [idle3]; simp [ht]), after_second]
    iintro ⟨HΦ, Ho, ⟨%d0, H0⟩, ⟨%d1, H1⟩, H2, ⟨%d3, H3⟩⟩
    iapply (body_second c Set.univ (grid0.coords t) _ _ _ _ _ _ _ _ (iblk m c 0 t) (iblk m c 1 t) _ (fun h => ht ((cond1_iff t).mp h)) ((cond2_iff t).mpr ht))
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iapply (pass_first m c t ht); iexact H2
    iexact H3

theorem table_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, table_row]
  exact triple_restated (sound_body m c t) rfl .rfl fun _ => .rfl

set_option backward.isDefEq.respectTransparency.types false in
set_option maxHeartbeats 800000 in
/-- The run, and every counter at zero after it. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The call keeps its arguments and leaves the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.NormIdeal.Hand

end
-- ==== Proof.NormSame.lean ====
/- The final norm as printed is the idealized one, so the one run serves both. -/
module

public import proofs.«01_k».proof.Proof.NormRun
public import proofs.«01_k».proof.Proof.Gen.Norm.Frame

@[expose] public section

set_option maxRecDepth 16384

noncomputable section

namespace Cert.Norm.Hand
open Idealize.ShloMosaic Idealize.ShloMosaic.TcCoe Idealize.SL.Sem

variable {F : FTy → Type} [FloatOps F]

theorem body_same : (Cert.Norm.cc0_final_norm (F := F)) = Cert.NormIdeal.cc0_final_norm (F := F) := rfl

theorem bodies_same : Cert.Norm.defs₀ (F := F) = Cert.NormIdeal.defs₀ (F := F) := by
  unfold Cert.Norm.defs₀ Cert.NormIdeal.defs₀
  rw [body_same]
  refine congrArg _ (funext fun l => funext fun a => ?_)
  rcases l with ⟨_ | n, h⟩
  · rfl
  · exact absurd h (Nat.not_lt.2 (Nat.le_add_left _ _))

theorem tables_same : Cert.Norm.defs (F := F) = Cert.NormIdeal.defs (F := F) := by
  unfold Cert.Norm.defs Cert.NormIdeal.defs
  rw [bodies_same]
  rfl

/-- The frame of the one is the frame of the other. -/
theorem frame (m : (ℓ : Loc Cert.Norm.nD Cert.Norm.τ Cert.Norm.sig) → Buf (Elt F) ℓ) (ρ : Dev Cert.Norm.nD → PrngReg) :
    θ_run (Cert.Norm.defs (F := F)) (onTc (τ := Cert.Norm.τ) (Cert.Norm.main (F := F))) ⟨m, fun _ => 0, ρ⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0) := by
  rw [tables_same]
  exact Cert.NormIdeal.Hand.frame (F := F) m ρ

end Cert.Norm.Hand

end
-- ==== Proof.NormVal.lean ====
/- The final norm's two results, entry by entry. -/
module

public import proofs.«01_k».proof.Proof.NormRun
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Normed
open Idealize.ShloMosaic

/-- An entry of the normed tokens: of a row `x`, at place `d`, with weights `g`. -/
def entry (x g : Fin 2048 → EReal) (d : Fin 2048) : EReal :=
  x d * Ideal.rsqrt (Ideal.div (∑ k : Fin 2048, x k * x k) (Ideal.ofBits .f32 0x45000000#32) + Ideal.ofBits .f32 0x358637BD#32) * g d

end Cert.Normed

namespace Cert.NormIdeal.Hand
open Cert.NormIdeal Cert.NormIdeal.Gen Idealize.ShloMosaic Idealize.ShloMosaic.TcCoe Idealize.ShloMosaic.Tactic
open Cert.Normed

theorem normed_at (x : Vec Ideal S512x2048 .f32) (g : Vec Ideal S1x2048 .f32) (r : Fin 512) (d : Fin 2048) :
    (normed x g (ix2 (n0 := 512) (n1 := 2048) r d) : EReal) =
      entry (fun k => x (ix2 (n0 := 512) (n1 := 2048) r k)) (fun k => g (ix2 (n0 := 1) (n1 := 2048) 0 k)) d := by
  unfold normed
  refine (congrFun (View.canon_cons_unit_zero (S := S512x2048) (by decide) _ _ []) _).trans ?_
  unfold k0_pay1
  generalize hv : entry _ _ d = v
  pointwise
  subst hv
  rfl

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min t.val 15, 0] := (by decide +kernel : ∀ t : Fin grid0.N, _)
theorem idx3 : ∀ t : Fin cfg0.N, win0_3.index t = ![t.val - 16, 0] := (by decide +kernel : ∀ t : Fin grid0.N, _)

theorem blk_x (x : S24576x2048.Idx → EReal) (hx : m (c.tc.loc main_arg0) = x) (t : Fin cfg0.N) (r : Fin 512) (k : Fin 2048) (R : Fin 24576) (hR : R.val = 512 * t.val + r.val) :
    (iblk m c 0 t : S512x2048.Idx → EReal) (ix2 (n0 := 512) (n1 := 2048) r k) = x (ix2 (n0 := 24576) (n1 := 2048) R k) := by
  subst hx
  blk_ext [iblk, V_main_arg0, idx0 t]

theorem V_g (k : Fin 2048) :
    (V m c main_v0 : S1x2048.Idx → EReal) (ix2 (n0 := 1) (n1 := 2048) 0 k) = (m (c.tc.loc main_arg1) : S2048.Idx → EReal) (ix1 (n0 := 2048) k) := by
  show (shapeCast S1x2048 (m (c.tc.loc main_arg1) : S2048.Idx → EReal) shapeCasts_S2048_S1x2048) _ = _
  pointwise

theorem blk_g (t : Fin cfg0.N) (k : Fin 2048) :
    (iblk m c 1 t : S1x2048.Idx → EReal) (ix2 (n0 := 1) (n1 := 2048) 0 k) = (V m c main_v0 : S1x2048.Idx → EReal) (ix2 (n0 := 1) (n1 := 2048) 0 k) := by
  blk_ext [iblk, idx1 t]

/-- An entry of what a point stores, from the call's arguments. -/
theorem second_at (x : S24576x2048.Idx → EReal) (hx : m (c.tc.loc main_arg0) = x) (g : S2048.Idx → EReal) (hg : m (c.tc.loc main_arg1) = g)
    (t : Fin cfg0.N) (r : Fin 512) (d : Fin 2048) (R : Fin 24576) (hR : R.val = 512 * t.val + r.val) :
    (second m c t (ix2 (n0 := 512) (n1 := 2048) r d) : EReal) =
      entry (fun k => x (ix2 (n0 := 24576) (n1 := 2048) R k)) (fun k => g (ix1 (n0 := 2048) k)) d := by
  unfold second
  refine (normed_at _ _ r d).trans ?_
  congr 1
  · funext k
    exact blk_x m c x hx t r k R hR
  · funext k
    rw [blk_g, V_g, hg]

/-- The first result's buffer holds what its last point stored. -/
theorem first_eq (t : Fin cfg0.N) : first m c t = second m c (last t) := rfl

theorem last_val (t : Fin cfg0.N) : (last t).val = min t.val 15 := by
  unfold last
  split
  · omega
  · show 15 = _
    omega

/-- A place in a block of tokens. -/
def loc (R : ℕ) (d : Fin 2048) : S512x2048.Idx := ix2 (n0 := 512) (n1 := 2048) ⟨R % 512, Nat.mod_lt _ (by decide)⟩ d

theorem loc_eq (R : ℕ) (d : Fin 2048) (a : ℕ) (y : S512x2048.Idx) (h0 : R = a * 512 + 1 * (y 0).val) (h1 : d.val = 0 * 2048 + 1 * (y 1).val) : R / 512 = a ∧ loc R d = y := by
  have y0 : (y 0).val < 512 := (y 0).isLt
  refine ⟨by omega, ?_⟩
  funext b
  match b with
  | ⟨0, _⟩ => exact Fin.ext (show R % 512 = (y 0).val by omega)
  | ⟨1, _⟩ => exact Fin.ext (show d.val = (y 1).val by omega)

/-- The points that store an entry of the first result and of the second, and the point that writes the first's back. -/
def pt0 (i : S8192x2048.Idx) : Fin cfg0.N := ⟨(i 0).val / 512, lt_of_lt_of_eq (by have : (i 0).val < 8192 := (i 0).isLt; omega) N_0.symm⟩
def pt1 (i : S16384x2048.Idx) : Fin cfg0.N := ⟨16 + (i 0).val / 512, lt_of_lt_of_eq (by have : (i 0).val < 16384 := (i 0).isLt; omega) N_0.symm⟩
def back (i : S8192x2048.Idx) : Fin cfg0.N := if (i 0).val / 512 < 15 then pt0 i else ⟨47, lt_of_lt_of_eq (by decide) N_0.symm⟩

/-- The two results. -/
def out0 : S8192x2048.Idx → EReal := fun i => second m c (pt0 i) (loc (i 0).val (i 1))
def out1 : S16384x2048.Idx → EReal := fun i => second m c (pt1 i) (loc (i 0).val (i 1))

theorem arr0_of (L : Fin cfg0.N → S512x2048.Idx → EReal) (hL : ∀ t, (dats m 0 c).after 2 t = L (last t)) :
    (dats m 0 c).arrAt 2 cfg0.N = (fun i => L (pt0 i) (loc (i 0).val (i 1)) : S8192x2048.Idx → EReal) := by
  refine (dats m 0 c).arrAt_eq_of_cover 2 _ (fun t hf => ?_) fun i => ⟨back i, ?_, ?_⟩
  · show (cfg0.win 2).cut (grid0.coords t) ((dats m 0 c).after 2 t) = _
    rw [hL]
    funext y
    obtain ⟨e, l⟩ := loc_eq (((cfg0.win 2).blk t).view.emb y 0).val (((cfg0.win 2).blk t).view.emb y 1) (win0_2.index t 0) ((cfg0.win 2).xinj (grid0.coords t) y)
      rfl (congrArg (· * 2048 + 1 * (y 1).val) (congrFun (idx2 t) 1))
    have e' : pt0 (((cfg0.win 2).blk t).view.emb y) = last t := Fin.ext (e.trans ((congrFun (idx2 t) 0).trans (last_val t).symm))
    show L (last t) ((cfg0.win 2).xinj (grid0.coords t) y) = L (pt0 (((cfg0.win 2).blk t).view.emb y)) (loc (((cfg0.win 2).blk t).view.emb y 0).val (((cfg0.win 2).blk t).view.emb y 1))
    rw [e', l]
  · have h0 : (i 0).val < 8192 := (i 0).isLt
    rw [flush2]
    unfold back
    split
    · next h => simp [pt0, h]
    · simp
  · show i ∈ ((View.whole main_v1_0).slice (win0_2.rect (back i))).set
    rw [View.set_slice_whole, Rect.mem_set_unit]
    have h0 : (i 0).val < 8192 := (i 0).isLt
    have h1 : (i 1).val < 2048 := (i 1).isLt
    have hb : min (back i).val 15 = (i 0).val / 512 := by
      unfold back
      split
      · show min ((i 0).val / 512) 15 = _
        omega
      · show min 47 15 = _
        omega
    intro a
    show win0_2.index (back i) a * S512x2048.size a ≤ (i a).val ∧ (i a).val < win0_2.index (back i) a * S512x2048.size a + S512x2048.size a
    rw [idx2, hb]
    match a with
    | ⟨0, _⟩ =>
      show (i 0).val / 512 * 512 ≤ (i 0).val ∧ (i 0).val < (i 0).val / 512 * 512 + 512
      omega
    | ⟨1, _⟩ =>
      show 0 * 2048 ≤ (i 1).val ∧ (i 1).val < 0 * 2048 + 2048
      omega

theorem arr1_of (L : Fin cfg0.N → S512x2048.Idx → EReal) (hL : ∀ t, (dats m 0 c).after 3 t = L t) :
    (dats m 0 c).arrAt 3 cfg0.N = (fun i => L (pt1 i) (loc (i 0).val (i 1)) : S16384x2048.Idx → EReal) := by
  refine (dats m 0 c).arrAt_eq_of_cover 3 _ (fun t hf => ?_) fun i => ⟨pt1 i, ?_, ?_⟩
  · have ht : ¬ t.val < 16 := by
      rw [flush3] at hf
      simpa using hf
    show (cfg0.win 3).cut (grid0.coords t) ((dats m 0 c).after 3 t) = _
    rw [hL]
    funext y
    obtain ⟨e, l⟩ := loc_eq (((cfg0.win 3).blk t).view.emb y 0).val (((cfg0.win 3).blk t).view.emb y 1) (win0_3.index t 0) ((cfg0.win 3).xinj (grid0.coords t) y)
      rfl (congrArg (· * 2048 + 1 * (y 1).val) (congrFun (idx3 t) 1))
    have e0 : (((cfg0.win 3).blk t).view.emb y 0).val / 512 = t.val - 16 := e.trans (congrFun (idx3 t) 0)
    have e' : pt1 (((cfg0.win 3).blk t).view.emb y) = t := Fin.ext (show 16 + (((cfg0.win 3).blk t).view.emb y 0).val / 512 = t.val by omega)
    show L t ((cfg0.win 3).xinj (grid0.coords t) y) = L (pt1 (((cfg0.win 3).blk t).view.emb y)) (loc (((cfg0.win 3).blk t).view.emb y 0).val (((cfg0.win 3).blk t).view.emb y 1))
    rw [e', l]
  · rw [flush3]
    simp [pt1]
  · show i ∈ ((View.whole main_v1_1).slice (win0_3.rect (pt1 i))).set
    rw [View.set_slice_whole, Rect.mem_set_unit]
    have h0 : (i 0).val < 16384 := (i 0).isLt
    have h1 : (i 1).val < 2048 := (i 1).isLt
    have hb : (pt1 i).val - 16 = (i 0).val / 512 := by
      show 16 + (i 0).val / 512 - 16 = _
      omega
    intro a
    show win0_3.index (pt1 i) a * S512x2048.size a ≤ (i a).val ∧ (i a).val < win0_3.index (pt1 i) a * S512x2048.size a + S512x2048.size a
    rw [idx3, hb]
    match a with
    | ⟨0, _⟩ =>
      show (i 0).val / 512 * 512 ≤ (i 0).val ∧ (i 0).val < (i 0).val / 512 * 512 + 512
      omega
    | ⟨1, _⟩ =>
      show 0 * 2048 ≤ (i 1).val ∧ (i 1).val < 0 * 2048 + 2048
      omega

theorem out0_eq : (dats m 0 c).arrAt 2 cfg0.N = out0 m c := arr0_of m c (second m c) (after_first m c)
theorem out1_eq : (dats m 0 c).arrAt 3 cfg0.N = out1 m c := arr1_of m c (second m c) (after_second m c)

section
variable (x : S24576x2048.Idx → EReal) (hx : m (c.tc.loc main_arg0) = x) (g : S2048.Idx → EReal) (hg : m (c.tc.loc main_arg1) = g)
include hx hg

/-- An entry of the first result, and of the second, from the call's arguments. -/
theorem out0_at (r : Fin 8192) (d : Fin 2048) (R : Fin 24576) (hR : R.val = r.val) :
    out0 m c (ix2 (n0 := 8192) (n1 := 2048) r d) = entry (fun k => x (ix2 (n0 := 24576) (n1 := 2048) R k)) (fun k => g (ix1 (n0 := 2048) k)) d :=
  second_at m c x hx g hg _ _ d R (by show R.val = 512 * (r.val / 512) + r.val % 512; omega)

theorem out1_at (r : Fin 16384) (d : Fin 2048) (R : Fin 24576) (hR : R.val = 8192 + r.val) :
    out1 m c (ix2 (n0 := 16384) (n1 := 2048) r d) = entry (fun k => x (ix2 (n0 := 24576) (n1 := 2048) R k)) (fun k => g (ix1 (n0 := 2048) k)) d :=
  second_at m c x hx g hg _ _ d R (by show R.val = 512 * (16 + r.val / 512) + r.val % 512; omega)

end

/-- The run, with the two results. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = out0 m c
      ∧ r.2.mem ((c.tc : Thread nD τ).loc main_v1_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have hv : θ_run defs (onTc (τ := τ) (main (F := Ideal))) ⟨m, fun _ => 0, ρ⟩ (fun r => ∀ c : Dev nD,
      r.2.mem ((c.tc : Thread nD τ).loc main_v1_0) = out0 m c ∧ r.2.mem ((c.tc : Thread nD τ).loc main_v1_1) = out1 m c) :=
    (θ_run defs _ _).mono (fun _ h c => ⟨((h.1 c).1 2).trans (out0_eq m c), ((h.1 c).1 3).trans (out1_eq m c)⟩) (run_all m ρ)
  (θ_run defs _ _).mono (fun _ h c => ⟨(h.1 c).1, (h.1 c).2, (h.2.1 c).1, (h.2.1 c).2⟩) (θ_run_and hv (frame m ρ))

end Cert.NormIdeal.Hand

end
-- ==== Proof.NormAlgebra.lean ====
/- The final norm and its reference leave the same two results. -/
module

public import proofs.«01_k».proof.Proof.NormVal
public import proofs.«01_k».proof.Proof.Gen.NormReferenceIdeal.Run
public import Idealize.ShloMosaic.Lib.Quiescent
public import proofs.«01_k».proof.Defs

@[expose] public section

set_option maxRecDepth 16384

noncomputable section

open Idealize.ShloMosaic Idealize.ShloMosaic.TcCoe Idealize.ShloMosaic.Tactic
open Cert.Normed

namespace Cert.NormReferenceIdeal.Hand
open Cert.NormReferenceIdeal Cert.NormReferenceIdeal.Gen

/-- The reference's two results, of the tokens and the weights: the first 8192 tokens, and the rest. -/
def res0 (x : FVec Ideal S24576x2048 .f32) (g : FVec Ideal S2048 .f32) : FVec Ideal S8192x2048 .f32 :=
  mulf (mulf (extractStridedSlice S8192x2048 ![0, 0] x slices_S24576x2048_S8192x2048_0_0)
    (broadcastInDim S8192x2048 ![0, 1] bcast_S8192x1_S8192x2048_0_1
    (Host.rsqrt (addf (Host.divf (broadcastInDim S8192x1 ![0] bcast_S8192_S8192x1_0 (Host.reduceAdd (mulf (extractStridedSlice S8192x2048 ![0, 0] x slices_S24576x2048_S8192x2048_0_0) (extractStridedSlice S8192x2048 ![0, 0] x slices_S24576x2048_S8192x2048_0_0)) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

def res1 (x : FVec Ideal S24576x2048 .f32) (g : FVec Ideal S2048 .f32) : FVec Ideal S16384x2048 .f32 :=
  mulf (mulf (extractStridedSlice S16384x2048 ![8192, 0] x slices_S24576x2048_S16384x2048_8192_0)
    (broadcastInDim S16384x2048 ![0, 1] bcast_S16384x1_S16384x2048_0_1
    (Host.rsqrt (addf (Host.divf (broadcastInDim S16384x1 ![0] bcast_S16384_S16384x1_0 (Host.reduceAdd (mulf (extractStridedSlice S16384x2048 ![8192, 0] x slices_S24576x2048_S16384x2048_8192_0) (extractStridedSlice S16384x2048 ![8192, 0] x slices_S24576x2048_S16384x2048_8192_0)) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

variable (x : FVec Ideal S24576x2048 .f32) (g : FVec Ideal S2048 .f32)

theorem res0_at (r : Fin 8192) (d : Fin 2048) (hb : r.val < 24576) :
    (res0 x g (ix2 (n0 := 8192) (n1 := 2048) r d) : EReal) =
      entry (fun k => x (ix2 (n0 := 24576) (n1 := 2048) ⟨r.val, hb⟩ k)) (fun k => g (ix1 (n0 := 2048) k)) d := by
  unfold res0
  generalize hv : entry _ _ d = v
  pointwise
  subst hv
  rfl

theorem res1_at (r : Fin 16384) (d : Fin 2048) (hb : 8192 + r.val < 24576) :
    (res1 x g (ix2 (n0 := 16384) (n1 := 2048) r d) : EReal) =
      entry (fun k => x (ix2 (n0 := 24576) (n1 := 2048) ⟨8192 + r.val, hb⟩ k)) (fun k => g (ix1 (n0 := 2048) k)) d := by
  unfold res1
  generalize hv : entry _ _ d = v
  pointwise
  subst hv
  rfl

end Cert.NormReferenceIdeal.Hand

namespace Cert.Normed

theorem index_eq {n : ℕ} (i : (⟨2, ![n, 2048]⟩ : Shape).Idx) : i = ix2 (n0 := n) (n1 := 2048) (i 0) (i 1) := by
  funext a
  match a with
  | ⟨0, _⟩ => rfl
  | ⟨1, _⟩ => rfl

/-- The reference's run leaves its arguments and every counter as they were. -/
theorem quiet : quiescent_NormReferenceIdeal (hNormReferenceIdeal := Cert.NormReferenceIdeal.Gen.facts) := fun m g _ =>
  (θ_run _ _ _).mono (fun _ h => ⟨fun c => (h c).2.2, sem_eq_zero_of_no_sems rfl _⟩) (Cert.NormReferenceIdeal.Value.run (F := Ideal) m g)

section
variable (c : Dev Cert.NormIdeal.nD) (x : (⟨2, ![24576, 2048]⟩ : Shape).Idx → EReal) (g : (⟨1, ![2048]⟩ : Shape).Idx → EReal)
  (m : (ℓ : Loc Cert.NormIdeal.nD Cert.NormIdeal.τ Cert.NormIdeal.sig) → Buf (Elt Ideal) ℓ)
  (h0 : m (c.tc.loc Cert.NormIdeal.main_arg0) = x) (h1 : m (c.tc.loc Cert.NormIdeal.main_arg1) = g)
include h0 h1

theorem eq0 : (Cert.NormReferenceIdeal.Hand.res0 x g : (⟨2, ![8192, 2048]⟩ : Shape).Idx → EReal) = Cert.NormIdeal.Hand.out0 m c := by
  funext i
  rw [index_eq i]
  have hb : (i 0).val < 24576 := by
    have : (i 0).val < 8192 := (i 0).isLt
    omega
  exact (Cert.NormReferenceIdeal.Hand.res0_at x g (i 0) (i 1) hb).trans (Cert.NormIdeal.Hand.out0_at m c x h0 g h1 (i 0) (i 1) ⟨(i 0).val, hb⟩ rfl).symm

theorem eq1 : (Cert.NormReferenceIdeal.Hand.res1 x g : (⟨2, ![16384, 2048]⟩ : Shape).Idx → EReal) = Cert.NormIdeal.Hand.out1 m c := by
  funext i
  rw [index_eq i]
  have hb : 8192 + (i 0).val < 24576 := by
    have : (i 0).val < 16384 := (i 0).isLt
    omega
  exact (Cert.NormReferenceIdeal.Hand.res1_at x g (i 0) (i 1) hb).trans (Cert.NormIdeal.Hand.out1_at m c x h0 g h1 (i 0) (i 1) ⟨8192 + (i 0).val, hb⟩ rfl).symm

end

/-- The claim about the values. -/
theorem algebraic : algebraic_NormIdeal_NormReferenceIdeal (hNormIdeal := Cert.NormIdeal.Gen.facts) (hNormReferenceIdeal := Cert.NormReferenceIdeal.Gen.facts) := by
  intro m g m' g' _ hargs
  refine ⟨Cert.NormIdeal.Hand.out0 m, Cert.NormIdeal.Hand.out1 m, Cert.NormIdeal.Hand.run m g,
    (θ_run _ _ _).mono (fun r h c => ⟨(h c).1.trans ?_, (h c).2.1.trans ?_, (h c).2.2⟩) (Cert.NormReferenceIdeal.Value.run (F := Ideal) m' g')⟩
  all_goals
    obtain ⟨a0, a1⟩ := hargs c
    rw [a0, a1]
  · exact eq0 c _ _ m rfl rfl
  · exact eq1 c _ _ m rfl rfl

end Cert.Normed

end
-- ==== Proof.KVRun.lean ====
/- The run of the projection to the attention's columns. Every point stores its block of the columns; where they are keys
   or values of the context it stores them once more into the second result. The other points pass the second result's
   buffer by: a block may rest there for a point, and the last one to the end of the call, before it is written back. -/
module

public import proofs.«01_k».proof.Proof.Gen.KVIdeal.Frame
public import proofs.«01_k».proof.Proof.Gen.KVIdeal.Skeleton
public import Idealize.ShloMosaic.Lib.Pipeline.TableIdle
public import Idealize.ShloMosaic.Lib.Claim

@[expose] public section

set_option maxRecDepth 16384

noncomputable section

namespace Cert.KVIdeal.Hand
open Cert.KVIdeal Cert.KVIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block of tokens, and one of columns. -/
abbrev toks : Rect S2048x2048 := Rect.unit (s := S2048x2048) ![0, 0] S2048x2048.size inb_S2048x2048_S2048x2048_0_0
abbrev cols : Rect S2048x512 := Rect.unit (s := S2048x512) ![0, 0] S2048x512.size inb_S2048x512_S2048x512_0_0

/-- What a point stores, of a block of tokens and one of weights. -/
def prod (x : Vec F S2048x2048 .bf16) (w : Vec F S2048x512 .bf16) : Vec F S2048x512 .f32 :=
  View.canon [⟨cols, k0_pay1 (View.ld x toks) (View.ld w cols)⟩]

/-- The one store covers the block. -/
theorem covers (p : Vec F S2048x512 .f32) (y : S2048x512.Idx) :
    ∃ pc ∈ ([⟨cols, p⟩] : List (View.Piece (Elt F) S2048x512 .f32)), y ∈ pc.1.set :=
  View.cover_of_tiled [⟨cols, p⟩] S2048x512.size (by rfl) y

set_option maxHeartbeats 1000000 in
/-- The body at a point that passes the second result by. -/
theorem body_one (c : Dev nD) (E : Set ℕ) (i : grid0.Coords) (arg2 : Memref sig .tc .vmem S2048x2048 .bf16) (harg2 : arg2.IsWhole) (arg3 : Memref sig .tc .vmem S2048x512 .bf16) (harg3 : arg3.IsWhole)
    (arg4 : Memref sig .tc .vmem S2048x512 .f32) (harg4 : arg4.IsWhole) (arg5 : Memref sig .tc .vmem S2048x512 .f32) (harg5 : arg5.IsWhole)
    (x0 : Vec F S2048x2048 .bf16) (x1 : Vec F S2048x512 .bf16) (K : PUnit → sProp 𝕄) (hc : ¬ k0_cond1 i = 1#1) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod x0 x1)) -∗ K ⟨⟩))
      ⊢ wp frame (wpE (defs₀ (F := F)) Variants.none c none) E (cc0_proj_kv i arg2 harg2 arg3 harg3 arg4 harg4 arg5 harg5) K := by
  simp only [cc0_proj_kv_eq_skeleton]; unfold cc0_proj_kv_skel
  simp only [dif_neg hc]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

set_option maxHeartbeats 1000000 in
/-- The body at a point that stores into both. -/
theorem body_both (c : Dev nD) (E : Set ℕ) (i : grid0.Coords) (arg2 : Memref sig .tc .vmem S2048x2048 .bf16) (harg2 : arg2.IsWhole) (arg3 : Memref sig .tc .vmem S2048x512 .bf16) (harg3 : arg3.IsWhole)
    (arg4 : Memref sig .tc .vmem S2048x512 .f32) (harg4 : arg4.IsWhole) (arg5 : Memref sig .tc .vmem S2048x512 .f32) (harg5 : arg5.IsWhole)
    (x0 : Vec F S2048x2048 .bf16) (x1 : Vec F S2048x512 .bf16) (K : PUnit → sProp 𝕄) (hc : k0_cond1 i = 1#1) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (prod x0 x1)
          ∗ owns (c : Thread nD τ) arg5 fullShare (prod x0 x1)) -∗ K ⟨⟩))
      ⊢ wp frame (wpE (defs₀ (F := F)) Variants.none c none) E (cc0_proj_kv i arg2 harg2 arg3 harg3 arg4 harg4 arg5 harg5) K := by
  simp only [cc0_proj_kv_eq_skeleton]; unfold cc0_proj_kv_skel
  simp only [dif_pos hc]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (covers _)
  iexists _; isplitr
  swap; · iexact H3
  ipureintro
  exact View.read_writes_eq_canon _ _ _ (covers _)

variable (m : (ℓ : Loc nD τ sig) → Buf (Elt F) ℓ) (ρ : Dev nD → PrngReg)

/-- The point whose block the second result's buffer holds after a point that stores or writes it back. -/
def src (t : Fin cfg0.N) : Fin cfg0.N :=
  if t.val < 20 then (if t.val % 5 = 2 then ⟨t.val - 1, Nat.lt_of_le_of_lt (Nat.sub_le _ _) t.isLt⟩ else t)
  else ⟨19, lt_of_lt_of_eq (by decide) N_0.symm⟩

/-- What a point stores. -/
def left (c : Dev nD) (t : Fin cfg0.N) : Vec F S2048x512 .f32 := prod (iblk m c 0 t) (iblk m c 1 t)

/-- The contents point by point: each argument's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => left m c t
    | ⟨3, _⟩ => left m c (src t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tok (c : Dev nD) (t : Fin cfg0.N) : (dats m 0 c).after 0 t = iblk m c 0 t := by dsimp only [dats]
theorem after_wts (c : Dev nD) (t : Fin cfg0.N) : (dats m 0 c).after 1 t = iblk m c 1 t := by dsimp only [dats]
theorem after_all (c : Dev nD) (t : Fin cfg0.N) : (dats m 0 c).after 2 t = left m c t := by dsimp only [dats]
theorem after_kv (c : Dev nD) (t : Fin cfg0.N) : (dats m 0 c).after 3 t = left m c (src t) := by dsimp only [dats]

theorem before_tok (c : Dev nD) (t : Fin cfg0.N) (d) : (dats m 0 c).before 0 t d = iblk m c 0 t :=
  before0_0_of m (dats m 0 c) (A_eq m c 0) (after_tok m c) t d
theorem before_wts (c : Dev nD) (t : Fin cfg0.N) (d) : (dats m 0 c).before 1 t d = iblk m c 1 t :=
  before0_1_of m (dats m 0 c) (A_eq m c 1) (after_wts m c) t d

/-- The points that store the second result, and those that write it back. -/
abbrev stores (t : ℕ) : Prop := t < 20 ∧ ¬ t % 5 = 0 ∧ ¬ t % 5 = 2
abbrev backs (t : ℕ) : Prop := t < 19 ∧ 2 ≤ t % 5 ∨ t = 59

theorem cond_iff : ∀ t : Fin cfg0.N, k0_cond1 (cfg0.grid.coords t) = 1#1 ↔ stores t.val := (by decide +kernel : ∀ t : Fin grid0.N, k0_cond1 (grid0.coords t) = 1#1 ↔ stores t.val)
theorem idle3 : ∀ t : Fin cfg0.N, cfg0.idle 3 (cfg0.grid.coords t) = !decide (stores t.val) := (by decide +kernel : ∀ t : Fin grid0.N, idle0 3 (grid0.coords t) = !decide (stores t.val))
theorem flush3 : ∀ t : Fin cfg0.N, (cfg0.win 3).flush t = decide (backs t.val) := (by decide +kernel : ∀ t : Fin grid0.N, win0_3.flush t = decide (backs t.val))

/-- A block rests in the buffer from the point that stored it to the point that writes it back. -/
theorem rests (t : Fin cfg0.N) (ht : ¬ stores t.val) (hb : backs t.val) :
    (src t).val < t.val ∧ stores (src t).val ∧ ¬ backs (src t).val ∧ ∀ j, (src t).val < j → j < t.val → ¬ stores j ∧ ¬ backs j := by
  unfold src stores backs at *
  split
  · rw [if_pos (by omega)]
    dsimp only
    exact ⟨by omega, by omega, by omega, fun j _ _ => by omega⟩
  · dsimp only
    exact ⟨by omega, by decide, by decide, fun j _ _ => by omega⟩

theorem before_kv (c : Dev nD) (t : Fin cfg0.N) (ht : ¬ stores t.val) (hb : backs t.val) (d) : (dats m 0 c).before 3 t d = left m c (src t) := by
  obtain ⟨hlt, hs, hn, hr⟩ := rests t ht hb
  have hv : (src t).val + 1 < cfg0.N := Nat.lt_of_le_of_lt hlt t.isLt
  refine ((dats m 0 c).before_idle_run 3 ((cfg0.win 3).fetch_out rfl) d (t.val - ((src t).val + 1)) t (Nat.sub_le _ _) fun j h₁ h₂ => ?_).trans ?_
  · obtain ⟨h3, h4⟩ := hr j.val (by omega) h₂
    rw [idle3, flush3, decide_eq_false h3, decide_eq_false h4]
    exact ⟨rfl, rfl⟩
  · rw [show (⟨t.val - (t.val - ((src t).val + 1)), by omega⟩ : Fin cfg0.N) = ⟨(src t).val + 1, hv⟩ from Fin.ext (by dsimp only; omega)]
    rw [(dats m 0 c).before_of_pos 3 ⟨(src t).val + 1, hv⟩ (Nat.succ_ne_zero _) ((cfg0.win 3).fetch_out rfl _), flush3]
    refine (if_neg (show ¬ decide (backs (src t).val) = true by rw [decide_eq_false hn]; exact Bool.false_ne_true)).trans ?_
    unfold Dat.left
    rw [show (⟨(⟨(src t).val + 1, hv⟩ : Fin cfg0.N).val - 1, by dsimp only; omega⟩ : Fin cfg0.N) = src t from rfl, idle3, decide_eq_true hs]
    show (dats m 0 c).kept 3 (src t) d = _
    unfold Dat.kept
    rw [Pipeline.fill_of_clip_none 3 _ (fun _ => rfl) d ((dats m 0 c).after 3 _), Window.fill_cut, after_kv]
    refine congrArg _ (Fin.ext ?_)
    unfold stores at hs
    generalize src t = s at hs
    unfold src
    rw [if_pos hs.1, if_neg hs.2.2]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- A buffer the body has stored is at what it left. -/
theorem leaves_stored (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A buffer passed by that is written back all the same. -/
theorem leaves_back (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- The second result's buffer at a point that passes it by: as found, and so, where it is written back, at its block. -/
theorem pass_kv (c : Dev nD) (t : Fin cfg0.N) (ht : ¬ stores t.val) :
    iprop(∃ d, owns (c : Thread nD τ) (st0_3 t) fullShare ((dats m 0 c).before 3 t d)) ⊢ (dats m 0 c).leavesExact 3 t := by
  have hi : cfg0.idle 3 (cfg0.grid.coords t) = true := by rw [idle3, decide_eq_false ht]; rfl
  cases hf : (cfg0.win 3).flush t with
  | false => rw [Dat.leavesExact_idle _ 3 t hi hf]
  | true =>
    have hb : backs t.val := by
      rw [flush3] at hf
      exact of_decide_eq_true hf
    rw [leaves_back m c 3 t hi hf, after_kv]
    iintro ⟨%d, H⟩
    rw [before_kv m c t ht hb d]
    iexact H

theorem sound_body (c : Dev nD) (t : Fin cfg0.N) :
    pre m c t ⊢ wp frame (wpE (defs₀ (F := F)) Variants.none c none) Set.univ (bodyAt0 t) (fun _ => post m c t) := by
  unfold pre post bodyAt0
  simp only [before_tok, before_wts]
  rw [show (dats m 0 c).Φ t.succ = (dats m 0 c).Φ t.castSucc from rfl,
    show (dats m 0 c).owesAt () t.succ = (dats m 0 c).owesAt () t.castSucc from rfl,
    after_tok, after_wts, after_all]
  by_cases ht : stores t.val
  · have e3 : (dats m 0 c).leavesExact 3 t = owns (c : Thread nD τ) (st0_3 t) fullShare (prod (iblk m c 0 t) (iblk m c 1 t)) := by
      rw [leaves_stored m c 3 t (by rw [idle3, decide_eq_true ht]; rfl), after_kv]
      unfold left src
      rw [if_pos ht.1, if_neg ht.2.2]
    rw [e3]
    unfold left
    iintro ⟨HΦ, Ho, ⟨%d0, H0⟩, ⟨%d1, H1⟩, ⟨%d2, H2⟩, ⟨%d3, H3⟩⟩
    iapply (body_both c Set.univ (grid0.coords t) _ _ _ _ _ _ _ _ (iblk m c 0 t) (iblk m c 1 t) _ ((cond_iff t).mpr ht))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · unfold left
    iintro ⟨HΦ, Ho, ⟨%d0, H0⟩, ⟨%d1, H1⟩, ⟨%d2, H2⟩, H3⟩
    iapply (body_one c Set.univ (grid0.coords t) _ _ _ _ _ _ _ _ (iblk m c 0 t) (iblk m c 1 t) _ (fun h => ht ((cond_iff t).mp h)))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iapply (pass_kv m c t ht)
    iexact H3

theorem table_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, table_row]
  exact triple_restated (sound_body m c t) rfl .rfl fun _ => .rfl

set_option backward.isDefEq.respectTransparency.types false in
set_option maxHeartbeats 800000 in
/-- The run, and every counter at zero after it. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The call keeps its arguments and leaves the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KVIdeal.Hand

end
-- ==== Proof.KVSame.lean ====
/- The projection to the attention's columns as printed is the idealized one, so the one run serves both. -/
module

public import proofs.«01_k».proof.Proof.KVRun
public import proofs.«01_k».proof.Proof.Gen.KV.Frame

@[expose] public section

set_option maxRecDepth 16384

noncomputable section

namespace Cert.KV.Hand
open Idealize.ShloMosaic Idealize.ShloMosaic.TcCoe Idealize.SL.Sem

variable {F : FTy → Type} [FloatOps F]

theorem body_same : (Cert.KV.cc0_proj_kv (F := F)) = Cert.KVIdeal.cc0_proj_kv (F := F) := rfl

theorem bodies_same : Cert.KV.defs₀ (F := F) = Cert.KVIdeal.defs₀ (F := F) := by
  unfold Cert.KV.defs₀ Cert.KVIdeal.defs₀
  rw [body_same]
  refine congrArg _ (funext fun l => funext fun a => ?_)
  rcases l with ⟨_ | n, h⟩
  · rfl
  · exact absurd h (Nat.not_lt.2 (Nat.le_add_left _ _))

theorem tables_same : Cert.KV.defs (F := F) = Cert.KVIdeal.defs (F := F) := by
  unfold Cert.KV.defs Cert.KVIdeal.defs
  rw [bodies_same]
  rfl

/-- The frame of the one is the frame of the other. -/
theorem frame (m : (ℓ : Loc Cert.KV.nD Cert.KV.τ Cert.KV.sig) → Buf (Elt F) ℓ) (ρ : Dev Cert.KV.nD → PrngReg) :
    θ_run (Cert.KV.defs (F := F)) (onTc (τ := Cert.KV.τ) (Cert.KV.main (F := F))) ⟨m, fun _ => 0, ρ⟩ (fun r => (∀ c : Dev Cert.KV.nD,
      r.2.mem ((c.tc : Thread Cert.KV.nD Cert.KV.τ).loc Cert.KV.main_arg0) = m ((c.tc : Thread Cert.KV.nD Cert.KV.τ).loc Cert.KV.main_arg0)
      ∧ r.2.mem ((c.tc : Thread Cert.KV.nD Cert.KV.τ).loc Cert.KV.main_arg1) = m ((c.tc : Thread Cert.KV.nD Cert.KV.τ).loc Cert.KV.main_arg1))
      ∧ r.2.sem = fun _ => 0) := by
  rw [tables_same]
  exact Cert.KVIdeal.Hand.frame (F := F) m ρ

end Cert.KV.Hand

end
-- ==== Proof.KVVal.lean ====
/- The two results of the projection to the attention's columns, entry by entry: a token against a column of the weights. -/
module

public import proofs.«01_k».proof.Proof.KVRun
public import proofs.«01_k».proof.Proof.ProjMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KVIdeal.Hand
open Cert.KVIdeal Cert.KVIdeal.Gen Idealize.ShloMosaic Idealize.ShloMosaic.TcCoe Idealize.ShloMosaic.Tactic
open Cert.Project

/-- What a grid point stores is the product of its two blocks. -/
theorem prod_at (x : Vec Ideal S2048x2048 .bf16) (w : Vec Ideal S2048x512 .bf16) (r : Fin 2048) (n : Fin 512) :
    (prod x w (ix2 (n0 := 2048) (n1 := 512) r n) : EReal) =
      ∑ k : Fin 2048, (x (ix2 (n0 := 2048) (n1 := 2048) r k) : EReal) * w (ix2 (n0 := 2048) (n1 := 512) k n) := by
  unfold prod
  refine (congrFun (View.canon_cons_unit_zero (S := S2048x512) (by decide) _ _ []) _).trans ?_
  unfold k0_pay1
  pointwise

variable (m : (ℓ : Loc nD τ sig) → Buf (Elt Ideal) ℓ) (c : Dev nD)

/-- The block of the second result a storing point is for: its columns', of the three. -/
def third (t : ℕ) : ℕ := if t < 20 then t % 5 - 2 else 2

theorem idx0 : ∀ t : Fin cfg0.N, win0_0.index t = ![t.val / 5, 0] := (by decide +kernel : ∀ t : Fin grid0.N, _)
theorem idx1 : ∀ t : Fin cfg0.N, win0_1.index t = ![0, t.val % 5] := (by decide +kernel : ∀ t : Fin grid0.N, _)
theorem idx2 : ∀ t : Fin cfg0.N, win0_2.index t = ![t.val / 5, t.val % 5] := (by decide +kernel : ∀ t : Fin grid0.N, _)
theorem idx3 : ∀ t : Fin cfg0.N, win0_3.index t = ![min (t.val / 5) 3, third t.val] := (by decide +kernel : ∀ t : Fin grid0.N, _)

theorem blk_h (h : S24576x2048.Idx → EReal) (hh : m (c.tc.loc main_arg0) = h) (t : Fin cfg0.N) (r : Fin 2048) (k : Fin 2048) (R : Fin 24576) (hR : R.val = 2048 * (t.val / 5) + r.val) :
    (iblk m c 0 t : S2048x2048.Idx → EReal) (ix2 (n0 := 2048) (n1 := 2048) r k) = h (ix2 (n0 := 24576) (n1 := 2048) R k) := by
  subst hh
  blk_ext [iblk, V_main_arg0, idx0 t]

/-- The slice of the weights the call reads, rounded there, which leaves a real as it is. -/
theorem V_w (k : Fin 2048) (n : Fin 2560) (j : Fin 14848) (hj : j.val = n.val) :
    (V m c main_v1 : S2048x2560.Idx → EReal) (ix2 (n0 := 2048) (n1 := 2560) k n) = (m (c.tc.loc main_arg1) : S2048x14848.Idx → EReal) (ix2 (n0 := 2048) (n1 := 14848) k j) := by
  have hb : n.val < 14848 := by
    clear hj
    omega
  obtain rfl : j = ⟨n.val, hb⟩ := Fin.ext hj
  show (truncf (F := Ideal) .bf16 (extractStridedSlice S2048x2560 ![0, 0] (m (c.tc.loc main_arg1)) slices_S2048x14848_S2048x2560_0_0) bitsLt_bf16_f32) _ = _
  pointwise

theorem blk_w (t : Fin cfg0.N) (k : Fin 2048) (i : Fin 512) (n : Fin 2560) (hn : n.val = 512 * (t.val % 5) + i.val) :
    (iblk m c 1 t : S2048x512.Idx → EReal) (ix2 (n0 := 2048) (n1 := 512) k i) = (V m c main_v1 : S2048x2560.Idx → EReal) (ix2 (n0 := 2048) (n1 := 2560) k n) := by
  blk_ext [iblk, idx1 t]

/-- An entry of what a point stores, from the call's arguments. -/
theorem left_at (h : S24576x2048.Idx → EReal) (hh : m (c.tc.loc main_arg0) = h) (W : S2048x14848.Idx → EReal) (hW : m (c.tc.loc main_arg1) = W)
    (t : Fin cfg0.N) (r : Fin 2048) (i : Fin 512) (R : Fin 24576) (hR : R.val = 2048 * (t.val / 5) + r.val)
    (j : Fin 14848) (hj : j.val = 512 * (t.val % 5) + i.val) :
    (left m c t (ix2 (n0 := 2048) (n1 := 512) r i) : EReal) = entry h W R j := by
  have hb : 512 * (t.val % 5) + i.val < 2560 := by omega
  unfold left
  refine (prod_at _ _ _ _).trans (Finset.sum_congr rfl fun k _ => ?_)
  rw [blk_h m c h hh t r k R hR, blk_w m c t k i ⟨_, hb⟩ rfl, V_w m c k ⟨_, hb⟩ j hj, hW]

/-- A place in a block. -/
def loc (R n : ℕ) : S2048x512.Idx := ix2 (n0 := 2048) (n1 := 512) ⟨R % 2048, Nat.mod_lt _ (by decide)⟩ ⟨n % 512, Nat.mod_lt _ (by decide)⟩

theorem loc_eq (R n a b : ℕ) (y : S2048x512.Idx) (h0 : R = a * 2048 + 1 * (y 0).val) (h1 : n = b * 512 + 1 * (y 1).val) :
    R / 2048 = a ∧ n / 512 = b ∧ loc R n = y := by
  have y0 : (y 0).val < 2048 := (y 0).isLt
  have y1 : (y 1).val < 512 := (y 1).isLt
  refine ⟨by omega, by omega, ?_⟩
  funext b
  match b with
  | ⟨0, _⟩ => exact Fin.ext (show R % 2048 = (y 0).val by omega)
  | ⟨1, _⟩ => exact Fin.ext (show n % 512 = (y 1).val by omega)

/-- The column of blocks in the whole that one of the second result's three is. -/
def tile (q : ℕ) : ℕ := if q = 0 then 1 else q + 2

/-- The points that store an entry of the first result and of the second, and the point that writes the second's back. -/
def pt0 (i : S24576x2560.Idx) : Fin cfg0.N :=
  ⟨5 * ((i 0).val / 2048) + (i 1).val / 512, lt_of_lt_of_eq (by have : (i 0).val < 24576 := (i 0).isLt; have : (i 1).val < 2560 := (i 1).isLt; omega) N_0.symm⟩
def pt1 (i : S8192x1536.Idx) : Fin cfg0.N :=
  ⟨5 * ((i 0).val / 2048) + tile ((i 1).val / 512), lt_of_lt_of_eq (by have : (i 0).val < 8192 := (i 0).isLt; have : (i 1).val < 1536 := (i 1).isLt; unfold tile; split <;> omega) N_0.symm⟩
def back (i : S8192x1536.Idx) : Fin cfg0.N :=
  ⟨if (i 1).val / 512 = 2 ∧ (i 0).val / 2048 = 3 then 59 else 5 * ((i 0).val / 2048) + (i 1).val / 512 + 2,
    lt_of_lt_of_eq (by have : (i 0).val < 8192 := (i 0).isLt; have : (i 1).val < 1536 := (i 1).isLt; split <;> omega) N_0.symm⟩

/-- The two results. -/
def out0 : S24576x2560.Idx → EReal := fun i => left m c (pt0 i) (loc (i 0).val (i 1).val)
def out1 : S8192x1536.Idx → EReal := fun i => left m c (pt1 i) (loc (i 0).val (i 1).val)

theorem arr0_of (L : Fin cfg0.N → S2048x512.Idx → EReal) (hL : ∀ t, (dats m 0 c).after 2 t = L t) :
    (dats m 0 c).arrAt 2 cfg0.N = (fun i => L (pt0 i) (loc (i 0).val (i 1).val) : S24576x2560.Idx → EReal) := by
  refine (dats m 0 c).arrAt_eq_of_cover 2 _ (fun t hf => ?_) fun i => ⟨pt0 i, flush0_2 _, ?_⟩
  · show (cfg0.win 2).cut (grid0.coords t) ((dats m 0 c).after 2 t) = _
    rw [hL]
    funext y
    obtain ⟨e, f, l⟩ := loc_eq (((cfg0.win 2).blk t).view.emb y 0).val (((cfg0.win 2).blk t).view.emb y 1).val (win0_2.index t 0) (win0_2.index t 1) ((cfg0.win 2).xinj (grid0.coords t) y) rfl rfl
    have e' : pt0 (((cfg0.win 2).blk t).view.emb y) = t := by
      have e0 := e.trans (congrFun (idx2 t) 0)
      have f0 := f.trans (congrFun (idx2 t) 1)
      refine Fin.ext ?_
      show 5 * ((((cfg0.win 2).blk t).view.emb y 0).val / 2048) + (((cfg0.win 2).blk t).view.emb y 1).val / 512 = t.val
      rw [e0, f0]
      show 5 * (t.val / 5) + t.val % 5 = t.val
      omega
    show L t ((cfg0.win 2).xinj (grid0.coords t) y) = L (pt0 (((cfg0.win 2).blk t).view.emb y)) (loc (((cfg0.win 2).blk t).view.emb y 0).val (((cfg0.win 2).blk t).view.emb y 1).val)
    rw [e', l]
  · show i ∈ ((View.whole main_v2_0).slice (win0_2.rect (pt0 i))).set
    rw [View.set_slice_whole, Rect.mem_set_unit]
    have h0 : (i 0).val < 24576 := (i 0).isLt
    have h1 : (i 1).val < 2560 := (i 1).isLt
    have hp : (pt0 i).val = 5 * ((i 0).val / 2048) + (i 1).val / 512 := rfl
    intro a
    show win0_2.index (pt0 i) a * S2048x512.size a ≤ (i a).val ∧ (i a).val < win0_2.index (pt0 i) a * S2048x512.size a + S2048x512.size a
    rw [idx2]
    match a with
    | ⟨0, _⟩ =>
      show (pt0 i).val / 5 * 2048 ≤ (i 0).val ∧ (i 0).val < (pt0 i).val / 5 * 2048 + 2048
      omega
    | ⟨1, _⟩ =>
      show (pt0 i).val % 5 * 512 ≤ (i 1).val ∧ (i 1).val < (pt0 i).val % 5 * 512 + 512
      omega

/-- A point that writes back writes the block its source stored. -/
theorem src_val (t : Fin cfg0.N) (hb : backs t.val) : 5 * min (t.val / 5) 3 + tile (third t.val) = (src t).val := by
  unfold backs at hb
  unfold src third tile
  split
  · split
    · rw [if_pos (by omega)]
      show 5 * min (t.val / 5) 3 + 1 = t.val - 1
      omega
    · rw [if_neg (by omega)]
      omega
  · show 5 * min (t.val / 5) 3 + 4 = 19
    omega

theorem arr1_of (L : Fin cfg0.N → S2048x512.Idx → EReal) (hL : ∀ t, (dats m 0 c).after 3 t = L (src t)) :
    (dats m 0 c).arrAt 3 cfg0.N = (fun i => L (pt1 i) (loc (i 0).val (i 1).val) : S8192x1536.Idx → EReal) := by
  refine (dats m 0 c).arrAt_eq_of_cover 3 _ (fun t hf => ?_) fun i => ⟨back i, ?_, ?_⟩
  · have hb : backs t.val := by
      rw [flush3] at hf
      exact of_decide_eq_true hf
    show (cfg0.win 3).cut (grid0.coords t) ((dats m 0 c).after 3 t) = _
    rw [hL]
    funext y
    obtain ⟨e, f, l⟩ := loc_eq (((cfg0.win 3).blk t).view.emb y 0).val (((cfg0.win 3).blk t).view.emb y 1).val (win0_3.index t 0) (win0_3.index t 1) ((cfg0.win 3).xinj (grid0.coords t) y) rfl rfl
    have e' : pt1 (((cfg0.win 3).blk t).view.emb y) = src t := by
      have e0 := e.trans (congrFun (idx3 t) 0)
      have f0 := f.trans (congrFun (idx3 t) 1)
      refine Fin.ext ?_
      show 5 * ((((cfg0.win 3).blk t).view.emb y 0).val / 2048) + tile ((((cfg0.win 3).blk t).view.emb y 1).val / 512) = (src t).val
      rw [e0, f0]
      exact src_val t hb
    show L (src t) ((cfg0.win 3).xinj (grid0.coords t) y) = L (pt1 (((cfg0.win 3).blk t).view.emb y)) (loc (((cfg0.win 3).blk t).view.emb y 0).val (((cfg0.win 3).blk t).view.emb y 1).val)
    rw [e', l]
  · have h0 : (i 0).val < 8192 := (i 0).isLt
    have h1 : (i 1).val < 1536 := (i 1).isLt
    rw [flush3]
    refine decide_eq_true ?_
    unfold backs back
    dsimp only
    split <;> omega
  · show i ∈ ((View.whole main_v2_1).slice (win0_3.rect (back i))).set
    rw [View.set_slice_whole, Rect.mem_set_unit]
    have h0 : (i 0).val < 8192 := (i 0).isLt
    have h1 : (i 1).val < 1536 := (i 1).isLt
    have hp : min ((back i).val / 5) 3 = (i 0).val / 2048 ∧ third (back i).val = (i 1).val / 512 := by
      unfold back third
      dsimp only
      split
      · rw [if_neg (by decide)]
        omega
      · rw [if_pos (by omega)]
        omega
    intro a
    show win0_3.index (back i) a * S2048x512.size a ≤ (i a).val ∧ (i a).val < win0_3.index (back i) a * S2048x512.size a + S2048x512.size a
    rw [idx3, hp.1, hp.2]
    match a with
    | ⟨0, _⟩ =>
      show (i 0).val / 2048 * 2048 ≤ (i 0).val ∧ (i 0).val < (i 0).val / 2048 * 2048 + 2048
      omega
    | ⟨1, _⟩ =>
      show (i 1).val / 512 * 512 ≤ (i 1).val ∧ (i 1).val < (i 1).val / 512 * 512 + 512
      omega

theorem out0_eq : (dats m 0 c).arrAt 2 cfg0.N = out0 m c := arr0_of m c (left m c) (after_all m c)
theorem out1_eq : (dats m 0 c).arrAt 3 cfg0.N = out1 m c := arr1_of m c (left m c) (after_kv m c)

section
variable (h : S24576x2048.Idx → EReal) (hh : m (c.tc.loc main_arg0) = h) (W : S2048x14848.Idx → EReal) (hW : m (c.tc.loc main_arg1) = W)
include hh hW

/-- An entry of the first result, from the call's arguments, -/
theorem out0_at (R : Fin 24576) (n : Fin 2560) (j : Fin 14848) (hj : j.val = n.val) :
    out0 m c (ix2 (n0 := 24576) (n1 := 2560) R n) = entry h W R j := by
  have hp : (pt0 (ix2 (n0 := 24576) (n1 := 2560) R n)).val = 5 * (R.val / 2048) + n.val / 512 := rfl
  refine left_at m c h hh W hW _ _ _ R ?_ j ?_
  · rw [hp]
    show R.val = 2048 * _ + R.val % 2048
    omega
  · rw [hp]
    show j.val = 512 * _ + n.val % 512
    omega

/-- and of the second, whose columns are those from 512 to 1023 and from 1536 on. -/
theorem out1_at (r : Fin 8192) (n : Fin 1536) (R : Fin 24576) (hR : R.val = r.val) (j : Fin 14848) (hj : j.val = if n.val < 512 then 512 + n.val else 1024 + n.val) :
    out1 m c (ix2 (n0 := 8192) (n1 := 1536) r n) = entry h W R j := by
  have hp : (pt1 (ix2 (n0 := 8192) (n1 := 1536) r n)).val = 5 * (r.val / 2048) + tile (n.val / 512) := rfl
  unfold tile at hp
  refine left_at m c h hh W hW _ _ _ R ?_ j ?_
  · rw [hp]
    show R.val = 2048 * _ + r.val % 2048
    split <;> omega
  · rw [hp]
    show j.val = 512 * _ + n.val % 512
    rw [hj]
    split <;> split <;> omega

end

/-- The run, with the two results. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = out0 m c
      ∧ r.2.mem ((c.tc : Thread nD τ).loc main_v2_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have hv : θ_run defs (onTc (τ := τ) (main (F := Ideal))) ⟨m, fun _ => 0, ρ⟩ (fun r => ∀ c : Dev nD,
      r.2.mem ((c.tc : Thread nD τ).loc main_v2_0) = out0 m c ∧ r.2.mem ((c.tc : Thread nD τ).loc main_v2_1) = out1 m c) :=
    (θ_run defs _ _).mono (fun _ h c => ⟨((h.1 c).1 2).trans (out0_eq m c), ((h.1 c).1 3).trans (out1_eq m c)⟩) (run_all m ρ)
  (θ_run defs _ _).mono (fun _ h c => ⟨(h.1 c).1, (h.1 c).2, (h.2.1 c).1, (h.2.1 c).2⟩) (θ_run_and hv (frame m ρ))

end Cert.KVIdeal.Hand

end
-- ==== Proof.KVAlgebra.lean ====
/- The projection to the attention's columns and its reference leave the same two results. -/
module

public import proofs.«01_k».proof.Proof.KVVal
public import proofs.«01_k».proof.Proof.Gen.KVReferenceIdeal.Run
public import Idealize.ShloMosaic.Lib.Quiescent
public import proofs.«01_k».proof.Defs

@[expose] public section

set_option maxRecDepth 16384

noncomputable section

open Idealize.ShloMosaic Idealize.ShloMosaic.TcCoe Idealize.ShloMosaic.Tactic
open Cert.Project

namespace Cert.KVReferenceIdeal.Hand
open Cert.KVReferenceIdeal Cert.KVReferenceIdeal.Gen

/-- The projection in one piece, and the pieces of it the attention takes. -/
def whole (h : FVec Ideal S24576x2048 .bf16) (W : FVec Ideal S2048x14848 .f32) : FVec Ideal S24576x14848 .f32 :=
  Host.dotGeneral (F := Ideal) dot_S24576x2048_S2048x14848_S24576x14848_1_0_0_1_n_n none (extf .f32 h bitsLt_bf16_f32) W

theorem whole_at (h : FVec Ideal S24576x2048 .bf16) (W : FVec Ideal S2048x14848 .f32) (R : Fin 24576) (n : Fin 14848) :
    (whole h W (ix2 (n0 := 24576) (n1 := 14848) R n) : EReal) = entry h W R n := by
  unfold whole
  generalize hv : entry h W R _ = v
  pointwise
  subst hv
  rfl

variable (u : FVec Ideal S24576x14848 .f32)

def aq : FVec Ideal S24576x512 .f32 := extractStridedSlice S24576x512 ![0, 0] u slices_S24576x14848_S24576x512_0_0
def ak : FVec Ideal S24576x256 .f32 := extractStridedSlice S24576x256 ![0, 512] u slices_S24576x14848_S24576x256_0_512
def av : FVec Ideal S24576x256 .f32 := extractStridedSlice S24576x256 ![0, 768] u slices_S24576x14848_S24576x256_0_768
def bq : FVec Ideal S24576x512 .f32 := extractStridedSlice S24576x512 ![0, 1024] u slices_S24576x14848_S24576x512_0_1024
def bk : FVec Ideal S24576x512 .f32 := extractStridedSlice S24576x512 ![0, 1536] u slices_S24576x14848_S24576x512_0_1536
def bv : FVec Ideal S24576x512 .f32 := extractStridedSlice S24576x512 ![0, 2048] u slices_S24576x14848_S24576x512_0_2048

/-- The pieces of every token, and the keys and values of the context. -/
def res0 : FVec Ideal S24576x2560 .f32 :=
  concatenate S24576x2560 1 [⟨S24576x512, aq u⟩, ⟨S24576x256, ak u⟩, ⟨S24576x256, av u⟩, ⟨S24576x512, bq u⟩, ⟨S24576x512, bk u⟩, ⟨S24576x512, bv u⟩]
    concatenates_S24576x512_S24576x256_S24576x256_S24576x512_S24576x512_S24576x512_S24576x2560_d1

def res1 : FVec Ideal S8192x1536 .f32 :=
  extractStridedSlice S8192x1536 ![0, 0] (concatenate S24576x1536 1 [⟨S24576x256, ak u⟩, ⟨S24576x256, av u⟩, ⟨S24576x512, bk u⟩, ⟨S24576x512, bv u⟩]
    concatenates_S24576x256_S24576x256_S24576x512_S24576x512_S24576x1536_d1) slices_S24576x1536_S8192x1536_0_0

section
variable (R : Fin 24576)

theorem aq_at (r : Fin 512) (j : Fin 14848) (hj : j.val = r.val) : (aq u (ix2 (n0 := 24576) (n1 := 512) R r) : EReal) = u (ix2 (n0 := 24576) (n1 := 14848) R j) := by
  rw [show j = ⟨r.val, by omega⟩ from Fin.ext hj]
  unfold aq
  pointwise

theorem ak_at (r : Fin 256) (j : Fin 14848) (hj : j.val = 512 + r.val) : (ak u (ix2 (n0 := 24576) (n1 := 256) R r) : EReal) = u (ix2 (n0 := 24576) (n1 := 14848) R j) := by
  rw [show j = ⟨512 + r.val, by omega⟩ from Fin.ext hj]
  unfold ak
  pointwise

theorem av_at (r : Fin 256) (j : Fin 14848) (hj : j.val = 768 + r.val) : (av u (ix2 (n0 := 24576) (n1 := 256) R r) : EReal) = u (ix2 (n0 := 24576) (n1 := 14848) R j) := by
  rw [show j = ⟨768 + r.val, by omega⟩ from Fin.ext hj]
  unfold av
  pointwise

theorem bq_at (r : Fin 512) (j : Fin 14848) (hj : j.val = 1024 + r.val) : (bq u (ix2 (n0 := 24576) (n1 := 512) R r) : EReal) = u (ix2 (n0 := 24576) (n1 := 14848) R j) := by
  rw [show j = ⟨1024 + r.val, by omega⟩ from Fin.ext hj]
  unfold bq
  pointwise

theorem bk_at (r : Fin 512) (j : Fin 14848) (hj : j.val = 1536 + r.val) : (bk u (ix2 (n0 := 24576) (n1 := 512) R r) : EReal) = u (ix2 (n0 := 24576) (n1 := 14848) R j) := by
  rw [show j = ⟨1536 + r.val, by omega⟩ from Fin.ext hj]
  unfold bk
  pointwise

theorem bv_at (r : Fin 512) (j : Fin 14848) (hj : j.val = 2048 + r.val) : (bv u (ix2 (n0 := 24576) (n1 := 512) R r) : EReal) = u (ix2 (n0 := 24576) (n1 := 14848) R j) := by
  rw [show j = ⟨2048 + r.val, by omega⟩ from Fin.ext hj]
  unfold bv
  pointwise

end

theorem res0_at (R : Fin 24576) (n : Fin 2560) (j : Fin 14848) (hj : j.val = n.val) :
    (res0 u (ix2 (n0 := 24576) (n1 := 2560) R n) : EReal) = u (ix2 (n0 := 24576) (n1 := 14848) R j) := by
  unfold res0
  generalize hv : u (ix2 (n0 := 24576) (n1 := 14848) R j) = v
  generalize ha : aq u = a
  generalize hb : ak u = b
  generalize hc : av u = c
  generalize hd : bq u = d
  generalize he : bk u = e
  generalize hf : bv u = f
  pointwise
  subst hv ha hb hc hd he hf
  split
  · refine aq_at u R _ j (show j.val = n.val from ?_)
    omega
  split
  · refine ak_at u R _ j (show j.val = 512 + (n.val - 512) from ?_)
    omega
  split
  · refine av_at u R _ j (show j.val = 768 + (n.val - 512 - 256) from ?_)
    omega
  split
  · refine bq_at u R _ j (show j.val = 1024 + (n.val - 512 - 256 - 256) from ?_)
    omega
  split
  · refine bk_at u R _ j (show j.val = 1536 + (n.val - 512 - 256 - 256 - 512) from ?_)
    omega
  refine bv_at u R _ j (show j.val = 2048 + (n.val - 512 - 256 - 256 - 512 - 512) from ?_)
  omega

theorem res1_at (r : Fin 8192) (n : Fin 1536) (R : Fin 24576) (hR : R.val = r.val) (j : Fin 14848) (hj : j.val = if n.val < 512 then 512 + n.val else 1024 + n.val) :
    (res1 u (ix2 (n0 := 8192) (n1 := 1536) r n) : EReal) = u (ix2 (n0 := 24576) (n1 := 14848) R j) := by
  have hR' : r.val < 24576 := by
    clear hR
    omega
  obtain rfl : R = ⟨r.val, hR'⟩ := Fin.ext hR
  unfold res1
  generalize hv : u (ix2 (n0 := 24576) (n1 := 14848) _ j) = v
  generalize hb : ak u = b
  generalize hc : av u = c
  generalize he : bk u = e
  generalize hf : bv u = f
  pointwise
  subst hv hb hc he hf
  split
  · refine ak_at u _ _ j (show j.val = 512 + n.val from ?_)
    split at hj <;> omega
  split
  · refine av_at u _ _ j (show j.val = 768 + (n.val - 256) from ?_)
    split at hj <;> omega
  split
  · refine bk_at u _ _ j (show j.val = 1536 + (n.val - 256 - 256) from ?_)
    split at hj <;> omega
  refine bv_at u _ _ j (show j.val = 2048 + (n.val - 256 - 256 - 512) from ?_)
  split at hj <;> omega

end Cert.KVReferenceIdeal.Hand

namespace Cert.AttnCols

theorem index_eq {n k : ℕ} (i : (⟨2, ![n, k]⟩ : Shape).Idx) : i = ix2 (n0 := n) (n1 := k) (i 0) (i 1) := by
  funext a
  match a with
  | ⟨0, _⟩ => rfl
  | ⟨1, _⟩ => rfl

/-- The reference's run leaves its arguments and every counter as they were. -/
theorem quiet : quiescent_KVReferenceIdeal (hKVReferenceIdeal := Cert.KVReferenceIdeal.Gen.facts) := fun m g _ =>
  (θ_run _ _ _).mono (fun _ h => ⟨fun c => (h c).2.2, sem_eq_zero_of_no_sems rfl _⟩) (Cert.KVReferenceIdeal.Value.run (F := Ideal) m g)

section
variable (c : Dev Cert.KVIdeal.nD) (h : (⟨2, ![24576, 2048]⟩ : Shape).Idx → EReal) (W : (⟨2, ![2048, 14848]⟩ : Shape).Idx → EReal)
  (m : (ℓ : Loc Cert.KVIdeal.nD Cert.KVIdeal.τ Cert.KVIdeal.sig) → Buf (Elt Ideal) ℓ)
  (h0 : m (c.tc.loc Cert.KVIdeal.main_arg0) = h) (h1 : m (c.tc.loc Cert.KVIdeal.main_arg1) = W)
include h0 h1

theorem eq0 : (Cert.KVReferenceIdeal.Hand.res0 (Cert.KVReferenceIdeal.Hand.whole h W) : (⟨2, ![24576, 2560]⟩ : Shape).Idx → EReal) = Cert.KVIdeal.Hand.out0 m c := by
  funext i
  rw [index_eq i]
  have hb : (i 1).val < 14848 := by
    have : (i 1).val < 2560 := (i 1).isLt
    omega
  exact ((Cert.KVReferenceIdeal.Hand.res0_at _ (i 0) (i 1) ⟨_, hb⟩ rfl).trans (Cert.KVReferenceIdeal.Hand.whole_at h W _ _)).trans
    (Cert.KVIdeal.Hand.out0_at m c h h0 W h1 (i 0) (i 1) ⟨_, hb⟩ rfl).symm

theorem eq1 : (Cert.KVReferenceIdeal.Hand.res1 (Cert.KVReferenceIdeal.Hand.whole h W) : (⟨2, ![8192, 1536]⟩ : Shape).Idx → EReal) = Cert.KVIdeal.Hand.out1 m c := by
  funext i
  rw [index_eq i]
  have ha : (i 0).val < 24576 := by
    have : (i 0).val < 8192 := (i 0).isLt
    omega
  have hb : (if (i 1).val < 512 then 512 + (i 1).val else 1024 + (i 1).val) < 14848 := by
    have : (i 1).val < 1536 := (i 1).isLt
    split <;> omega
  exact ((Cert.KVReferenceIdeal.Hand.res1_at _ (i 0) (i 1) ⟨_, ha⟩ rfl ⟨_, hb⟩ rfl).trans (Cert.KVReferenceIdeal.Hand.whole_at h W _ _)).trans
    (Cert.KVIdeal.Hand.out1_at m c h h0 W h1 (i 0) (i 1) ⟨_, ha⟩ rfl ⟨_, hb⟩ rfl).symm

end

/-- The claim about the values. -/
theorem algebraic : algebraic_KVIdeal_KVReferenceIdeal (hKVIdeal := Cert.KVIdeal.Gen.facts) (hKVReferenceIdeal := Cert.KVReferenceIdeal.Gen.facts) := by
  intro m g m' g' _ hargs
  refine ⟨Cert.KVIdeal.Hand.out0 m, Cert.KVIdeal.Hand.out1 m, Cert.KVIdeal.Hand.run m g,
    (θ_run _ _ _).mono (fun r h c => ⟨(h c).1.trans ?_, (h c).2.1.trans ?_, (h c).2.2⟩) (Cert.KVReferenceIdeal.Value.run (F := Ideal) m' g')⟩
  all_goals
    obtain ⟨a0, a1⟩ := hargs c
    rw [a0, a1]
  · exact eq0 c _ _ m rfl rfl
  · exact eq1 c _ _ m rfl rfl

end Cert.AttnCols

end
-- ==== Proof.Quiet.lean ====
/- The reference's run leaves its arguments and every counter as they were. -/
module

public import proofs.«01_k».proof.Proof.Gen.ReferenceIdeal.Run
public import Idealize.ShloMosaic.Lib.Quiescent
public import proofs.«01_k».proof.Defs

@[expose] public section

namespace Cert.ReferenceIdeal.Hand
open Idealize.ShloMosaic Idealize.ShloMosaic.TcCoe

theorem quiet : quiescent_ReferenceIdeal (hReferenceIdeal := Cert.ReferenceIdeal.Gen.facts) := fun m g _ =>
  (θ_run _ _ _).mono (fun _ h => ⟨fun c => (h c).2.2, sem_eq_zero_of_no_sems rfl _⟩) (Cert.ReferenceIdeal.Value.run (F := Ideal) m g)

theorem quiet_pre [hPre_finite : Cert.Pre_finite.Facts] :
    quiescent_ReferenceIdeal_pre_finite (hReferenceIdeal := Cert.ReferenceIdeal.Gen.facts) := fun m g _ =>
  (θ_run _ _ _).mono (fun _ h => ⟨fun c => (h c).2.2, sem_eq_zero_of_no_sems rfl _⟩) (Cert.ReferenceIdeal.Value.run (F := Ideal) m g)

end Cert.ReferenceIdeal.Hand
-- ==== Proof.Same.lean ====
/- The kernel as printed is the idealized one with its named constant read as the literal it stands for, so the one
   run serves both. -/
module

public import proofs.«01_k».proof.Proof.Launch
public import proofs.«01_k».proof.Proof.Gen.Kernel.Frame

@[expose] public section

set_option maxRecDepth 16384

noncomputable section

namespace Cert.Kernel.Hand
open Idealize.ShloMosaic Idealize.ShloMosaic.TcCoe Idealize.SL.Sem

/-- A named constant read as the literal in the program. -/
abbrev literal : Named Bits := ⟨fun _ _ {φ} b => Scalar.ofBits φ b⟩

/-- The kernel's body is the same in both. -/
theorem body_same : (Cert.Kernel.cc0_hgrn (F := Bits)) = @Cert.KernelIdeal.cc0_hgrn Bits _ literal _ := rfl

/-- So are the tables of bodies, -/
theorem defs₀_same : Cert.Kernel.defs₀ (F := Bits) = @Cert.KernelIdeal.defs₀ Bits _ literal _ := by
  unfold Cert.Kernel.defs₀ Cert.KernelIdeal.defs₀
  rw [body_same]
  refine congrArg _ (funext fun l => funext fun a => ?_)
  rcases l with ⟨_ | n, h⟩
  · rfl
  · exact absurd h (Nat.not_lt.2 (Nat.le_add_left _ _))

/-- with the pipeline's own, -/
theorem defs_same : Cert.Kernel.defs (F := Bits) = @Cert.KernelIdeal.defs Bits _ literal _ := by
  unfold Cert.Kernel.defs Cert.KernelIdeal.defs
  rw [defs₀_same]
  rfl

/-- and the frame of the one is the frame of the other. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same]
  exact @Cert.KernelIdeal.Hand.frame Bits _ literal m ρ

end Cert.Kernel.Hand
-- ==== Proof.Finite.lean ====
/- What the precondition says of the arguments: their entries are real numbers. -/
module

public import proofs.«01_k».proof.Pre_finite
public import Idealize.ShloMosaic.Lib.ReduceAll
public import Idealize.ShloMosaic.Lib.Pointwise

@[expose] public section

noncomputable section

namespace Cert.Pre_finite
open Idealize.ShloMosaic

theorem top_lit : Ideal.ofBits .f32 0x7F800000#32 = (⊤ : EReal) := by simp [Ideal.ofBits, Ideal.ieee]

instance : Subsingleton S_.Idx := ⟨fun a b => funext fun i => i.elim0⟩

/-- A number whose absolute value is below the top is real. -/
theorem real_of_abs (x : EReal) (h : ((max x (-x) : EReal)) < ⊤) : ∃ r : ℝ, x = (r : EReal) := by
  induction x using EReal.rec with
  | bot => exact absurd h (by simp [])
  | coe r => exact ⟨r, rfl⟩
  | top => exact absurd h (by simp [])

theorem real_of {φ : FTy} {s : Shape} {x : FVec Ideal s φ} {y : FVec Ideal s φ} {i : s.Idx}
    (h : cmpf .olt (Host.absf x) y i = 1#1) (hy : (y i : EReal) = ⊤) : ∃ r : ℝ, (x i : EReal) = (r : EReal) := by
  refine real_of_abs _ ?_
  have h2 : BitVec.ofBool (decide ((max (x i : EReal) (-(x i : EReal)) : EReal) < (y i : EReal))) = 1#1 := h
  rw [hy] at h2
  by_contra hc
  rw [decide_eq_false hc] at h2
  exact absurd h2 (by decide)

variable [Facts] (x0 : FVec Ideal S24576x4096 .bf16) (x1 : FVec Ideal S4x2x512 .f32) (x2 : FVec Ideal S4x128 .f32)

theorem both_one (h : fn (F := Ideal) x0 x1 x2 = fun _ => 1#1) :
    (∀ i, ∃ r : ℝ, (x0 i : EReal) = (r : EReal)) ∧ ∀ i, ∃ r : ℝ, (x1 i : EReal) = (r : EReal) := by
  have h' := congrFun h (fun i => i.elim0)
  unfold fn at h'
  obtain ⟨ha, hb⟩ := IntOp.andi_eq_one.1 h'
  refine ⟨fun i => ?_, fun i => ?_⟩
  · have e := Host.reduce_andi_all _ _ _ _ _ ha i
    exact real_of e top_lit
  · have e := Host.reduce_andi_all _ _ _ _ _ hb i
    exact real_of e top_lit

end Cert.Pre_finite
end
-- ==== Proof.Algebra.lean ====
/- The two programs' results are equal. -/
module

public import proofs.«01_k».proof.Proof.KerReal
public import proofs.«01_k».proof.Proof.Finite
public import proofs.«01_k».proof.Defs

@[expose] public section

set_option maxRecDepth 16384

noncomputable section

namespace Cert.Hgrn
open Idealize.ShloMosaic Idealize.ShloMosaic.TcCoe Idealize.ShloMosaic.StableHlo
open Cert.ReferenceIdeal Cert.ReferenceIdeal.Gen Cert.ReferenceIdeal.Value Cert.ReferenceIdeal.Hand

theorem dir_of (d : Fin 2) : ∃ e : Bool, (if e then (1 : Fin 2) else 0) = d := ⟨decide (d = 1), by revert d; decide⟩

section
variable (V : Valuation τ sig (Elt Ideal)) (A : Fin 24576 → Fin 4096 → ℝ) (l : Fin 4 → Fin 2 → Fin 512 → ℝ)
  (hA : ∀ r c, (V (Proc.devRef .tc main_arg0) : S24576x4096.Idx → EReal) (ix2 (n0 := 24576) (n1 := 4096) r c) = (A r c : EReal))
  (hl : ∀ t d c, (V (Proc.devRef .tc main_arg1) : S4x2x512.Idx → EReal) (ix3 (n0 := 4) (n1 := 2) (n2 := 512) t d c) = (l t d c : EReal))
include hA hl

/-- The states. -/
theorem states_eq : (Cert.KernelIdeal.Hand.resS (F := Ideal) (V (Proc.devRef .tc main_arg0)) (V (Proc.devRef .tc main_arg1)) : S32x2x4x128x128.Idx → EReal)
    = out_main_v158 (fin8 V) := by
  funext i
  have ei : i = ix5 (n0 := 32) (n1 := 2) (n2 := 4) (n3 := 128) (n4 := 128) (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  rw [ei]
  generalize (i 0 : Fin 32) = b
  generalize (i 2 : Fin 4) = h
  generalize (i 3 : Fin 128) = k
  generalize (i 4 : Fin 128) = j
  obtain ⟨e, he⟩ := dir_of (i 1)
  rw [← he]
  refine (Cert.KernelIdeal.Hand.resS_val _ _ A l hA hl b e h k j).trans ?_
  refine Eq.symm ((v158_at _ b _ h k j).trans ?_)
  exact st_end V A l hA hl e b h k j

section
variable (k0 : fin8 V (Proc.devRef .tc main_arg0) = V (Proc.devRef .tc main_arg0)) (k2 : fin8 V (Proc.devRef .tc main_arg2) = V (Proc.devRef .tc main_arg2))
include k0 k2

/-- One entry of the rows. -/
theorem rows_at (r : Fin 8192) (c : Fin 512) :
    (Cert.KernelIdeal.Hand.resO (F := Ideal) (V (Proc.devRef .tc main_arg0)) (V (Proc.devRef .tc main_arg1)) (V (Proc.devRef .tc main_arg2)) : S8192x512.Idx → EReal)
      (ix2 (n0 := 8192) (n1 := 512) r c) = (out_main_v155 (fin8 V) : S8192x512.Idx → EReal) (ix2 (n0 := 8192) (n1 := 512) r c) := by
  refine (Cert.KernelIdeal.Hand.resO_val _ _ _ A l hA hl r c).trans ?_
  refine Eq.symm ((v155_at _ r c).trans ?_)
  rw [k0, k2, show sumO (fin8 V (Proc.devRef .tc main_v124_7)) ⟨r.val / 256, by omega⟩ ⟨r.val % 256, by omega⟩ ⟨c.val / 128, by omega⟩ = _ from
    funext fun i => sum_end V A l hA hl _ _ _ i]
  refine congrArg (fun g => gated _ _ g _) ((hA _ _).trans (congrArg (fun x : ℝ => (x : EReal)) (Zs_of A 7 ⟨r.val / 256, by omega⟩ ⟨r.val % 256, by omega⟩ c _ _ ?_ ?_)))
  · show r.val = 256 * (r.val / 256) + r.val % 256
    omega
  · rfl

/-- The rows. -/
theorem rows_eq :
    (Cert.KernelIdeal.Hand.resO (F := Ideal) (V (Proc.devRef .tc main_arg0)) (V (Proc.devRef .tc main_arg1)) (V (Proc.devRef .tc main_arg2)) : S8192x512.Idx → EReal)
    = out_main_v155 (fin8 V) := by
  funext i
  have ei : i = ix2 (n0 := 8192) (n1 := 512) (i 0) (i 1) := by
    funext a
    match a with
    | ⟨0, _⟩ => rfl
    | ⟨1, _⟩ => rfl
  rw [ei]
  exact rows_at V A l hA hl k0 k2 (i 0) (i 1)

end
end

theorem fin8_entry (m : (ℓ : Loc nD τ sig) → Buf (Elt Ideal) ℓ) (c : Dev nD) :
    STEP^[8] (entryContents preI m c) = fin8 (launchContents m c) := by
  unfold fin8 tail mid head
  simp only [entryContents, preI, afterL_cons, afterL_nil]

theorem real_fun {s : Shape} (x : s.Idx → EReal) (h : ∀ i, ∃ r : ℝ, x i = (r : EReal)) : ∃ f : s.Idx → ℝ, ∀ i, x i = (f i : EReal) := Classical.axiom_of_choice h

/-- Both results of the two programs. -/
theorem results_eq [Cert.Pre_finite.Facts] (m : (ℓ : Loc nD τ sig) → Buf (Elt Ideal) ℓ) (c : Dev nD)
    (h : Cert.Pre_finite.fn (F := Ideal) (m ((c.tc : Thread nD τ).loc main_arg0)) (m ((c.tc : Thread nD τ).loc main_arg1)) (m ((c.tc : Thread nD τ).loc main_arg2)) = fun _ => 1#1) :
    (Cert.KernelIdeal.Hand.resO (F := Ideal) (m ((c.tc : Thread nD τ).loc main_arg0)) (m ((c.tc : Thread nD τ).loc main_arg1)) (m ((c.tc : Thread nD τ).loc main_arg2)) : S8192x512.Idx → EReal)
      = out_main_v155 (STEP^[8] (entryContents preI m c))
    ∧ (Cert.KernelIdeal.Hand.resS (F := Ideal) (m ((c.tc : Thread nD τ).loc main_arg0)) (m ((c.tc : Thread nD τ).loc main_arg1)) : S32x2x4x128x128.Idx → EReal)
      = out_main_v158 (STEP^[8] (entryContents preI m c)) := by
  obtain ⟨h0, h1⟩ := Cert.Pre_finite.both_one _ _ _ h
  obtain ⟨fA, hfA⟩ := real_fun _ h0
  obtain ⟨fl, hfl⟩ := real_fun _ h1
  have k0 := iter_main_arg0 (F := Ideal) m c 8
  have k2 := iter_main_arg2 (F := Ideal) m c 8
  rw [fin8_entry] at k0 k2 ⊢
  have hA : ∀ r q, (launchContents m c (Proc.devRef .tc main_arg0) : S24576x4096.Idx → EReal) (ix2 (n0 := 24576) (n1 := 4096) r q)
      = ((fA (ix2 (n0 := 24576) (n1 := 4096) r q) : ℝ) : EReal) := fun r q => hfA _
  have hl : ∀ t d q, (launchContents m c (Proc.devRef .tc main_arg1) : S4x2x512.Idx → EReal) (ix3 (n0 := 4) (n1 := 2) (n2 := 512) t d q)
      = ((fl (ix3 (n0 := 4) (n1 := 2) (n2 := 512) t d q) : ℝ) : EReal) := fun t d q => hfl _
  exact ⟨rows_eq (launchContents m c) _ _ hA hl k0 k2, states_eq (launchContents m c) _ _ hA hl⟩

/-- The claim about the values. -/
theorem algebraic [Cert.Pre_finite.Facts] : algebraic_KernelIdeal_ReferenceIdeal_pre_finite (hKernelIdeal := Cert.KernelIdeal.Gen.facts)
    (hReferenceIdeal := Cert.ReferenceIdeal.Gen.facts) := by
  intro m g m' g' hpre hargs
  refine ⟨_, _, Cert.KernelIdeal.Hand.run_vals (F := Ideal) m g, (θ_run _ _ _).mono (fun r h c => ?_) (Cert.ReferenceIdeal.Value.run (F := Ideal) m' g')⟩
  obtain ⟨a0, a1, a2⟩ := hargs c
  have hp := hpre c
  obtain ⟨r0, r1, rest⟩ := h c
  have e := results_eq m' c (by rw [a0, a1, a2]; exact hp)
  rw [a0, a1, a2] at e
  exact ⟨r0.trans e.1.symm, r1.trans e.2.symm, rest⟩

end Cert.Hgrn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1ReferenceIdeal
public import proofs.«01_k».proof.Proof.Gen.Ffn1ReferenceIdeal.Run
public import proofs.«01_k».proof.Proof.Gen.Rec
public import proofs.«01_k».proof.Proof.Gen.Rec.Skeleton
public import proofs.«01_k».proof.Proof.Gen.Rec.Launch
public import proofs.«01_k».proof.Proof.Gen.Rec.Points
public import proofs.«01_k».proof.Proof.Gen.Rec.Frame
public import proofs.«01_k».proof.Proof.Gen.RecIdeal
public import proofs.«01_k».proof.Proof.Gen.RecIdeal.Skeleton
public import proofs.«01_k».proof.Proof.Gen.RecIdeal.Launch
public import proofs.«01_k».proof.Proof.Gen.RecIdeal.Points
public import proofs.«01_k».proof.Proof.Gen.RecIdeal.Frame
public import proofs.«01_k».proof.Proof.Gen.RecIdeal.Value
public import proofs.«01_k».proof.Proof.Gen.RecReferenceIdeal
public import proofs.«01_k».proof.Proof.Gen.RecReferenceIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.KV
public import proofs.«01_k».proof.Proof.Gen.KV.Skeleton
public import proofs.«01_k».proof.Proof.Gen.KV.Launch
public import proofs.«01_k».proof.Proof.Gen.KV.Points
public import proofs.«01_k».proof.Proof.Gen.KV.Frame
public import proofs.«01_k».proof.Proof.Gen.KVIdeal
public import proofs.«01_k».proof.Proof.Gen.KVIdeal.Skeleton
public import proofs.«01_k».proof.Proof.Gen.KVIdeal.Launch
public import proofs.«01_k».proof.Proof.Gen.KVIdeal.Points
public import proofs.«01_k».proof.Proof.Gen.KVIdeal.Frame
public import proofs.«01_k».proof.Proof.Gen.KVReferenceIdeal
public import proofs.«01_k».proof.Proof.Gen.KVReferenceIdeal.Run
public import proofs.«01_k».proof.Proof.FfnAlgebra
public import proofs.«01_k».proof.Proof.Ffn1Algebra
public import proofs.«01_k».proof.Proof.ProjAlgebra
public import proofs.«01_k».proof.Proof.NormSame
public import proofs.«01_k».proof.Proof.NormAlgebra
public import proofs.«01_k».proof.Proof.KVSame
public import proofs.«01_k».proof.Proof.KVAlgebra
public import proofs.«01_k».proof.Proof.Quiet
public import proofs.«01_k».proof.Proof.Same
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Ffn1.Gen.facts, Cert.Ffn1Ideal.Gen.facts, Cert.Ffn1ReferenceIdeal.Gen.facts,
    Cert.Rec.Gen.facts, Cert.RecIdeal.Gen.facts, Cert.RecReferenceIdeal.Gen.facts,
    Cert.Gates.Gen.facts, Cert.GatesIdeal.Gen.facts, Cert.GatesReferenceIdeal.Gen.facts,
    Cert.Norm.Gen.facts, Cert.NormIdeal.Gen.facts, Cert.NormReferenceIdeal.Gen.facts,
    Cert.KV.Gen.facts, Cert.KVIdeal.Gen.facts, Cert.KVReferenceIdeal.Gen.facts, Cert.Pre_finite.Gen.facts,
    fun m ρ _ => Cert.Kernel.Hand.frame m ρ, fun m ρ _ => Cert.KernelIdeal.Hand.frame m ρ, fun m ρ _ => Cert.KernelIdeal.Hand.frame m ρ,
    Cert.ReferenceIdeal.Hand.quiet, Cert.ReferenceIdeal.Hand.quiet_pre (hPre_finite := Cert.Pre_finite.Gen.facts),
    fun m ρ _ => Cert.Ffn.Gen.frame m ρ, fun m ρ _ => Cert.FfnIdeal.Gen.frame m ρ, Cert.HalfStep.quiet,
    fun m ρ _ => Cert.Ffn1.Gen.frame m ρ, fun m ρ _ => Cert.Ffn1Ideal.Gen.frame m ρ, Cert.FirstHalfStep.quiet,
    fun m ρ _ => Cert.Rec.Gen.frame m ρ, fun m ρ _ => Cert.RecIdeal.Gen.frame m ρ, Cert.Project.quiet_rec,
    fun m ρ _ => Cert.Gates.Gen.frame m ρ, fun m ρ _ => Cert.GatesIdeal.Gen.frame m ρ, Cert.Project.quiet_gates,
    fun m ρ _ => Cert.Norm.Hand.frame m ρ, fun m ρ _ => Cert.NormIdeal.Hand.frame m ρ, Cert.Normed.quiet,
    fun m ρ _ => Cert.KV.Hand.frame m ρ, fun m ρ _ => Cert.KVIdeal.Hand.frame m ρ, Cert.AttnCols.quiet,
    IdealRules.named_const.statement Cert.KernelIdeal.κ "log2e" .f32 0x3FB8AA3B#32 (((Real.log 2)⁻¹ : ℝ) : EReal) rfl,
    @Cert.Hgrn.algebraic Cert.Pre_finite.Gen.facts, trivial, Cert.HalfStep.algebraic,
    trivial, Cert.FirstHalfStep.algebraic, trivial, Cert.Project.algebraic_rec, trivial, Cert.Project.algebraic_gates,
    trivial, Cert.Normed.algebraic, trivial, Cert.AttnCols.algebraic⟩

end Cert.Proof

end
